-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpReferenceIdeal (m : (ℓ : Loc Cert.DwUpReferenceIdeal.nD Cert.DwUpReferenceIdeal.τ Cert.DwUpReferenceIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownReferenceIdeal (m : (ℓ : Loc Cert.DwDownReferenceIdeal.nD Cert.DwDownReferenceIdeal.τ Cert.DwDownReferenceIdeal.sig) → Buf (Elt Ideal) ℓ) : Prop :=
  True

def Pre_DwXo (m : (ℓ : Loc Cert.DwXo.nD Cert.DwXo.τ Cert.DwXo.sig) → Buf (Elt Bits) ℓ) : Prop :=
  True

def Pre_DwXoIdeal (m : (ℓ : Loc Cert.DwXoIdeal.nD Cert.DwXoIdeal.τ Cert.DwXoIdeal.sig) → Buf (Elt Ideal) ℓ) : Prop :=
  True

def Pre_DwXoReferenceIdeal (m : (ℓ : Loc Cert.DwXoReferenceIdeal.nD Cert.DwXoReferenceIdeal.τ Cert.DwXoReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsIdeal_finite_heads [hPre_finite_heads : Cert.Pre_finite_heads.Facts] (m : (ℓ : Loc Cert.HeadsIdeal.nD Cert.HeadsIdeal.τ Cert.HeadsIdeal.sig) → Buf (Elt Ideal) ℓ) : Prop :=
  ∀ c : Dev Cert.HeadsIdeal.nD,
    (Cert.Pre_finite_heads.fn (F := Ideal) (m ((c.tc : Thread Cert.HeadsIdeal.nD Cert.HeadsIdeal.τ).loc Cert.HeadsIdeal.main_arg0)) (m ((c.tc : Thread Cert.HeadsIdeal.nD Cert.HeadsIdeal.τ).loc Cert.HeadsIdeal.main_arg1)) (m ((c.tc : Thread Cert.HeadsIdeal.nD Cert.HeadsIdeal.τ).loc Cert.HeadsIdeal.main_arg2))).1 = (fun _ => 1#1)
    ∧ (Cert.Pre_finite_heads.fn (F := Ideal) (m ((c.tc : Thread Cert.HeadsIdeal.nD Cert.HeadsIdeal.τ).loc Cert.HeadsIdeal.main_arg0)) (m ((c.tc : Thread Cert.HeadsIdeal.nD Cert.HeadsIdeal.τ).loc Cert.HeadsIdeal.main_arg1)) (m ((c.tc : Thread Cert.HeadsIdeal.nD Cert.HeadsIdeal.τ).loc Cert.HeadsIdeal.main_arg2))).2 = (fun _ => 1#1)

def Pre_HeadsReferenceIdeal (m : (ℓ : Loc Cert.HeadsReferenceIdeal.nD Cert.HeadsReferenceIdeal.τ Cert.HeadsReferenceIdeal.sig) → Buf (Elt Ideal) ℓ) : Prop :=
  True

def Pre_HeadsReferenceIdeal_finite_heads [hPre_finite_heads : Cert.Pre_finite_heads.Facts] (m : (ℓ : Loc Cert.HeadsReferenceIdeal.nD Cert.HeadsReferenceIdeal.τ Cert.HeadsReferenceIdeal.sig) → Buf (Elt Ideal) ℓ) : Prop :=
  ∀ c : Dev Cert.HeadsReferenceIdeal.nD,
    (Cert.Pre_finite_heads.fn (F := Ideal) (m ((c.tc : Thread Cert.HeadsReferenceIdeal.nD Cert.HeadsReferenceIdeal.τ).loc Cert.HeadsReferenceIdeal.main_arg0)) (m ((c.tc : Thread Cert.HeadsReferenceIdeal.nD Cert.HeadsReferenceIdeal.τ).loc Cert.HeadsReferenceIdeal.main_arg1)) (m ((c.tc : Thread Cert.HeadsReferenceIdeal.nD Cert.HeadsReferenceIdeal.τ).loc Cert.HeadsReferenceIdeal.main_arg2))).1 = (fun _ => 1#1)
    ∧ (Cert.Pre_finite_heads.fn (F := Ideal) (m ((c.tc : Thread Cert.HeadsReferenceIdeal.nD Cert.HeadsReferenceIdeal.τ).loc Cert.HeadsReferenceIdeal.main_arg0)) (m ((c.tc : Thread Cert.HeadsReferenceIdeal.nD Cert.HeadsReferenceIdeal.τ).loc Cert.HeadsReferenceIdeal.main_arg1)) (m ((c.tc : Thread Cert.HeadsReferenceIdeal.nD Cert.HeadsReferenceIdeal.τ).loc Cert.HeadsReferenceIdeal.main_arg2))).2 = (fun _ => 1#1)

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamSq (m : (ℓ : Loc Cert.AdamSq.nD Cert.AdamSq.τ Cert.AdamSq.sig) → Buf (Elt Bits) ℓ) : Prop :=
  True

def Pre_AdamSqIdeal (m : (ℓ : Loc Cert.AdamSqIdeal.nD Cert.AdamSqIdeal.τ Cert.AdamSqIdeal.sig) → Buf (Elt Ideal) ℓ) : Prop :=
  True

def Pre_AdamSqReferenceIdeal (m : (ℓ : Loc Cert.AdamSqReferenceIdeal.nD Cert.AdamSqReferenceIdeal.τ Cert.AdamSqReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_DwXk (m : (ℓ : Loc Cert.DwXk.nD Cert.DwXk.τ Cert.DwXk.sig) → Buf (Elt Bits) ℓ) : Prop :=
  True

def Pre_DwXkIdeal (m : (ℓ : Loc Cert.DwXkIdeal.nD Cert.DwXkIdeal.τ Cert.DwXkIdeal.sig) → Buf (Elt Ideal) ℓ) : Prop :=
  True

def Pre_DwXkReferenceIdeal (m : (ℓ : Loc Cert.DwXkReferenceIdeal.nD Cert.DwXkReferenceIdeal.τ Cert.DwXkReferenceIdeal.sig) → Buf (Elt Ideal) ℓ) : Prop :=
  True

def Pre_DMem (m : (ℓ : Loc Cert.DMem.nD Cert.DMem.τ Cert.DMem.sig) → Buf (Elt Bits) ℓ) : Prop :=
  True

def Pre_DMemIdeal (m : (ℓ : Loc Cert.DMemIdeal.nD Cert.DMemIdeal.τ Cert.DMemIdeal.sig) → Buf (Elt Ideal) ℓ) : Prop :=
  True

def Pre_DMemReferenceIdeal (m : (ℓ : Loc Cert.DMemReferenceIdeal.nD Cert.DMemReferenceIdeal.τ Cert.DMemReferenceIdeal.sig) → Buf (Elt Ideal) ℓ) : Prop :=
  True

def Pre_GainMem (m : (ℓ : Loc Cert.GainMem.nD Cert.GainMem.τ Cert.GainMem.sig) → Buf (Elt Bits) ℓ) : Prop :=
  True

def Pre_GainMemIdeal (m : (ℓ : Loc Cert.GainMemIdeal.nD Cert.GainMemIdeal.τ Cert.GainMemIdeal.sig) → Buf (Elt Ideal) ℓ) : Prop :=
  True

def Pre_GainMemReferenceIdeal (m : (ℓ : Loc Cert.GainMemReferenceIdeal.nD Cert.GainMemReferenceIdeal.τ Cert.GainMemReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpReferenceIdeal [hDwUpReferenceIdeal : Cert.DwUpReferenceIdeal.Facts] : Prop :=
  ∀ (m : (ℓ : Loc Cert.DwUpReferenceIdeal.nD Cert.DwUpReferenceIdeal.τ Cert.DwUpReferenceIdeal.sig) → Buf (Elt Ideal) ℓ) (g : Dev Cert.DwUpReferenceIdeal.nD → PrngReg), Pre_DwUpReferenceIdeal m →
    θ_run (Cert.DwUpReferenceIdeal.defs (F := Ideal)) (onTc (τ := Cert.DwUpReferenceIdeal.τ) (Cert.DwUpReferenceIdeal.main (F := Ideal))) ⟨m, fun _ => 0, g⟩ (fun r => (∀ c : Dev Cert.DwUpReferenceIdeal.nD,
      r.2.mem ((c.tc : Thread Cert.DwUpReferenceIdeal.nD Cert.DwUpReferenceIdeal.τ).loc Cert.DwUpReferenceIdeal.main_arg0) = m ((c.tc : Thread Cert.DwUpReferenceIdeal.nD Cert.DwUpReferenceIdeal.τ).loc Cert.DwUpReferenceIdeal.main_arg0)
      ∧ r.2.mem ((c.tc : Thread Cert.DwUpReferenceIdeal.nD Cert.DwUpReferenceIdeal.τ).loc Cert.DwUpReferenceIdeal.main_arg1) = m ((c.tc : Thread Cert.DwUpReferenceIdeal.nD Cert.DwUpReferenceIdeal.τ).loc Cert.DwUpReferenceIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownReferenceIdeal [hDwDownReferenceIdeal : Cert.DwDownReferenceIdeal.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1))
      ∧ r.2.sem = fun _ => 0)

def quiescent_DwXo [hDwXo : Cert.DwXo.Facts] : Prop :=
  ∀ (m : (ℓ : Loc Cert.DwXo.nD Cert.DwXo.τ Cert.DwXo.sig) → Buf (Elt Bits) ℓ) (g : Dev Cert.DwXo.nD → PrngReg), Pre_DwXo m →
    θ_run (Cert.DwXo.defs (F := Bits)) (onTc (τ := Cert.DwXo.τ) (Cert.DwXo.main (F := Bits))) ⟨m, fun _ => 0, g⟩ (fun r => (∀ c : Dev Cert.DwXo.nD,
      r.2.mem ((c.tc : Thread Cert.DwXo.nD Cert.DwXo.τ).loc Cert.DwXo.main_arg0) = m ((c.tc : Thread Cert.DwXo.nD Cert.DwXo.τ).loc Cert.DwXo.main_arg0)
      ∧ r.2.mem ((c.tc : Thread Cert.DwXo.nD Cert.DwXo.τ).loc Cert.DwXo.main_arg1) = m ((c.tc : Thread Cert.DwXo.nD Cert.DwXo.τ).loc Cert.DwXo.main_arg1))
      ∧ r.2.sem = fun _ => 0)

def quiescent_DwXoIdeal [hDwXoIdeal : Cert.DwXoIdeal.Facts] : Prop :=
  ∀ (m : (ℓ : Loc Cert.DwXoIdeal.nD Cert.DwXoIdeal.τ Cert.DwXoIdeal.sig) → Buf (Elt Ideal) ℓ) (g : Dev Cert.DwXoIdeal.nD → PrngReg), Pre_DwXoIdeal m →
    θ_run (Cert.DwXoIdeal.defs (F := Ideal)) (onTc (τ := Cert.DwXoIdeal.τ) (Cert.DwXoIdeal.main (F := Ideal))) ⟨m, fun _ => 0, g⟩ (fun r => (∀ c : Dev Cert.DwXoIdeal.nD,
      r.2.mem ((c.tc : Thread Cert.DwXoIdeal.nD Cert.DwXoIdeal.τ).loc Cert.DwXoIdeal.main_arg0) = m ((c.tc : Thread Cert.DwXoIdeal.nD Cert.DwXoIdeal.τ).loc Cert.DwXoIdeal.main_arg0)
      ∧ r.2.mem ((c.tc : Thread Cert.DwXoIdeal.nD Cert.DwXoIdeal.τ).loc Cert.DwXoIdeal.main_arg1) = m ((c.tc : Thread Cert.DwXoIdeal.nD Cert.DwXoIdeal.τ).loc Cert.DwXoIdeal.main_arg1))
      ∧ r.2.sem = fun _ => 0)

def quiescent_DwXoReferenceIdeal [hDwXoReferenceIdeal : Cert.DwXoReferenceIdeal.Facts] : Prop :=
  ∀ (m : (ℓ : Loc Cert.DwXoReferenceIdeal.nD Cert.DwXoReferenceIdeal.τ Cert.DwXoReferenceIdeal.sig) → Buf (Elt Ideal) ℓ) (g : Dev Cert.DwXoReferenceIdeal.nD → PrngReg), Pre_DwXoReferenceIdeal m →
    θ_run (Cert.DwXoReferenceIdeal.defs (F := Ideal)) (onTc (τ := Cert.DwXoReferenceIdeal.τ) (Cert.DwXoReferenceIdeal.main (F := Ideal))) ⟨m, fun _ => 0, g⟩ (fun r => (∀ c : Dev Cert.DwXoReferenceIdeal.nD,
      r.2.mem ((c.tc : Thread Cert.DwXoReferenceIdeal.nD Cert.DwXoReferenceIdeal.τ).loc Cert.DwXoReferenceIdeal.main_arg0) = m ((c.tc : Thread Cert.DwXoReferenceIdeal.nD Cert.DwXoReferenceIdeal.τ).loc Cert.DwXoReferenceIdeal.main_arg0)
      ∧ r.2.mem ((c.tc : Thread Cert.DwXoReferenceIdeal.nD Cert.DwXoReferenceIdeal.τ).loc Cert.DwXoReferenceIdeal.main_arg1) = m ((c.tc : Thread Cert.DwXoReferenceIdeal.nD Cert.DwXoReferenceIdeal.τ).loc Cert.DwXoReferenceIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3)
      ∧ r.2.mem ((c.tc : Thread Cert.Query.nD Cert.Query.τ).loc Cert.Query.main_arg4) = m ((c.tc : Thread Cert.Query.nD Cert.Query.τ).loc Cert.Query.main_arg4)
      ∧ r.2.mem ((c.tc : Thread Cert.Query.nD Cert.Query.τ).loc Cert.Query.main_arg5) = m ((c.tc : Thread Cert.Query.nD Cert.Query.τ).loc Cert.Query.main_arg5)
      ∧ r.2.mem ((c.tc : Thread Cert.Query.nD Cert.Query.τ).loc Cert.Query.main_arg6) = m ((c.tc : Thread Cert.Query.nD Cert.Query.τ).loc Cert.Query.main_arg6)
      ∧ r.2.mem ((c.tc : Thread Cert.Query.nD Cert.Query.τ).loc Cert.Query.main_arg7) = m ((c.tc : Thread Cert.Query.nD Cert.Query.τ).loc Cert.Query.main_arg7))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
      ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4)
      ∧ r.2.mem ((c.tc : Thread Cert.QueryIdeal.nD Cert.QueryIdeal.τ).loc Cert.QueryIdeal.main_arg5) = m ((c.tc : Thread Cert.QueryIdeal.nD Cert.QueryIdeal.τ).loc Cert.QueryIdeal.main_arg5)
      ∧ r.2.mem ((c.tc : Thread Cert.QueryIdeal.nD Cert.QueryIdeal.τ).loc Cert.QueryIdeal.main_arg6) = m ((c.tc : Thread Cert.QueryIdeal.nD Cert.QueryIdeal.τ).loc Cert.QueryIdeal.main_arg6)
      ∧ r.2.mem ((c.tc : Thread Cert.QueryIdeal.nD Cert.QueryIdeal.τ).loc Cert.QueryIdeal.main_arg7) = m ((c.tc : Thread Cert.QueryIdeal.nD Cert.QueryIdeal.τ).loc Cert.QueryIdeal.main_arg7))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1)
      ∧ r.2.mem ((c.tc : Thread Cert.QueryReferenceIdeal.nD Cert.QueryReferenceIdeal.τ).loc Cert.QueryReferenceIdeal.main_arg2) = m ((c.tc : Thread Cert.QueryReferenceIdeal.nD Cert.QueryReferenceIdeal.τ).loc Cert.QueryReferenceIdeal.main_arg2)
      ∧ r.2.mem ((c.tc : Thread Cert.QueryReferenceIdeal.nD Cert.QueryReferenceIdeal.τ).loc Cert.QueryReferenceIdeal.main_arg3) = m ((c.tc : Thread Cert.QueryReferenceIdeal.nD Cert.QueryReferenceIdeal.τ).loc Cert.QueryReferenceIdeal.main_arg3)
      ∧ r.2.mem ((c.tc : Thread Cert.QueryReferenceIdeal.nD Cert.QueryReferenceIdeal.τ).loc Cert.QueryReferenceIdeal.main_arg4) = m ((c.tc : Thread Cert.QueryReferenceIdeal.nD Cert.QueryReferenceIdeal.τ).loc Cert.QueryReferenceIdeal.main_arg4)
      ∧ r.2.mem ((c.tc : Thread Cert.QueryReferenceIdeal.nD Cert.QueryReferenceIdeal.τ).loc Cert.QueryReferenceIdeal.main_arg5) = m ((c.tc : Thread Cert.QueryReferenceIdeal.nD Cert.QueryReferenceIdeal.τ).loc Cert.QueryReferenceIdeal.main_arg5)
      ∧ r.2.mem ((c.tc : Thread Cert.QueryReferenceIdeal.nD Cert.QueryReferenceIdeal.τ).loc Cert.QueryReferenceIdeal.main_arg6) = m ((c.tc : Thread Cert.QueryReferenceIdeal.nD Cert.QueryReferenceIdeal.τ).loc Cert.QueryReferenceIdeal.main_arg6)
      ∧ r.2.mem ((c.tc : Thread Cert.QueryReferenceIdeal.nD Cert.QueryReferenceIdeal.τ).loc Cert.QueryReferenceIdeal.main_arg7) = m ((c.tc : Thread Cert.QueryReferenceIdeal.nD Cert.QueryReferenceIdeal.τ).loc Cert.QueryReferenceIdeal.main_arg7))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2))
      ∧ r.2.sem = fun _ => 0)

def quiescent_HeadsIdeal_pre_finite_heads [hHeadsIdeal : Cert.HeadsIdeal.Facts] [hPre_finite_heads : Cert.Pre_finite_heads.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal_finite_heads m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2))
      ∧ r.2.sem = fun _ => 0)

def quiescent_HeadsReferenceIdeal [hHeadsReferenceIdeal : Cert.HeadsReferenceIdeal.Facts] : Prop :=
  ∀ (m : (ℓ : Loc Cert.HeadsReferenceIdeal.nD Cert.HeadsReferenceIdeal.τ Cert.HeadsReferenceIdeal.sig) → Buf (Elt Ideal) ℓ) (g : Dev Cert.HeadsReferenceIdeal.nD → PrngReg), Pre_HeadsReferenceIdeal m →
    θ_run (Cert.HeadsReferenceIdeal.defs (F := Ideal)) (onTc (τ := Cert.HeadsReferenceIdeal.τ) (Cert.HeadsReferenceIdeal.main (F := Ideal))) ⟨m, fun _ => 0, g⟩ (fun r => (∀ c : Dev Cert.HeadsReferenceIdeal.nD,
      r.2.mem ((c.tc : Thread Cert.HeadsReferenceIdeal.nD Cert.HeadsReferenceIdeal.τ).loc Cert.HeadsReferenceIdeal.main_arg0) = m ((c.tc : Thread Cert.HeadsReferenceIdeal.nD Cert.HeadsReferenceIdeal.τ).loc Cert.HeadsReferenceIdeal.main_arg0)
      ∧ r.2.mem ((c.tc : Thread Cert.HeadsReferenceIdeal.nD Cert.HeadsReferenceIdeal.τ).loc Cert.HeadsReferenceIdeal.main_arg1) = m ((c.tc : Thread Cert.HeadsReferenceIdeal.nD Cert.HeadsReferenceIdeal.τ).loc Cert.HeadsReferenceIdeal.main_arg1)
      ∧ r.2.mem ((c.tc : Thread Cert.HeadsReferenceIdeal.nD Cert.HeadsReferenceIdeal.τ).loc Cert.HeadsReferenceIdeal.main_arg2) = m ((c.tc : Thread Cert.HeadsReferenceIdeal.nD Cert.HeadsReferenceIdeal.τ).loc Cert.HeadsReferenceIdeal.main_arg2))
      ∧ r.2.sem = fun _ => 0)

def quiescent_HeadsReferenceIdeal_pre_finite_heads [hHeadsReferenceIdeal : Cert.HeadsReferenceIdeal.Facts] [hPre_finite_heads : Cert.Pre_finite_heads.Facts] : Prop :=
  ∀ (m : (ℓ : Loc Cert.HeadsReferenceIdeal.nD Cert.HeadsReferenceIdeal.τ Cert.HeadsReferenceIdeal.sig) → Buf (Elt Ideal) ℓ) (g : Dev Cert.HeadsReferenceIdeal.nD → PrngReg), Pre_HeadsReferenceIdeal_finite_heads m →
    θ_run (Cert.HeadsReferenceIdeal.defs (F := Ideal)) (onTc (τ := Cert.HeadsReferenceIdeal.τ) (Cert.HeadsReferenceIdeal.main (F := Ideal))) ⟨m, fun _ => 0, g⟩ (fun r => (∀ c : Dev Cert.HeadsReferenceIdeal.nD,
      r.2.mem ((c.tc : Thread Cert.HeadsReferenceIdeal.nD Cert.HeadsReferenceIdeal.τ).loc Cert.HeadsReferenceIdeal.main_arg0) = m ((c.tc : Thread Cert.HeadsReferenceIdeal.nD Cert.HeadsReferenceIdeal.τ).loc Cert.HeadsReferenceIdeal.main_arg0)
      ∧ r.2.mem ((c.tc : Thread Cert.HeadsReferenceIdeal.nD Cert.HeadsReferenceIdeal.τ).loc Cert.HeadsReferenceIdeal.main_arg1) = m ((c.tc : Thread Cert.HeadsReferenceIdeal.nD Cert.HeadsReferenceIdeal.τ).loc Cert.HeadsReferenceIdeal.main_arg1)
      ∧ r.2.mem ((c.tc : Thread Cert.HeadsReferenceIdeal.nD Cert.HeadsReferenceIdeal.τ).loc Cert.HeadsReferenceIdeal.main_arg2) = m ((c.tc : Thread Cert.HeadsReferenceIdeal.nD Cert.HeadsReferenceIdeal.τ).loc Cert.HeadsReferenceIdeal.main_arg2))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3)
      ∧ r.2.mem ((c.tc : Thread Cert.AdamUpReferenceIdeal.nD Cert.AdamUpReferenceIdeal.τ).loc Cert.AdamUpReferenceIdeal.main_arg4) = m ((c.tc : Thread Cert.AdamUpReferenceIdeal.nD Cert.AdamUpReferenceIdeal.τ).loc Cert.AdamUpReferenceIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4))
      ∧ r.2.sem = fun _ => 0)

def quiescent_AdamSq [hAdamSq : Cert.AdamSq.Facts] : Prop :=
  ∀ (m : (ℓ : Loc Cert.AdamSq.nD Cert.AdamSq.τ Cert.AdamSq.sig) → Buf (Elt Bits) ℓ) (g : Dev Cert.AdamSq.nD → PrngReg), Pre_AdamSq m →
    θ_run (Cert.AdamSq.defs (F := Bits)) (onTc (τ := Cert.AdamSq.τ) (Cert.AdamSq.main (F := Bits))) ⟨m, fun _ => 0, g⟩ (fun r => (∀ c : Dev Cert.AdamSq.nD,
      r.2.mem ((c.tc : Thread Cert.AdamSq.nD Cert.AdamSq.τ).loc Cert.AdamSq.main_arg0) = m ((c.tc : Thread Cert.AdamSq.nD Cert.AdamSq.τ).loc Cert.AdamSq.main_arg0)
      ∧ r.2.mem ((c.tc : Thread Cert.AdamSq.nD Cert.AdamSq.τ).loc Cert.AdamSq.main_arg1) = m ((c.tc : Thread Cert.AdamSq.nD Cert.AdamSq.τ).loc Cert.AdamSq.main_arg1)
      ∧ r.2.mem ((c.tc : Thread Cert.AdamSq.nD Cert.AdamSq.τ).loc Cert.AdamSq.main_arg2) = m ((c.tc : Thread Cert.AdamSq.nD Cert.AdamSq.τ).loc Cert.AdamSq.main_arg2)
      ∧ r.2.mem ((c.tc : Thread Cert.AdamSq.nD Cert.AdamSq.τ).loc Cert.AdamSq.main_arg3) = m ((c.tc : Thread Cert.AdamSq.nD Cert.AdamSq.τ).loc Cert.AdamSq.main_arg3)
      ∧ r.2.mem ((c.tc : Thread Cert.AdamSq.nD Cert.AdamSq.τ).loc Cert.AdamSq.main_arg4) = m ((c.tc : Thread Cert.AdamSq.nD Cert.AdamSq.τ).loc Cert.AdamSq.main_arg4))
      ∧ r.2.sem = fun _ => 0)

def quiescent_AdamSqIdeal [hAdamSqIdeal : Cert.AdamSqIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg), Pre_AdamSqIdeal m →
    θ_run (Cert.AdamSqIdeal.defs (F := Ideal)) (onTc (τ := Cert.AdamSqIdeal.τ) (Cert.AdamSqIdeal.main (F := Ideal))) ⟨m, fun _ => 0, g⟩ (fun r => (∀ c : Dev Cert.AdamSqIdeal.nD,
      r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
      ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
      ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
      ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3)
      ∧ r.2.mem ((c.tc : Thread Cert.AdamSqIdeal.nD Cert.AdamSqIdeal.τ).loc Cert.AdamSqIdeal.main_arg4) = m ((c.tc : Thread Cert.AdamSqIdeal.nD Cert.AdamSqIdeal.τ).loc Cert.AdamSqIdeal.main_arg4))
      ∧ r.2.sem = fun _ => 0)

def quiescent_AdamSqReferenceIdeal [hAdamSqReferenceIdeal : Cert.AdamSqReferenceIdeal.Facts] : Prop :=
  ∀ (m : (ℓ : Loc Cert.AdamSqReferenceIdeal.nD Cert.AdamSqReferenceIdeal.τ Cert.AdamSqReferenceIdeal.sig) → Buf (Elt Ideal) ℓ) (g : Dev Cert.AdamSqReferenceIdeal.nD → PrngReg), Pre_AdamSqReferenceIdeal m →
    θ_run (Cert.AdamSqReferenceIdeal.defs (F := Ideal)) (onTc (τ := Cert.AdamSqReferenceIdeal.τ) (Cert.AdamSqReferenceIdeal.main (F := Ideal))) ⟨m, fun _ => 0, g⟩ (fun r => (∀ c : Dev Cert.AdamSqReferenceIdeal.nD,
      r.2.mem ((c.tc : Thread Cert.AdamSqReferenceIdeal.nD Cert.AdamSqReferenceIdeal.τ).loc Cert.AdamSqReferenceIdeal.main_arg0) = m ((c.tc : Thread Cert.AdamSqReferenceIdeal.nD Cert.AdamSqReferenceIdeal.τ).loc Cert.AdamSqReferenceIdeal.main_arg0)
      ∧ r.2.mem ((c.tc : Thread Cert.AdamSqReferenceIdeal.nD Cert.AdamSqReferenceIdeal.τ).loc Cert.AdamSqReferenceIdeal.main_arg1) = m ((c.tc : Thread Cert.AdamSqReferenceIdeal.nD Cert.AdamSqReferenceIdeal.τ).loc Cert.AdamSqReferenceIdeal.main_arg1)
      ∧ r.2.mem ((c.tc : Thread Cert.AdamSqReferenceIdeal.nD Cert.AdamSqReferenceIdeal.τ).loc Cert.AdamSqReferenceIdeal.main_arg2) = m ((c.tc : Thread Cert.AdamSqReferenceIdeal.nD Cert.AdamSqReferenceIdeal.τ).loc Cert.AdamSqReferenceIdeal.main_arg2)
      ∧ r.2.mem ((c.tc : Thread Cert.AdamSqReferenceIdeal.nD Cert.AdamSqReferenceIdeal.τ).loc Cert.AdamSqReferenceIdeal.main_arg3) = m ((c.tc : Thread Cert.AdamSqReferenceIdeal.nD Cert.AdamSqReferenceIdeal.τ).loc Cert.AdamSqReferenceIdeal.main_arg3)
      ∧ r.2.mem ((c.tc : Thread Cert.AdamSqReferenceIdeal.nD Cert.AdamSqReferenceIdeal.τ).loc Cert.AdamSqReferenceIdeal.main_arg4) = m ((c.tc : Thread Cert.AdamSqReferenceIdeal.nD Cert.AdamSqReferenceIdeal.τ).loc Cert.AdamSqReferenceIdeal.main_arg4))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2)
      ∧ r.2.mem ((c.tc : Thread Cert.MemoryReferenceIdeal.nD Cert.MemoryReferenceIdeal.τ).loc Cert.MemoryReferenceIdeal.main_arg3) = m ((c.tc : Thread Cert.MemoryReferenceIdeal.nD Cert.MemoryReferenceIdeal.τ).loc Cert.MemoryReferenceIdeal.main_arg3))
      ∧ r.2.sem = fun _ => 0)

def quiescent_DwXk [hDwXk : Cert.DwXk.Facts] : Prop :=
  ∀ (m : (ℓ : Loc Cert.DwXk.nD Cert.DwXk.τ Cert.DwXk.sig) → Buf (Elt Bits) ℓ) (g : Dev Cert.DwXk.nD → PrngReg), Pre_DwXk m →
    θ_run (Cert.DwXk.defs (F := Bits)) (onTc (τ := Cert.DwXk.τ) (Cert.DwXk.main (F := Bits))) ⟨m, fun _ => 0, g⟩ (fun r => (∀ c : Dev Cert.DwXk.nD,
      r.2.mem ((c.tc : Thread Cert.DwXk.nD Cert.DwXk.τ).loc Cert.DwXk.main_arg0) = m ((c.tc : Thread Cert.DwXk.nD Cert.DwXk.τ).loc Cert.DwXk.main_arg0)
      ∧ r.2.mem ((c.tc : Thread Cert.DwXk.nD Cert.DwXk.τ).loc Cert.DwXk.main_arg1) = m ((c.tc : Thread Cert.DwXk.nD Cert.DwXk.τ).loc Cert.DwXk.main_arg1))
      ∧ r.2.sem = fun _ => 0)

def quiescent_DwXkIdeal [hDwXkIdeal : Cert.DwXkIdeal.Facts] : Prop :=
  ∀ (m : (ℓ : Loc Cert.DwXkIdeal.nD Cert.DwXkIdeal.τ Cert.DwXkIdeal.sig) → Buf (Elt Ideal) ℓ) (g : Dev Cert.DwXkIdeal.nD → PrngReg), Pre_DwXkIdeal m →
    θ_run (Cert.DwXkIdeal.defs (F := Ideal)) (onTc (τ := Cert.DwXkIdeal.τ) (Cert.DwXkIdeal.main (F := Ideal))) ⟨m, fun _ => 0, g⟩ (fun r => (∀ c : Dev Cert.DwXkIdeal.nD,
      r.2.mem ((c.tc : Thread Cert.DwXkIdeal.nD Cert.DwXkIdeal.τ).loc Cert.DwXkIdeal.main_arg0) = m ((c.tc : Thread Cert.DwXkIdeal.nD Cert.DwXkIdeal.τ).loc Cert.DwXkIdeal.main_arg0)
      ∧ r.2.mem ((c.tc : Thread Cert.DwXkIdeal.nD Cert.DwXkIdeal.τ).loc Cert.DwXkIdeal.main_arg1) = m ((c.tc : Thread Cert.DwXkIdeal.nD Cert.DwXkIdeal.τ).loc Cert.DwXkIdeal.main_arg1))
      ∧ r.2.sem = fun _ => 0)

def quiescent_DwXkReferenceIdeal [hDwXkReferenceIdeal : Cert.DwXkReferenceIdeal.Facts] : Prop :=
  ∀ (m : (ℓ : Loc Cert.DwXkReferenceIdeal.nD Cert.DwXkReferenceIdeal.τ Cert.DwXkReferenceIdeal.sig) → Buf (Elt Ideal) ℓ) (g : Dev Cert.DwXkReferenceIdeal.nD → PrngReg), Pre_DwXkReferenceIdeal m →
    θ_run (Cert.DwXkReferenceIdeal.defs (F := Ideal)) (onTc (τ := Cert.DwXkReferenceIdeal.τ) (Cert.DwXkReferenceIdeal.main (F := Ideal))) ⟨m, fun _ => 0, g⟩ (fun r => (∀ c : Dev Cert.DwXkReferenceIdeal.nD,
      r.2.mem ((c.tc : Thread Cert.DwXkReferenceIdeal.nD Cert.DwXkReferenceIdeal.τ).loc Cert.DwXkReferenceIdeal.main_arg0) = m ((c.tc : Thread Cert.DwXkReferenceIdeal.nD Cert.DwXkReferenceIdeal.τ).loc Cert.DwXkReferenceIdeal.main_arg0)
      ∧ r.2.mem ((c.tc : Thread Cert.DwXkReferenceIdeal.nD Cert.DwXkReferenceIdeal.τ).loc Cert.DwXkReferenceIdeal.main_arg1) = m ((c.tc : Thread Cert.DwXkReferenceIdeal.nD Cert.DwXkReferenceIdeal.τ).loc Cert.DwXkReferenceIdeal.main_arg1))
      ∧ r.2.sem = fun _ => 0)

def quiescent_DMem [hDMem : Cert.DMem.Facts] : Prop :=
  ∀ (m : (ℓ : Loc Cert.DMem.nD Cert.DMem.τ Cert.DMem.sig) → Buf (Elt Bits) ℓ) (g : Dev Cert.DMem.nD → PrngReg), Pre_DMem m →
    θ_run (Cert.DMem.defs (F := Bits)) (onTc (τ := Cert.DMem.τ) (Cert.DMem.main (F := Bits))) ⟨m, fun _ => 0, g⟩ (fun r => (∀ c : Dev Cert.DMem.nD,
      r.2.mem ((c.tc : Thread Cert.DMem.nD Cert.DMem.τ).loc Cert.DMem.main_arg0) = m ((c.tc : Thread Cert.DMem.nD Cert.DMem.τ).loc Cert.DMem.main_arg0)
      ∧ r.2.mem ((c.tc : Thread Cert.DMem.nD Cert.DMem.τ).loc Cert.DMem.main_arg1) = m ((c.tc : Thread Cert.DMem.nD Cert.DMem.τ).loc Cert.DMem.main_arg1)
      ∧ r.2.mem ((c.tc : Thread Cert.DMem.nD Cert.DMem.τ).loc Cert.DMem.main_arg2) = m ((c.tc : Thread Cert.DMem.nD Cert.DMem.τ).loc Cert.DMem.main_arg2)
      ∧ r.2.mem ((c.tc : Thread Cert.DMem.nD Cert.DMem.τ).loc Cert.DMem.main_arg3) = m ((c.tc : Thread Cert.DMem.nD Cert.DMem.τ).loc Cert.DMem.main_arg3))
      ∧ r.2.sem = fun _ => 0)

def quiescent_DMemIdeal [hDMemIdeal : Cert.DMemIdeal.Facts] : Prop :=
  ∀ (m : (ℓ : Loc Cert.DMemIdeal.nD Cert.DMemIdeal.τ Cert.DMemIdeal.sig) → Buf (Elt Ideal) ℓ) (g : Dev Cert.DMemIdeal.nD → PrngReg), Pre_DMemIdeal m →
    θ_run (Cert.DMemIdeal.defs (F := Ideal)) (onTc (τ := Cert.DMemIdeal.τ) (Cert.DMemIdeal.main (F := Ideal))) ⟨m, fun _ => 0, g⟩ (fun r => (∀ c : Dev Cert.DMemIdeal.nD,
      r.2.mem ((c.tc : Thread Cert.DMemIdeal.nD Cert.DMemIdeal.τ).loc Cert.DMemIdeal.main_arg0) = m ((c.tc : Thread Cert.DMemIdeal.nD Cert.DMemIdeal.τ).loc Cert.DMemIdeal.main_arg0)
      ∧ r.2.mem ((c.tc : Thread Cert.DMemIdeal.nD Cert.DMemIdeal.τ).loc Cert.DMemIdeal.main_arg1) = m ((c.tc : Thread Cert.DMemIdeal.nD Cert.DMemIdeal.τ).loc Cert.DMemIdeal.main_arg1)
      ∧ r.2.mem ((c.tc : Thread Cert.DMemIdeal.nD Cert.DMemIdeal.τ).loc Cert.DMemIdeal.main_arg2) = m ((c.tc : Thread Cert.DMemIdeal.nD Cert.DMemIdeal.τ).loc Cert.DMemIdeal.main_arg2)
      ∧ r.2.mem ((c.tc : Thread Cert.DMemIdeal.nD Cert.DMemIdeal.τ).loc Cert.DMemIdeal.main_arg3) = m ((c.tc : Thread Cert.DMemIdeal.nD Cert.DMemIdeal.τ).loc Cert.DMemIdeal.main_arg3))
      ∧ r.2.sem = fun _ => 0)

def quiescent_DMemReferenceIdeal [hDMemReferenceIdeal : Cert.DMemReferenceIdeal.Facts] : Prop :=
  ∀ (m : (ℓ : Loc Cert.DMemReferenceIdeal.nD Cert.DMemReferenceIdeal.τ Cert.DMemReferenceIdeal.sig) → Buf (Elt Ideal) ℓ) (g : Dev Cert.DMemReferenceIdeal.nD → PrngReg), Pre_DMemReferenceIdeal m →
    θ_run (Cert.DMemReferenceIdeal.defs (F := Ideal)) (onTc (τ := Cert.DMemReferenceIdeal.τ) (Cert.DMemReferenceIdeal.main (F := Ideal))) ⟨m, fun _ => 0, g⟩ (fun r => (∀ c : Dev Cert.DMemReferenceIdeal.nD,
      r.2.mem ((c.tc : Thread Cert.DMemReferenceIdeal.nD Cert.DMemReferenceIdeal.τ).loc Cert.DMemReferenceIdeal.main_arg0) = m ((c.tc : Thread Cert.DMemReferenceIdeal.nD Cert.DMemReferenceIdeal.τ).loc Cert.DMemReferenceIdeal.main_arg0)
      ∧ r.2.mem ((c.tc : Thread Cert.DMemReferenceIdeal.nD Cert.DMemReferenceIdeal.τ).loc Cert.DMemReferenceIdeal.main_arg1) = m ((c.tc : Thread Cert.DMemReferenceIdeal.nD Cert.DMemReferenceIdeal.τ).loc Cert.DMemReferenceIdeal.main_arg1)
      ∧ r.2.mem ((c.tc : Thread Cert.DMemReferenceIdeal.nD Cert.DMemReferenceIdeal.τ).loc Cert.DMemReferenceIdeal.main_arg2) = m ((c.tc : Thread Cert.DMemReferenceIdeal.nD Cert.DMemReferenceIdeal.τ).loc Cert.DMemReferenceIdeal.main_arg2)
      ∧ r.2.mem ((c.tc : Thread Cert.DMemReferenceIdeal.nD Cert.DMemReferenceIdeal.τ).loc Cert.DMemReferenceIdeal.main_arg3) = m ((c.tc : Thread Cert.DMemReferenceIdeal.nD Cert.DMemReferenceIdeal.τ).loc Cert.DMemReferenceIdeal.main_arg3))
      ∧ r.2.sem = fun _ => 0)

def quiescent_GainMem [hGainMem : Cert.GainMem.Facts] : Prop :=
  ∀ (m : (ℓ : Loc Cert.GainMem.nD Cert.GainMem.τ Cert.GainMem.sig) → Buf (Elt Bits) ℓ) (g : Dev Cert.GainMem.nD → PrngReg), Pre_GainMem m →
    θ_run (Cert.GainMem.defs (F := Bits)) (onTc (τ := Cert.GainMem.τ) (Cert.GainMem.main (F := Bits))) ⟨m, fun _ => 0, g⟩ (fun r => (∀ c : Dev Cert.GainMem.nD,
      r.2.mem ((c.tc : Thread Cert.GainMem.nD Cert.GainMem.τ).loc Cert.GainMem.main_arg0) = m ((c.tc : Thread Cert.GainMem.nD Cert.GainMem.τ).loc Cert.GainMem.main_arg0)
      ∧ r.2.mem ((c.tc : Thread Cert.GainMem.nD Cert.GainMem.τ).loc Cert.GainMem.main_arg1) = m ((c.tc : Thread Cert.GainMem.nD Cert.GainMem.τ).loc Cert.GainMem.main_arg1)
      ∧ r.2.mem ((c.tc : Thread Cert.GainMem.nD Cert.GainMem.τ).loc Cert.GainMem.main_arg2) = m ((c.tc : Thread Cert.GainMem.nD Cert.GainMem.τ).loc Cert.GainMem.main_arg2))
      ∧ r.2.sem = fun _ => 0)

def quiescent_GainMemIdeal [hGainMemIdeal : Cert.GainMemIdeal.Facts] : Prop :=
  ∀ (m : (ℓ : Loc Cert.GainMemIdeal.nD Cert.GainMemIdeal.τ Cert.GainMemIdeal.sig) → Buf (Elt Ideal) ℓ) (g : Dev Cert.GainMemIdeal.nD → PrngReg), Pre_GainMemIdeal m →
    θ_run (Cert.GainMemIdeal.defs (F := Ideal)) (onTc (τ := Cert.GainMemIdeal.τ) (Cert.GainMemIdeal.main (F := Ideal))) ⟨m, fun _ => 0, g⟩ (fun r => (∀ c : Dev Cert.GainMemIdeal.nD,
      r.2.mem ((c.tc : Thread Cert.GainMemIdeal.nD Cert.GainMemIdeal.τ).loc Cert.GainMemIdeal.main_arg0) = m ((c.tc : Thread Cert.GainMemIdeal.nD Cert.GainMemIdeal.τ).loc Cert.GainMemIdeal.main_arg0)
      ∧ r.2.mem ((c.tc : Thread Cert.GainMemIdeal.nD Cert.GainMemIdeal.τ).loc Cert.GainMemIdeal.main_arg1) = m ((c.tc : Thread Cert.GainMemIdeal.nD Cert.GainMemIdeal.τ).loc Cert.GainMemIdeal.main_arg1)
      ∧ r.2.mem ((c.tc : Thread Cert.GainMemIdeal.nD Cert.GainMemIdeal.τ).loc Cert.GainMemIdeal.main_arg2) = m ((c.tc : Thread Cert.GainMemIdeal.nD Cert.GainMemIdeal.τ).loc Cert.GainMemIdeal.main_arg2))
      ∧ r.2.sem = fun _ => 0)

def quiescent_GainMemReferenceIdeal [hGainMemReferenceIdeal : Cert.GainMemReferenceIdeal.Facts] : Prop :=
  ∀ (m : (ℓ : Loc Cert.GainMemReferenceIdeal.nD Cert.GainMemReferenceIdeal.τ Cert.GainMemReferenceIdeal.sig) → Buf (Elt Ideal) ℓ) (g : Dev Cert.GainMemReferenceIdeal.nD → PrngReg), Pre_GainMemReferenceIdeal m →
    θ_run (Cert.GainMemReferenceIdeal.defs (F := Ideal)) (onTc (τ := Cert.GainMemReferenceIdeal.τ) (Cert.GainMemReferenceIdeal.main (F := Ideal))) ⟨m, fun _ => 0, g⟩ (fun r => (∀ c : Dev Cert.GainMemReferenceIdeal.nD,
      r.2.mem ((c.tc : Thread Cert.GainMemReferenceIdeal.nD Cert.GainMemReferenceIdeal.τ).loc Cert.GainMemReferenceIdeal.main_arg0) = m ((c.tc : Thread Cert.GainMemReferenceIdeal.nD Cert.GainMemReferenceIdeal.τ).loc Cert.GainMemReferenceIdeal.main_arg0)
      ∧ r.2.mem ((c.tc : Thread Cert.GainMemReferenceIdeal.nD Cert.GainMemReferenceIdeal.τ).loc Cert.GainMemReferenceIdeal.main_arg1) = m ((c.tc : Thread Cert.GainMemReferenceIdeal.nD Cert.GainMemReferenceIdeal.τ).loc Cert.GainMemReferenceIdeal.main_arg1)
      ∧ r.2.mem ((c.tc : Thread Cert.GainMemReferenceIdeal.nD Cert.GainMemReferenceIdeal.τ).loc Cert.GainMemReferenceIdeal.main_arg2) = m ((c.tc : Thread Cert.GainMemReferenceIdeal.nD Cert.GainMemReferenceIdeal.τ).loc Cert.GainMemReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)
      ∧ m' ((c.tc : Thread Cert.MlpReferenceIdeal.nD Cert.MlpReferenceIdeal.τ).loc Cert.MlpReferenceIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v13)) (v1 : (c : Dev Cert.MlpIdeal.nD) → Buf (Elt Ideal) ((c.tc : Thread Cert.MlpIdeal.nD Cert.MlpIdeal.τ).loc Cert.MlpIdeal.main_v9_0)) (v2 : (c : Dev Cert.MlpIdeal.nD) → Buf (Elt Ideal) ((c.tc : Thread Cert.MlpIdeal.nD Cert.MlpIdeal.τ).loc Cert.MlpIdeal.main_v11)) (v3 : (c : Dev Cert.MlpIdeal.nD) → Buf (Elt Ideal) ((c.tc : Thread Cert.MlpIdeal.nD Cert.MlpIdeal.τ).loc Cert.MlpIdeal.main_v14)) (v4 : (c : Dev Cert.MlpIdeal.nD) → Buf (Elt Ideal) ((c.tc : Thread Cert.MlpIdeal.nD Cert.MlpIdeal.τ).loc Cert.MlpIdeal.main_v15)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v13) = v0 c
          ∧ r.2.mem ((c.tc : Thread Cert.MlpIdeal.nD Cert.MlpIdeal.τ).loc Cert.MlpIdeal.main_v9_0) = v1 c
          ∧ r.2.mem ((c.tc : Thread Cert.MlpIdeal.nD Cert.MlpIdeal.τ).loc Cert.MlpIdeal.main_v11) = v2 c
          ∧ r.2.mem ((c.tc : Thread Cert.MlpIdeal.nD Cert.MlpIdeal.τ).loc Cert.MlpIdeal.main_v14) = v3 c
          ∧ r.2.mem ((c.tc : Thread Cert.MlpIdeal.nD Cert.MlpIdeal.τ).loc Cert.MlpIdeal.main_v15) = v4 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v54) = v0 c
          ∧ r.2.mem ((c.tc : Thread Cert.MlpReferenceIdeal.nD Cert.MlpReferenceIdeal.τ).loc Cert.MlpReferenceIdeal.main_v104) = v1 c
          ∧ r.2.mem ((c.tc : Thread Cert.MlpReferenceIdeal.nD Cert.MlpReferenceIdeal.τ).loc Cert.MlpReferenceIdeal.main_v106) = v2 c
          ∧ r.2.mem ((c.tc : Thread Cert.MlpReferenceIdeal.nD Cert.MlpReferenceIdeal.τ).loc Cert.MlpReferenceIdeal.main_v87) = v3 c
          ∧ r.2.mem ((c.tc : Thread Cert.MlpReferenceIdeal.nD Cert.MlpReferenceIdeal.τ).loc Cert.MlpReferenceIdeal.main_v63) = v4 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7))

def preserves_DwUp_DwUpIdeal : Prop :=
  True

def algebraic_DwUpIdeal_DwUpReferenceIdeal [hDwUpIdeal : Cert.DwUpIdeal.Facts] [hDwUpReferenceIdeal : Cert.DwUpReferenceIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpReferenceIdeal.nD Cert.DwUpReferenceIdeal.τ Cert.DwUpReferenceIdeal.sig) → Buf (Elt Ideal) ℓ) (g' : Dev Cert.DwUpReferenceIdeal.nD → PrngReg), Pre_DwUpIdeal m →
    (∀ c : Dev Cert.DwUpIdeal.nD,
      m' ((c.tc : Thread Cert.DwUpReferenceIdeal.nD Cert.DwUpReferenceIdeal.τ).loc Cert.DwUpReferenceIdeal.main_arg0) = m ((c.tc : Thread Cert.DwUpIdeal.nD Cert.DwUpIdeal.τ).loc Cert.DwUpIdeal.main_arg0)
      ∧ m' ((c.tc : Thread Cert.DwUpReferenceIdeal.nD Cert.DwUpReferenceIdeal.τ).loc Cert.DwUpReferenceIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpReferenceIdeal.defs (F := Ideal)) (onTc (τ := Cert.DwUpReferenceIdeal.τ) (Cert.DwUpReferenceIdeal.main (F := Ideal))) ⟨m', fun _ => 0, g'⟩ (fun r => ∀ c : Dev Cert.DwUpReferenceIdeal.nD,
          r.2.mem ((c.tc : Thread Cert.DwUpReferenceIdeal.nD Cert.DwUpReferenceIdeal.τ).loc Cert.DwUpReferenceIdeal.main_v8) = v0 c
          ∧ r.2.mem ((c.tc : Thread Cert.DwUpReferenceIdeal.nD Cert.DwUpReferenceIdeal.τ).loc Cert.DwUpReferenceIdeal.main_arg0) = m' ((c.tc : Thread Cert.DwUpReferenceIdeal.nD Cert.DwUpReferenceIdeal.τ).loc Cert.DwUpReferenceIdeal.main_arg0)
          ∧ r.2.mem ((c.tc : Thread Cert.DwUpReferenceIdeal.nD Cert.DwUpReferenceIdeal.τ).loc Cert.DwUpReferenceIdeal.main_arg1) = m' ((c.tc : Thread Cert.DwUpReferenceIdeal.nD Cert.DwUpReferenceIdeal.τ).loc Cert.DwUpReferenceIdeal.main_arg1))

def preserves_DwDown_DwDownIdeal : Prop :=
  True

def algebraic_DwDownIdeal_DwDownReferenceIdeal [hDwDownIdeal : Cert.DwDownIdeal.Facts] [hDwDownReferenceIdeal : Cert.DwDownReferenceIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownReferenceIdeal.nD Cert.DwDownReferenceIdeal.τ Cert.DwDownReferenceIdeal.sig) → Buf (Elt Ideal) ℓ) (g' : Dev Cert.DwDownReferenceIdeal.nD → PrngReg), Pre_DwDownIdeal m →
    (∀ c : Dev Cert.DwDownIdeal.nD,
      m' ((c.tc : Thread Cert.DwDownReferenceIdeal.nD Cert.DwDownReferenceIdeal.τ).loc Cert.DwDownReferenceIdeal.main_arg0) = m ((c.tc : Thread Cert.DwDownIdeal.nD Cert.DwDownIdeal.τ).loc Cert.DwDownIdeal.main_arg0)
      ∧ m' ((c.tc : Thread Cert.DwDownReferenceIdeal.nD Cert.DwDownReferenceIdeal.τ).loc Cert.DwDownReferenceIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownReferenceIdeal.defs (F := Ideal)) (onTc (τ := Cert.DwDownReferenceIdeal.τ) (Cert.DwDownReferenceIdeal.main (F := Ideal))) ⟨m', fun _ => 0, g'⟩ (fun r => ∀ c : Dev Cert.DwDownReferenceIdeal.nD,
          r.2.mem ((c.tc : Thread Cert.DwDownReferenceIdeal.nD Cert.DwDownReferenceIdeal.τ).loc Cert.DwDownReferenceIdeal.main_v9) = v0 c
          ∧ r.2.mem ((c.tc : Thread Cert.DwDownReferenceIdeal.nD Cert.DwDownReferenceIdeal.τ).loc Cert.DwDownReferenceIdeal.main_arg0) = m' ((c.tc : Thread Cert.DwDownReferenceIdeal.nD Cert.DwDownReferenceIdeal.τ).loc Cert.DwDownReferenceIdeal.main_arg0)
          ∧ r.2.mem ((c.tc : Thread Cert.DwDownReferenceIdeal.nD Cert.DwDownReferenceIdeal.τ).loc Cert.DwDownReferenceIdeal.main_arg1) = m' ((c.tc : Thread Cert.DwDownReferenceIdeal.nD Cert.DwDownReferenceIdeal.τ).loc Cert.DwDownReferenceIdeal.main_arg1))

def preserves_DwXo_DwXoIdeal : Prop :=
  True

def algebraic_DwXoIdeal_DwXoReferenceIdeal [hDwXoIdeal : Cert.DwXoIdeal.Facts] [hDwXoReferenceIdeal : Cert.DwXoReferenceIdeal.Facts] : Prop :=
  ∀ (m : (ℓ : Loc Cert.DwXoIdeal.nD Cert.DwXoIdeal.τ Cert.DwXoIdeal.sig) → Buf (Elt Ideal) ℓ) (g : Dev Cert.DwXoIdeal.nD → PrngReg)
    (m' : (ℓ : Loc Cert.DwXoReferenceIdeal.nD Cert.DwXoReferenceIdeal.τ Cert.DwXoReferenceIdeal.sig) → Buf (Elt Ideal) ℓ) (g' : Dev Cert.DwXoReferenceIdeal.nD → PrngReg), Pre_DwXoIdeal m →
    (∀ c : Dev Cert.DwXoIdeal.nD,
      m' ((c.tc : Thread Cert.DwXoReferenceIdeal.nD Cert.DwXoReferenceIdeal.τ).loc Cert.DwXoReferenceIdeal.main_arg0) = m ((c.tc : Thread Cert.DwXoIdeal.nD Cert.DwXoIdeal.τ).loc Cert.DwXoIdeal.main_arg0)
      ∧ m' ((c.tc : Thread Cert.DwXoReferenceIdeal.nD Cert.DwXoReferenceIdeal.τ).loc Cert.DwXoReferenceIdeal.main_arg1) = m ((c.tc : Thread Cert.DwXoIdeal.nD Cert.DwXoIdeal.τ).loc Cert.DwXoIdeal.main_arg1)) →
    ∃ (v0 : (c : Dev Cert.DwXoIdeal.nD) → Buf (Elt Ideal) ((c.tc : Thread Cert.DwXoIdeal.nD Cert.DwXoIdeal.τ).loc Cert.DwXoIdeal.main_v0)),
      θ_run (Cert.DwXoIdeal.defs (F := Ideal)) (onTc (τ := Cert.DwXoIdeal.τ) (Cert.DwXoIdeal.main (F := Ideal))) ⟨m, fun _ => 0, g⟩ (fun r => ∀ c : Dev Cert.DwXoIdeal.nD,
          r.2.mem ((c.tc : Thread Cert.DwXoIdeal.nD Cert.DwXoIdeal.τ).loc Cert.DwXoIdeal.main_v0) = v0 c
          ∧ r.2.mem ((c.tc : Thread Cert.DwXoIdeal.nD Cert.DwXoIdeal.τ).loc Cert.DwXoIdeal.main_arg0) = m ((c.tc : Thread Cert.DwXoIdeal.nD Cert.DwXoIdeal.τ).loc Cert.DwXoIdeal.main_arg0)
          ∧ r.2.mem ((c.tc : Thread Cert.DwXoIdeal.nD Cert.DwXoIdeal.τ).loc Cert.DwXoIdeal.main_arg1) = m ((c.tc : Thread Cert.DwXoIdeal.nD Cert.DwXoIdeal.τ).loc Cert.DwXoIdeal.main_arg1))
      ∧ θ_run (Cert.DwXoReferenceIdeal.defs (F := Ideal)) (onTc (τ := Cert.DwXoReferenceIdeal.τ) (Cert.DwXoReferenceIdeal.main (F := Ideal))) ⟨m', fun _ => 0, g'⟩ (fun r => ∀ c : Dev Cert.DwXoReferenceIdeal.nD,
          r.2.mem ((c.tc : Thread Cert.DwXoReferenceIdeal.nD Cert.DwXoReferenceIdeal.τ).loc Cert.DwXoReferenceIdeal.main_v8) = v0 c
          ∧ r.2.mem ((c.tc : Thread Cert.DwXoReferenceIdeal.nD Cert.DwXoReferenceIdeal.τ).loc Cert.DwXoReferenceIdeal.main_arg0) = m' ((c.tc : Thread Cert.DwXoReferenceIdeal.nD Cert.DwXoReferenceIdeal.τ).loc Cert.DwXoReferenceIdeal.main_arg0)
          ∧ r.2.mem ((c.tc : Thread Cert.DwXoReferenceIdeal.nD Cert.DwXoReferenceIdeal.τ).loc Cert.DwXoReferenceIdeal.main_arg1) = m' ((c.tc : Thread Cert.DwXoReferenceIdeal.nD Cert.DwXoReferenceIdeal.τ).loc Cert.DwXoReferenceIdeal.main_arg1))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v8) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v8) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
      ∧ m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)) →
    ∃ (v0 : (c : Dev Cert.FirstIdeal.nD) → Buf (Elt Ideal) ((c.tc : Thread Cert.FirstIdeal.nD Cert.FirstIdeal.τ).loc Cert.FirstIdeal.main_v3)) (v1 : (c : Dev Cert.FirstIdeal.nD) → Buf (Elt Ideal) ((c.tc : Thread Cert.FirstIdeal.nD Cert.FirstIdeal.τ).loc Cert.FirstIdeal.main_v4_0)) (v2 : (c : Dev Cert.FirstIdeal.nD) → Buf (Elt Ideal) ((c.tc : Thread Cert.FirstIdeal.nD Cert.FirstIdeal.τ).loc Cert.FirstIdeal.main_v5)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v3) = v0 c
          ∧ r.2.mem ((c.tc : Thread Cert.FirstIdeal.nD Cert.FirstIdeal.τ).loc Cert.FirstIdeal.main_v4_0) = v1 c
          ∧ r.2.mem ((c.tc : Thread Cert.FirstIdeal.nD Cert.FirstIdeal.τ).loc Cert.FirstIdeal.main_v5) = v2 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v39) = v0 c
          ∧ r.2.mem ((c.tc : Thread Cert.FirstReferenceIdeal.nD Cert.FirstReferenceIdeal.τ).loc Cert.FirstReferenceIdeal.main_v38) = v1 c
          ∧ r.2.mem ((c.tc : Thread Cert.FirstReferenceIdeal.nD Cert.FirstReferenceIdeal.τ).loc Cert.FirstReferenceIdeal.main_v21) = v2 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)
      ∧ m' ((c.tc : Thread Cert.QueryReferenceIdeal.nD Cert.QueryReferenceIdeal.τ).loc Cert.QueryReferenceIdeal.main_arg2) = m ((c.tc : Thread Cert.QueryIdeal.nD Cert.QueryIdeal.τ).loc Cert.QueryIdeal.main_arg2)
      ∧ m' ((c.tc : Thread Cert.QueryReferenceIdeal.nD Cert.QueryReferenceIdeal.τ).loc Cert.QueryReferenceIdeal.main_arg3) = m ((c.tc : Thread Cert.QueryIdeal.nD Cert.QueryIdeal.τ).loc Cert.QueryIdeal.main_arg3)
      ∧ m' ((c.tc : Thread Cert.QueryReferenceIdeal.nD Cert.QueryReferenceIdeal.τ).loc Cert.QueryReferenceIdeal.main_arg4) = m ((c.tc : Thread Cert.QueryIdeal.nD Cert.QueryIdeal.τ).loc Cert.QueryIdeal.main_arg4)
      ∧ m' ((c.tc : Thread Cert.QueryReferenceIdeal.nD Cert.QueryReferenceIdeal.τ).loc Cert.QueryReferenceIdeal.main_arg5) = m ((c.tc : Thread Cert.QueryIdeal.nD Cert.QueryIdeal.τ).loc Cert.QueryIdeal.main_arg5)
      ∧ m' ((c.tc : Thread Cert.QueryReferenceIdeal.nD Cert.QueryReferenceIdeal.τ).loc Cert.QueryReferenceIdeal.main_arg6) = m ((c.tc : Thread Cert.QueryIdeal.nD Cert.QueryIdeal.τ).loc Cert.QueryIdeal.main_arg6)
      ∧ m' ((c.tc : Thread Cert.QueryReferenceIdeal.nD Cert.QueryReferenceIdeal.τ).loc Cert.QueryReferenceIdeal.main_arg7) = m ((c.tc : Thread Cert.QueryIdeal.nD Cert.QueryIdeal.τ).loc Cert.QueryIdeal.main_arg7)) →
    ∃ (v0 : (c : Dev Cert.QueryIdeal.nD) → Buf (Elt Ideal) ((c.tc : Thread Cert.QueryIdeal.nD Cert.QueryIdeal.τ).loc Cert.QueryIdeal.main_v1_0)) (v1 : (c : Dev Cert.QueryIdeal.nD) → Buf (Elt Ideal) ((c.tc : Thread Cert.QueryIdeal.nD Cert.QueryIdeal.τ).loc Cert.QueryIdeal.main_v3)) (v2 : (c : Dev Cert.QueryIdeal.nD) → Buf (Elt Ideal) ((c.tc : Thread Cert.QueryIdeal.nD Cert.QueryIdeal.τ).loc Cert.QueryIdeal.main_v5_0)) (v3 : (c : Dev Cert.QueryIdeal.nD) → Buf (Elt Ideal) ((c.tc : Thread Cert.QueryIdeal.nD Cert.QueryIdeal.τ).loc Cert.QueryIdeal.main_v7)) (v4 : (c : Dev Cert.QueryIdeal.nD) → Buf (Elt Ideal) ((c.tc : Thread Cert.QueryIdeal.nD Cert.QueryIdeal.τ).loc Cert.QueryIdeal.main_v8)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v1_0) = v0 c
          ∧ r.2.mem ((c.tc : Thread Cert.QueryIdeal.nD Cert.QueryIdeal.τ).loc Cert.QueryIdeal.main_v3) = v1 c
          ∧ r.2.mem ((c.tc : Thread Cert.QueryIdeal.nD Cert.QueryIdeal.τ).loc Cert.QueryIdeal.main_v5_0) = v2 c
          ∧ r.2.mem ((c.tc : Thread Cert.QueryIdeal.nD Cert.QueryIdeal.τ).loc Cert.QueryIdeal.main_v7) = v3 c
          ∧ r.2.mem ((c.tc : Thread Cert.QueryIdeal.nD Cert.QueryIdeal.τ).loc Cert.QueryIdeal.main_v8) = v4 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
          ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4)
          ∧ r.2.mem ((c.tc : Thread Cert.QueryIdeal.nD Cert.QueryIdeal.τ).loc Cert.QueryIdeal.main_arg5) = m ((c.tc : Thread Cert.QueryIdeal.nD Cert.QueryIdeal.τ).loc Cert.QueryIdeal.main_arg5)
          ∧ r.2.mem ((c.tc : Thread Cert.QueryIdeal.nD Cert.QueryIdeal.τ).loc Cert.QueryIdeal.main_arg6) = m ((c.tc : Thread Cert.QueryIdeal.nD Cert.QueryIdeal.τ).loc Cert.QueryIdeal.main_arg6)
          ∧ r.2.mem ((c.tc : Thread Cert.QueryIdeal.nD Cert.QueryIdeal.τ).loc Cert.QueryIdeal.main_arg7) = m ((c.tc : Thread Cert.QueryIdeal.nD Cert.QueryIdeal.τ).loc Cert.QueryIdeal.main_arg7))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v7) = v0 c
          ∧ r.2.mem ((c.tc : Thread Cert.QueryReferenceIdeal.nD Cert.QueryReferenceIdeal.τ).loc Cert.QueryReferenceIdeal.main_v47) = v1 c
          ∧ r.2.mem ((c.tc : Thread Cert.QueryReferenceIdeal.nD Cert.QueryReferenceIdeal.τ).loc Cert.QueryReferenceIdeal.main_v44) = v2 c
          ∧ r.2.mem ((c.tc : Thread Cert.QueryReferenceIdeal.nD Cert.QueryReferenceIdeal.τ).loc Cert.QueryReferenceIdeal.main_v48) = v3 c
          ∧ r.2.mem ((c.tc : Thread Cert.QueryReferenceIdeal.nD Cert.QueryReferenceIdeal.τ).loc Cert.QueryReferenceIdeal.main_v27) = v4 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1)
          ∧ r.2.mem ((c.tc : Thread Cert.QueryReferenceIdeal.nD Cert.QueryReferenceIdeal.τ).loc Cert.QueryReferenceIdeal.main_arg2) = m' ((c.tc : Thread Cert.QueryReferenceIdeal.nD Cert.QueryReferenceIdeal.τ).loc Cert.QueryReferenceIdeal.main_arg2)
          ∧ r.2.mem ((c.tc : Thread Cert.QueryReferenceIdeal.nD Cert.QueryReferenceIdeal.τ).loc Cert.QueryReferenceIdeal.main_arg3) = m' ((c.tc : Thread Cert.QueryReferenceIdeal.nD Cert.QueryReferenceIdeal.τ).loc Cert.QueryReferenceIdeal.main_arg3)
          ∧ r.2.mem ((c.tc : Thread Cert.QueryReferenceIdeal.nD Cert.QueryReferenceIdeal.τ).loc Cert.QueryReferenceIdeal.main_arg4) = m' ((c.tc : Thread Cert.QueryReferenceIdeal.nD Cert.QueryReferenceIdeal.τ).loc Cert.QueryReferenceIdeal.main_arg4)
          ∧ r.2.mem ((c.tc : Thread Cert.QueryReferenceIdeal.nD Cert.QueryReferenceIdeal.τ).loc Cert.QueryReferenceIdeal.main_arg5) = m' ((c.tc : Thread Cert.QueryReferenceIdeal.nD Cert.QueryReferenceIdeal.τ).loc Cert.QueryReferenceIdeal.main_arg5)
          ∧ r.2.mem ((c.tc : Thread Cert.QueryReferenceIdeal.nD Cert.QueryReferenceIdeal.τ).loc Cert.QueryReferenceIdeal.main_arg6) = m' ((c.tc : Thread Cert.QueryReferenceIdeal.nD Cert.QueryReferenceIdeal.τ).loc Cert.QueryReferenceIdeal.main_arg6)
          ∧ r.2.mem ((c.tc : Thread Cert.QueryReferenceIdeal.nD Cert.QueryReferenceIdeal.τ).loc Cert.QueryReferenceIdeal.main_arg7) = m' ((c.tc : Thread Cert.QueryReferenceIdeal.nD Cert.QueryReferenceIdeal.τ).loc Cert.QueryReferenceIdeal.main_arg7))

def preserves_Heads_HeadsIdeal : Prop :=
  True

def algebraic_HeadsIdeal_HeadsReferenceIdeal_pre_finite_heads [hHeadsIdeal : Cert.HeadsIdeal.Facts] [hHeadsReferenceIdeal : Cert.HeadsReferenceIdeal.Facts] [hPre_finite_heads : Cert.Pre_finite_heads.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsReferenceIdeal.nD Cert.HeadsReferenceIdeal.τ Cert.HeadsReferenceIdeal.sig) → Buf (Elt Ideal) ℓ) (g' : Dev Cert.HeadsReferenceIdeal.nD → PrngReg), Pre_HeadsIdeal_finite_heads m →
    (∀ c : Dev Cert.HeadsIdeal.nD,
      m' ((c.tc : Thread Cert.HeadsReferenceIdeal.nD Cert.HeadsReferenceIdeal.τ).loc Cert.HeadsReferenceIdeal.main_arg0) = m ((c.tc : Thread Cert.HeadsIdeal.nD Cert.HeadsIdeal.τ).loc Cert.HeadsIdeal.main_arg0)
      ∧ m' ((c.tc : Thread Cert.HeadsReferenceIdeal.nD Cert.HeadsReferenceIdeal.τ).loc Cert.HeadsReferenceIdeal.main_arg1) = m ((c.tc : Thread Cert.HeadsIdeal.nD Cert.HeadsIdeal.τ).loc Cert.HeadsIdeal.main_arg1)
      ∧ m' ((c.tc : Thread Cert.HeadsReferenceIdeal.nD Cert.HeadsReferenceIdeal.τ).loc Cert.HeadsReferenceIdeal.main_arg2) = m ((c.tc : Thread Cert.HeadsIdeal.nD Cert.HeadsIdeal.τ).loc Cert.HeadsIdeal.main_arg2)) →
    ∃ (v0 : (c : Dev Cert.HeadsIdeal.nD) → Buf (Elt Ideal) ((c.tc : Thread Cert.HeadsIdeal.nD Cert.HeadsIdeal.τ).loc Cert.HeadsIdeal.main_v0)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v0) = v0 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2))
      ∧ θ_run (Cert.HeadsReferenceIdeal.defs (F := Ideal)) (onTc (τ := Cert.HeadsReferenceIdeal.τ) (Cert.HeadsReferenceIdeal.main (F := Ideal))) ⟨m', fun _ => 0, g'⟩ (fun r => ∀ c : Dev Cert.HeadsReferenceIdeal.nD,
          r.2.mem ((c.tc : Thread Cert.HeadsReferenceIdeal.nD Cert.HeadsReferenceIdeal.τ).loc Cert.HeadsReferenceIdeal.main_v23) = v0 c
          ∧ r.2.mem ((c.tc : Thread Cert.HeadsReferenceIdeal.nD Cert.HeadsReferenceIdeal.τ).loc Cert.HeadsReferenceIdeal.main_arg0) = m' ((c.tc : Thread Cert.HeadsReferenceIdeal.nD Cert.HeadsReferenceIdeal.τ).loc Cert.HeadsReferenceIdeal.main_arg0)
          ∧ r.2.mem ((c.tc : Thread Cert.HeadsReferenceIdeal.nD Cert.HeadsReferenceIdeal.τ).loc Cert.HeadsReferenceIdeal.main_arg1) = m' ((c.tc : Thread Cert.HeadsReferenceIdeal.nD Cert.HeadsReferenceIdeal.τ).loc Cert.HeadsReferenceIdeal.main_arg1)
          ∧ r.2.mem ((c.tc : Thread Cert.HeadsReferenceIdeal.nD Cert.HeadsReferenceIdeal.τ).loc Cert.HeadsReferenceIdeal.main_arg2) = m' ((c.tc : Thread Cert.HeadsReferenceIdeal.nD Cert.HeadsReferenceIdeal.τ).loc Cert.HeadsReferenceIdeal.main_arg2))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)
      ∧ m' ((c.tc : Thread Cert.AdamUpReferenceIdeal.nD Cert.AdamUpReferenceIdeal.τ).loc Cert.AdamUpReferenceIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v0) = v0 c
          ∧ r.2.mem ((c.tc : Thread Cert.AdamUpReferenceIdeal.nD Cert.AdamUpReferenceIdeal.τ).loc Cert.AdamUpReferenceIdeal.main_v24) = v1 c
          ∧ r.2.mem ((c.tc : Thread Cert.AdamUpReferenceIdeal.nD Cert.AdamUpReferenceIdeal.τ).loc Cert.AdamUpReferenceIdeal.main_v5) = v2 c
          ∧ r.2.mem ((c.tc : Thread Cert.AdamUpReferenceIdeal.nD Cert.AdamUpReferenceIdeal.τ).loc Cert.AdamUpReferenceIdeal.main_v11) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3)
          ∧ r.2.mem ((c.tc : Thread Cert.AdamUpReferenceIdeal.nD Cert.AdamUpReferenceIdeal.τ).loc Cert.AdamUpReferenceIdeal.main_arg4) = m' ((c.tc : Thread Cert.AdamUpReferenceIdeal.nD Cert.AdamUpReferenceIdeal.τ).loc Cert.AdamUpReferenceIdeal.main_arg4))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v0) = v0 c
          ∧ r.2.mem ((c.tc : Thread Cert.AdamInReferenceIdeal.nD Cert.AdamInReferenceIdeal.τ).loc Cert.AdamInReferenceIdeal.main_v24) = v1 c
          ∧ r.2.mem ((c.tc : Thread Cert.AdamInReferenceIdeal.nD Cert.AdamInReferenceIdeal.τ).loc Cert.AdamInReferenceIdeal.main_v5) = v2 c
          ∧ r.2.mem ((c.tc : Thread Cert.AdamInReferenceIdeal.nD Cert.AdamInReferenceIdeal.τ).loc Cert.AdamInReferenceIdeal.main_v11) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4))

def preserves_AdamSq_AdamSqIdeal : Prop :=
  True

def algebraic_AdamSqIdeal_AdamSqReferenceIdeal [hAdamSqIdeal : Cert.AdamSqIdeal.Facts] [hAdamSqReferenceIdeal : Cert.AdamSqReferenceIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg)
    (m' : (ℓ : Loc Cert.AdamSqReferenceIdeal.nD Cert.AdamSqReferenceIdeal.τ Cert.AdamSqReferenceIdeal.sig) → Buf (Elt Ideal) ℓ) (g' : Dev Cert.AdamSqReferenceIdeal.nD → PrngReg), Pre_AdamSqIdeal m →
    (∀ c : Dev Cert.AdamSqIdeal.nD,
      m' ((c.tc : Thread Cert.AdamSqReferenceIdeal.nD Cert.AdamSqReferenceIdeal.τ).loc Cert.AdamSqReferenceIdeal.main_arg0) = m ((c.tc : Thread Cert.AdamSqIdeal.nD Cert.AdamSqIdeal.τ).loc Cert.AdamSqIdeal.main_arg0)
      ∧ m' ((c.tc : Thread Cert.AdamSqReferenceIdeal.nD Cert.AdamSqReferenceIdeal.τ).loc Cert.AdamSqReferenceIdeal.main_arg1) = m ((c.tc : Thread Cert.AdamSqIdeal.nD Cert.AdamSqIdeal.τ).loc Cert.AdamSqIdeal.main_arg1)
      ∧ m' ((c.tc : Thread Cert.AdamSqReferenceIdeal.nD Cert.AdamSqReferenceIdeal.τ).loc Cert.AdamSqReferenceIdeal.main_arg2) = m ((c.tc : Thread Cert.AdamSqIdeal.nD Cert.AdamSqIdeal.τ).loc Cert.AdamSqIdeal.main_arg2)
      ∧ m' ((c.tc : Thread Cert.AdamSqReferenceIdeal.nD Cert.AdamSqReferenceIdeal.τ).loc Cert.AdamSqReferenceIdeal.main_arg3) = m ((c.tc : Thread Cert.AdamSqIdeal.nD Cert.AdamSqIdeal.τ).loc Cert.AdamSqIdeal.main_arg3)
      ∧ m' ((c.tc : Thread Cert.AdamSqReferenceIdeal.nD Cert.AdamSqReferenceIdeal.τ).loc Cert.AdamSqReferenceIdeal.main_arg4) = m ((c.tc : Thread Cert.AdamSqIdeal.nD Cert.AdamSqIdeal.τ).loc Cert.AdamSqIdeal.main_arg4)) →
    ∃ (v0 : (c : Dev Cert.AdamSqIdeal.nD) → Buf (Elt Ideal) ((c.tc : Thread Cert.AdamSqIdeal.nD Cert.AdamSqIdeal.τ).loc Cert.AdamSqIdeal.main_v0_0)) (v1 : (c : Dev Cert.AdamSqIdeal.nD) → Buf (Elt Ideal) ((c.tc : Thread Cert.AdamSqIdeal.nD Cert.AdamSqIdeal.τ).loc Cert.AdamSqIdeal.main_v0_1)) (v2 : (c : Dev Cert.AdamSqIdeal.nD) → Buf (Elt Ideal) ((c.tc : Thread Cert.AdamSqIdeal.nD Cert.AdamSqIdeal.τ).loc Cert.AdamSqIdeal.main_v0_2)) (v3 : (c : Dev Cert.AdamSqIdeal.nD) → Buf (Elt Ideal) ((c.tc : Thread Cert.AdamSqIdeal.nD Cert.AdamSqIdeal.τ).loc Cert.AdamSqIdeal.main_v0_3)),
      θ_run (Cert.AdamSqIdeal.defs (F := Ideal)) (onTc (τ := Cert.AdamSqIdeal.τ) (Cert.AdamSqIdeal.main (F := Ideal))) ⟨m, fun _ => 0, g⟩ (fun r => ∀ c : Dev Cert.AdamSqIdeal.nD,
          r.2.mem ((c.tc : Thread Cert.AdamSqIdeal.nD Cert.AdamSqIdeal.τ).loc Cert.AdamSqIdeal.main_v0_0) = v0 c
          ∧ r.2.mem ((c.tc : Thread Cert.AdamSqIdeal.nD Cert.AdamSqIdeal.τ).loc Cert.AdamSqIdeal.main_v0_1) = v1 c
          ∧ r.2.mem ((c.tc : Thread Cert.AdamSqIdeal.nD Cert.AdamSqIdeal.τ).loc Cert.AdamSqIdeal.main_v0_2) = v2 c
          ∧ r.2.mem ((c.tc : Thread Cert.AdamSqIdeal.nD Cert.AdamSqIdeal.τ).loc Cert.AdamSqIdeal.main_v0_3) = v3 c
          ∧ r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
          ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
          ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
          ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3)
          ∧ r.2.mem ((c.tc : Thread Cert.AdamSqIdeal.nD Cert.AdamSqIdeal.τ).loc Cert.AdamSqIdeal.main_arg4) = m ((c.tc : Thread Cert.AdamSqIdeal.nD Cert.AdamSqIdeal.τ).loc Cert.AdamSqIdeal.main_arg4))
      ∧ θ_run (Cert.AdamSqReferenceIdeal.defs (F := Ideal)) (onTc (τ := Cert.AdamSqReferenceIdeal.τ) (Cert.AdamSqReferenceIdeal.main (F := Ideal))) ⟨m', fun _ => 0, g'⟩ (fun r => ∀ c : Dev Cert.AdamSqReferenceIdeal.nD,
          r.2.mem ((c.tc : Thread Cert.AdamSqReferenceIdeal.nD Cert.AdamSqReferenceIdeal.τ).loc Cert.AdamSqReferenceIdeal.main_v0) = v0 c
          ∧ r.2.mem ((c.tc : Thread Cert.AdamSqReferenceIdeal.nD Cert.AdamSqReferenceIdeal.τ).loc Cert.AdamSqReferenceIdeal.main_v24) = v1 c
          ∧ r.2.mem ((c.tc : Thread Cert.AdamSqReferenceIdeal.nD Cert.AdamSqReferenceIdeal.τ).loc Cert.AdamSqReferenceIdeal.main_v5) = v2 c
          ∧ r.2.mem ((c.tc : Thread Cert.AdamSqReferenceIdeal.nD Cert.AdamSqReferenceIdeal.τ).loc Cert.AdamSqReferenceIdeal.main_v11) = v3 c
          ∧ r.2.mem ((c.tc : Thread Cert.AdamSqReferenceIdeal.nD Cert.AdamSqReferenceIdeal.τ).loc Cert.AdamSqReferenceIdeal.main_arg0) = m' ((c.tc : Thread Cert.AdamSqReferenceIdeal.nD Cert.AdamSqReferenceIdeal.τ).loc Cert.AdamSqReferenceIdeal.main_arg0)
          ∧ r.2.mem ((c.tc : Thread Cert.AdamSqReferenceIdeal.nD Cert.AdamSqReferenceIdeal.τ).loc Cert.AdamSqReferenceIdeal.main_arg1) = m' ((c.tc : Thread Cert.AdamSqReferenceIdeal.nD Cert.AdamSqReferenceIdeal.τ).loc Cert.AdamSqReferenceIdeal.main_arg1)
          ∧ r.2.mem ((c.tc : Thread Cert.AdamSqReferenceIdeal.nD Cert.AdamSqReferenceIdeal.τ).loc Cert.AdamSqReferenceIdeal.main_arg2) = m' ((c.tc : Thread Cert.AdamSqReferenceIdeal.nD Cert.AdamSqReferenceIdeal.τ).loc Cert.AdamSqReferenceIdeal.main_arg2)
          ∧ r.2.mem ((c.tc : Thread Cert.AdamSqReferenceIdeal.nD Cert.AdamSqReferenceIdeal.τ).loc Cert.AdamSqReferenceIdeal.main_arg3) = m' ((c.tc : Thread Cert.AdamSqReferenceIdeal.nD Cert.AdamSqReferenceIdeal.τ).loc Cert.AdamSqReferenceIdeal.main_arg3)
          ∧ r.2.mem ((c.tc : Thread Cert.AdamSqReferenceIdeal.nD Cert.AdamSqReferenceIdeal.τ).loc Cert.AdamSqReferenceIdeal.main_arg4) = m' ((c.tc : Thread Cert.AdamSqReferenceIdeal.nD Cert.AdamSqReferenceIdeal.τ).loc Cert.AdamSqReferenceIdeal.main_arg4))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)
      ∧ m' ((c.tc : Thread Cert.MemoryReferenceIdeal.nD Cert.MemoryReferenceIdeal.τ).loc Cert.MemoryReferenceIdeal.main_arg2) = m ((c.tc : Thread Cert.MemoryIdeal.nD Cert.MemoryIdeal.τ).loc Cert.MemoryIdeal.main_arg2)
      ∧ m' ((c.tc : Thread Cert.MemoryReferenceIdeal.nD Cert.MemoryReferenceIdeal.τ).loc Cert.MemoryReferenceIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v2)) (v1 : (c : Dev Cert.MemoryIdeal.nD) → Buf (Elt Ideal) ((c.tc : Thread Cert.MemoryIdeal.nD Cert.MemoryIdeal.τ).loc Cert.MemoryIdeal.main_v4)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v2) = v0 c
          ∧ r.2.mem ((c.tc : Thread Cert.MemoryIdeal.nD Cert.MemoryIdeal.τ).loc Cert.MemoryIdeal.main_v4) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v16) = v0 c
          ∧ r.2.mem ((c.tc : Thread Cert.MemoryReferenceIdeal.nD Cert.MemoryReferenceIdeal.τ).loc Cert.MemoryReferenceIdeal.main_v17) = v1 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2)
          ∧ r.2.mem ((c.tc : Thread Cert.MemoryReferenceIdeal.nD Cert.MemoryReferenceIdeal.τ).loc Cert.MemoryReferenceIdeal.main_arg3) = m' ((c.tc : Thread Cert.MemoryReferenceIdeal.nD Cert.MemoryReferenceIdeal.τ).loc Cert.MemoryReferenceIdeal.main_arg3))

def preserves_DwXk_DwXkIdeal : Prop :=
  True

def algebraic_DwXkIdeal_DwXkReferenceIdeal [hDwXkIdeal : Cert.DwXkIdeal.Facts] [hDwXkReferenceIdeal : Cert.DwXkReferenceIdeal.Facts] : Prop :=
  ∀ (m : (ℓ : Loc Cert.DwXkIdeal.nD Cert.DwXkIdeal.τ Cert.DwXkIdeal.sig) → Buf (Elt Ideal) ℓ) (g : Dev Cert.DwXkIdeal.nD → PrngReg)
    (m' : (ℓ : Loc Cert.DwXkReferenceIdeal.nD Cert.DwXkReferenceIdeal.τ Cert.DwXkReferenceIdeal.sig) → Buf (Elt Ideal) ℓ) (g' : Dev Cert.DwXkReferenceIdeal.nD → PrngReg), Pre_DwXkIdeal m →
    (∀ c : Dev Cert.DwXkIdeal.nD,
      m' ((c.tc : Thread Cert.DwXkReferenceIdeal.nD Cert.DwXkReferenceIdeal.τ).loc Cert.DwXkReferenceIdeal.main_arg0) = m ((c.tc : Thread Cert.DwXkIdeal.nD Cert.DwXkIdeal.τ).loc Cert.DwXkIdeal.main_arg0)
      ∧ m' ((c.tc : Thread Cert.DwXkReferenceIdeal.nD Cert.DwXkReferenceIdeal.τ).loc Cert.DwXkReferenceIdeal.main_arg1) = m ((c.tc : Thread Cert.DwXkIdeal.nD Cert.DwXkIdeal.τ).loc Cert.DwXkIdeal.main_arg1)) →
    ∃ (v0 : (c : Dev Cert.DwXkIdeal.nD) → Buf (Elt Ideal) ((c.tc : Thread Cert.DwXkIdeal.nD Cert.DwXkIdeal.τ).loc Cert.DwXkIdeal.main_v0)),
      θ_run (Cert.DwXkIdeal.defs (F := Ideal)) (onTc (τ := Cert.DwXkIdeal.τ) (Cert.DwXkIdeal.main (F := Ideal))) ⟨m, fun _ => 0, g⟩ (fun r => ∀ c : Dev Cert.DwXkIdeal.nD,
          r.2.mem ((c.tc : Thread Cert.DwXkIdeal.nD Cert.DwXkIdeal.τ).loc Cert.DwXkIdeal.main_v0) = v0 c
          ∧ r.2.mem ((c.tc : Thread Cert.DwXkIdeal.nD Cert.DwXkIdeal.τ).loc Cert.DwXkIdeal.main_arg0) = m ((c.tc : Thread Cert.DwXkIdeal.nD Cert.DwXkIdeal.τ).loc Cert.DwXkIdeal.main_arg0)
          ∧ r.2.mem ((c.tc : Thread Cert.DwXkIdeal.nD Cert.DwXkIdeal.τ).loc Cert.DwXkIdeal.main_arg1) = m ((c.tc : Thread Cert.DwXkIdeal.nD Cert.DwXkIdeal.τ).loc Cert.DwXkIdeal.main_arg1))
      ∧ θ_run (Cert.DwXkReferenceIdeal.defs (F := Ideal)) (onTc (τ := Cert.DwXkReferenceIdeal.τ) (Cert.DwXkReferenceIdeal.main (F := Ideal))) ⟨m', fun _ => 0, g'⟩ (fun r => ∀ c : Dev Cert.DwXkReferenceIdeal.nD,
          r.2.mem ((c.tc : Thread Cert.DwXkReferenceIdeal.nD Cert.DwXkReferenceIdeal.τ).loc Cert.DwXkReferenceIdeal.main_v8) = v0 c
          ∧ r.2.mem ((c.tc : Thread Cert.DwXkReferenceIdeal.nD Cert.DwXkReferenceIdeal.τ).loc Cert.DwXkReferenceIdeal.main_arg0) = m' ((c.tc : Thread Cert.DwXkReferenceIdeal.nD Cert.DwXkReferenceIdeal.τ).loc Cert.DwXkReferenceIdeal.main_arg0)
          ∧ r.2.mem ((c.tc : Thread Cert.DwXkReferenceIdeal.nD Cert.DwXkReferenceIdeal.τ).loc Cert.DwXkReferenceIdeal.main_arg1) = m' ((c.tc : Thread Cert.DwXkReferenceIdeal.nD Cert.DwXkReferenceIdeal.τ).loc Cert.DwXkReferenceIdeal.main_arg1))

def preserves_DMem_DMemIdeal : Prop :=
  True

def algebraic_DMemIdeal_DMemReferenceIdeal [hDMemIdeal : Cert.DMemIdeal.Facts] [hDMemReferenceIdeal : Cert.DMemReferenceIdeal.Facts] : Prop :=
  ∀ (m : (ℓ : Loc Cert.DMemIdeal.nD Cert.DMemIdeal.τ Cert.DMemIdeal.sig) → Buf (Elt Ideal) ℓ) (g : Dev Cert.DMemIdeal.nD → PrngReg)
    (m' : (ℓ : Loc Cert.DMemReferenceIdeal.nD Cert.DMemReferenceIdeal.τ Cert.DMemReferenceIdeal.sig) → Buf (Elt Ideal) ℓ) (g' : Dev Cert.DMemReferenceIdeal.nD → PrngReg), Pre_DMemIdeal m →
    (∀ c : Dev Cert.DMemIdeal.nD,
      m' ((c.tc : Thread Cert.DMemReferenceIdeal.nD Cert.DMemReferenceIdeal.τ).loc Cert.DMemReferenceIdeal.main_arg0) = m ((c.tc : Thread Cert.DMemIdeal.nD Cert.DMemIdeal.τ).loc Cert.DMemIdeal.main_arg0)
      ∧ m' ((c.tc : Thread Cert.DMemReferenceIdeal.nD Cert.DMemReferenceIdeal.τ).loc Cert.DMemReferenceIdeal.main_arg1) = m ((c.tc : Thread Cert.DMemIdeal.nD Cert.DMemIdeal.τ).loc Cert.DMemIdeal.main_arg1)
      ∧ m' ((c.tc : Thread Cert.DMemReferenceIdeal.nD Cert.DMemReferenceIdeal.τ).loc Cert.DMemReferenceIdeal.main_arg2) = m ((c.tc : Thread Cert.DMemIdeal.nD Cert.DMemIdeal.τ).loc Cert.DMemIdeal.main_arg2)
      ∧ m' ((c.tc : Thread Cert.DMemReferenceIdeal.nD Cert.DMemReferenceIdeal.τ).loc Cert.DMemReferenceIdeal.main_arg3) = m ((c.tc : Thread Cert.DMemIdeal.nD Cert.DMemIdeal.τ).loc Cert.DMemIdeal.main_arg3)) →
    ∃ (v0 : (c : Dev Cert.DMemIdeal.nD) → Buf (Elt Ideal) ((c.tc : Thread Cert.DMemIdeal.nD Cert.DMemIdeal.τ).loc Cert.DMemIdeal.main_v4)),
      θ_run (Cert.DMemIdeal.defs (F := Ideal)) (onTc (τ := Cert.DMemIdeal.τ) (Cert.DMemIdeal.main (F := Ideal))) ⟨m, fun _ => 0, g⟩ (fun r => ∀ c : Dev Cert.DMemIdeal.nD,
          r.2.mem ((c.tc : Thread Cert.DMemIdeal.nD Cert.DMemIdeal.τ).loc Cert.DMemIdeal.main_v4) = v0 c
          ∧ r.2.mem ((c.tc : Thread Cert.DMemIdeal.nD Cert.DMemIdeal.τ).loc Cert.DMemIdeal.main_arg0) = m ((c.tc : Thread Cert.DMemIdeal.nD Cert.DMemIdeal.τ).loc Cert.DMemIdeal.main_arg0)
          ∧ r.2.mem ((c.tc : Thread Cert.DMemIdeal.nD Cert.DMemIdeal.τ).loc Cert.DMemIdeal.main_arg1) = m ((c.tc : Thread Cert.DMemIdeal.nD Cert.DMemIdeal.τ).loc Cert.DMemIdeal.main_arg1)
          ∧ r.2.mem ((c.tc : Thread Cert.DMemIdeal.nD Cert.DMemIdeal.τ).loc Cert.DMemIdeal.main_arg2) = m ((c.tc : Thread Cert.DMemIdeal.nD Cert.DMemIdeal.τ).loc Cert.DMemIdeal.main_arg2)
          ∧ r.2.mem ((c.tc : Thread Cert.DMemIdeal.nD Cert.DMemIdeal.τ).loc Cert.DMemIdeal.main_arg3) = m ((c.tc : Thread Cert.DMemIdeal.nD Cert.DMemIdeal.τ).loc Cert.DMemIdeal.main_arg3))
      ∧ θ_run (Cert.DMemReferenceIdeal.defs (F := Ideal)) (onTc (τ := Cert.DMemReferenceIdeal.τ) (Cert.DMemReferenceIdeal.main (F := Ideal))) ⟨m', fun _ => 0, g'⟩ (fun r => ∀ c : Dev Cert.DMemReferenceIdeal.nD,
          r.2.mem ((c.tc : Thread Cert.DMemReferenceIdeal.nD Cert.DMemReferenceIdeal.τ).loc Cert.DMemReferenceIdeal.main_v10) = v0 c
          ∧ r.2.mem ((c.tc : Thread Cert.DMemReferenceIdeal.nD Cert.DMemReferenceIdeal.τ).loc Cert.DMemReferenceIdeal.main_arg0) = m' ((c.tc : Thread Cert.DMemReferenceIdeal.nD Cert.DMemReferenceIdeal.τ).loc Cert.DMemReferenceIdeal.main_arg0)
          ∧ r.2.mem ((c.tc : Thread Cert.DMemReferenceIdeal.nD Cert.DMemReferenceIdeal.τ).loc Cert.DMemReferenceIdeal.main_arg1) = m' ((c.tc : Thread Cert.DMemReferenceIdeal.nD Cert.DMemReferenceIdeal.τ).loc Cert.DMemReferenceIdeal.main_arg1)
          ∧ r.2.mem ((c.tc : Thread Cert.DMemReferenceIdeal.nD Cert.DMemReferenceIdeal.τ).loc Cert.DMemReferenceIdeal.main_arg2) = m' ((c.tc : Thread Cert.DMemReferenceIdeal.nD Cert.DMemReferenceIdeal.τ).loc Cert.DMemReferenceIdeal.main_arg2)
          ∧ r.2.mem ((c.tc : Thread Cert.DMemReferenceIdeal.nD Cert.DMemReferenceIdeal.τ).loc Cert.DMemReferenceIdeal.main_arg3) = m' ((c.tc : Thread Cert.DMemReferenceIdeal.nD Cert.DMemReferenceIdeal.τ).loc Cert.DMemReferenceIdeal.main_arg3))

def preserves_GainMem_GainMemIdeal : Prop :=
  True

def algebraic_GainMemIdeal_GainMemReferenceIdeal [hGainMemIdeal : Cert.GainMemIdeal.Facts] [hGainMemReferenceIdeal : Cert.GainMemReferenceIdeal.Facts] : Prop :=
  ∀ (m : (ℓ : Loc Cert.GainMemIdeal.nD Cert.GainMemIdeal.τ Cert.GainMemIdeal.sig) → Buf (Elt Ideal) ℓ) (g : Dev Cert.GainMemIdeal.nD → PrngReg)
    (m' : (ℓ : Loc Cert.GainMemReferenceIdeal.nD Cert.GainMemReferenceIdeal.τ Cert.GainMemReferenceIdeal.sig) → Buf (Elt Ideal) ℓ) (g' : Dev Cert.GainMemReferenceIdeal.nD → PrngReg), Pre_GainMemIdeal m →
    (∀ c : Dev Cert.GainMemIdeal.nD,
      m' ((c.tc : Thread Cert.GainMemReferenceIdeal.nD Cert.GainMemReferenceIdeal.τ).loc Cert.GainMemReferenceIdeal.main_arg0) = m ((c.tc : Thread Cert.GainMemIdeal.nD Cert.GainMemIdeal.τ).loc Cert.GainMemIdeal.main_arg0)
      ∧ m' ((c.tc : Thread Cert.GainMemReferenceIdeal.nD Cert.GainMemReferenceIdeal.τ).loc Cert.GainMemReferenceIdeal.main_arg1) = m ((c.tc : Thread Cert.GainMemIdeal.nD Cert.GainMemIdeal.τ).loc Cert.GainMemIdeal.main_arg1)
      ∧ m' ((c.tc : Thread Cert.GainMemReferenceIdeal.nD Cert.GainMemReferenceIdeal.τ).loc Cert.GainMemReferenceIdeal.main_arg2) = m ((c.tc : Thread Cert.GainMemIdeal.nD Cert.GainMemIdeal.τ).loc Cert.GainMemIdeal.main_arg2)) →
    ∃ (v0 : (c : Dev Cert.GainMemIdeal.nD) → Buf (Elt Ideal) ((c.tc : Thread Cert.GainMemIdeal.nD Cert.GainMemIdeal.τ).loc Cert.GainMemIdeal.main_v0_1)),
      θ_run (Cert.GainMemIdeal.defs (F := Ideal)) (onTc (τ := Cert.GainMemIdeal.τ) (Cert.GainMemIdeal.main (F := Ideal))) ⟨m, fun _ => 0, g⟩ (fun r => ∀ c : Dev Cert.GainMemIdeal.nD,
          r.2.mem ((c.tc : Thread Cert.GainMemIdeal.nD Cert.GainMemIdeal.τ).loc Cert.GainMemIdeal.main_v0_1) = v0 c
          ∧ r.2.mem ((c.tc : Thread Cert.GainMemIdeal.nD Cert.GainMemIdeal.τ).loc Cert.GainMemIdeal.main_arg0) = m ((c.tc : Thread Cert.GainMemIdeal.nD Cert.GainMemIdeal.τ).loc Cert.GainMemIdeal.main_arg0)
          ∧ r.2.mem ((c.tc : Thread Cert.GainMemIdeal.nD Cert.GainMemIdeal.τ).loc Cert.GainMemIdeal.main_arg1) = m ((c.tc : Thread Cert.GainMemIdeal.nD Cert.GainMemIdeal.τ).loc Cert.GainMemIdeal.main_arg1)
          ∧ r.2.mem ((c.tc : Thread Cert.GainMemIdeal.nD Cert.GainMemIdeal.τ).loc Cert.GainMemIdeal.main_arg2) = m ((c.tc : Thread Cert.GainMemIdeal.nD Cert.GainMemIdeal.τ).loc Cert.GainMemIdeal.main_arg2))
      ∧ θ_run (Cert.GainMemReferenceIdeal.defs (F := Ideal)) (onTc (τ := Cert.GainMemReferenceIdeal.τ) (Cert.GainMemReferenceIdeal.main (F := Ideal))) ⟨m', fun _ => 0, g'⟩ (fun r => ∀ c : Dev Cert.GainMemReferenceIdeal.nD,
          r.2.mem ((c.tc : Thread Cert.GainMemReferenceIdeal.nD Cert.GainMemReferenceIdeal.τ).loc Cert.GainMemReferenceIdeal.main_v17) = v0 c
          ∧ r.2.mem ((c.tc : Thread Cert.GainMemReferenceIdeal.nD Cert.GainMemReferenceIdeal.τ).loc Cert.GainMemReferenceIdeal.main_arg0) = m' ((c.tc : Thread Cert.GainMemReferenceIdeal.nD Cert.GainMemReferenceIdeal.τ).loc Cert.GainMemReferenceIdeal.main_arg0)
          ∧ r.2.mem ((c.tc : Thread Cert.GainMemReferenceIdeal.nD Cert.GainMemReferenceIdeal.τ).loc Cert.GainMemReferenceIdeal.main_arg1) = m' ((c.tc : Thread Cert.GainMemReferenceIdeal.nD Cert.GainMemReferenceIdeal.τ).loc Cert.GainMemReferenceIdeal.main_arg1)
          ∧ r.2.mem ((c.tc : Thread Cert.GainMemReferenceIdeal.nD Cert.GainMemReferenceIdeal.τ).loc Cert.GainMemReferenceIdeal.main_arg2) = m' ((c.tc : Thread Cert.GainMemReferenceIdeal.nD Cert.GainMemReferenceIdeal.τ).loc Cert.GainMemReferenceIdeal.main_arg2))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hDwUp : Cert.DwUp.Facts) (hDwUpIdeal : Cert.DwUpIdeal.Facts) (hDwUpReferenceIdeal : Cert.DwUpReferenceIdeal.Facts) (hDwDown : Cert.DwDown.Facts) (hDwDownIdeal : Cert.DwDownIdeal.Facts) (hDwDownReferenceIdeal : Cert.DwDownReferenceIdeal.Facts) (hDwXo : Cert.DwXo.Facts) (hDwXoIdeal : Cert.DwXoIdeal.Facts) (hDwXoReferenceIdeal : Cert.DwXoReferenceIdeal.Facts) (hDwIn : Cert.DwIn.Facts) (hDwInIdeal : Cert.DwInIdeal.Facts) (hDwInReferenceIdeal : Cert.DwInReferenceIdeal.Facts) (hDwOut : Cert.DwOut.Facts) (hDwOutIdeal : Cert.DwOutIdeal.Facts) (hDwOutReferenceIdeal : Cert.DwOutReferenceIdeal.Facts) (hFirst : Cert.First.Facts) (hFirstIdeal : Cert.FirstIdeal.Facts) (hFirstReferenceIdeal : Cert.FirstReferenceIdeal.Facts) (hQuery : Cert.Query.Facts) (hQueryIdeal : Cert.QueryIdeal.Facts) (hQueryReferenceIdeal : Cert.QueryReferenceIdeal.Facts) (hHeads : Cert.Heads.Facts) (hHeadsIdeal : Cert.HeadsIdeal.Facts) (hHeadsReferenceIdeal : Cert.HeadsReferenceIdeal.Facts) (hAdamUp : Cert.AdamUp.Facts) (hAdamUpIdeal : Cert.AdamUpIdeal.Facts) (hAdamUpReferenceIdeal : Cert.AdamUpReferenceIdeal.Facts) (hAdamIn : Cert.AdamIn.Facts) (hAdamInIdeal : Cert.AdamInIdeal.Facts) (hAdamInReferenceIdeal : Cert.AdamInReferenceIdeal.Facts) (hAdamSq : Cert.AdamSq.Facts) (hAdamSqIdeal : Cert.AdamSqIdeal.Facts) (hAdamSqReferenceIdeal : Cert.AdamSqReferenceIdeal.Facts) (hMemory : Cert.Memory.Facts) (hMemoryIdeal : Cert.MemoryIdeal.Facts) (hMemoryReferenceIdeal : Cert.MemoryReferenceIdeal.Facts) (hDwXk : Cert.DwXk.Facts) (hDwXkIdeal : Cert.DwXkIdeal.Facts) (hDwXkReferenceIdeal : Cert.DwXkReferenceIdeal.Facts) (hDMem : Cert.DMem.Facts) (hDMemIdeal : Cert.DMemIdeal.Facts) (hDMemReferenceIdeal : Cert.DMemReferenceIdeal.Facts) (hGainMem : Cert.GainMem.Facts) (hGainMemIdeal : Cert.GainMemIdeal.Facts) (hGainMemReferenceIdeal : Cert.GainMemReferenceIdeal.Facts) (hPre_finite : Cert.Pre_finite.Facts) (hPre_finite_heads : Cert.Pre_finite_heads.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpReferenceIdeal (hMlpReferenceIdeal := hMlpReferenceIdeal)
    ∧ quiescent_DwUp (hDwUp := hDwUp)
    ∧ quiescent_DwUpIdeal (hDwUpIdeal := hDwUpIdeal)
    ∧ quiescent_DwUpReferenceIdeal (hDwUpReferenceIdeal := hDwUpReferenceIdeal)
    ∧ quiescent_DwDown (hDwDown := hDwDown)
    ∧ quiescent_DwDownIdeal (hDwDownIdeal := hDwDownIdeal)
    ∧ quiescent_DwDownReferenceIdeal (hDwDownReferenceIdeal := hDwDownReferenceIdeal)
    ∧ quiescent_DwXo (hDwXo := hDwXo)
    ∧ quiescent_DwXoIdeal (hDwXoIdeal := hDwXoIdeal)
    ∧ quiescent_DwXoReferenceIdeal (hDwXoReferenceIdeal := hDwXoReferenceIdeal)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_First (hFirst := hFirst)
    ∧ quiescent_FirstIdeal (hFirstIdeal := hFirstIdeal)
    ∧ quiescent_FirstReferenceIdeal (hFirstReferenceIdeal := hFirstReferenceIdeal)
    ∧ quiescent_Query (hQuery := hQuery)
    ∧ quiescent_QueryIdeal (hQueryIdeal := hQueryIdeal)
    ∧ quiescent_QueryReferenceIdeal (hQueryReferenceIdeal := hQueryReferenceIdeal)
    ∧ quiescent_Heads (hHeads := hHeads)
    ∧ quiescent_HeadsIdeal (hHeadsIdeal := hHeadsIdeal)
    ∧ quiescent_HeadsIdeal_pre_finite_heads (hHeadsIdeal := hHeadsIdeal) (hPre_finite_heads := hPre_finite_heads)
    ∧ quiescent_HeadsReferenceIdeal (hHeadsReferenceIdeal := hHeadsReferenceIdeal)
    ∧ quiescent_HeadsReferenceIdeal_pre_finite_heads (hHeadsReferenceIdeal := hHeadsReferenceIdeal) (hPre_finite_heads := hPre_finite_heads)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamSq (hAdamSq := hAdamSq)
    ∧ quiescent_AdamSqIdeal (hAdamSqIdeal := hAdamSqIdeal)
    ∧ quiescent_AdamSqReferenceIdeal (hAdamSqReferenceIdeal := hAdamSqReferenceIdeal)
    ∧ quiescent_Memory (hMemory := hMemory)
    ∧ quiescent_MemoryIdeal (hMemoryIdeal := hMemoryIdeal)
    ∧ quiescent_MemoryReferenceIdeal (hMemoryReferenceIdeal := hMemoryReferenceIdeal)
    ∧ quiescent_DwXk (hDwXk := hDwXk)
    ∧ quiescent_DwXkIdeal (hDwXkIdeal := hDwXkIdeal)
    ∧ quiescent_DwXkReferenceIdeal (hDwXkReferenceIdeal := hDwXkReferenceIdeal)
    ∧ quiescent_DMem (hDMem := hDMem)
    ∧ quiescent_DMemIdeal (hDMemIdeal := hDMemIdeal)
    ∧ quiescent_DMemReferenceIdeal (hDMemReferenceIdeal := hDMemReferenceIdeal)
    ∧ quiescent_GainMem (hGainMem := hGainMem)
    ∧ quiescent_GainMemIdeal (hGainMemIdeal := hGainMemIdeal)
    ∧ quiescent_GainMemReferenceIdeal (hGainMemReferenceIdeal := hGainMemReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpReferenceIdeal (hMlpIdeal := hMlpIdeal) (hMlpReferenceIdeal := hMlpReferenceIdeal)
    ∧ preserves_DwUp_DwUpIdeal
    ∧ algebraic_DwUpIdeal_DwUpReferenceIdeal (hDwUpIdeal := hDwUpIdeal) (hDwUpReferenceIdeal := hDwUpReferenceIdeal)
    ∧ preserves_DwDown_DwDownIdeal
    ∧ algebraic_DwDownIdeal_DwDownReferenceIdeal (hDwDownIdeal := hDwDownIdeal) (hDwDownReferenceIdeal := hDwDownReferenceIdeal)
    ∧ preserves_DwXo_DwXoIdeal
    ∧ algebraic_DwXoIdeal_DwXoReferenceIdeal (hDwXoIdeal := hDwXoIdeal) (hDwXoReferenceIdeal := hDwXoReferenceIdeal)
    ∧ preserves_DwIn_DwInIdeal
    ∧ algebraic_DwInIdeal_DwInReferenceIdeal (hDwInIdeal := hDwInIdeal) (hDwInReferenceIdeal := hDwInReferenceIdeal)
    ∧ preserves_DwOut_DwOutIdeal
    ∧ algebraic_DwOutIdeal_DwOutReferenceIdeal (hDwOutIdeal := hDwOutIdeal) (hDwOutReferenceIdeal := hDwOutReferenceIdeal)
    ∧ preserves_First_FirstIdeal
    ∧ algebraic_FirstIdeal_FirstReferenceIdeal (hFirstIdeal := hFirstIdeal) (hFirstReferenceIdeal := hFirstReferenceIdeal)
    ∧ preserves_Query_QueryIdeal
    ∧ algebraic_QueryIdeal_QueryReferenceIdeal (hQueryIdeal := hQueryIdeal) (hQueryReferenceIdeal := hQueryReferenceIdeal)
    ∧ preserves_Heads_HeadsIdeal
    ∧ algebraic_HeadsIdeal_HeadsReferenceIdeal_pre_finite_heads (hHeadsIdeal := hHeadsIdeal) (hHeadsReferenceIdeal := hHeadsReferenceIdeal) (hPre_finite_heads := hPre_finite_heads)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamSq_AdamSqIdeal
    ∧ algebraic_AdamSqIdeal_AdamSqReferenceIdeal (hAdamSqIdeal := hAdamSqIdeal) (hAdamSqReferenceIdeal := hAdamSqReferenceIdeal)
    ∧ preserves_Memory_MemoryIdeal
    ∧ algebraic_MemoryIdeal_MemoryReferenceIdeal (hMemoryIdeal := hMemoryIdeal) (hMemoryReferenceIdeal := hMemoryReferenceIdeal)
    ∧ preserves_DwXk_DwXkIdeal
    ∧ algebraic_DwXkIdeal_DwXkReferenceIdeal (hDwXkIdeal := hDwXkIdeal) (hDwXkReferenceIdeal := hDwXkReferenceIdeal)
    ∧ preserves_DMem_DMemIdeal
    ∧ algebraic_DMemIdeal_DMemReferenceIdeal (hDMemIdeal := hDMemIdeal) (hDMemReferenceIdeal := hDMemReferenceIdeal)
    ∧ preserves_GainMem_GainMemIdeal
    ∧ algebraic_GainMemIdeal_GainMemReferenceIdeal (hGainMemIdeal := hGainMemIdeal) (hGainMemReferenceIdeal := hGainMemReferenceIdeal)
-- ==== Pre_finite.lean ====
abbrev S8192x1024 : Shape := ⟨2, ![8192, 1024]⟩
abbrev S256x1024 : Shape := ⟨2, ![256, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S256x1024 : S_.BroadcastsInDim S256x1024 (![] : Fin 0 → Fin S256x1024.rank)

variable [Facts]

def fn {F : FTy → Type} [FloatOps F] (main_arg0 : FVec F S8192x1024 .bf16) (main_arg1 : FVec F S256x1024 .bf16) (main_arg2 : FVec F S256x1024 .bf16) (main_arg3 : FVec F S8192x1024 .bf16) : IVec S8192x1024 1 × IVec S256x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S256x1024 .f32 := (extf .f32 · bitsLt_bf16_f32) main_arg1
  let main_v5 : FVec F S256x1024 .f32 := Host.absf main_v4
  let main_cst_0 : FVec F S_ .f32 := constant S_ .f32 0x7F800000#32
  let main_v6 : FVec F S256x1024 .f32 := broadcastInDim S256x1024 ![] bcast_S_S256x1024 main_cst_0
  let main_v7 : IVec S256x1024 1 := cmpf .olt main_v5 main_v6
  (main_v3, main_v7)
-- ==== Pre_finite_heads.lean ====
abbrev S8192x1024 : Shape := ⟨2, ![8192, 1024]⟩
abbrev S256x1024 : Shape := ⟨2, ![256, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S256x1024 : S_.BroadcastsInDim S256x1024 (![] : Fin 0 → Fin S256x1024.rank)

variable [Facts]

def fn {F : FTy → Type} [FloatOps F] (main_arg0 : FVec F S8192x1024 .bf16) (main_arg1 : FVec F S256x1024 .bf16) (main_arg2 : FVec F S256x1024 .bf16) : IVec S8192x1024 1 × IVec S256x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S256x1024 .f32 := (extf .f32 · bitsLt_bf16_f32) main_arg1
  let main_v5 : FVec F S256x1024 .f32 := Host.absf main_v4
  let main_cst_0 : FVec F S_ .f32 := constant S_ .f32 0x7F800000#32
  let main_v6 : FVec F S256x1024 .f32 := broadcastInDim S256x1024 ![] bcast_S_S256x1024 main_cst_0
  let main_v7 : IVec S256x1024 1 := cmpf .olt main_v5 main_v6
  (main_v3, main_v7)
-- ==== Kernel.lean ====
abbrev S8192x1024 : Shape := ⟨2, ![8192, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .bf16⟩
  | .hbm, ⟨4, _⟩ => ⟨S8192x1024, .bf16⟩
  | .hbm, ⟨5, _⟩ => ⟨S256x1024, .f32⟩
  | .hbm, ⟨6, _⟩ => ⟨S256x1024, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S256x1024, .f32⟩
  | .local _ .vmem, ⟨9, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8192x1024 : Shape := ⟨2, ![8192, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .bf16⟩
  | .hbm, ⟨4, _⟩ => ⟨S8192x1024, .f32⟩
  | .hbm, ⟨5, _⟩ => ⟨S256x1024, .f32⟩
  | .hbm, ⟨6, _⟩ => ⟨S256x1024, .f32⟩
  | .hbm, ⟨7, _⟩ => ⟨S8192x4x256, .f32⟩
  | .hbm, ⟨8, _⟩ => ⟨S256x4x256, .f32⟩
  | .hbm, ⟨9, _⟩ => ⟨S256x4x256, .f32⟩
  | .hbm, ⟨10, _⟩ => ⟨S4x8192x256, .f32⟩
  | .hbm, ⟨11, _⟩ => ⟨S_, .f32⟩
  | .hbm, ⟨12, _⟩ => ⟨S4x8192x256, .f32⟩
  | .hbm, ⟨13, _⟩ => ⟨S4x8192x256, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S4x8192x256, .f32⟩
  | .hbm, ⟨18, _⟩ => ⟨S4x8192x256, .i1⟩
  | .hbm, ⟨19, _⟩ => ⟨S4x8192x256, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .i1⟩
  | .hbm, ⟨28, _⟩ => ⟨S_, .f32⟩
  | .hbm, ⟨29, _⟩ => ⟨S4x8192, .f32⟩
  | .hbm, ⟨30, _⟩ => ⟨S4x8192, .i1⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S4x8192, .f32⟩
  | .hbm, ⟨38, _⟩ => ⟨S4x8192, .f32⟩
  | .hbm, ⟨39, _⟩ => ⟨S4x8192x1, .f32⟩
  | .hbm, ⟨40, _⟩ => ⟨S4x8192x256, .f32⟩
  | .hbm, ⟨41, _⟩ => ⟨S4x8192x256, .f32⟩
  | .hbm, ⟨42, _⟩ => ⟨S4x8192x256, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S4x8192x256, .f32⟩
  | .hbm, ⟨47, _⟩ => ⟨S4x8192x256, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x256x8192, .f32⟩
  | .hbm, ⟨53, _⟩ => ⟨S8192x4x256, .f32⟩
  | .hbm, ⟨54, _⟩ => ⟨S8192x1024, .f32⟩
  | .hbm, ⟨55, _⟩ => ⟨S8192x1024, .f32⟩
  | .hbm, ⟨56, _⟩ => ⟨S8192x4x256, .f32⟩
  | .hbm, ⟨57, _⟩ => ⟨S4x256x8192, .f32⟩
  | .hbm, ⟨58, _⟩ => ⟨S4x8192x256, .f32⟩
  | .hbm, ⟨59, _⟩ => ⟨S4x256x256, .f32⟩
  | .hbm, ⟨60, _⟩ => ⟨S256x4x256, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x1, .f32⟩
  | .hbm, ⟨68, _⟩ => ⟨S4x8192x256, .f32⟩
  | .hbm, ⟨69, _⟩ => ⟨S4x8192x256, .f32⟩
  | .hbm, ⟨70, _⟩ => ⟨S_, .f32⟩
  | .hbm, ⟨71, _⟩ => ⟨S4x8192, .f32⟩
  | .hbm, ⟨72, _⟩ => ⟨S4x8192x256, .f32⟩
  | .hbm, ⟨73, _⟩ => ⟨S4x8192x256, .f32⟩
  | .hbm, ⟨74, _⟩ => ⟨S4x8192x256, .f32⟩
  | .hbm, ⟨75, _⟩ => ⟨S_, .f32⟩
  | .hbm, ⟨76, _⟩ => ⟨S4x8192x256, .f32⟩
  | .hbm, ⟨77, _⟩ => ⟨S4x8192x256, .f32⟩
  | .hbm, ⟨78, _⟩ => ⟨S4x256x256, .f32⟩
  | .hbm, ⟨79, _⟩ => ⟨S256x4x256, .f32⟩
  | .hbm, ⟨80, _⟩ => ⟨S4x8192x256, .f32⟩
  | .hbm, ⟨81, _⟩ => ⟨S8192x4x256, .f32⟩
  | .hbm, ⟨82, _⟩ => ⟨S256x1024, .f32⟩
  | .hbm, ⟨83, _⟩ => ⟨S256x1024, .f32⟩
  | .hbm, ⟨84, _⟩ => ⟨S8192x1024, .f32⟩
  | .hbm, ⟨85, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Mlp.lean ====
abbrev S8192x1024 : Shape := ⟨2, ![8192, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S1x1024x1024 : Shape := ⟨3, ![1, 1024, 1024]⟩
abbrev S512x1024 : Shape := ⟨2, ![512, 1024]⟩
abbrev S512 : Shape := ⟨1, ![512]⟩
abbrev S512x1 : Shape := ⟨2, ![512, 1]⟩
abbrev S8192x4096 : Shape := ⟨2, ![8192, 4096]⟩
abbrev S2048x1024 : Shape := ⟨2, ![2048, 1024]⟩
abbrev S1x4096x1024 : Shape := ⟨3, ![1, 4096, 1024]⟩
abbrev S8x1024 : Shape := ⟨2, ![8, 1024]⟩
abbrev S8x128 : Shape := ⟨2, ![8, 128]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩
abbrev S_ : Shape := ⟨0, ![]⟩

abbrev nBuf : Space → Nat
  | .hbm => 30
  | .vmem => 56
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S1x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S8192x1024, .f32⟩
  | .hbm, ⟨8, _⟩ => ⟨S1024x4x1024, .bf16⟩
  | .hbm, ⟨9, _⟩ => ⟨S4x1024x1024, .bf16⟩
  | .hbm, ⟨10, _⟩ => ⟨S1x1024x1024, .bf16⟩
  | .hbm, ⟨11, _⟩ => ⟨S8192x1024, .f32⟩
  | .hbm, ⟨12, _⟩ => ⟨S8192x1024, .bf16⟩
  | .hbm, ⟨13, _⟩ => ⟨S8192x4096, .bf16⟩
  | .hbm, ⟨14, _⟩ => ⟨S1x4096x1024, .bf16⟩
  | .hbm, ⟨15, _⟩ => ⟨S8192x1024, .f32⟩
  | .hbm, ⟨16, _⟩ => ⟨S8192x1024, .bf16⟩
  | .hbm, ⟨17, _⟩ => ⟨S8x1024, .f32⟩
  | .hbm, ⟨18, _⟩ => ⟨S8x128, .f32⟩
  | .hbm, ⟨19, _⟩ => ⟨S1x4096x1024, .bf16⟩
  | .hbm, ⟨20, _⟩ => ⟨S8192x4096, .bf16⟩
  | .hbm, ⟨21, _⟩ => ⟨S8192x1024, .f32⟩
  | .hbm, ⟨22, _⟩ => ⟨S8192x1024, .bf16⟩
  | .hbm, ⟨23, _⟩ => ⟨S8x1024, .f32⟩
  | .hbm, ⟨24, _⟩ => ⟨S1x1024x1024, .bf16⟩
  | .hbm, ⟨25, _⟩ => ⟨S8192x1024, .bf16⟩
  | .hbm, ⟨26, _⟩ => ⟨S1x1, .f32⟩
  | .hbm, ⟨27, _⟩ => ⟨S_, .f32⟩
  | .hbm, ⟨28, _⟩ => ⟨S1x1024, .f32⟩
  | .hbm, ⟨29, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S2048x1024, .bf16⟩
  | .local _ .vmem, ⟨11, _⟩ => ⟨S2048x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S2048x1024, .bf16⟩
  | .local _ .vmem, ⟨15, _⟩ => ⟨S2048x1024, .bf16⟩
  | .local _ .vmem, ⟨16, _⟩ => ⟨S256x4096, .bf16⟩
  | .local _ .vmem, ⟨17, _⟩ => ⟨S256x4096, .bf16⟩
  | .local _ .vmem, ⟨18, _⟩ => ⟨S1x4096x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S1x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S8x1024, .f32⟩
  | .local _ .vmem, ⟨29, _⟩ => ⟨S8x128, .f32⟩
  | .local _ .vmem, ⟨30, _⟩ => ⟨S2048x1024, .bf16⟩
  | .local _ .vmem, ⟨31, _⟩ => ⟨S2048x1024, .bf16⟩
  | .local _ .vmem, ⟨32, _⟩ => ⟨S1x1024x1024, .bf16⟩
  | .local _ .vmem, ⟨33, _⟩ => ⟨S1x1024x1024, .bf16⟩
  | .local _ .vmem, ⟨34, _⟩ => ⟨S2048x1024, .bf16⟩
  | .local _ .vmem, ⟨35, _⟩ => ⟨S2048x1024, .bf16⟩
  | .local _ .vmem, ⟨36, _⟩ => ⟨S2048x1024, .bf16⟩
  | .local _ .vmem, ⟨37, _⟩ => ⟨S2048x1024, .bf16⟩
  | .local _ .vmem, ⟨38, _⟩ => ⟨S256x4096, .bf16⟩
  | .local _ .vmem, ⟨39, _⟩ => ⟨S256x4096, .bf16⟩
  | .local _ .vmem, ⟨40, _⟩ => ⟨S4x1024x1024, .bf16⟩
  | .local _ .vmem, ⟨41, _⟩ => ⟨S256x1024, .f32⟩
  | .local _ .vmem, ⟨42, _⟩ => ⟨S256x1024, .f32⟩
  | .local _ .vmem, ⟨43, _⟩ => ⟨S256x1024, .f32⟩
  | .local _ .vmem, ⟨44, _⟩ => ⟨S256x1024, .f32⟩
  | .local _ .vmem, ⟨45, _⟩ => ⟨S1x1024, .f32⟩
  | .local _ .vmem, ⟨46, _⟩ => ⟨S256x1024, .f32⟩
  | .local _ .vmem, ⟨47, _⟩ => ⟨S256x1024, .f32⟩
  | .local _ .vmem, ⟨48, _⟩ => ⟨S256x1024, .bf16⟩
  | .local _ .vmem, ⟨49, _⟩ => ⟨S256x1024, .bf16⟩
  | .local _ .vmem, ⟨50, _⟩ => ⟨S8x1024, .f32⟩
  | .local _ .vmem, ⟨51, _⟩ => ⟨S1024x1024, .bf16⟩
  | .local _ .vmem, ⟨52, _⟩ => ⟨S1024x1024, .bf16⟩
  | .local _ .vmem, ⟨53, _⟩ => ⟨S1x1024x1024, .bf16⟩
  | .local _ .vmem, ⟨54, _⟩ => ⟨S1024x1024, .bf16⟩
  | .local _ .vmem, ⟨55, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg8_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg3_1 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg2_0 : Ref sig .tc := ⟨.vmem, 54, rfl⟩
abbrev cc5_stg2_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem6_1 : DmaSem sig := 27
abbrev cc2_sem7_0 : DmaSem sig := 28
abbrev cc2_sem8_0 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem2_1 : DmaSem sig := 42
abbrev cc4_sem3_0 : DmaSem sig := 43
abbrev cc4_sem3_1 : DmaSem sig := 44
abbrev cc4_sem4_0 : DmaSem sig := 45
abbrev cc4_sem5_0 : DmaSem sig := 46
abbrev cc4_sem5_1 : DmaSem sig := 47
abbrev cc4_sem6_0 : DmaSem sig := 48
abbrev cc4_sem6_1 : DmaSem sig := 49
abbrev cc4_sem7_0 : DmaSem sig := 50
abbrev cc5_sem0_0 : DmaSem sig := 51
abbrev cc5_sem0_1 : DmaSem sig := 52
abbrev cc5_sem1_0 : DmaSem sig := 53
abbrev cc5_sem2_0 : DmaSem sig := 54
abbrev cc5_sem2_1 : DmaSem sig := 55

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S8x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S8x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨3, ![4, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2048x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S2048x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S256x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4x1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S256x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S256x1024 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S8x1024 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨3, ![8, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S1x1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== MlpReferenceIdeal.lean ====
abbrev S8192x1024 : Shape := ⟨2, ![8192, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩

abbrev nBuf : Space → Nat
  | .hbm => 145
  | .vmem => 0
  | .smem => 0
  | _ => 0

abbrev hbmTy0_0 (i : Nat) : BufTy := match i % 128 with
  | 0 => ⟨S8192x1024, .f32⟩
  | 1 => ⟨S8192x1024, .bf16⟩
  | 2 => ⟨S1024x1024, .bf16⟩
  | 3 => ⟨S1x1024, .f32⟩
  | 4 => ⟨S1024x4096, .bf16⟩
  | 5 => ⟨S4096x1024, .bf16⟩
  | 6 => ⟨S1x1024, .f32⟩
  | 7 => ⟨S8192x1024, .f32⟩
  | 8 => ⟨S8192x1024, .f32⟩
  | 9 => ⟨S1024x1024, .f32⟩
  | 10 => ⟨S1024x4096, .f32⟩
  | 11 => ⟨S4096x1024, .f32⟩
  | 12 => ⟨S8192x1024, .f32⟩
  | 13 => ⟨S8192x1024, .f32⟩
  | 14 => ⟨S8192x1024, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1, .f32⟩
  | 25 => ⟨S8192x1, .f32⟩
  | 26 => ⟨S_, .f32⟩
  | 27 => ⟨S8192x1, .f32⟩
  | 28 => ⟨S8192x1, .f32⟩
  | 29 => ⟨S8192x1024, .f32⟩
  | 30 => ⟨S8192x1024, .f32⟩
  | 31 => ⟨S8192x1024, .f32⟩
  | 32 => ⟨S8192x1024, .f32⟩
  | 33 => ⟨S8192x4096, .f32⟩
  | 34 => ⟨S_, .f32⟩
  | 35 => ⟨S8192x4096, .f32⟩
  | 36 => ⟨S8192x4096, .f32⟩
  | 37 => ⟨S_, .f32⟩
  | 38 => ⟨S8192x4096, .f32⟩
  | 39 => ⟨S8192x4096, .i1⟩
  | 40 => ⟨S_, .f32⟩
  | 41 => ⟨S8192x4096, .f32⟩
  | 42 => ⟨S8192x4096, .f32⟩
  | 43 => ⟨S_, .f32⟩
  | 44 => ⟨S8192x4096, .f32⟩
  | 45 => ⟨S8192x4096, .f32⟩
  | 46 => ⟨S8192x1024, .f32⟩
  | 47 => ⟨S8192x1024, .f32⟩
  | 48 => ⟨S8192x1024, .f32⟩
  | 49 => ⟨S_, .f32⟩
  | 50 => ⟨S8192, .f32⟩
  | 51 => ⟨S8192x1, .f32⟩
  | 52 => ⟨S_, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S_, .f32⟩
  | 73 => ⟨S8192, .f32⟩
  | 74 => ⟨S_, .f32⟩
  | 75 => ⟨S8192, .f32⟩
  | 76 => ⟨S8192, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S8192, .f32⟩
  | 85 => ⟨S_, .f32⟩
  | 86 => ⟨S8192, .f32⟩
  | 87 => ⟨S8192, .f32⟩
  | 88 => ⟨S8192x1024, .f32⟩
  | 89 => ⟨S8192x1024, .f32⟩
  | 90 => ⟨S8192x1024, .f32⟩
  | 91 => ⟨S_, .f32⟩
  | 92 => ⟨S1024, .f32⟩
  | 93 => ⟨S1x1024, .f32⟩
  | 94 => ⟨S8192x1024, .f32⟩
  | 95 => ⟨S8192x1024, .f32⟩
  | 96 => ⟨S8192x1024, .f32⟩
  | 97 => ⟨S_, .f32⟩
  | 98 => ⟨S8192, .f32⟩
  | 99 => ⟨S8192x1, .f32⟩
  | 100 => ⟨S8192x1024, .f32⟩
  | 101 => ⟨S8192x1024, .f32⟩
  | 102 => ⟨S8192x1, .f32⟩
  | 103 => ⟨S_, .f32⟩
  | 104 => ⟨S8192x1, .f32⟩
  | 105 => ⟨S8192x1, .f32⟩
  | 106 => ⟨S_, .f32⟩
  | 107 => ⟨S8192, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x4096, .f32⟩
  | 114 => ⟨S8192x4096, .f32⟩
  | 115 => ⟨S_, .f32⟩
  | 116 => ⟨S8192x4096, .f32⟩
  | 117 => ⟨S8192x4096, .f32⟩
  | 118 => ⟨S8192x1024, .f32⟩
  | 119 => ⟨S8192x1024, .f32⟩
  | 120 => ⟨S_, .f32⟩
  | 121 => ⟨S1024, .f32⟩
  | 122 => ⟨S1x1024, .f32⟩
  | 123 => ⟨S8192x1024, .f32⟩
  | 124 => ⟨S8192x1024, .f32⟩
  | 125 => ⟨S8192x1024, .f32⟩
  | 126 => ⟨S_, .f32⟩
  | 127 => ⟨S8192, .f32⟩
  | _ => ⟨S8192x1024, .f32⟩

abbrev hbmTy0_1 (i : Nat) : BufTy := match i % 128 with
  | 0 => ⟨S8192x1, .f32⟩
  | 1 => ⟨S8192x1024, .f32⟩
  | 2 => ⟨S8192x1024, .f32⟩
  | 3 => ⟨S8192x1024, .f32⟩
  | 4 => ⟨S8192x1, .f32⟩
  | 5 => ⟨S_, .f32⟩
  | 6 => ⟨S8192x1, .f32⟩
  | 7 => ⟨S8192x1, .f32⟩
  | 8 => ⟨S_, .f32⟩
  | 9 => ⟨S8192, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_cst_12 : Ref sig .tc := ⟨.hbm, 74, rfl⟩
abbrev main_v51 : Ref sig .tc := ⟨.hbm, 75, rfl⟩
abbrev main_v52 : Ref sig .tc := ⟨.hbm, 76, rfl⟩
abbrev main_cst_13 : Ref sig .tc := ⟨.hbm, 77, rfl⟩
abbrev main_v53 : Ref sig .tc := ⟨.hbm, 78, rfl⟩
abbrev main_cst_14 : Ref sig .tc := ⟨.hbm, 79, rfl⟩
abbrev main_v54 : Ref sig .tc := ⟨.hbm, 80, rfl⟩
abbrev main_cst_15 : Ref sig .tc := ⟨.hbm, 81, rfl⟩
abbrev main_cst_16 : Ref sig .tc := ⟨.hbm, 82, rfl⟩
abbrev main_v55 : Ref sig .tc := ⟨.hbm, 83, rfl⟩
abbrev main_v56 : Ref sig .tc := ⟨.hbm, 84, rfl⟩
abbrev main_cst_17 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_18 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_19 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_20 : Ref sig .tc := ⟨.hbm, 103, rfl⟩
abbrev main_v72 : Ref sig .tc := ⟨.hbm, 104, rfl⟩
abbrev main_v73 : Ref sig .tc := ⟨.hbm, 105, rfl⟩
abbrev main_cst_21 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_22 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_23 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_24 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_25 : Ref sig .tc := ⟨.hbm, 133, rfl⟩
abbrev main_v97 : Ref sig .tc := ⟨.hbm, 134, rfl⟩
abbrev main_v98 : Ref sig .tc := ⟨.hbm, 135, rfl⟩
abbrev main_cst_26 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩

abbrev nD : Nat := 1
abbrev τ : Topo := Topo.v7x

variable {F : FTy → Type} [FloatOps F]
-- ==== DwUp.lean ====
abbrev S8192x1024 : Shape := ⟨2, ![8192, 1024]⟩
abbrev S8192x4096 : Shape := ⟨2, ![8192, 4096]⟩
abbrev S4x1024x1024 : Shape := ⟨3, ![4, 1024, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpReferenceIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | .hbm, ⟨11, _⟩ => ⟨S4x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwDown.lean ====
abbrev S8192x4096 : Shape := ⟨2, ![8192, 4096]⟩
abbrev S8192x1024 : Shape := ⟨2, ![8192, 1024]⟩
abbrev S1x4096x1024 : Shape := ⟨3, ![1, 4096, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S1x4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownReferenceIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S4096x1x1024 : Shape := ⟨3, ![4096, 1, 1024]⟩
abbrev S1x4096x1024 : Shape := ⟨3, ![1, 4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x4096, .f32⟩
  | .hbm, ⟨6, _⟩ => ⟨S8192x1024, .f32⟩
  | .hbm, ⟨7, _⟩ => ⟨S8192x1024, .f32⟩
  | .hbm, ⟨8, _⟩ => ⟨S1024x4096, .f32⟩
  | .hbm, ⟨9, _⟩ => ⟨S4096x1024, .f32⟩
  | .hbm, ⟨10, _⟩ => ⟨S4096x1x1024, .f32⟩
  | .hbm, ⟨11, _⟩ => ⟨S1x4096x1024, .f32⟩
  | .hbm, ⟨12, _⟩ => ⟨S1x4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DwXo.lean ====
abbrev S8192x1024 : Shape := ⟨2, ![8192, 1024]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwXoReferenceIdeal.lean ====
abbrev S8192x1024 : Shape := ⟨2, ![8192, 1024]⟩
abbrev S_ : Shape := ⟨0, ![]⟩
abbrev S1024x1024 : Shape := ⟨2, ![1024, 1024]⟩
abbrev S1024x1x1024 : Shape := ⟨3, ![1024, 1, 1024]⟩
abbrev S1x1024x1024 : Shape := ⟨3, ![1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1x1024, .f32⟩
  | .hbm, ⟨10, _⟩ => ⟨S1x1024x1024, .f32⟩
  | .hbm, ⟨11, _⟩ => ⟨S1x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwIn.lean ====
abbrev S8192x1024 : Shape := ⟨2, ![8192, 1024]⟩
abbrev S8192x2560 : Shape := ⟨2, ![8192, 2560]⟩
abbrev S4x1024x640 : Shape := ⟨3, ![4, 1024, 640]⟩
abbrev S2048x1024 : Shape := ⟨2, ![2048, 1024]⟩
abbrev S2048x1280 : Shape := ⟨2, ![2048, 1280]⟩
abbrev S2x1024x640 : Shape := ⟨3, ![2, 1024, 640]⟩
abbrev S1024x1280 : Shape := ⟨2, ![1024, 1280]⟩
abbrev S1024x640 : Shape := ⟨2, ![1024, 640]⟩
abbrev S1x1024x640 : Shape := ⟨3, ![1, 1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S4x1024x640, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S2x1024x640, .bf16⟩
  | .local _ .vmem, ⟨5, _⟩ => ⟨S2x1024x640, .bf16⟩
  | .local _ .vmem, ⟨6, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInReferenceIdeal.lean ====
abbrev S8192x1024 : Shape := ⟨2, ![8192, 1024]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩
abbrev S1024x4x640 : Shape := ⟨3, ![1024, 4, 640]⟩
abbrev S4x1024x640 : Shape := ⟨3, ![4, 1024, 640]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S_, .f32⟩
  | .hbm, ⟨3, _⟩ => ⟨S1024x2560, .f32⟩
  | .hbm, ⟨4, _⟩ => ⟨S8192x1024, .f32⟩
  | .hbm, ⟨5, _⟩ => ⟨S8192x2560, .f32⟩
  | .hbm, ⟨6, _⟩ => ⟨S8192x2560, .f32⟩
  | .hbm, ⟨7, _⟩ => ⟨S2560x1024, .f32⟩
  | .hbm, ⟨8, _⟩ => ⟨S1024x2560, .f32⟩
  | .hbm, ⟨9, _⟩ => ⟨S1024x4x640, .f32⟩
  | .hbm, ⟨10, _⟩ => ⟨S4x1024x640, .f32⟩
  | .hbm, ⟨11, _⟩ => ⟨S4x1024x640, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwOut.lean ====
abbrev S8192x512 : Shape := ⟨2, ![8192, 512]⟩
abbrev S8192x1024 : Shape := ⟨2, ![8192, 1024]⟩
abbrev S1x512x1024 : Shape := ⟨3, ![1, 512, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S1x512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutReferenceIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S512x1x1024 : Shape := ⟨3, ![512, 1, 1024]⟩
abbrev S1x512x1024 : Shape := ⟨3, ![1, 512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1x1024, .f32⟩
  | .hbm, ⟨10, _⟩ => ⟨S1x512x1024, .f32⟩
  | .hbm, ⟨11, _⟩ => ⟨S1x512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== First.lean ====
abbrev S8192x1024 : Shape := ⟨2, ![8192, 1024]⟩
abbrev S1x1024 : Shape := ⟨2, ![1, 1024]⟩
abbrev S1024x2560 : Shape := ⟨2, ![1024, 2560]⟩
abbrev S8192x2560 : Shape := ⟨2, ![8192, 2560]⟩
abbrev S1024x4x640 : Shape := ⟨3, ![1024, 4, 640]⟩
abbrev S4x1024x640 : Shape := ⟨3, ![4, 1024, 640]⟩
abbrev S512x1024 : Shape := ⟨2, ![512, 1024]⟩
abbrev S512 : Shape := ⟨1, ![512]⟩
abbrev S512x1 : Shape := ⟨2, ![512, 1]⟩
abbrev S2048x1024 : Shape := ⟨2, ![2048, 1024]⟩
abbrev S2x1024x640 : Shape := ⟨3, ![2, 1024, 640]⟩
abbrev S2048x1280 : Shape := ⟨2, ![2048, 1280]⟩
abbrev S1x1024x640 : Shape := ⟨3, ![1, 1024, 640]⟩
abbrev S1024x640 : Shape := ⟨2, ![1024, 640]⟩
abbrev S1024x1280 : Shape := ⟨2, ![1024, 1280]⟩
abbrev S8x1024 : Shape := ⟨2, ![8, 1024]⟩
abbrev S512x2560 : Shape := ⟨2, ![512, 2560]⟩
abbrev S512x640 : Shape := ⟨2, ![512, 640]⟩
abbrev S1024 : Shape := ⟨1, ![1024]⟩

abbrev nBuf : Space → Nat
  | .hbm => 12
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .bf16⟩
  | .hbm, ⟨3, _⟩ => ⟨S8192x2560, .bf16⟩
  | .hbm, ⟨4, _⟩ => ⟨S8192x1024, .f32⟩
  | .hbm, ⟨5, _⟩ => ⟨S1024x4x640, .bf16⟩
  | .hbm, ⟨6, _⟩ => ⟨S4x1024x640, .bf16⟩
  | .hbm, ⟨7, _⟩ => ⟨S8192x1024, .bf16⟩
  | .hbm, ⟨8, _⟩ => ⟨S8192x2560, .bf16⟩
  | .hbm, ⟨9, _⟩ => ⟨S8192x1024, .f32⟩
  | .hbm, ⟨10, _⟩ => ⟨S8x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2x1024x640, .bf16⟩
  | .local _ .vmem, ⟨8, _⟩ => ⟨S2x1024x640, .bf16⟩
  | .local _ .vmem, ⟨9, _⟩ => ⟨S2048x1280, .bf16⟩
  | .local _ .vmem, ⟨10, _⟩ => ⟨S2048x1280, .bf16⟩
  | .local _ .vmem, ⟨11, _⟩ => ⟨S512x2560, .bf16⟩
  | .local _ .vmem, ⟨12, _⟩ => ⟨S512x2560, .bf16⟩
  | .local _ .vmem, ⟨13, _⟩ => ⟨S4x1024x640, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc2_stg6_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem5_1 : DmaSem sig := 20
abbrev cc2_sem6_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2x1024x640 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x1280 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x2560 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x1024x640 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S8x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]
-- ==== FirstReferenceIdeal.lean ====
abbrev S8192x1024 : Shape := ⟨2, ![8192, 1024]⟩
abbrev S1x1024 : Shape := ⟨2, ![1, 1024]⟩
abbrev S1024x2560 : Shape := ⟨2, ![1024, 2560]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .bf16⟩
  | .hbm, ⟨3, _⟩ => ⟨S8192x2560, .bf16⟩
  | .hbm, ⟨4, _⟩ => ⟨S8192x1024, .f32⟩
  | .hbm, ⟨5, _⟩ => ⟨S1024x2560, .f32⟩
  | .hbm, ⟨6, _⟩ => ⟨S8192x2560, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x2560, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x2560, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Query.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S1x1024x1024 : Shape := ⟨3, ![1, 1024, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S8x1024 : Shape := ⟨2, ![8, 1024]⟩
abbrev S1024 : Shape := ⟨1, ![1024]⟩

abbrev nBuf : Space → Nat
  | .hbm => 20
  | .vmem => 35
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .bf16⟩
  | .hbm, ⟨4, _⟩ => ⟨S1x1024, .f32⟩
  | .hbm, ⟨5, _⟩ => ⟨S1024x1024, .bf16⟩
  | .hbm, ⟨6, _⟩ => ⟨S8192x1024, .bf16⟩
  | .hbm, ⟨7, _⟩ => ⟨S8192x1024, .f32⟩
  | .hbm, ⟨8, _⟩ => ⟨S1x1024x1024, .bf16⟩
  | .hbm, ⟨9, _⟩ => ⟨S8192x1024, .f32⟩
  | .hbm, ⟨10, _⟩ => ⟨S8192x1024, .bf16⟩
  | .hbm, ⟨11, _⟩ => ⟨S1x1024x1024, .bf16⟩
  | .hbm, ⟨12, _⟩ => ⟨S8192x1024, .bf16⟩
  | .hbm, ⟨13, _⟩ => ⟨S1x1024x1024, .bf16⟩
  | .hbm, ⟨14, _⟩ => ⟨S8192x1024, .f32⟩
  | .hbm, ⟨15, _⟩ => ⟨S8192x1024, .bf16⟩
  | .hbm, ⟨16, _⟩ => ⟨S8x1024, .f32⟩
  | .hbm, ⟨17, _⟩ => ⟨S1x1024x1024, .bf16⟩
  | .hbm, ⟨18, _⟩ => ⟨S8192x1024, .bf16⟩
  | .hbm, ⟨19, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S512x1024, .bf16⟩
  | .local _ .vmem, ⟨18, _⟩ => ⟨S512x1024, .bf16⟩
  | .local _ .vmem, ⟨19, _⟩ => ⟨S1x1024x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | .local _ .vmem, ⟨29, _⟩ => ⟨S8x1024, .f32⟩
  | .local _ .vmem, ⟨30, _⟩ => ⟨S1024x1024, .bf16⟩
  | .local _ .vmem, ⟨31, _⟩ => ⟨S1024x1024, .bf16⟩
  | .local _ .vmem, ⟨32, _⟩ => ⟨S1x1024x1024, .bf16⟩
  | .local _ .vmem, ⟨33, _⟩ => ⟨S1024x1024, .bf16⟩
  | .local _ .vmem, ⟨34, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem5_1 : DmaSem sig := 26
abbrev cc2_sem6_0 : DmaSem sig := 27
abbrev cc2_sem6_1 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1x1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S8x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1x1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== QueryReferenceIdeal.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .bf16⟩
  | .hbm, ⟨4, _⟩ => ⟨S1x1024, .f32⟩
  | .hbm, ⟨5, _⟩ => ⟨S1024x1024, .bf16⟩
  | .hbm, ⟨6, _⟩ => ⟨S8192x1024, .bf16⟩
  | .hbm, ⟨7, _⟩ => ⟨S8192x1024, .f32⟩
  | .hbm, ⟨8, _⟩ => ⟨S8192x512, .f32⟩
  | .hbm, ⟨9, _⟩ => ⟨S8192x512, .f32⟩
  | .hbm, ⟨10, _⟩ => ⟨S1024x1024, .f32⟩
  | .hbm, ⟨11, _⟩ => ⟨S1024x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .bf16⟩
  | .hbm, ⟨64, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Heads.lean ====
abbrev S8192x1024 : Shape := ⟨2, ![8192, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== HeadsReferenceIdeal.lean ====
abbrev S8192x1024 : Shape := ⟨2, ![8192, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .f32⟩
  | .hbm, ⟨4, _⟩ => ⟨S256x1024, .f32⟩
  | .hbm, ⟨5, _⟩ => ⟨S256x1024, .f32⟩
  | .hbm, ⟨6, _⟩ => ⟨S8192x4x256, .f32⟩
  | .hbm, ⟨7, _⟩ => ⟨S256x4x256, .f32⟩
  | .hbm, ⟨8, _⟩ => ⟨S256x4x256, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S_, .f32⟩
  | .hbm, ⟨16, _⟩ => ⟨S4x8192, .f32⟩
  | .hbm, ⟨17, _⟩ => ⟨S4x8192, .f32⟩
  | .hbm, ⟨18, _⟩ => ⟨S4x8192x1, .f32⟩
  | .hbm, ⟨19, _⟩ => ⟨S4x8192x256, .f32⟩
  | .hbm, ⟨20, _⟩ => ⟨S4x8192x256, .f32⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x256, .f32⟩
  | .hbm, ⟨26, _⟩ => ⟨S4x8192x256, .f32⟩
  | .hbm, ⟨27, _⟩ => ⟨S4x256x8192, .f32⟩
  | .hbm, ⟨28, _⟩ => ⟨S8192x4x256, .f32⟩
  | .hbm, ⟨29, _⟩ => ⟨S8192x1024, .f32⟩
  | .hbm, ⟨30, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== AdamUp.lean ====
abbrev S1024x1024 : Shape := ⟨2, ![1024, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpReferenceIdeal.lean ====
abbrev S1024x1024 : Shape := ⟨2, ![1024, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamIn.lean ====
abbrev S1024x640 : Shape := ⟨2, ![1024, 640]⟩
abbrev S256x640 : Shape := ⟨2, ![256, 640]⟩

abbrev nBuf : Space → Nat
  | .hbm => 9
  | .vmem => 18
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S1024x640, .f32⟩
  | .hbm, ⟨8, _⟩ => ⟨S1024x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | .local _ .vmem, ⟨16, _⟩ => ⟨S256x640, .f32⟩
  | .local _ .vmem, ⟨17, _⟩ => ⟨S256x640, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInReferenceIdeal.lean ====
abbrev S1024x640 : Shape := ⟨2, ![1024, 640]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S_, .f32⟩
  | .hbm, ⟨7, _⟩ => ⟨S1024x640, .f32⟩
  | .hbm, ⟨8, _⟩ => ⟨S1024x640, .f32⟩
  | .hbm, ⟨9, _⟩ => ⟨S_, .f32⟩
  | .hbm, ⟨10, _⟩ => ⟨S1024x640, .f32⟩
  | .hbm, ⟨11, _⟩ => ⟨S1024x640, .f32⟩
  | .hbm, ⟨12, _⟩ => ⟨S1024x640, .f32⟩
  | .hbm, ⟨13, _⟩ => ⟨S_, .f32⟩
  | .hbm, ⟨14, _⟩ => ⟨S1024x640, .f32⟩
  | .hbm, ⟨15, _⟩ => ⟨S1024x640, .f32⟩
  | .hbm, ⟨16, _⟩ => ⟨S1024x640, .f32⟩
  | .hbm, ⟨17, _⟩ => ⟨S_, .f32⟩
  | .hbm, ⟨18, _⟩ => ⟨S1024x640, .f32⟩
  | .hbm, ⟨19, _⟩ => ⟨S1024x640, .f32⟩
  | .hbm, ⟨20, _⟩ => ⟨S1024x640, .f32⟩
  | .hbm, ⟨21, _⟩ => ⟨S_, .f32⟩
  | .hbm, ⟨22, _⟩ => ⟨S1024x640, .f32⟩
  | .hbm, ⟨23, _⟩ => ⟨S1024x640, .f32⟩
  | .hbm, ⟨24, _⟩ => ⟨S_, .f32⟩
  | .hbm, ⟨25, _⟩ => ⟨S1024x640, .f32⟩
  | .hbm, ⟨26, _⟩ => ⟨S1024x640, .f32⟩
  | .hbm, ⟨27, _⟩ => ⟨S1024x640, .f32⟩
  | .hbm, ⟨28, _⟩ => ⟨S_, .f32⟩
  | .hbm, ⟨29, _⟩ => ⟨S1024x640, .f32⟩
  | .hbm, ⟨30, _⟩ => ⟨S1024x640, .f32⟩
  | .hbm, ⟨31, _⟩ => ⟨S1024x640, .f32⟩
  | .hbm, ⟨32, _⟩ => ⟨S_, .f32⟩
  | .hbm, ⟨33, _⟩ => ⟨S1024x640, .f32⟩
  | .hbm, ⟨34, _⟩ => ⟨S1024x640, .f32⟩
  | .hbm, ⟨35, _⟩ => ⟨S1024x640, .f32⟩
  | .hbm, ⟨36, _⟩ => ⟨S_, .f32⟩
  | .hbm, ⟨37, _⟩ => ⟨S1024x640, .f32⟩
  | .hbm, ⟨38, _⟩ => ⟨S1024x640, .f32⟩
  | _, _ => ⟨S1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSq.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamSqReferenceIdeal.lean ====
abbrev S256x1024 : Shape := ⟨2, ![256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Memory.lean ====
abbrev S256x1024 : Shape := ⟨2, ![256, 1024]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩
abbrev S1x1024x1024 : Shape := ⟨3, ![1, 1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .bf16⟩
  | .hbm, ⟨3, _⟩ => ⟨S1024x1024, .bf16⟩
  | .hbm, ⟨4, _⟩ => ⟨S256x1024, .bf16⟩
  | .hbm, ⟨5, _⟩ => ⟨S1x1024x1024, .bf16⟩
  | .hbm, ⟨6, _⟩ => ⟨S256x1024, .bf16⟩
  | .hbm, ⟨7, _⟩ => ⟨S1x1024x1024, .bf16⟩
  | .hbm, ⟨8, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024x1024, .bf16⟩
  | .local _ .vmem, ⟨5, _⟩ => ⟨S256x1024, .bf16⟩
  | .local _ .vmem, ⟨6, _⟩ => ⟨S256x1024, .bf16⟩
  | .local _ .vmem, ⟨7, _⟩ => ⟨S1x1024x1024, .bf16⟩
  | .local _ .vmem, ⟨8, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem1_0 : DmaSem sig := 7
abbrev cc2_sem2_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨3, ![1, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S256x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 1 → Memref sig .tc .vmem S1x1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]

abbrev grid2 : Pipeline.Grid := ⟨3, ![1, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S256x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 1 → Memref sig .tc .vmem S1x1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S256x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]
-- ==== MemoryReferenceIdeal.lean ====
abbrev S256x1024 : Shape := ⟨2, ![256, 1024]⟩
abbrev S1x1024 : Shape := ⟨2, ![1, 1024]⟩
abbrev S1024x1024 : Shape := ⟨2, ![1024, 1024]⟩
abbrev S_ : Shape := ⟨0, ![]⟩
abbrev S256 : Shape := ⟨1, ![256]⟩
abbrev S256x1 : Shape := ⟨2, ![256, 1]⟩

abbrev nBuf : Space → Nat
  | .hbm => 25
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .bf16⟩
  | .hbm, ⟨3, _⟩ => ⟨S1024x1024, .bf16⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S1024x1024, .f32⟩
  | .hbm, ⟨20, _⟩ => ⟨S1024x1024, .f32⟩
  | .hbm, ⟨21, _⟩ => ⟨S256x1024, .f32⟩
  | .hbm, ⟨22, _⟩ => ⟨S256x1024, .f32⟩
  | .hbm, ⟨23, _⟩ => ⟨S256x1024, .bf16⟩
  | .hbm, ⟨24, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== DwXk.lean ====
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S1x1024x1024, .bf16⟩
  | .local _ .vmem, ⟨0, _⟩ => ⟨S256x1024, .bf16⟩
  | .local _ .vmem, ⟨1, _⟩ => ⟨S256x1024, .bf16⟩
  | .local _ .vmem, ⟨2, _⟩ => ⟨S1x1024x1024, .bf16⟩
  | .local _ .vmem, ⟨3, _⟩ => ⟨S1024x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwXkReferenceIdeal.lean ====
abbrev S256x1024 : Shape := ⟨2, ![256, 1024]⟩
abbrev S_ : Shape := ⟨0, ![]⟩
abbrev S1024x1024 : Shape := ⟨2, ![1024, 1024]⟩
abbrev S1024x1x1024 : Shape := ⟨3, ![1024, 1, 1024]⟩
abbrev S1x1024x1024 : Shape := ⟨3, ![1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S_, .f32⟩
  | .hbm, ⟨3, _⟩ => ⟨S1024x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S1024x1024, .f32⟩
  | .hbm, ⟨8, _⟩ => ⟨S1024x1024, .f32⟩
  | .hbm, ⟨9, _⟩ => ⟨S1024x1x1024, .f32⟩
  | .hbm, ⟨10, _⟩ => ⟨S1x1024x1024, .f32⟩
  | .hbm, ⟨11, _⟩ => ⟨S1x1024x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DMem.lean ====
abbrev S256x1024 : Shape := ⟨2, ![256, 1024]⟩
abbrev S1024x1024 : Shape := ⟨2, ![1024, 1024]⟩
abbrev S256x2048 : Shape := ⟨2, ![256, 2048]⟩
abbrev S1x1024x1024 : Shape := ⟨3, ![1, 1024, 1024]⟩
abbrev S1x1024x2048 : Shape := ⟨3, ![1, 1024, 2048]⟩

abbrev nBuf : Space → Nat
  | .hbm => 9
  | .vmem => 6
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S1024x1024, .bf16⟩
  | .hbm, ⟨3, _⟩ => ⟨S1024x1024, .bf16⟩
  | .hbm, ⟨4, _⟩ => ⟨S256x2048, .bf16⟩
  | .hbm, ⟨5, _⟩ => ⟨S1x1024x1024, .bf16⟩
  | .hbm, ⟨6, _⟩ => ⟨S1x1024x1024, .bf16⟩
  | .hbm, ⟨7, _⟩ => ⟨S1x1024x2048, .bf16⟩
  | .hbm, ⟨8, _⟩ => ⟨S256x1024, .bf16⟩
  | .local _ .vmem, ⟨0, _⟩ => ⟨S256x1024, .bf16⟩
  | .local _ .vmem, ⟨1, _⟩ => ⟨S256x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S256x1024, .bf16⟩
  | .local _ .vmem, ⟨5, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DMemReferenceIdeal.lean ====
abbrev S256x1024 : Shape := ⟨2, ![256, 1024]⟩
abbrev S1024x1024 : Shape := ⟨2, ![1024, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S1024x1024, .bf16⟩
  | .hbm, ⟨3, _⟩ => ⟨S1024x1024, .bf16⟩
  | .hbm, ⟨4, _⟩ => ⟨S256x1024, .f32⟩
  | .hbm, ⟨5, _⟩ => ⟨S256x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S256x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== GainMem.lean ====
abbrev S256x1024 : Shape := ⟨2, ![256, 1024]⟩
abbrev S1x1024 : Shape := ⟨2, ![1, 1024]⟩
abbrev S8x1024 : Shape := ⟨2, ![8, 1024]⟩
abbrev S256 : Shape := ⟨1, ![256]⟩
abbrev S256x1 : Shape := ⟨2, ![256, 1]⟩
abbrev S1024 : Shape := ⟨1, ![1024]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S1x1024, .f32⟩
  | .hbm, ⟨3, _⟩ => ⟨S256x1024, .f32⟩
  | .hbm, ⟨4, _⟩ => ⟨S8x1024, .f32⟩
  | .local _ .vmem, ⟨0, _⟩ => ⟨S256x1024, .bf16⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S8x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GainMemReferenceIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 26
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S1x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S_, .f32⟩
  | .hbm, ⟨24, _⟩ => ⟨S7x1024, .f32⟩
  | .hbm, ⟨25, _⟩ => ⟨S8x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Math.Reals.lean ====
/-
  Laws of the extended reals that the gradients of an attention need: a nonnegative real factor may be moved
  through a finite sum, and a softmax row of real scores has real positive terms.
-/
module

public import Idealize.ShloMosaic.Lib.Pointwise

@[expose] public section

noncomputable section

namespace Cert.Math
open Idealize.ShloMosaic Idealize.ShloMosaic.TcCoe

/-- A nonnegative real factor on the left of a sum of two extended reals is distributed over it. -/
theorem coe_mul_add {c : ℝ} (hc : 0 ≤ c) (x y : EReal) : (c : EReal) * (x + y) = c * x + c * y :=
  EReal.left_distrib_of_nonneg_of_ne_top (by exact_mod_cast hc) (EReal.coe_ne_top c) x y

/-- A nonnegative real factor on the right of a sum of two extended reals is distributed over it. -/
theorem add_mul_coe {c : ℝ} (hc : 0 ≤ c) (x y : EReal) : (x + y) * (c : EReal) = x * c + y * c := by
  rw [mul_comm, coe_mul_add hc, mul_comm x, mul_comm y]

/-- A nonnegative real factor on the left of a finite sum is distributed over it. -/
theorem coe_mul_sum {ι : Type} {c : ℝ} (hc : 0 ≤ c) (s : Finset ι) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, coe_mul_add hc, ih]

/-- A nonnegative real factor on the right of a finite sum is distributed over it. -/
theorem sum_mul_coe {ι : Type} {c : ℝ} (hc : 0 ≤ c) (s : Finset ι) (f : ι → EReal) :
    (∑ i ∈ s, f i) * (c : EReal) = ∑ i ∈ s, f i * (c : EReal) := by
  rw [mul_comm, coe_mul_sum hc]
  exact Finset.sum_congr rfl fun i _ => mul_comm _ _

/-- A sum of reals, seen in the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The greatest of finitely many reals is one of them, and it is the value of the maximum taken from `-∞`. -/
theorem fold_max_coe {ι : Type} [Fintype ι] [Nonempty ι] (s : ι → ℝ) :
    ∃ i, (∀ j, s j ≤ s i) ∧ Finset.fold max (⊥ : EReal) (fun j => (s j : EReal)) Finset.univ = (s i : EReal) := by
  obtain ⟨i, _, hi⟩ := Finset.exists_max_image Finset.univ s Finset.univ_nonempty
  refine ⟨i, fun j => hi j (Finset.mem_univ j), le_antisymm ?_ ?_⟩
  · exact (Finset.fold_max_le _).mpr ⟨bot_le, fun j _ => by exact_mod_cast hi j (Finset.mem_univ j)⟩
  · exact (Finset.le_fold_max _).mpr (Or.inr ⟨i, Finset.mem_univ i, le_rfl⟩)

/-- The terms of a softmax row of real scores: positive reals. -/
theorem exists_exp_row {ι : Type} [Fintype ι] [Nonempty ι] (s : ι → EReal) (hs : ∀ j, ∃ x : ℝ, s j = x) :
    ∃ e : ι → ℝ, (∀ j, 0 < e j) ∧
      ∀ j, Ideal.exp (s j - Finset.fold max (⊥ : EReal) (fun i => s i) Finset.univ) = (e j : EReal) := by
  choose x hx using hs
  obtain rfl : s = fun j => (x j : EReal) := funext hx
  obtain ⟨i, _, hi⟩ := fold_max_coe x
  refine ⟨fun j => Real.exp (x j - x i), fun j => Real.exp_pos _, fun j => ?_⟩
  simp only [hi]
  rw [← EReal.coe_sub, Ideal.exp_coe]

/-- The bits of `-∞` as an extended real. -/
theorem ofBits_neg_inf : Ideal.ofBits .f32 0xFF800000#32 = ⊥ := by
  simp [Ideal.ofBits, Ideal.ieee]

/-- The bits of `1/16` as an extended real. -/
theorem ofBits_sixteenth : Ideal.ofBits .f32 0x3D800000#32 = ((1 / 16 : ℝ) : EReal) := by
  simp [Ideal.ofBits, Ideal.ieee]
  have h : ∀ x y : ℝ, (x : EReal) * (y : EReal) = ((x * y : ℝ) : EReal) := fun x y => (EReal.coe_mul x y).symm
  first
    | exact (h _ _).trans (by norm_num)
    | (erw [h]; norm_num)

/-- Every product of two reals and every finite sum of such is real. -/
theorem exists_real_sum {ι : Type} [Fintype ι] (f g : ι → EReal) (hf : ∀ i, ∃ x : ℝ, f i = x) (hg : ∀ i, ∃ x : ℝ, g i = x) :
    ∃ x : ℝ, (∑ i, f i * g i) = (x : EReal) := by
  choose a ha using hf
  choose b hb using hg
  refine ⟨∑ i, a i * b i, ?_⟩
  rw [← coe_sum]
  exact Finset.sum_congr rfl fun i _ => by rw [ha, hb, EReal.coe_mul]

/-- An extended real whose absolute value is below `+∞` is a real. -/
theorem exists_real_of_abs_lt {x : EReal} (h : max x (-x) < ⊤) : ∃ r : ℝ, x = r := by
  induction x with
  | bot => simp at h
  | top => simp at h
  | coe r => exact ⟨r, rfl⟩

/-- The gradient of a softmax row, in two forms. `e` are the exponentials, `dp` the gradient of the weights: the
    quotient rule's form (`dp / d` and the sum of `dp · (1/d²) · e`) is the weights' form `p (dp - Σ dp p)`. -/
theorem softmax_grad {ι : Type} [Fintype ι] (e : ι → ℝ) (d : ℝ) (hd : 0 < d) (he : ∀ j, 0 < e j) (dp : ι → EReal) (j : ι) :
    (Ideal.div (dp j) (d : EReal) + -(∑ i, dp i * Ideal.div 1 ((d : EReal) * d) * (e i : EReal))) * (e j : EReal)
      = ((e j : EReal) * Ideal.div 1 (d : EReal)) * (dp j - ∑ i, dp i * ((e i : EReal) * Ideal.div 1 (d : EReal))) := by
  have hd' : d ≠ 0 := hd.ne'
  have hdd : d * d ≠ 0 := mul_ne_zero hd' hd'
  rw [← EReal.coe_mul]
  simp only [Ideal.div_coe hd', Ideal.div_coe hdd, one_mul]
  have hc : (0 : ℝ) ≤ 1 / d := by positivity
  have hsum : (∑ i, dp i * ((1 / (d * d) : ℝ) : EReal) * (e i : EReal))
      = ((1 / d : ℝ) : EReal) * ∑ i, dp i * ((e i : EReal) * ((1 / d : ℝ) : EReal)) := by
    rw [coe_mul_sum hc]
    refine Finset.sum_congr rfl fun i _ => ?_
    rw [← EReal.coe_mul, mul_assoc, ← EReal.coe_mul, mul_left_comm, ← EReal.coe_mul]
    congr 2
    field_simp
  rw [hsum, ← mul_neg, mul_comm (dp j), ← coe_mul_add hc, ← sub_eq_add_neg, mul_comm (((1 / d : ℝ) : EReal) * _),
    ← mul_assoc]

end Cert.Math
-- ==== Proof.Xatt.Rows.lean ====
/-
  The gradient of a multi-head cross-attention, row by row: a query row `x` and a row `g` of the incoming gradient against
  all memory keys `K` and values `V`, in 4 heads of 256 columns. Here it is in the weights' form: the softmax weights
  `wt`, the gradient `gw` of the weights, the gradient `gs` of the scores.
-/
module

public import proofs.«01_k».proof.Proof.Math.Reals

@[expose] public section

noncomputable section

namespace Cert.Xatt
open Idealize.ShloMosaic Idealize.ShloMosaic.TcCoe

/-- Column `d` of head `h`. -/
abbrev col (h : Fin 4) (d : Fin 256) : Fin 1024 := ⟨h.val * 256 + d.val, by omega⟩
/-- The head of column `l`. -/
abbrev hd (l : Fin 1024) : Fin 4 := ⟨l.val / 256, by omega⟩

/-- The scale `1/16` of the scores. -/
abbrev scale : EReal := Ideal.ofBits .f32 0x3D800000#32

/-- The score of a query row against memory key `j` in head `h`. -/
def score (x : Fin 1024 → EReal) (K : Fin 256 → Fin 1024 → EReal) (h : Fin 4) (j : Fin 256) : EReal :=
  (∑ d : Fin 256, x (col h d) * K j (col h d)) * scale

/-- The exponential of a score less the row's greatest. -/
def ex (s : Fin 256 → EReal) (j : Fin 256) : EReal :=
  Ideal.exp (s j - Finset.fold max (Ideal.ofBits .f32 0xFF800000#32) (fun i => s i) Finset.univ)

/-- The softmax weight: the exponential times the inverse of the row's sum. -/
def wt (s : Fin 256 → EReal) (j : Fin 256) : EReal := ex s j * Ideal.div 1 (∑ i, ex s i)

/-- The gradient of the weight. -/
def gw (g : Fin 1024 → EReal) (V : Fin 256 → Fin 1024 → EReal) (h : Fin 4) (j : Fin 256) : EReal :=
  ∑ d : Fin 256, g (col h d) * V j (col h d)

/-- The gradient of a score before the scale, from the weights `w` and their gradient `p`. -/
def gs (w p : Fin 256 → EReal) (j : Fin 256) : EReal := w j * (p j - ∑ i, p i * w i)

/-- The gradient of a score before the scale, of a query row and a row of the incoming gradient. -/
def gsRow (x g : Fin 1024 → EReal) (K V : Fin 256 → Fin 1024 → EReal) (h : Fin 4) (j : Fin 256) : EReal :=
  gs (wt (score x K h)) (gw g V h) j

/-- The gradient of the query row. -/
def gq (x g : Fin 1024 → EReal) (K V : Fin 256 → Fin 1024 → EReal) (l : Fin 1024) : EReal :=
  (∑ j : Fin 256, gsRow x g K V (hd l) j * K j l) * scale

/-- Every entry of a row is a real number. -/
def Real (x : Fin 1024 → EReal) : Prop := ∀ l, ∃ r : ℝ, x l = r

/-- Scores of real queries and keys are real. -/
theorem score_real {x : Fin 1024 → EReal} {K : Fin 256 → Fin 1024 → EReal} (hx : Real x) (hK : ∀ j, Real (K j))
    (h : Fin 4) (j : Fin 256) : ∃ r : ℝ, score x K h j = r := by
  obtain ⟨a, ha⟩ := Math.exists_real_sum (fun d : Fin 256 => x (col h d)) (fun d => K j (col h d)) (fun d => hx _) (fun d => hK j _)
  exact ⟨a * (1 / 16), by rw [score, ha, scale, Math.ofBits_sixteenth, EReal.coe_mul]⟩

/-- On real scores, the weights are the quotients of the exponentials by their sum. -/
theorem div_eq_wt {s : Fin 256 → EReal} (hs : ∀ j, ∃ r : ℝ, s j = r) (j : Fin 256) :
    Ideal.div (ex s j) (∑ i, ex s i) = wt s j := by
  obtain ⟨e, he, hse⟩ := Math.exists_exp_row s hs
  have hex : ∀ j, ex s j = (e j : EReal) := fun j => by rw [ex, Math.ofBits_neg_inf]; exact hse j
  have hd : (∑ i, e i) ≠ 0 := (Finset.sum_pos (fun i _ => he i) Finset.univ_nonempty).ne'
  simp only [wt, hex, Math.coe_sum, Ideal.div_coe hd, one_mul]

/-- On real scores, the quotient rule's form of the scores' gradient is the weights' form. -/
theorem quot_eq_gs {s : Fin 256 → EReal} (hs : ∀ j, ∃ r : ℝ, s j = r) (p : Fin 256 → EReal) (j : Fin 256) :
    (Ideal.div (p j) (∑ i, ex s i) + -(∑ i, p i * Ideal.div 1 ((∑ k, ex s k) * (∑ k, ex s k)) * ex s i)) * ex s j
      = gs (wt s) p j := by
  obtain ⟨e, he, hse⟩ := Math.exists_exp_row s hs
  have hex : ∀ j, ex s j = (e j : EReal) := fun j => by rw [ex, Math.ofBits_neg_inf]; exact hse j
  have hd : 0 < ∑ i, e i := Finset.sum_pos (fun i _ => he i) Finset.univ_nonempty
  simp only [gs, wt, hex, Math.coe_sum]
  exact Math.softmax_grad e _ hd he p j

/-- The scale is a nonnegative real, so it moves through a finite sum. -/
theorem sum_mul_scale {ι : Type} [Fintype ι] (f : ι → EReal) : (∑ i, f i) * scale = ∑ i, f i * scale := by
  rw [scale, Math.ofBits_sixteenth]
  exact Math.sum_mul_coe (by norm_num) _ f

end Cert.Xatt
-- ==== Proof.Xatt.Point.lean ====
/-
  The kernel's gradients of the cross-attention at one grid point, payload by payload: each head's arithmetic read at an
  index is the row-wise gradient of `Rows`.
-/
module

public import proofs.«01_k».proof.Proof.Gen.KernelIdeal.Value
public import proofs.«01_k».proof.Proof.Xatt.Rows
public import Idealize.ShloMosaic.Lib.Pointwise

@[expose] public section

set_option maxRecDepth 16384

noncomputable section

namespace Cert.Xatt
open Cert.KernelIdeal Cert.KernelIdeal.Gen Idealize.ShloMosaic Idealize.ShloMosaic.TcCoe Idealize.SL.Sem

/-- A block of 512 rows. -/
abbrev Blk := Vec Ideal S512x1024 .bf16
/-- The memory's keys or values. -/
abbrev Mem := Vec Ideal S256x1024 .bf16
/-- A row of a block. -/
abbrev brow (b : Blk) (r : Fin 512) : Fin 1024 → EReal := fun l => b (ix2 r l)
/-- A row of the memory. -/
abbrev mrow (b : Mem) (j : Fin 256) : Fin 1024 → EReal := fun l => b (ix2 j l)
/-- The part of a block in the 256 columns from `o`. -/
def qpart (b : Blk) (o : Nat) (h : ∀ a, (![0, o] : Fin 2 → Nat) a + (![512, 256] : Fin 2 → Nat) a ≤ S512x1024.size a) : Vec Ideal S512x256 .bf16 :=
  View.ld (Val := Elt Ideal) (e' := .bf16) (S := S512x1024) b (Rect.unit (s := S512x1024) ![0, o] ![512, 256] h)
/-- The part of the memory in the 256 columns from `o`. -/
def mpart (b : Mem) (o : Nat) (h : ∀ a, (![0, o] : Fin 2 → Nat) a + (![256, 256] : Fin 2 → Nat) a ≤ S256x1024.size a) : Vec Ideal S256x256 .bf16 :=
  View.ld (Val := Elt Ideal) (e' := .bf16) (S := S256x1024) b (Rect.unit (s := S256x1024) ![0, o] ![256, 256] h)

/-- The scores of head 0. -/
theorem pay7_apply (q k) (r : Fin 512) (j : Fin 256) :
    k0_pay7 (F := Ideal) q k (ix2 r j) = (∑ d : Fin 256, q (ix2 r d) * k (ix2 j d)) * scale := by
  pointwise [k0_pay7]

/-- The scores of head 1. -/
theorem pay8_apply (q k) (r : Fin 512) (j : Fin 256) :
    k0_pay8 (F := Ideal) q k (ix2 r j) = (∑ d : Fin 256, q (ix2 r d) * k (ix2 j d)) * scale := by
  pointwise [k0_pay8]

/-- The scores of head 2. -/
theorem pay9_apply (q k) (r : Fin 512) (j : Fin 256) :
    k0_pay9 (F := Ideal) q k (ix2 r j) = (∑ d : Fin 256, q (ix2 r d) * k (ix2 j d)) * scale := by
  pointwise [k0_pay9]

/-- The scores of head 3. -/
theorem pay10_apply (q k) (r : Fin 512) (j : Fin 256) :
    k0_pay10 (F := Ideal) q k (ix2 r j) = (∑ d : Fin 256, q (ix2 r d) * k (ix2 j d)) * scale := by
  pointwise [k0_pay10]

/-- The gradient of the weights of head 0. -/
theorem pay11_apply (g v) (r : Fin 512) (j : Fin 256) :
    k0_pay11 (F := Ideal) g v (ix2 r j) = ∑ d : Fin 256, g (ix2 r d) * v (ix2 j d) := by
  pointwise [k0_pay11]

/-- The gradient of the weights of head 1. -/
theorem pay12_apply (g v) (r : Fin 512) (j : Fin 256) :
    k0_pay12 (F := Ideal) g v (ix2 r j) = ∑ d : Fin 256, g (ix2 r d) * v (ix2 j d) := by
  pointwise [k0_pay12]

/-- The gradient of the weights of head 2. -/
theorem pay13_apply (g v) (r : Fin 512) (j : Fin 256) :
    k0_pay13 (F := Ideal) g v (ix2 r j) = ∑ d : Fin 256, g (ix2 r d) * v (ix2 j d) := by
  pointwise [k0_pay13]

/-- The gradient of the weights of head 3. -/
theorem pay14_apply (g v) (r : Fin 512) (j : Fin 256) :
    k0_pay14 (F := Ideal) g v (ix2 r j) = ∑ d : Fin 256, g (ix2 r d) * v (ix2 j d) := by
  pointwise [k0_pay14]

/-- The softmax weights of head 0. -/
theorem wt0_apply (s : FVec Ideal S512x256 .f32) (r : Fin 512) (j : Fin 256) :
    (k0_pay18 s) (ix2 r j) = wt (fun i => s (ix2 r i)) j := by
  pointwise [k0_pay18]
  rfl

/-- The softmax weights of head 1. -/
theorem wt1_apply (s : FVec Ideal S512x256 .f32) (r : Fin 512) (j : Fin 256) :
    (k0_pay21 (k0_pay15 s) (k0_pay19 s) k0_pay20) (ix2 r j) = wt (fun i => s (ix2 r i)) j := by
  pointwise [k0_pay21, k0_pay15, k0_pay19, k0_pay20]
  rfl

/-- The softmax weights of head 2. -/
theorem wt2_apply (s : FVec Ideal S512x256 .f32) (r : Fin 512) (j : Fin 256) :
    (k0_pay22 (k0_pay16 s)) (ix2 r j) = wt (fun i => s (ix2 r i)) j := by
  pointwise [k0_pay22, k0_pay16]
  rfl

/-- The softmax weights of head 3. -/
theorem wt3_apply (s : FVec Ideal S512x256 .f32) (r : Fin 512) (j : Fin 256) :
    (k0_pay23 (k0_pay17 s)) (ix2 r j) = wt (fun i => s (ix2 r i)) j := by
  pointwise [k0_pay23, k0_pay17]
  rfl

/-- The gradient of the scores of head 0. -/
theorem gs0_apply (p s : FVec Ideal S512x256 .f32) (r : Fin 512) (j : Fin 256) :
    (k0_pay24 p (k0_pay18 s)) (ix2 r j) = gs (wt fun i => s (ix2 r i)) (fun i => p (ix2 r i)) j := by
  pointwise [k0_pay24, k0_pay18]
  rfl

/-- The gradient of the scores of head 1. -/
theorem gs1_apply (p s : FVec Ideal S512x256 .f32) (r : Fin 512) (j : Fin 256) :
    (k0_pay25 p (k0_pay15 s) (k0_pay19 s) k0_pay20) (ix2 r j) = gs (wt fun i => s (ix2 r i)) (fun i => p (ix2 r i)) j := by
  pointwise [k0_pay25]
  simp only [wt1_apply, gs]

/-- The gradient of the scores of head 2. -/
theorem gs2_apply (p s : FVec Ideal S512x256 .f32) (r : Fin 512) (j : Fin 256) :
    (k0_pay26 p (k0_pay16 s)) (ix2 r j) = gs (wt fun i => s (ix2 r i)) (fun i => p (ix2 r i)) j := by
  pointwise [k0_pay26]
  simp only [wt2_apply, gs]

/-- The gradient of the scores of head 3. -/
theorem gs3_apply (p s : FVec Ideal S512x256 .f32) (r : Fin 512) (j : Fin 256) :
    (k0_pay27 p (k0_pay17 s)) (ix2 r j) = gs (wt fun i => s (ix2 r i)) (fun i => p (ix2 r i)) j := by
  pointwise [k0_pay27]
  simp only [wt3_apply, gs]

/-- The gradient of the queries of head 0. -/
theorem pay28_apply (p w k) (r : Fin 512) (d : Fin 256) :
    k0_pay28 (F := Ideal) p w k (ix2 r d) = (∑ j : Fin 256, k0_pay24 p w (ix2 r j) * k (ix2 j d)) * scale := by
  pointwise [k0_pay28, k0_pay24]

/-- The gradient of the queries of head 1. -/
theorem pay31_apply (g k) (r : Fin 512) (d : Fin 256) :
    k0_pay31 (F := Ideal) g k (ix2 r d) = (∑ j : Fin 256, g (ix2 r j) * k (ix2 j d)) * scale := by
  pointwise [k0_pay31]

/-- The gradient of the queries of head 2. -/
theorem pay34_apply (g k) (r : Fin 512) (d : Fin 256) :
    k0_pay34 (F := Ideal) g k (ix2 r d) = (∑ j : Fin 256, g (ix2 r j) * k (ix2 j d)) * scale := by
  pointwise [k0_pay34]

/-- The gradient of the queries of head 3. -/
theorem pay2_apply (g k) (r : Fin 512) (d : Fin 256) :
    k0_pay2 (F := Ideal) g k (ix2 r d) = (∑ j : Fin 256, g (ix2 r j) * k (ix2 j d)) * scale := by
  pointwise [k0_pay2]

/-- The gradient of the values of head 0, added to what is there. -/
theorem pay29_apply (w a g) (j d : Fin 256) :
    k0_pay29 (F := Ideal) w a g (ix2 j d) = a (ix2 j d) + ∑ r : Fin 512, w (ix2 r j) * g (ix2 r d) := by
  pointwise [k0_pay29]

/-- The gradient of the values of head 1, added to what is there. -/
theorem pay32_apply (w a g) (j d : Fin 256) :
    k0_pay32 (F := Ideal) w a g (ix2 j d) = a (ix2 j d) + ∑ r : Fin 512, w (ix2 r j) * g (ix2 r d) := by
  pointwise [k0_pay32]

/-- The gradient of the values of head 2, added to what is there. -/
theorem pay35_apply (w a g) (j d : Fin 256) :
    k0_pay35 (F := Ideal) w a g (ix2 j d) = a (ix2 j d) + ∑ r : Fin 512, w (ix2 r j) * g (ix2 r d) := by
  pointwise [k0_pay35]

/-- The gradient of the values of head 3, added to what is there. -/
theorem pay3_apply (w a g) (j d : Fin 256) :
    k0_pay3 (F := Ideal) w a g (ix2 j d) = a (ix2 j d) + ∑ r : Fin 512, w (ix2 r j) * g (ix2 r d) := by
  pointwise [k0_pay3]

/-- The gradient of the keys of head 0, added to what is there. -/
theorem pay30_apply (g a q) (j d : Fin 256) :
    k0_pay30 (F := Ideal) g a q (ix2 j d) = a (ix2 j d) + (∑ r : Fin 512, g (ix2 r j) * q (ix2 r d)) * scale := by
  pointwise [k0_pay30]

/-- The gradient of the keys of head 1, added to what is there. -/
theorem pay33_apply (g a q) (j d : Fin 256) :
    k0_pay33 (F := Ideal) g a q (ix2 j d) = a (ix2 j d) + (∑ r : Fin 512, g (ix2 r j) * q (ix2 r d)) * scale := by
  pointwise [k0_pay33]

/-- The gradient of the keys of head 3, added to what is there. -/
theorem pay4_apply (g a q) (j d : Fin 256) :
    k0_pay4 (F := Ideal) g a q (ix2 j d) = a (ix2 j d) + (∑ r : Fin 512, g (ix2 r j) * q (ix2 r d)) * scale := by
  pointwise [k0_pay4]

/-- The gradient of the keys of head 2, added to what is there. -/
theorem pay1_apply (g a q) (j d : Fin 256) :
    k0_pay1 (F := Ideal) (k0_pay36 a) (k0_pay37 g q) k0_pay38 (ix2 j d)
      = a (ix2 j d) + (∑ r : Fin 512, g (ix2 r j) * q (ix2 r d)) * scale := by
  pointwise [k0_pay1, k0_pay36, k0_pay37, k0_pay38]

/-- The accumulators begin at zero. -/
theorem pay5_apply (i) : k0_pay5 (F := Ideal) i = 0 := by
  pointwise [k0_pay5]

/-- The accumulators begin at zero. -/
theorem pay6_apply (i) : k0_pay6 (F := Ideal) i = 0 := by
  pointwise [k0_pay6]

/-- Reading a part of a block. -/
theorem qpart_apply (b : Blk) (o : Nat) (h : ∀ a, (![0, o] : Fin 2 → Nat) a + (![512, 256] : Fin 2 → Nat) a ≤ S512x1024.size a) (r : Fin 512) (d : Fin 256) : qpart b o h (ix2 r d) = b (ix2 r ⟨o + d.val, Nat.lt_of_lt_of_le (Nat.add_lt_add_left d.isLt o) (h 1)⟩) := by
  pointwise [qpart]

/-- Reading a part of the memory. -/
theorem mpart_apply (b : Mem) (o : Nat) (h : ∀ a, (![0, o] : Fin 2 → Nat) a + (![256, 256] : Fin 2 → Nat) a ≤ S256x1024.size a) (j : Fin 256) (d : Fin 256) : mpart b o h (ix2 j d) = b (ix2 j ⟨o + d.val, Nat.lt_of_lt_of_le (Nat.add_lt_add_left d.isLt o) (h 1)⟩) := by
  pointwise [mpart]

/-- Reading a part of an accumulator. -/
theorem apart_apply (b : Vec Ideal S256x1024 .f32) (o : Nat)
    (h : ∀ a, (![0, o] : Fin 2 → Nat) a + (![256, 256] : Fin 2 → Nat) a ≤ S256x1024.size a) (j : Fin 256) (d : Fin 256) :
    View.ld (Val := Elt Ideal) (e' := .f32) (S := S256x1024) b (Rect.unit (s := S256x1024) ![0, o] ![256, 256] h) (ix2 j d)
      = b (ix2 j ⟨o + d.val, Nat.lt_of_lt_of_le (Nat.add_lt_add_left d.isLt o) (h 1)⟩) := by
  pointwise

/-- The head of a column of head `h` is `h`. -/
theorem hd_col (h : Fin 4) (d : Fin 256) : hd (col h d) = h := Fin.ext (by simp only []; omega)

/-- Head 0's gradient of the queries is the row's. -/
theorem dq0_apply (q g : Blk) (k v : Mem) (r : Fin 512) (d : Fin 256) :
    k0_pay28 (F := Ideal) (k0_pay11 (qpart g 0 inb_S512x1024_S512x256_0_0) (mpart v 0 inb_S256x1024_S256x256_0_0)) (k0_pay18 (k0_pay7 (qpart q 0 inb_S512x1024_S512x256_0_0) (mpart k 0 inb_S256x1024_S256x256_0_0))) (mpart k 0 inb_S256x1024_S256x256_0_0) (ix2 r d)
      = gq (brow q r) (brow g r) (mrow k) (mrow v) (col 0 d) := by
  rw [pay28_apply, gq, hd_col]
  simp only [gs0_apply, pay7_apply, pay11_apply, qpart_apply, mpart_apply]
  rfl

/-- Head 0 adds to the gradient of the keys the block's rows' share. -/
theorem dk0_apply (q g : Blk) (k v : Mem) (a) (j d : Fin 256) :
    k0_pay30 (F := Ideal) (k0_pay24 (k0_pay11 (qpart g 0 inb_S512x1024_S512x256_0_0) (mpart v 0 inb_S256x1024_S256x256_0_0)) (k0_pay18 (k0_pay7 (qpart q 0 inb_S512x1024_S512x256_0_0) (mpart k 0 inb_S256x1024_S256x256_0_0)))) a (qpart q 0 inb_S512x1024_S512x256_0_0) (ix2 j d)
      = a (ix2 j d) + (∑ r : Fin 512, gsRow (brow q r) (brow g r) (mrow k) (mrow v) (hd (col 0 d)) j * q (ix2 r (col 0 d))) * scale := by
  rw [pay30_apply, hd_col]
  simp only [gs0_apply, pay7_apply, pay11_apply, qpart_apply, mpart_apply]
  rfl

/-- Head 0 adds to the gradient of the values the block's rows' share. -/
theorem dv0_apply (q g : Blk) (k : Mem) (a) (j d : Fin 256) :
    k0_pay29 (F := Ideal) (k0_pay18 (k0_pay7 (qpart q 0 inb_S512x1024_S512x256_0_0) (mpart k 0 inb_S256x1024_S256x256_0_0))) a (qpart g 0 inb_S512x1024_S512x256_0_0) (ix2 j d)
      = a (ix2 j d) + ∑ r : Fin 512, wt (score (brow q r) (mrow k) (hd (col 0 d))) j * g (ix2 r (col 0 d)) := by
  rw [pay29_apply, hd_col]
  simp only [wt0_apply, pay7_apply, qpart_apply, mpart_apply]
  rfl

/-- Head 1's gradient of the queries is the row's. -/
theorem dq1_apply (q g : Blk) (k v : Mem) (r : Fin 512) (d : Fin 256) :
    k0_pay31 (F := Ideal) (k0_pay25 (k0_pay12 (qpart g 256 inb_S512x1024_S512x256_0_256) (mpart v 256 inb_S256x1024_S256x256_0_256)) (k0_pay15 (k0_pay8 (qpart q 256 inb_S512x1024_S512x256_0_256) (mpart k 256 inb_S256x1024_S256x256_0_256))) (k0_pay19 (k0_pay8 (qpart q 256 inb_S512x1024_S512x256_0_256) (mpart k 256 inb_S256x1024_S256x256_0_256))) k0_pay20) (mpart k 256 inb_S256x1024_S256x256_0_256) (ix2 r d)
      = gq (brow q r) (brow g r) (mrow k) (mrow v) (col 1 d) := by
  rw [pay31_apply, gq, hd_col]
  simp only [gs1_apply, pay8_apply, pay12_apply, qpart_apply, mpart_apply]
  rfl

/-- Head 1 adds to the gradient of the keys the block's rows' share. -/
theorem dk1_apply (q g : Blk) (k v : Mem) (a) (j d : Fin 256) :
    k0_pay33 (F := Ideal) (k0_pay25 (k0_pay12 (qpart g 256 inb_S512x1024_S512x256_0_256) (mpart v 256 inb_S256x1024_S256x256_0_256)) (k0_pay15 (k0_pay8 (qpart q 256 inb_S512x1024_S512x256_0_256) (mpart k 256 inb_S256x1024_S256x256_0_256))) (k0_pay19 (k0_pay8 (qpart q 256 inb_S512x1024_S512x256_0_256) (mpart k 256 inb_S256x1024_S256x256_0_256))) k0_pay20) a (qpart q 256 inb_S512x1024_S512x256_0_256) (ix2 j d)
      = a (ix2 j d) + (∑ r : Fin 512, gsRow (brow q r) (brow g r) (mrow k) (mrow v) (hd (col 1 d)) j * q (ix2 r (col 1 d))) * scale := by
  rw [pay33_apply, hd_col]
  simp only [gs1_apply, pay8_apply, pay12_apply, qpart_apply, mpart_apply]
  rfl

/-- Head 1 adds to the gradient of the values the block's rows' share. -/
theorem dv1_apply (q g : Blk) (k : Mem) (a) (j d : Fin 256) :
    k0_pay32 (F := Ideal) (k0_pay21 (k0_pay15 (k0_pay8 (qpart q 256 inb_S512x1024_S512x256_0_256) (mpart k 256 inb_S256x1024_S256x256_0_256))) (k0_pay19 (k0_pay8 (qpart q 256 inb_S512x1024_S512x256_0_256) (mpart k 256 inb_S256x1024_S256x256_0_256))) k0_pay20) a (qpart g 256 inb_S512x1024_S512x256_0_256) (ix2 j d)
      = a (ix2 j d) + ∑ r : Fin 512, wt (score (brow q r) (mrow k) (hd (col 1 d))) j * g (ix2 r (col 1 d)) := by
  rw [pay32_apply, hd_col]
  simp only [wt1_apply, pay8_apply, qpart_apply, mpart_apply]
  rfl

/-- Head 2's gradient of the queries is the row's. -/
theorem dq2_apply (q g : Blk) (k v : Mem) (r : Fin 512) (d : Fin 256) :
    k0_pay34 (F := Ideal) (k0_pay26 (k0_pay13 (qpart g 512 inb_S512x1024_S512x256_0_512) (mpart v 512 inb_S256x1024_S256x256_0_512)) (k0_pay16 (k0_pay9 (qpart q 512 inb_S512x1024_S512x256_0_512) (mpart k 512 inb_S256x1024_S256x256_0_512)))) (mpart k 512 inb_S256x1024_S256x256_0_512) (ix2 r d)
      = gq (brow q r) (brow g r) (mrow k) (mrow v) (col 2 d) := by
  rw [pay34_apply, gq, hd_col]
  simp only [gs2_apply, pay9_apply, pay13_apply, qpart_apply, mpart_apply]
  rfl

/-- Head 2 adds to the gradient of the keys the block's rows' share. -/
theorem dk2_apply (q g : Blk) (k v : Mem) (a) (j d : Fin 256) :
    k0_pay1 (F := Ideal) (k0_pay36 a) (k0_pay37 (k0_pay26 (k0_pay13 (qpart g 512 inb_S512x1024_S512x256_0_512) (mpart v 512 inb_S256x1024_S256x256_0_512)) (k0_pay16 (k0_pay9 (qpart q 512 inb_S512x1024_S512x256_0_512) (mpart k 512 inb_S256x1024_S256x256_0_512)))) (qpart q 512 inb_S512x1024_S512x256_0_512)) k0_pay38 (ix2 j d)
      = a (ix2 j d) + (∑ r : Fin 512, gsRow (brow q r) (brow g r) (mrow k) (mrow v) (hd (col 2 d)) j * q (ix2 r (col 2 d))) * scale := by
  rw [pay1_apply, hd_col]
  simp only [gs2_apply, pay9_apply, pay13_apply, qpart_apply, mpart_apply]
  rfl

/-- Head 2 adds to the gradient of the values the block's rows' share. -/
theorem dv2_apply (q g : Blk) (k : Mem) (a) (j d : Fin 256) :
    k0_pay35 (F := Ideal) (k0_pay22 (k0_pay16 (k0_pay9 (qpart q 512 inb_S512x1024_S512x256_0_512) (mpart k 512 inb_S256x1024_S256x256_0_512)))) a (qpart g 512 inb_S512x1024_S512x256_0_512) (ix2 j d)
      = a (ix2 j d) + ∑ r : Fin 512, wt (score (brow q r) (mrow k) (hd (col 2 d))) j * g (ix2 r (col 2 d)) := by
  rw [pay35_apply, hd_col]
  simp only [wt2_apply, pay9_apply, qpart_apply, mpart_apply]
  rfl

/-- Head 3's gradient of the queries is the row's. -/
theorem dq3_apply (q g : Blk) (k v : Mem) (r : Fin 512) (d : Fin 256) :
    k0_pay2 (F := Ideal) (k0_pay27 (k0_pay14 (qpart g 768 inb_S512x1024_S512x256_0_768) (mpart v 768 inb_S256x1024_S256x256_0_768)) (k0_pay17 (k0_pay10 (qpart q 768 inb_S512x1024_S512x256_0_768) (mpart k 768 inb_S256x1024_S256x256_0_768)))) (mpart k 768 inb_S256x1024_S256x256_0_768) (ix2 r d)
      = gq (brow q r) (brow g r) (mrow k) (mrow v) (col 3 d) := by
  rw [pay2_apply, gq, hd_col]
  simp only [gs3_apply, pay10_apply, pay14_apply, qpart_apply, mpart_apply]
  rfl

/-- Head 3 adds to the gradient of the keys the block's rows' share. -/
theorem dk3_apply (q g : Blk) (k v : Mem) (a) (j d : Fin 256) :
    k0_pay4 (F := Ideal) (k0_pay27 (k0_pay14 (qpart g 768 inb_S512x1024_S512x256_0_768) (mpart v 768 inb_S256x1024_S256x256_0_768)) (k0_pay17 (k0_pay10 (qpart q 768 inb_S512x1024_S512x256_0_768) (mpart k 768 inb_S256x1024_S256x256_0_768)))) a (qpart q 768 inb_S512x1024_S512x256_0_768) (ix2 j d)
      = a (ix2 j d) + (∑ r : Fin 512, gsRow (brow q r) (brow g r) (mrow k) (mrow v) (hd (col 3 d)) j * q (ix2 r (col 3 d))) * scale := by
  rw [pay4_apply, hd_col]
  simp only [gs3_apply, pay10_apply, pay14_apply, qpart_apply, mpart_apply]
  rfl

/-- Head 3 adds to the gradient of the values the block's rows' share. -/
theorem dv3_apply (q g : Blk) (k : Mem) (a) (j d : Fin 256) :
    k0_pay3 (F := Ideal) (k0_pay23 (k0_pay17 (k0_pay10 (qpart q 768 inb_S512x1024_S512x256_0_768) (mpart k 768 inb_S256x1024_S256x256_0_768)))) a (qpart g 768 inb_S512x1024_S512x256_0_768) (ix2 j d)
      = a (ix2 j d) + ∑ r : Fin 512, wt (score (brow q r) (mrow k) (hd (col 3 d))) j * g (ix2 r (col 3 d)) := by
  rw [pay3_apply, hd_col]
  simp only [wt3_apply, pay10_apply, qpart_apply, mpart_apply]
  rfl

end Cert.Xatt
-- ==== Proof.Xatt.Kernel.lean ====
/-
  The kernel's three results after the run: the gradient of the queries row by row, the gradients of the keys and of the
  values as sums over all rows, which the accumulators take 512 rows at each of the 16 grid points.
-/
module

public import proofs.«01_k».proof.Proof.Gen.KernelIdeal.Value
public import proofs.«01_k».proof.Proof.Xatt.Point
public import Idealize.ShloMosaic.Lib.Pipeline.ValueKit
public import Idealize.ShloMosaic.Lib.Pipeline.ReadBack

@[expose] public section

set_option maxRecDepth 16384

noncomputable section

namespace Cert.Xatt
open Cert.KernelIdeal Cert.KernelIdeal.Gen Idealize.ShloMosaic Idealize.ShloMosaic.TcCoe Idealize.SL.Sem

/-- Where the later stores cover an index, the earlier stores do not matter there. -/
theorem canon_append_eq {Val : EltTy → Type} [∀ e, Nonempty (Val e)] {S : Shape} {e : EltTy} (L' : List (View.Piece Val S e)) :
    ∀ (L : List (View.Piece Val S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_eq L' L y ?_
      obtain ⟨q, hq, hyq⟩ := hy
      rcases List.mem_cons.mp hq with rfl | hq'
      · exact absurd hyq hm
      · exact ⟨q, hq', hyq⟩

variable (m : (ℓ : Loc nD τ sig) → Buf (Elt Ideal) ℓ)

/-- A column within the 256 columns of a head. -/
theorem eq_col (l : Fin 1024) (h : Fin 4) (d : Fin 256) (hl : l.val = h.val * 256 + d.val) :
    l = col h d := Fin.ext hl

/-- What a grid point leaves in the block of the queries' gradient. -/
theorem out_dq (c : Dev nD) (t : Fin cfg0.N) (r : Fin 512) (l : Fin 1024) :
    (outsAt0 m c t.val t.isLt).1 (ix2 r l)
      = gq (brow (iblk m c 0 t) r) (brow (iblk m c 3 t) r) (mrow (iblk m c 1 t)) (mrow (iblk m c 2 t)) l := by
  by_cases h0 : t.val % 16 = 0
  · rw [outsAt0_A m c t h0]
    frame_out
    canon_tiles x h <;> idx_vars x <;> obtain rfl : r = x0 := Fin.ext h0
    · rw [eq_col l 3 x1 h1]; exact dq3_apply ..
    · rw [eq_col l 2 x1 h1]; exact dq2_apply ..
    · rw [eq_col l 1 x1 h1]; exact dq1_apply ..
    · rw [eq_col l 0 x1 (by simpa using h1)]; exact dq0_apply ..
  · rw [outsAt0_B m c t h0]
    frame_out
    canon_tiles x h <;> idx_vars x <;> obtain rfl : r = x0 := Fin.ext h0
    · rw [eq_col l 3 x1 h1]; exact dq3_apply ..
    · rw [eq_col l 2 x1 h1]; exact dq2_apply ..
    · rw [eq_col l 1 x1 h1]; exact dq1_apply ..
    · rw [eq_col l 0 x1 (by simpa using h1)]; exact dq0_apply ..

/-- The share of a grid point's 512 rows in the gradient of the keys. -/
def dkTerm (c : Dev nD) (t : Fin cfg0.N) (i : S256x1024.Idx) : EReal :=
  (∑ r : Fin 512, gsRow (brow (iblk m c 0 t) r) (brow (iblk m c 3 t) r) (mrow (iblk m c 1 t)) (mrow (iblk m c 2 t)) (hd (i 1)) (i 0)
    * iblk m c 0 t (ix2 r (i 1))) * scale

/-- The share of a grid point's 512 rows in the gradient of the values. -/
def dvTerm (c : Dev nD) (t : Fin cfg0.N) (i : S256x1024.Idx) : EReal :=
  ∑ r : Fin 512, wt (score (brow (iblk m c 0 t) r) (mrow (iblk m c 1 t)) (hd (i 1))) (i 0) * iblk m c 3 t (ix2 r (i 1))

/-- After the first point the keys' gradient holds that point's share. -/
theorem dk_first (c : Dev nD) (t : Fin cfg0.N) (h0 : t.val % 16 = 0) (i : S256x1024.Idx) :
    (outsAt0 m c t.val t.isLt).2.1 i = 0 + dkTerm m c t i := by
  idx_vars i
  rw [outsAt0_A m c t h0]
  frame_open
  simp (disch := decide) only [↓ View.readCov_skip, ↓ View.readCov_cons_toLoadRect, ↓ View.readCov_fill]
  frame_out
  refine (canon_append_eq (L := [_, _, _, _]) (L' := [_]) _ (View.cover_of_tiledL _ ![256, 256] rfl _)).trans ?_
  canon_tiles x h <;> idx_vars x <;> obtain rfl : i0 = x0 := Fin.ext h0
  · rw [eq_col i1 3 x1 h1]
    exact (dk3_apply (iblk m c 0 t) (iblk m c 3 t) (iblk m c 1 t) (iblk m c 2 t) _ i0 x1).trans (congrArg (· + _) ((apart_apply _ _ _ i0 x1).trans (pay5_apply _)))
  · rw [eq_col i1 2 x1 h1]
    exact (dk2_apply (iblk m c 0 t) (iblk m c 3 t) (iblk m c 1 t) (iblk m c 2 t) _ i0 x1).trans (congrArg (· + _) ((apart_apply _ _ _ i0 x1).trans (pay5_apply _)))
  · rw [eq_col i1 1 x1 h1]
    exact (dk1_apply (iblk m c 0 t) (iblk m c 3 t) (iblk m c 1 t) (iblk m c 2 t) _ i0 x1).trans (congrArg (· + _) ((apart_apply _ _ _ i0 x1).trans (pay5_apply _)))
  · rw [eq_col i1 0 x1 (by simpa using h1)]
    exact (dk0_apply (iblk m c 0 t) (iblk m c 3 t) (iblk m c 1 t) (iblk m c 2 t) _ i0 x1).trans (congrArg (· + _) ((apart_apply _ _ _ i0 x1).trans (pay5_apply _)))

/-- A later point adds its share to the keys' gradient. -/
theorem dk_step (c : Dev nD) (t : Fin cfg0.N) (h0 : ¬t.val % 16 = 0) (i : S256x1024.Idx) :
    (outsAt0 m c t.val t.isLt).2.1 i
      = (outsAt0 m c (t.val - 1) (Nat.lt_of_le_of_lt (Nat.sub_le _ _) t.isLt)).2.1 i + dkTerm m c t i := by
  idx_vars i
  rw [outsAt0_B m c t h0]
  frame_out
  canon_tiles x h <;> idx_vars x <;> obtain rfl : i0 = x0 := Fin.ext h0
  · rw [eq_col i1 3 x1 h1]
    refine (dk3_apply (iblk m c 0 t) (iblk m c 3 t) (iblk m c 1 t) (iblk m c 2 t) _ i0 x1).trans (congrArg (· + _) ((apart_apply _ _ _ i0 x1).trans ?_))
    rfl
  · rw [eq_col i1 2 x1 h1]
    refine (dk2_apply (iblk m c 0 t) (iblk m c 3 t) (iblk m c 1 t) (iblk m c 2 t) _ i0 x1).trans (congrArg (· + _) ((apart_apply _ _ _ i0 x1).trans ?_))
    rfl
  · rw [eq_col i1 1 x1 h1]
    refine (dk1_apply (iblk m c 0 t) (iblk m c 3 t) (iblk m c 1 t) (iblk m c 2 t) _ i0 x1).trans (congrArg (· + _) ((apart_apply _ _ _ i0 x1).trans ?_))
    rfl
  · rw [eq_col i1 0 x1 (by simpa using h1)]
    refine (dk0_apply (iblk m c 0 t) (iblk m c 3 t) (iblk m c 1 t) (iblk m c 2 t) _ i0 x1).trans (congrArg (· + _) ((apart_apply _ _ _ i0 x1).trans ?_))
    rfl

/-- After the first point the values' gradient holds that point's share. -/
theorem dv_first (c : Dev nD) (t : Fin cfg0.N) (h0 : t.val % 16 = 0) (i : S256x1024.Idx) :
    (outsAt0 m c t.val t.isLt).2.2 i = 0 + dvTerm m c t i := by
  idx_vars i
  rw [outsAt0_A m c t h0]
  frame_open
  simp (disch := decide) only [↓ View.readCov_skip, ↓ View.readCov_cons_toLoadRect, ↓ View.readCov_fill]
  frame_out
  refine (canon_append_eq (L := [_, _, _, _]) (L' := [_]) _ (View.cover_of_tiledL _ ![256, 256] rfl _)).trans ?_
  canon_tiles x h <;> idx_vars x <;> obtain rfl : i0 = x0 := Fin.ext h0
  · rw [eq_col i1 3 x1 h1]
    exact (dv3_apply (iblk m c 0 t) (iblk m c 3 t) (iblk m c 1 t) _ i0 x1).trans (congrArg (· + _) ((apart_apply _ _ _ i0 x1).trans (pay6_apply _)))
  · rw [eq_col i1 2 x1 h1]
    exact (dv2_apply (iblk m c 0 t) (iblk m c 3 t) (iblk m c 1 t) _ i0 x1).trans (congrArg (· + _) ((apart_apply _ _ _ i0 x1).trans (pay6_apply _)))
  · rw [eq_col i1 1 x1 h1]
    exact (dv1_apply (iblk m c 0 t) (iblk m c 3 t) (iblk m c 1 t) _ i0 x1).trans (congrArg (· + _) ((apart_apply _ _ _ i0 x1).trans (pay6_apply _)))
  · rw [eq_col i1 0 x1 (by simpa using h1)]
    exact (dv0_apply (iblk m c 0 t) (iblk m c 3 t) (iblk m c 1 t) _ i0 x1).trans (congrArg (· + _) ((apart_apply _ _ _ i0 x1).trans (pay6_apply _)))

/-- A later point adds its share to the values' gradient. -/
theorem dv_step (c : Dev nD) (t : Fin cfg0.N) (h0 : ¬t.val % 16 = 0) (i : S256x1024.Idx) :
    (outsAt0 m c t.val t.isLt).2.2 i
      = (outsAt0 m c (t.val - 1) (Nat.lt_of_le_of_lt (Nat.sub_le _ _) t.isLt)).2.2 i + dvTerm m c t i := by
  idx_vars i
  rw [outsAt0_B m c t h0]
  frame_out
  canon_tiles x h <;> idx_vars x <;> obtain rfl : i0 = x0 := Fin.ext h0
  · rw [eq_col i1 3 x1 h1]
    refine (dv3_apply (iblk m c 0 t) (iblk m c 3 t) (iblk m c 1 t) _ i0 x1).trans (congrArg (· + _) ((apart_apply _ _ _ i0 x1).trans ?_))
    rfl
  · rw [eq_col i1 2 x1 h1]
    refine (dv2_apply (iblk m c 0 t) (iblk m c 3 t) (iblk m c 1 t) _ i0 x1).trans (congrArg (· + _) ((apart_apply _ _ _ i0 x1).trans ?_))
    rfl
  · rw [eq_col i1 1 x1 h1]
    refine (dv1_apply (iblk m c 0 t) (iblk m c 3 t) (iblk m c 1 t) _ i0 x1).trans (congrArg (· + _) ((apart_apply _ _ _ i0 x1).trans ?_))
    rfl
  · rw [eq_col i1 0 x1 (by simpa using h1)]
    refine (dv0_apply (iblk m c 0 t) (iblk m c 3 t) (iblk m c 1 t) _ i0 x1).trans (congrArg (· + _) ((apart_apply _ _ _ i0 x1).trans ?_))
    rfl

/-- The keys' gradient after the last point: the sum of the points' shares. -/
theorem dk_last (c : Dev nD) (i : S256x1024.Idx) :
    (outsAt0 m c t0_15.val t0_15.isLt).2.1 i = ∑ t : Fin cfg0.N, dkTerm m c t i := by
  have := Pipeline.eq_sum_fin_of_reset_step_apply_last (fun n h => (outsAt0 m c n h).2.1) 16 (fun _ => (0 : EReal)) (dkTerm m c)
    (dk_first m c) (dk_step m c) (by show grid0.N ≤ 16; rw [N_0]) t0_15 (by show 15 + 1 = grid0.N; rw [N_0]) i
  simpa using this

/-- The values' gradient after the last point: the sum of the points' shares. -/
theorem dv_last (c : Dev nD) (i : S256x1024.Idx) :
    (outsAt0 m c t0_15.val t0_15.isLt).2.2 i = ∑ t : Fin cfg0.N, dvTerm m c t i := by
  have := Pipeline.eq_sum_fin_of_reset_step_apply_last (fun n h => (outsAt0 m c n h).2.2) 16 (fun _ => (0 : EReal)) (dvTerm m c)
    (dv_first m c) (dv_step m c) (by show grid0.N ≤ 16; rw [N_0]) t0_15 (by show 15 + 1 = grid0.N; rw [N_0]) i
  simpa using this

/-! ### The three arrays after the run -/

section Arrays

variable (c : Dev nD)

/-- The queries of the device. -/
def Q : Vec Ideal S8192x1024 .bf16 := m ((c.tc : Thread nD τ).loc main_arg0)
/-- The keys of the memory. -/
def K : Vec Ideal S256x1024 .bf16 := m ((c.tc : Thread nD τ).loc main_arg1)
/-- The values of the memory. -/
def W : Vec Ideal S256x1024 .bf16 := m ((c.tc : Thread nD τ).loc main_arg2)
/-- The gradient of the attention's output. -/
def O : Vec Ideal S8192x1024 .bf16 := m ((c.tc : Thread nD τ).loc main_arg3)

/-- Row `s` of an array of activations. -/
def arow (a : Vec Ideal S8192x1024 .bf16) (s : Fin 8192) : Fin 1024 → EReal := fun l => a (ix2 s l)

theorem row_lt (t : Fin cfg0.N) (r : Fin 512) : t.val * 512 + r.val < 8192 := by
  have : t.val < 16 := lt_of_lt_of_eq t.isLt N_0
  omega

theorem brow_q (t : Fin cfg0.N) (r : Fin 512) : brow (iblk m c 0 t) r = arow (Q m c) ⟨t.val * 512 + r.val, row_lt t r⟩ := by
  have idx : ∀ t, win0_0.index t = ![t.val, 0] := by decide +kernel
  funext l
  show iblk m c 0 t (ix2 r l) = m ((c.tc : Thread nD τ).loc main_arg0) (ix2 ⟨t.val * 512 + r.val, row_lt t r⟩ l)
  blk_ext [iblk, V, idx t]

theorem brow_o (t : Fin cfg0.N) (r : Fin 512) : brow (iblk m c 3 t) r = arow (O m c) ⟨t.val * 512 + r.val, row_lt t r⟩ := by
  have idx : ∀ t, win0_3.index t = ![t.val, 0] := by decide +kernel
  funext l
  show iblk m c 3 t (ix2 r l) = m ((c.tc : Thread nD τ).loc main_arg3) (ix2 ⟨t.val * 512 + r.val, row_lt t r⟩ l)
  blk_ext [iblk, V, idx t]

theorem mrow_k (t : Fin cfg0.N) : mrow (iblk m c 1 t) = mrow (K m c) := by
  have idx : ∀ t, win0_1.index t = ![0, 0] := by decide +kernel
  funext j l
  show iblk m c 1 t (ix2 j l) = m ((c.tc : Thread nD τ).loc main_arg1) (ix2 j l)
  blk_ext [iblk, V, idx t]

theorem mrow_w (t : Fin cfg0.N) : mrow (iblk m c 2 t) = mrow (W m c) := by
  have idx : ∀ t, win0_2.index t = ![0, 0] := by decide +kernel
  funext j l
  show iblk m c 2 t (ix2 j l) = m ((c.tc : Thread nD τ).loc main_arg2) (ix2 j l)
  blk_ext [iblk, V, idx t]

/-- The gradient of the queries is, row by row, the gradient of that row's softmax. -/
theorem arr_dq : (dats m 0 c).arrAt 4 cfg0.N
    = fun i => gq (arow (Q m c) (i 0)) (arow (O m c) (i 0)) (mrow (K m c)) (mrow (W m c)) (i 1) := by
  refine (dats m 0 c).arrAt_eq_of_covers 4 _ (by decide +kernel) fun t hf y => ?_
  have idx : ∀ t, win0_4.index t = ![t.val, 0] := by decide +kernel
  blk_simp
  rw [after0_4]
  have he : ∃ r : Fin 512, ∃ l : Fin 1024, y = ix2 r l ∧
      (win0_4.blk t).view.emb y = ix2 ⟨t.val * 512 + r.val, row_lt t r⟩ l := by
    idx_vars y
    refine ⟨y0, y1, rfl, ?_⟩
    blk_ext [idx t]
  obtain ⟨r, l, rfl, he⟩ := he
  refine (out_dq m c t r l).trans ?_
  rw [brow_q, brow_o, mrow_k, mrow_w]
  exact (congrArg (fun i : S8192x1024.Idx =>
    gq (arow (Q m c) (i 0)) (arow (O m c) (i 0)) (mrow (K m c)) (mrow (W m c)) (i 1)) he).symm

/-- The gradient of the keys: the sum over all rows. -/
theorem arr_dk : (dats m 0 c).arrAt 5 cfg0.N
    = fun i => ∑ s : Fin 8192, gsRow (arow (Q m c) s) (arow (O m c) s) (mrow (K m c)) (mrow (W m c)) (hd (i 1)) (i 0)
        * arow (Q m c) s (i 1) * scale := by
  refine (dats m 0 c).arrAt_eq_of_after_last 5 t0_15 (by decide +kernel) _ fun j => ?_
  blk_simp
  rw [after0_5]
  refine (dk_last m c j).trans ?_
  refine Eq.trans (Finset.sum_congr rfl fun t _ => (sum_mul_scale _)) ?_
  refine Fin.sum_mul_add_congr (n := 512) (fun t r hl => ?_) (by rw [show cfg0.N = 16 from N_0])
  rw [brow_q, brow_o, mrow_k, mrow_w, ← brow_q m c t r]

/-- The gradient of the values: the sum over all rows. -/
theorem arr_dv : (dats m 0 c).arrAt 6 cfg0.N
    = fun i => ∑ s : Fin 8192, wt (score (arow (Q m c) s) (mrow (K m c)) (hd (i 1))) (i 0) * arow (O m c) s (i 1) := by
  refine (dats m 0 c).arrAt_eq_of_after_last 6 t0_15 (by decide +kernel) _ fun j => ?_
  blk_simp
  rw [after0_6]
  refine (dv_last m c j).trans ?_
  refine Fin.sum_mul_add_congr (n := 512) (fun t r hl => ?_) (by rw [show cfg0.N = 16 from N_0])
  rw [brow_q, mrow_k, ← brow_o m c t r]

end Arrays

end Cert.Xatt
-- ==== Proof.Xatt.Ref.lean ====
/-
  The reference's gradients of the cross-attention, stage by stage: scores, exponentials, row sums, the gradient of
  the weights, the gradient of the scores, and the three results, each read at an index.
-/
module

public import proofs.«01_k».proof.Proof.Gen.ReferenceIdeal.Run
public import Idealize.ShloMosaic.Lib.Pointwise
public import Idealize.ShloMosaic.Lib.KernelVsHost
public import proofs.«01_k».proof.Proof.Xatt.Rows

@[expose] public section

set_option maxRecDepth 16384

noncomputable section

namespace Cert.Xatt.Ref
open Cert.ReferenceIdeal Cert.ReferenceIdeal.Gen Idealize.ShloMosaic Idealize.ShloMosaic.TcCoe Idealize.SL.Sem

/-- An activation array of the reference. -/
abbrev Act := FVec Ideal S8192x1024 .bf16
/-- An array of memory keys or values of the reference. -/
abbrev Mem := FVec Ideal S256x1024 .bf16

/-- The scaled scores of every head. -/
def sc (a0 : Act) (a1 : Mem) : FVec Ideal S4x8192x256 .f32 :=
  mulf (Host.dotGeneral dot_S8192x4x256_S256x4x256_S4x8192x256_2_2_0_0_1_1 none (shapeCast _ (extf .f32 a0 bitsLt_bf16_f32) shapeCasts_S8192x1024_S8192x4x256) (shapeCast _ (extf .f32 a1 bitsLt_bf16_f32) shapeCasts_S256x1024_S256x4x256)) (broadcastInDim S4x8192x256 ![] bcast_S_S4x8192x256 (constant S_ .f32 0x3D800000#32))

/-- The greatest score of every row. -/
def rmax (s : FVec Ideal S4x8192x256 .f32) : FVec Ideal S4x8192 .f32 :=
  Host.reduce FloatOps.maximumf s (constant S_ .f32 0xFF800000#32) reducesTo_S4x8192x256_S4x8192_d2 h_S_

/-- The greatest score of every row, as a softmax takes it: from `-∞`. -/
def cmax (s : FVec Ideal S4x8192x256 .f32) : FVec Ideal S4x8192 .f32 :=
  maximumf (broadcastInDim S4x8192 ![] bcast_S_S4x8192 (constant S_ .f32 0xFF800000#32)) (rmax s)

/-- The exponentials of the scores less their row's greatest. -/
def ex (s : FVec Ideal S4x8192x256 .f32) : FVec Ideal S4x8192x256 .f32 :=
  Host.exp (subf s (broadcastInDim S4x8192x256 ![0, 1, 2] bcast_S4x8192x1_S4x8192x256_0_1_2 (broadcastInDim S4x8192x1 ![0, 1] bcast_S4x8192_S4x8192x1_0_1 (cmax s))))

/-- The row sums of the exponentials, as a column. -/
def den (e : FVec Ideal S4x8192x256 .f32) : FVec Ideal S4x8192x1 .f32 :=
  broadcastInDim S4x8192x1 ![0, 1] bcast_S4x8192_S4x8192x1_0_1 (Host.reduceAdd e (constant S_ .f32 0x00000000#32) reducesTo_S4x8192x256_S4x8192_d2 h_S_)

/-- The gradient of the softmax weights. -/
def dp (a3 : Act) (a2 : Mem) : FVec Ideal S4x8192x256 .f32 :=
  Host.dotGeneral dot_S4x256x8192_S256x4x256_S4x8192x256_1_2_2_0_0_1 none (transpose S4x256x8192 [1, 2, 0] (shapeCast _ (extf .f32 a3 bitsLt_bf16_f32) shapeCasts_S8192x1024_S8192x4x256) transposes_S8192x4x256_S4x256x8192_1_2_0) (shapeCast _ (extf .f32 a2 bitsLt_bf16_f32) shapeCasts_S256x1024_S256x4x256)

/-- The gradient of the scores before the scale, from the exponentials `e`, their row sums `d` and the gradient `g` of
    the weights. -/
def ds (e : FVec Ideal S4x8192x256 .f32) (d : FVec Ideal S4x8192x1 .f32) (g : FVec Ideal S4x8192x256 .f32) :
    FVec Ideal S4x8192x256 .f32 :=
  mulf (mulf (addf (Host.divf g (broadcastInDim S4x8192x256 ![0, 1, 2] bcast_S4x8192x1_S4x8192x256_0_1_2 d)) (broadcastInDim S4x8192x256 ![0, 1] bcast_S4x8192_S4x8192x256_0_1 (Host.reduceAdd (Host.negf (shapeCast _ (Host.reduceAdd (mulf (mulf g (broadcastInDim S4x8192x256 ![0, 1, 2] bcast_S4x8192x1_S4x8192x256_0_1_2 (Host.divf (broadcastInDim S4x8192x1 ![] bcast_S_S4x8192x1 (constant S_ .f32 0x3F800000#32)) (mulf d d)))) e) (constant S_ .f32 0x00000000#32) reducesTo_S4x8192x256_S4x8192_d2 h_S_) shapeCasts_S4x8192_S4x8192x1)) (constant S_ .f32 0x00000000#32) reducesTo_S4x8192x1_S4x8192_d2 h_S_))) e) (broadcastInDim S4x8192x256 ![] bcast_S_S4x8192x256 (constant S_ .f32 0x3D800000#32))

/-- The gradient of the queries from that of the scores. -/
def dq (g : FVec Ideal S4x8192x256 .f32) (a1 : Mem) : FVec Ideal S8192x1024 .bf16 :=
  truncf .bf16 (shapeCast _ (transpose S8192x4x256 [1, 0, 2] (Host.dotGeneral dot_S4x8192x256_S256x4x256_S4x8192x256_2_0_1_2_0_1 none g (shapeCast _ (extf .f32 a1 bitsLt_bf16_f32) shapeCasts_S256x1024_S256x4x256)) transposes_S4x8192x256_S8192x4x256_1_0_2) shapeCasts_S8192x4x256_S8192x1024) bitsLt_bf16_f32

/-- The gradient of the keys from that of the scores. -/
def dk (g : FVec Ideal S4x8192x256 .f32) (a0 : Act) : FVec Ideal S256x1024 .f32 :=
  shapeCast _ (transpose S256x4x256 [1, 0, 2] (Host.dotGeneral dot_S4x8192x256_S8192x4x256_S4x256x256_1_0_2_2_0_1 none g (shapeCast _ (extf .f32 a0 bitsLt_bf16_f32) shapeCasts_S8192x1024_S8192x4x256)) transposes_S4x256x256_S256x4x256_1_0_2) shapeCasts_S256x4x256_S256x1024

/-- The gradient of the values, from the exponentials, their row sums and the incoming gradient. -/
def dv (e : FVec Ideal S4x8192x256 .f32) (d : FVec Ideal S4x8192x1 .f32) (a3 : Act) : FVec Ideal S256x1024 .f32 :=
  shapeCast _ (transpose S256x4x256 [2, 0, 1] (Host.dotGeneral dot_S4x256x8192_S4x8192x256_S4x256x256_2_1_1_2_0_0 none (transpose S4x256x8192 [1, 2, 0] (shapeCast _ (extf .f32 a3 bitsLt_bf16_f32) shapeCasts_S8192x1024_S8192x4x256) transposes_S8192x4x256_S4x256x8192_1_2_0) (Host.divf e (broadcastInDim S4x8192x256 ![0, 1, 2] bcast_S4x8192x1_S4x8192x256_0_1_2 d))) transposes_S4x256x256_S256x4x256_2_0_1) shapeCasts_S256x4x256_S256x1024

/-- The row maximum, as the greatest of the row's entries. -/
theorem rmax_apply (s : FVec Ideal S4x8192x256 .f32) (h : Fin 4) (r : Fin 8192) :
    rmax s (ix2 h r) = Finset.fold max (Ideal.ofBits .f32 0xFF800000#32) (fun x => s (ix3 h r x)) Finset.univ := by
  rw [rmax, hostReduce_maximumf_eq_multiReduction s 0xFF800000#32 reducesTo_S4x8192x256_S4x8192_d2 h_S_ (by decide) (.inl rfl) rfl]
  pointwise

/-- Beginning at `-∞` leaves the greatest score as it is. -/
theorem cmax_apply (s : FVec Ideal S4x8192x256 .f32) (h : Fin 4) (r : Fin 8192) : cmax s (ix2 h r) = rmax s (ix2 h r) := by
  have hb : (broadcastInDim S4x8192 ![] bcast_S_S4x8192 (constant (F := Ideal) S_ .f32 0xFF800000#32)) (ix2 h r)
      = Ideal.ofBits .f32 0xFF800000#32 := by
    pointwise
  rw [cmax, maximumf_apply, Ideal.maximumf_eq_max, hb, Math.ofBits_neg_inf]
  exact max_eq_right bot_le

/-- A row of the 8192-row activation array. -/
abbrev row (a : FVec Ideal S8192x1024 .bf16) (r : Fin 8192) : Fin 1024 → EReal := fun l => a (ix2 r l)
/-- A row of the memory. -/
abbrev mem (a : FVec Ideal S256x1024 .bf16) (j : Fin 256) : Fin 1024 → EReal := fun l => a (ix2 j l)

/-- The scores are the rows' scores. -/
theorem sc_apply (a0 : Act) (a1 : Mem) (h : Fin 4) (s : Fin 8192) (j : Fin 256) :
    sc a0 a1 (ix3 h s j) = score (row a0 s) (mem a1) h j := by
  pointwise [sc]
  rfl

/-- The exponentials are the rows' exponentials. -/
theorem ex_apply (x : FVec Ideal S4x8192x256 .f32) (h : Fin 4) (s : Fin 8192) (j : Fin 256) :
    ex x (ix3 h s j) = Xatt.ex (fun i => x (ix3 h s i)) j := by
  unfold ex
  generalize hw : cmax x = w
  pointwise
  rw [← hw, cmax_apply, rmax_apply, Xatt.ex]

/-- The row sums are the rows' sums. -/
theorem den_apply (x : FVec Ideal S4x8192x256 .f32) (h : Fin 4) (s : Fin 8192) (j : Fin 1) :
    den x (ix3 h s j) = ∑ i, x (ix3 h s i) := by
  pointwise [den]

/-- The weights' gradient is the rows'. -/
theorem dp_apply (a3 : Act) (a2 : Mem) (h : Fin 4) (s : Fin 8192) (j : Fin 256) :
    dp a3 a2 (ix3 h s j) = gw (row a3 s) (mem a2) h j := by
  pointwise [dp]
  rfl

/-- The scores' gradient by the quotient rule. -/
theorem ds_apply (e : FVec Ideal S4x8192x256 .f32) (d : FVec Ideal S4x8192x1 .f32) (g : FVec Ideal S4x8192x256 .f32)
    (h : Fin 4) (s : Fin 8192) (j : Fin 256) :
    ds e d g (ix3 h s j) = (Ideal.div (g (ix3 h s j)) (d (ix3 h s 0))
      + -(∑ i, g (ix3 h s i) * Ideal.div 1 (d (ix3 h s 0) * d (ix3 h s 0)) * e (ix3 h s i))) * e (ix3 h s j) * scale := by
  pointwise [ds]
  rw [Fin.sum_univ_one]

/-- Where the queries and the keys are real, the reference's gradient of the scores is the weights' form, scaled. -/
theorem ds_eq (a0 : Act) (a1 a2 : Mem) (a3 : Act) (h0 : ∀ s, Real (row a0 s)) (h1 : ∀ j, Real (mem a1 j))
    (h : Fin 4) (s : Fin 8192) (j : Fin 256) :
    ds (ex (sc a0 a1)) (den (ex (sc a0 a1))) (dp a3 a2) (ix3 h s j)
      = gsRow (row a0 s) (row a3 s) (mem a1) (mem a2) h j * scale := by
  simp only [ds_apply, den_apply, ex_apply, dp_apply, sc_apply]
  rw [quot_eq_gs (score_real (h0 s) h1 h), gsRow]

/-- The reference's gradient of the queries. -/
theorem dq_eq (a0 : Act) (a1 a2 : Mem) (a3 : Act) (h0 : ∀ s, Real (row a0 s)) (h1 : ∀ j, Real (mem a1 j))
    (s : Fin 8192) (l : Fin 1024) :
    dq (ds (ex (sc a0 a1)) (den (ex (sc a0 a1))) (dp a3 a2)) a1 (ix2 s l)
      = gq (row a0 s) (row a3 s) (mem a1) (mem a2) l := by
  pointwise [dq]
  simp only [ds_eq a0 a1 a2 a3 h0 h1]
  rw [gq, sum_mul_scale]
  exact Finset.sum_congr rfl fun j _ => mul_right_comm _ _ _

/-- The reference's gradient of the keys: a sum over the rows. -/
theorem dk_eq (a0 : Act) (a1 a2 : Mem) (a3 : Act) (h0 : ∀ s, Real (row a0 s)) (h1 : ∀ j, Real (mem a1 j))
    (j : Fin 256) (l : Fin 1024) :
    dk (ds (ex (sc a0 a1)) (den (ex (sc a0 a1))) (dp a3 a2)) a0 (ix2 j l)
      = ∑ s : Fin 8192, gsRow (row a0 s) (row a3 s) (mem a1) (mem a2) (hd l) j * row a0 s l * scale := by
  pointwise [dk]
  simp only [ds_eq a0 a1 a2 a3 h0 h1]
  exact Finset.sum_congr rfl fun s _ => mul_right_comm _ _ _

/-- The reference's gradient of the values: a sum over the rows. -/
theorem dv_eq (a0 : Act) (a1 : Mem) (a3 : Act) (h0 : ∀ s, Real (row a0 s)) (h1 : ∀ j, Real (mem a1 j))
    (j : Fin 256) (l : Fin 1024) :
    dv (ex (sc a0 a1)) (den (ex (sc a0 a1))) a3 (ix2 j l)
      = ∑ s : Fin 8192, wt (score (row a0 s) (mem a1) (hd l)) j * row a3 s l := by
  pointwise [dv]
  refine Finset.sum_congr rfl fun s _ => ?_
  rw [mul_comm]
  simp only [den_apply, ex_apply, sc_apply]
  rw [div_eq_wt (score_real (h0 s) h1 _)]

/-- The reference's first result, from its stages. -/
theorem out0 (m : (ℓ : Loc nD τ sig) → Buf (Elt Ideal) ℓ) (c : Dev nD) :
    Cert.ReferenceIdeal.Value.res_out0 m c
      = dq (ds (ex (sc (m ((c.tc : Thread nD τ).loc main_arg0)) (m ((c.tc : Thread nD τ).loc main_arg1))))
          (den (ex (sc (m ((c.tc : Thread nD τ).loc main_arg0)) (m ((c.tc : Thread nD τ).loc main_arg1)))))
          (dp (m ((c.tc : Thread nD τ).loc main_arg3)) (m ((c.tc : Thread nD τ).loc main_arg2))))
        (m ((c.tc : Thread nD τ).loc main_arg1)) := by
  unfold Cert.ReferenceIdeal.Value.res_out0 Cert.ReferenceIdeal.Value.res_main_v67
  rfl

/-- The reference's second result, from its stages. -/
theorem out1 (m : (ℓ : Loc nD τ sig) → Buf (Elt Ideal) ℓ) (c : Dev nD) :
    Cert.ReferenceIdeal.Value.res_out1 m c
      = dk (ds (ex (sc (m ((c.tc : Thread nD τ).loc main_arg0)) (m ((c.tc : Thread nD τ).loc main_arg1))))
          (den (ex (sc (m ((c.tc : Thread nD τ).loc main_arg0)) (m ((c.tc : Thread nD τ).loc main_arg1)))))
          (dp (m ((c.tc : Thread nD τ).loc main_arg3)) (m ((c.tc : Thread nD τ).loc main_arg2))))
        (m ((c.tc : Thread nD τ).loc main_arg0)) := by
  unfold Cert.ReferenceIdeal.Value.res_out1 Cert.ReferenceIdeal.Value.res_main_v65
  rfl

end Cert.Xatt.Ref
-- ==== Proof.Xatt.Claims.lean ====
/-
  The claims about the cross-attention's gradient: the frames of its kernel and of its reference, and the equality of
  their results over the extended reals for finite queries and keys.
-/
module

public import proofs.«01_k».proof.Proof.Xatt.Kernel
public import proofs.«01_k».proof.Proof.Xatt.Ref
public import proofs.«01_k».proof.Proof.Gen.Kernel.Frame
public import proofs.«01_k».proof.Defs

@[expose] public section

set_option maxRecDepth 16384

noncomputable section

namespace Cert.Xatt.Claims
open Idealize.ShloMosaic Idealize.ShloMosaic.TcCoe Idealize.SL.Sem

/-- The shape relations that the precondition states. -/
theorem facts : Cert.Pre_finite.Facts where
  bitsLt_bf16_f32 := by decide
  bcast_S_S8192x1024 := by decide
  bcast_S_S256x1024 := by decide

/-- The comparison `|x| < ∞` tells that `x` is a real. -/
theorem real_of_olt (x : EReal)
    (h : (FloatOps.cmpf .olt (FloatOps.hostAbsf (F := Ideal) (φ := .f32) x) (FloatOps.ofBits (F := Ideal) .f32 0x7F800000#32)) = 1#1) :
    ∃ r : ℝ, x = r := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  refine Cert.Math.exists_real_of_abs_lt ?_
  by_contra hn
  simp [Ideal.cmp, hn] at h'

/-- The precondition says that every query and every key is a real. -/
theorem real_of_finite [Cert.Pre_finite.Facts] (a0 : FVec Ideal Cert.Pre_finite.S8192x1024 .bf16) (a1 a2 : FVec Ideal Cert.Pre_finite.S256x1024 .bf16)
    (a3 : FVec Ideal Cert.Pre_finite.S8192x1024 .bf16)
    (h : (Cert.Pre_finite.fn (F := Ideal) a0 a1 a2 a3).1 = (fun _ => 1#1)
      ∧ (Cert.Pre_finite.fn (F := Ideal) a0 a1 a2 a3).2 = (fun _ => 1#1)) :
    (∀ s, Real (Ref.row a0 s)) ∧ ∀ j, Real (Ref.mem a1 j) :=
  ⟨fun s l => real_of_olt (a0 (ix2 s l)) (congrFun h.1 (ix2 s l)),
    fun j l => real_of_olt (a1 (ix2 j l)) (congrFun h.2 (ix2 j l))⟩

theorem frame_p : Cert.quiescent_Kernel := fun m ρ _ => Cert.Kernel.Gen.frame m ρ

theorem frame_pi : Cert.quiescent_KernelIdeal := fun m ρ _ => Cert.KernelIdeal.Gen.frame m ρ

/-- The reference writes none of its arguments and has no semaphores. -/
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

variable {m : (ℓ : Loc Cert.KernelIdeal.nD Cert.KernelIdeal.τ Cert.KernelIdeal.sig) → Buf (Elt Ideal) ℓ}

/-- Kernel and reference end with the same three gradients. -/
theorem algebraic [Cert.Pre_finite.Facts] : Cert.algebraic_KernelIdeal_ReferenceIdeal_pre_finite := by
  intro m g m' g' hpre hag
  refine ⟨_, _, _, Cert.KernelIdeal.Value.run_blocks m g,
    (θ_run Cert.ReferenceIdeal.defs _ _).mono (fun r h c => ?_) (Cert.ReferenceIdeal.Value.run (F := Ideal) m' g')⟩
  obtain ⟨e0, e1, e2, ha⟩ := h c
  obtain ⟨g0, g1, g2, g3⟩ := hag c
  obtain ⟨hq, hk⟩ := real_of_finite _ _ _ _ (hpre c)
  refine ⟨e0.trans ?_, e1.trans ?_, e2.trans ?_, ha⟩
  · rw [arr_dq]
    refine (Ref.out0 m' c).trans ?_
    rw [g0, g1, g2, g3]
    funext i
    idx_vars i
    exact Ref.dq_eq _ _ _ _ hq hk i0 i1
  · rw [arr_dk]
    refine (Ref.out1 m' c).trans ?_
    rw [g0, g1, g2, g3]
    funext i
    idx_vars i
    exact Ref.dk_eq _ _ _ _ hq hk i0 i1
  · rw [arr_dv]
    refine Eq.trans (b := Ref.dv (Ref.ex (Ref.sc (m' ((c.tc : Thread _ _).loc Cert.ReferenceIdeal.main_arg0)) (m' ((c.tc : Thread _ _).loc Cert.ReferenceIdeal.main_arg1)))) (Ref.den (Ref.ex (Ref.sc (m' ((c.tc : Thread _ _).loc Cert.ReferenceIdeal.main_arg0)) (m' ((c.tc : Thread _ _).loc Cert.ReferenceIdeal.main_arg1))))) (m' ((c.tc : Thread _ _).loc Cert.ReferenceIdeal.main_arg3))) rfl ?_
    rw [g0, g1, g3]
    funext i
    idx_vars i
    exact Ref.dv_eq _ _ _ hq hk i0 i1

end Cert.Xatt.Claims
-- ==== Proof.Math.Norm.lean ====
/-
  The gradient of a root-mean-square normalisation, over the extended reals: the form that a derivative gives and the
  form with the mean of the products are equal at every row, whether its mean square is finite or not.
-/
module

public import proofs.«01_k».proof.Proof.Math.Reals

@[expose] public section

noncomputable section

namespace Cert.Math
open Idealize.ShloMosaic Idealize.ShloMosaic.TcCoe

/-- The row length, as the programs write it. -/
def len : EReal := Ideal.ofBits .f32 0x44800000#32
/-- The number added to a mean square. -/
def eps : EReal := Ideal.ofBits .f32 0x358637BD#32
/-- Minus one half, as the programs write it. -/
def mhalf : EReal := Ideal.ofBits .f32 0xBF000000#32
/-- One half. -/
def half : EReal := Ideal.ofBits .f32 0x3F000000#32
/-- Two. -/
def two : EReal := Ideal.ofBits .f32 0x40000000#32
/-- The reciprocal of the row length. -/
def rlen : EReal := Ideal.ofBits .f32 0x3A800000#32

theorem len_eq : len = ((1024 : ℝ) : EReal) := by
  simp [len, Ideal.ofBits, Ideal.ieee]
  have h : ∀ x y : ℝ, (x : EReal) * (y : EReal) = ((x * y : ℝ) : EReal) := fun x y => (EReal.coe_mul x y).symm
  first
    | exact (h _ _).trans (by norm_num)
    | (erw [h]; norm_num)
theorem rlen_eq : rlen = ((1 / 1024 : ℝ) : EReal) := by
  simp [rlen, Ideal.ofBits, Ideal.ieee]
  have h : ∀ x y : ℝ, (x : EReal) * (y : EReal) = ((x * y : ℝ) : EReal) := fun x y => (EReal.coe_mul x y).symm
  first
    | exact (h _ _).trans (by norm_num)
    | (erw [h]; norm_num)
theorem half_eq : half = ((1 / 2 : ℝ) : EReal) := by
  simp [half, Ideal.ofBits, Ideal.ieee]
  have h : ∀ x y : ℝ, (x : EReal) * (y : EReal) = ((x * y : ℝ) : EReal) := fun x y => (EReal.coe_mul x y).symm
  first
    | exact (h _ _).trans (by norm_num)
    | (erw [h]; norm_num)
theorem mhalf_eq : mhalf = ((-(1 / 2) : ℝ) : EReal) := by
  simp [mhalf, Ideal.ofBits, Ideal.ieee]
  have h : ∀ x y : ℝ, (x : EReal) * (y : EReal) = ((x * y : ℝ) : EReal) := fun x y => (EReal.coe_mul x y).symm
  first
    | exact (h _ _).trans (by norm_num)
    | (erw [h]; norm_num)
theorem two_eq : two = ((2 : ℝ) : EReal) := by
  simp [two, Ideal.ofBits, Ideal.ieee]
  have h : ∀ x y : ℝ, (x : EReal) * (y : EReal) = ((x * y : ℝ) : EReal) := fun x y => (EReal.coe_mul x y).symm
  first
    | exact (h _ _).trans (by norm_num)
    | (erw [h]; norm_num)
theorem eps_eq : ∃ e : ℝ, 0 < e ∧ eps = (e : EReal) := by
  simp [eps, Ideal.ofBits, Ideal.ieee]
  have h : ∀ x y : ℝ, (x : EReal) * (y : EReal) = ((x * y : ℝ) : EReal) := fun x y => (EReal.coe_mul x y).symm
  refine ⟨_, ?_, (h _ _).trans rfl⟩
  norm_num

/-- A square is nonnegative. -/
theorem sq_nonneg (x : EReal) : 0 ≤ x * x := by
  rcases le_total 0 x with h | h
  · exact mul_nonneg h h
  · induction x with
    | bot => simp
    | top => simp at h
    | coe r => exact_mod_cast mul_self_nonneg r

/-- A nonnegative extended real is a real or `+∞`. -/
theorem real_or_top {x : EReal} (h : 0 ≤ x) : x = ⊤ ∨ ∃ r : ℝ, 0 ≤ r ∧ x = r := by
  induction x with
  | bot => simp at h
  | top => exact Or.inl rfl
  | coe r => exact Or.inr ⟨r, by exact_mod_cast h, rfl⟩

variable {ι : Type} [Fintype ι]

/-- The mean square of a row, with the small number added. -/
def var (x : ι → EReal) : EReal := Ideal.div (∑ k, x k * x k) len + eps
/-- The reciprocal root of it. -/
def rs (x : ι → EReal) : EReal := Ideal.rsqrt (var x)
/-- The normalised row. -/
def nrm (x : ι → EReal) (j : ι) : EReal := x j * rs x
/-- The gradient of the row from the gradient `dn` of the normalised row, with the mean of the products. -/
def back (x dn : ι → EReal) (j : ι) : EReal := rs x * (dn j - nrm x j * Ideal.div (∑ k, dn k * nrm x k) len)
/-- Half the factor of the row in its gradient, as a derivative gives it. -/
def cfac (x dn : ι → EReal) : EReal := Ideal.div ((∑ k, x k * dn k) * (mhalf * Ideal.div (rs x) (var x))) len

/-- The mean square with the small number added is `+∞`, or a positive real. -/
theorem var_cases (x : ι → EReal) : var x = ⊤ ∨ ∃ w : ℝ, 0 < w ∧ var x = w := by
  obtain ⟨e, he, hee⟩ := eps_eq
  rw [var, hee, len_eq, Ideal.div_coe (by norm_num)]
  rcases real_or_top (Finset.sum_nonneg fun k _ => sq_nonneg (x k) : 0 ≤ ∑ k, x k * x k) with h | ⟨r, hr, h⟩
  · left
    rw [h, EReal.top_mul_coe_of_pos (by norm_num), EReal.top_add_coe]
  · right
    refine ⟨r * (1 / 1024) + e, by positivity, ?_⟩
    rw [h, ← EReal.coe_mul, ← EReal.coe_add]

theorem add_self (b : EReal) : b + b = b * ((2 : ℝ) : EReal) := by
  induction b with
  | bot => rw [EReal.bot_mul_coe_of_pos (by norm_num)]; rfl
  | top => rw [EReal.top_mul_coe_of_pos (by norm_num)]; rfl
  | coe r => rw [← EReal.coe_add, ← EReal.coe_mul]; congr 1; ring

/-- The two forms of the gradient are equal. -/
theorem back_eq (x dn : ι → EReal) (j : ι) :
    dn j * rs x + (x j * cfac x dn + cfac x dn * x j) = back x dn j := by
  have hlen : ∀ y, Ideal.div y len = y * ((1 / 1024 : ℝ) : EReal) := fun y => by rw [len_eq, Ideal.div_coe (by norm_num)]
  rcases var_cases x with h | ⟨w, hw, h⟩
  · have hr : rs x = 0 := by rw [rs, h]; rfl
    have hd : Ideal.div (0 : EReal) ⊤ = 0 := by simp [Ideal.div]
    have hz : Ideal.div (0 : EReal) len = 0 := by rw [hlen, zero_mul]
    simp only [back, nrm, cfac, hr, h, hd, hz, mul_zero, zero_mul, add_zero]
  · obtain ⟨ρ, hρ, hr, hsq⟩ : ∃ ρ : ℝ, 0 < ρ ∧ rs x = (ρ : EReal) ∧ ρ * ρ = 1 / w := by
      refine ⟨(Real.sqrt w)⁻¹, by positivity, ?_, ?_⟩
      · rw [rs, h, Ideal.rsqrt_coe, if_neg (by linarith), if_neg hw.ne']
      · rw [← mul_inv, Real.mul_self_sqrt hw.le, one_div]
    have hS : (∑ k, dn k * (x k * (ρ : EReal))) = (∑ k, x k * dn k) * (ρ : EReal) := by
      rw [sum_mul_coe hρ.le]
      exact Finset.sum_congr rfl fun k _ => by rw [← mul_assoc, mul_comm (dn k)]
    have hc : cfac x dn = (∑ k, x k * dn k) * ((-(1 / 2) * (ρ * (1 / w)) * (1 / 1024) : ℝ) : EReal) := by
      rw [cfac, hlen, hr, h, Ideal.div_coe hw.ne', mhalf_eq, mul_assoc, ← EReal.coe_mul, ← EReal.coe_mul, ← EReal.coe_mul]
    simp only [back, nrm, hr, hlen, hS]
    generalize hS' : (∑ k, x k * dn k) = S at hc ⊢
    rw [hc, mul_comm (S * _) (x j), add_self, sub_eq_add_neg, coe_mul_add hρ.le, mul_comm (dn j)]
    congr 1
    rw [mul_neg, show x j * (ρ : EReal) * (S * (ρ : EReal) * ((1 / 1024 : ℝ) : EReal)) = x j * S * ((ρ * (ρ * (1 / 1024)) : ℝ) : EReal) from by
      rw [EReal.coe_mul, EReal.coe_mul]; ac_rfl]
    rw [mul_left_comm (ρ : EReal), ← EReal.coe_mul, ← mul_assoc (x j) S, mul_assoc (x j * S), ← EReal.coe_mul,
      ← mul_neg, ← EReal.coe_neg]
    congr 2
    rw [← hsq]
    ring

/-- The same, with the gradient that comes past the normalisation added first. -/
theorem add_back_eq (a : EReal) (x dn : ι → EReal) (j : ι) :
    a + dn j * rs x + x j * cfac x dn + cfac x dn * x j = back x dn j + a := by
  rw [← back_eq, add_assoc, add_assoc, add_comm a]

theorem back_eq' (x dn : ι → EReal) (j : ι) :
    dn j * rs x + x j * cfac x dn + cfac x dn * x j = back x dn j := by
  rw [← back_eq, add_assoc]

/-- The gradient of a squared difference, halved and divided by the row length, in two forms. -/
theorem half_two (e : EReal) : Ideal.div half len * (two * e) = e * rlen := by
  rw [len_eq, Ideal.div_coe (by norm_num), half_eq, two_eq, rlen_eq, mul_comm e, ← mul_assoc, ← EReal.coe_mul, ← EReal.coe_mul]
  congr 2
  norm_num

end Cert.Math
-- ==== Proof.Mlp.Spec.lean ====
/-
  The feed-forward block with the loss and its gradients, as functions of the argument arrays over the extended reals:
  the form both programs are shown to compute.
-/
module

public import proofs.«01_k».proof.Proof.Math.Norm

@[expose] public section

noncomputable section

namespace Cert.Step
open Cert.Math Idealize.ShloMosaic

/-- The argument arrays, read at their indices. -/
structure Args where
  /-- The residual stream before the output projection. -/
  a : Fin 8192 → Fin 1024 → EReal
  /-- The heads' output. -/
  xo : Fin 8192 → Fin 1024 → EReal
  /-- The weights of the output projection. -/
  w : Fin 1024 → Fin 1024 → EReal
  /-- The gain of the block's normalisation. -/
  g : Fin 1024 → EReal
  /-- The weights of the block's first product. -/
  wu : Fin 1024 → Fin 4096 → EReal
  /-- The weights of the block's second product. -/
  wd : Fin 4096 → Fin 1024 → EReal
  /-- The gain of the last normalisation. -/
  gf : Fin 1024 → EReal
  /-- The target. -/
  tg : Fin 8192 → Fin 1024 → EReal

namespace Args
variable (p : Args)

/-- The residual stream after the output projection. -/
def h2 (i : Fin 8192) (j : Fin 1024) : EReal := (∑ k, p.xo i k * p.w k j) + p.a i j
/-- The rectified first product of the normalised rows. -/
def u (i : Fin 8192) (q : Fin 4096) : EReal := max (∑ k, nrm (p.h2 i) k * p.g k * p.wu k q) 0
/-- The residual stream after the block. -/
def h3 (i : Fin 8192) (j : Fin 1024) : EReal := (∑ q, p.u i q * p.u i q * p.wd q j) + p.h2 i j
/-- The difference of the last normalisation to the target. -/
def err (i : Fin 8192) (j : Fin 1024) : EReal := nrm (p.h3 i) j * p.gf j - p.tg i j
/-- The gradient of the rows that the last normalisation gives, before its gain. -/
def dn3 (i : Fin 8192) (j : Fin 1024) : EReal := p.err i j * rlen * p.gf j
/-- The gradient of the residual stream after the block. -/
def d3 (i : Fin 8192) (j : Fin 1024) : EReal := back (p.h3 i) (p.dn3 i) j
/-- The gradient at the first product. -/
def da (i : Fin 8192) (q : Fin 4096) : EReal := (∑ j, p.d3 i j * p.wd q j) * (two * p.u i q)
/-- The gradient at the rows that enter the first product. -/
def dh (i : Fin 8192) (j : Fin 1024) : EReal := ∑ q, p.da i q * p.wu j q
/-- The gradient of the normalised rows before their gain. -/
def dn2 (i : Fin 8192) (j : Fin 1024) : EReal := p.dh i j * p.g j
/-- The gradient of the residual stream before the block. -/
def d2 (i : Fin 8192) (j : Fin 1024) : EReal := back (p.h2 i) (p.dn2 i) j + p.d3 i j
/-- The gradient of the heads' output. -/
def dx (i : Fin 8192) (k : Fin 1024) : EReal := ∑ j, p.d2 i j * p.w k j
/-- The loss. -/
def loss : EReal := half * ∑ i, Ideal.div (∑ l, p.err i l * p.err i l) len
/-- The gradient of the last gain. -/
def dgf (l : Fin 1024) : EReal := ∑ i, p.err i l * rlen * nrm (p.h3 i) l
/-- The gradient of the block's gain. -/
def dg (l : Fin 1024) : EReal := ∑ i, p.dh i l * nrm (p.h2 i) l

end Args
end Cert.Step
-- ==== Proof.Mlp.Region0.lean ====
/-
  The residual stream after the attention's output product, and its normalised rows: what the first product leaves in its
  two arrays.
-/
module

public import proofs.«01_k».proof.Proof.Gen.MlpIdeal.Frame.Region0
public import proofs.«01_k».proof.Proof.Math.Norm
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Step.Region0
open Cert.MlpIdeal Cert.MlpIdeal.Gen Cert.Math Idealize.ShloMosaic Idealize.ShloMosaic.TcCoe

theorem pay1_apply (v0 : Vec Ideal S512x1024 .bf16) (v1 : Vec Ideal S1x1024x1024 .bf16) (v4 : Vec Ideal S512x1024 .f32) (r : Fin 512) (l : Fin 1024) :
    k0_pay1 v0 v1 v4 (ix2 r l) = (∑ k : Fin 1024, v0 (ix2 r k) * v1 (ix3 0 k l)) + v4 (ix2 r l) := by
  pointwise [k0_pay1]

theorem pay2_apply (v0 : Vec Ideal S512x1024 .bf16) (v1 : Vec Ideal S1x1024x1024 .bf16) (v4 : Vec Ideal S512x1024 .f32) (v17 : Vec Ideal S1x1024 .f32)
    (r : Fin 512) (l : Fin 1024) :
    k0_pay2 v0 v1 v4 v17 (ix2 r l) = nrm (fun k => k0_pay1 v0 v1 v4 (ix2 r k)) l * v17 (ix2 0 l) := by
  unfold k0_pay2
  generalize k0_pay1 v0 v1 v4 = h
  unfold nrm rs var len eps
  pointwise

variable (V : (c : Dev nD) → (b : Ref sig .tc) → Buf (Elt Ideal) ((c : Thread nD τ).loc b)) (c : Dev nD)

theorem row_lt (t : Fin cfg0.N) (r : Fin 512) : t.val * 512 + r.val < 8192 := by
  have : t.val < 16 := lt_of_lt_of_eq t.isLt N_0
  omega

/-- The attention's output. -/
def X (i : Fin 8192) (k : Fin 1024) : EReal := V c main_arg1 (ix2 i k)
/-- The weights of its output product. -/
def W (k j : Fin 1024) : EReal := V c main_v2 (ix3 0 k j)
/-- The residual stream before it. -/
def A (i : Fin 8192) (j : Fin 1024) : EReal := V c main_arg0 (ix2 i j)
/-- The gain of the normalisation. -/
def G (j : Fin 1024) : EReal := V c main_arg3 (ix2 0 j)
/-- The residual stream: the product's row added to the stream's. -/
def H (i : Fin 8192) (j : Fin 1024) : EReal := (∑ k : Fin 1024, X V c i k * W V c k j) + A V c i j

theorem blk_0 (t : Fin cfg0.N) (r : Fin 512) (l : Fin 1024) :
    iblk0 V c 0 t (ix2 r l) = X V c ⟨t.val * 512 + r.val, row_lt t r⟩ l := by
  unfold X
  have idx : ∀ t, win0_0.index t = ![t.val, 0] := by decide +kernel
  blk_ext [iblk0, idx t]

theorem blk_1 (t : Fin cfg0.N) (k : Fin 1024) (l : Fin 1024) :
    iblk0 V c 1 t (ix3 0 k l) = W V c k l := by
  unfold W
  have idx : ∀ t, win0_1.index t = ![0, 0, 0] := by decide +kernel
  blk_ext [iblk0, idx t]

theorem blk_2 (t : Fin cfg0.N) (r : Fin 512) (l : Fin 1024) :
    iblk0 V c 2 t (ix2 r l) = A V c ⟨t.val * 512 + r.val, row_lt t r⟩ l := by
  unfold A
  have idx : ∀ t, win0_2.index t = ![t.val, 0] := by decide +kernel
  blk_ext [iblk0, idx t]

theorem blk_3 (t : Fin cfg0.N) (l : Fin 1024) :
    iblk0 V c 3 t (ix2 0 l) = G V c l := by
  unfold G
  have idx : ∀ t, win0_3.index t = ![0, 0] := by decide +kernel
  blk_ext [iblk0, idx t]

theorem pay1_blk (t : Fin cfg0.N) (r : Fin 512) (l : Fin 1024) :
    k0_pay1 (iblk0 V c 0 t) (iblk0 V c 1 t) (iblk0 V c 2 t) (ix2 r l) = H V c ⟨t.val * 512 + r.val, row_lt t r⟩ l := by
  rw [pay1_apply, H, blk_2]
  simp only [blk_0, blk_1]

theorem out_4 (t : Fin cfg0.N) (r : Fin 512) (l : Fin 1024) :
    out0_4 (iblk0 V c 0 t) (iblk0 V c 1 t) (iblk0 V c 2 t) (iblk0 V c 3 t) (ix2 r l) = H V c ⟨t.val * 512 + r.val, row_lt t r⟩ l := by
  frame_out
  exact pay1_blk V c t r l

theorem out_5 (t : Fin cfg0.N) (r : Fin 512) (l : Fin 1024) :
    out0_5 (iblk0 V c 0 t) (iblk0 V c 1 t) (iblk0 V c 2 t) (iblk0 V c 3 t) (ix2 r l)
      = nrm (H V c ⟨t.val * 512 + r.val, row_lt t r⟩) l * G V c l := by
  frame_out
  refine (pay2_apply (iblk0 V c 0 t) (iblk0 V c 1 t) (iblk0 V c 2 t) (iblk0 V c 3 t) r l).trans ?_
  rw [blk_3, funext (pay1_blk V c t r)]

/-- The residual stream after the run. -/
theorem arr_4 : (dat0 V c).arrAt 4 cfg0.N = fun i => H V c (i 0) (i 1) := by
  refine (dat0 V c).arrAt_eq_of_covers 4 _ (by decide +kernel) fun t hf y => ?_
  have idx : ∀ t, win0_4.index t = ![t.val, 0] := by decide +kernel
  blk_simp
  rw [after0_4]
  have he : ∃ r : Fin 512, ∃ l : Fin 1024, y = ix2 r l ∧
      (win0_4.blk t).view.emb y = ix2 ⟨t.val * 512 + r.val, row_lt t r⟩ l := by
    idx_vars y
    refine ⟨y0, y1, rfl, ?_⟩
    blk_ext [idx t]
  obtain ⟨r, l, rfl, he⟩ := he
  refine (out_4 V c t r l).trans ?_
  exact (congrArg (fun i : S8192x1024.Idx => H V c (i 0) (i 1)) he).symm

/-- Its normalised rows after the run. -/
theorem arr_5 : (dat0 V c).arrAt 5 cfg0.N = fun i => nrm (H V c (i 0)) (i 1) * G V c (i 1) := by
  refine (dat0 V c).arrAt_eq_of_covers 5 _ (by decide +kernel) fun t hf y => ?_
  have idx : ∀ t, win0_5.index t = ![t.val, 0] := by decide +kernel
  blk_simp
  rw [after0_5]
  have he : ∃ r : Fin 512, ∃ l : Fin 1024, y = ix2 r l ∧
      (win0_5.blk t).view.emb y = ix2 ⟨t.val * 512 + r.val, row_lt t r⟩ l := by
    idx_vars y
    refine ⟨y0, y1, rfl, ?_⟩
    blk_ext [idx t]
  obtain ⟨r, l, rfl, he⟩ := he
  refine (out_5 V c t r l).trans ?_
  exact (congrArg (fun i : S8192x1024.Idx => nrm (H V c (i 0)) (i 1) * G V c (i 1)) he).symm

end Cert.Step.Region0
-- ==== Proof.Mlp.Region1.lean ====
/-
  The first product of the feed-forward block, rectified: what its call leaves in its array.
-/
module

public import proofs.«01_k».proof.Proof.Gen.MlpIdeal.Frame.Region1
public import proofs.«01_k».proof.Proof.Math.Norm
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Step.Region1
open Cert.MlpIdeal Cert.MlpIdeal.Gen Cert.Math Idealize.ShloMosaic Idealize.ShloMosaic.TcCoe

theorem pay1_apply (v0 : Vec Ideal S2048x1024 .bf16) (v2 : Vec Ideal S1x1024x1024 .bf16) (r : Fin 2048) (l : Fin 1024) :
    k1_pay1 v0 v2 (ix2 r l) = max (∑ k : Fin 1024, v0 (ix2 r k) * v2 (ix3 0 k l)) 0 := by
  pointwise [k1_pay1]

variable (V : (c : Dev nD) → (b : Ref sig .tc) → Buf (Elt Ideal) ((c : Thread nD τ).loc b)) (c : Dev nD)

theorem row_lt (t : Fin cfg1.N) (r : Fin 2048) : t.val / 4 * 2048 + r.val < 8192 := by
  have : t.val < 16 := lt_of_lt_of_eq t.isLt N_1
  omega
theorem part_lt (t : Fin cfg1.N) : t.val % 4 < 4 := Nat.mod_lt _ (by decide)
theorem col_lt (t : Fin cfg1.N) (l : Fin 1024) : t.val % 4 * 1024 + l.val < 4096 := by omega

/-- The normalised rows. -/
def X (i : Fin 8192) (k : Fin 1024) : EReal := V c main_v3_1 (ix2 i k)
/-- The four quarters of the weights' columns. -/
def W (p : Fin 4) (k j : Fin 1024) : EReal := V c main_v1 (ix3 p k j)
/-- The quarter of a column. -/
def part (j : Fin 4096) : Fin 4 := ⟨j.val / 1024, by omega⟩
/-- A column within its quarter. -/
def rest (j : Fin 4096) : Fin 1024 := ⟨j.val % 1024, by omega⟩
/-- The rectified product. -/
def U (i : Fin 8192) (j : Fin 4096) : EReal := max (∑ k : Fin 1024, X V c i k * W V c (part j) k (rest j)) 0

theorem blk_0 (t : Fin cfg1.N) (r : Fin 2048) (l : Fin 1024) :
    iblk1 V c 0 t (ix2 r l) = X V c ⟨t.val / 4 * 2048 + r.val, row_lt t r⟩ l := by
  unfold X
  have idx : ∀ t : Fin cfg1.N, win1_0.index t = ![t.val / 4, 0] := by decide +kernel
  blk_ext [iblk1, idx t]

theorem blk_1 (t : Fin cfg1.N) (k l : Fin 1024) :
    iblk1 V c 1 t (ix3 0 k l) = W V c ⟨t.val % 4, part_lt t⟩ k l := by
  unfold W
  have idx : ∀ t : Fin cfg1.N, win1_1.index t = ![t.val % 4, 0, 0] := by decide +kernel
  blk_ext [iblk1, idx t]

theorem out_2 (t : Fin cfg1.N) (r : Fin 2048) (l : Fin 1024) :
    out1_2 (iblk1 V c 0 t) (iblk1 V c 1 t) (ix2 r l) = U V c ⟨t.val / 4 * 2048 + r.val, row_lt t r⟩ ⟨t.val % 4 * 1024 + l.val, col_lt t l⟩ := by
  frame_out
  refine (pay1_apply (iblk1 V c 0 t) (iblk1 V c 1 t) r l).trans ?_
  simp only [blk_0, blk_1]
  rw [U, show part ⟨t.val % 4 * 1024 + l.val, col_lt t l⟩ = ⟨t.val % 4, part_lt t⟩ from Fin.ext (by show (t.val % 4 * 1024 + l.val) / 1024 = t.val % 4; omega),
    show rest ⟨t.val % 4 * 1024 + l.val, col_lt t l⟩ = l from Fin.ext (by show (t.val % 4 * 1024 + l.val) % 1024 = l.val; omega)]

/-- The rectified product after the run. -/
theorem arr_2 : (dat1 V c).arrAt 2 cfg1.N = fun i => U V c (i 0) (i 1) := by
  refine (dat1 V c).arrAt_eq_of_covers 2 _ (by decide +kernel) fun t hf y => ?_
  have idx : ∀ t : Fin cfg1.N, win1_2.index t = ![t.val / 4, t.val % 4] := by decide +kernel
  blk_simp
  rw [after1_2]
  have he : ∃ r : Fin 2048, ∃ l : Fin 1024, y = ix2 r l ∧
      (win1_2.blk t).view.emb y = ix2 ⟨t.val / 4 * 2048 + r.val, row_lt t r⟩ ⟨t.val % 4 * 1024 + l.val, col_lt t l⟩ := by
    idx_vars y
    refine ⟨y0, y1, rfl, ?_⟩
    blk_ext [idx t]
  obtain ⟨r, l, rfl, he⟩ := he
  refine (out_2 V c t r l).trans ?_
  exact (congrArg (fun i : S8192x4096.Idx => U V c (i 0) (i 1)) he).symm

end Cert.Step.Region1
-- ==== Proof.Mlp.Region2.lean ====
/-
  The second product of the feed-forward block, with the loss and its gradient at the residual stream.
-/
module

public import proofs.«01_k».proof.Proof.Gen.MlpIdeal.Frame.Region2
public import proofs.«01_k».proof.Proof.Math.Norm
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Step.Region2
open Cert.MlpIdeal Cert.MlpIdeal.Gen Cert.Math Idealize.ShloMosaic Idealize.ShloMosaic.TcCoe

section Payloads

variable (v3 : Vec Ideal S256x4096 .bf16) (v8 : Vec Ideal S1x4096x1024 .bf16) (v11 v27 : Vec Ideal S256x1024 .f32) (v24 : Vec Ideal S1x1024 .f32)

/-- A row of the residual stream after the block. -/
def h3 (r : Fin 256) (l : Fin 1024) : EReal := k2_pay3 v3 v8 v11 (ix2 r l)
/-- The difference to the target. -/
def err (r : Fin 256) (l : Fin 1024) : EReal := nrm (h3 v3 v8 v11 r) l * v24 (ix2 0 l) - v27 (ix2 r l)
/-- The gradient of the normalised row. -/
def dn (r : Fin 256) (l : Fin 1024) : EReal := err v3 v8 v11 v27 v24 r l * rlen * v24 (ix2 0 l)

theorem pay3_apply (r : Fin 256) (l : Fin 1024) :
    k2_pay3 v3 v8 v11 (ix2 r l) = (∑ k : Fin 4096, v3 (ix2 r k) * v3 (ix2 r k) * v8 (ix3 0 k l)) + v11 (ix2 r l) := by
  pointwise [k2_pay3]

theorem pay4_apply (r : Fin 256) : k2_pay4 v3 v8 v11 (ix2 r 0) = rs (h3 v3 v8 v11 r) := by
  unfold k2_pay4 rs var h3 len eps
  generalize k2_pay3 v3 v8 v11 = h
  pointwise

theorem pay5_apply (r : Fin 256) (l : Fin 1024) : k2_pay5 v3 v8 v11 (ix2 r l) = nrm (h3 v3 v8 v11 r) l := by
  unfold nrm
  rw [← pay4_apply]
  unfold k2_pay5 h3
  generalize k2_pay3 v3 v8 v11 = h
  generalize k2_pay4 v3 v8 v11 = h'
  pointwise

theorem pay6_apply (r : Fin 256) (l : Fin 1024) : k2_pay6 v3 v8 v11 v24 v27 (ix2 r l) = err v3 v8 v11 v27 v24 r l := by
  unfold err
  rw [← pay5_apply]
  unfold k2_pay6
  generalize k2_pay5 v3 v8 v11 = h
  pointwise

theorem pay7_apply (r : Fin 256) (l : Fin 1024) : k2_pay7 v3 v8 v11 v24 v27 (ix2 r l) = err v3 v8 v11 v27 v24 r l * rlen := by
  rw [← pay6_apply]
  unfold k2_pay7 rlen
  generalize k2_pay6 v3 v8 v11 v24 v27 = h
  pointwise

theorem pay8_apply (r : Fin 256) (l : Fin 1024) : k2_pay8 v3 v8 v11 v24 v27 (ix2 r l) = dn v3 v8 v11 v27 v24 r l := by
  unfold dn
  rw [← pay7_apply]
  unfold k2_pay8
  generalize k2_pay7 v3 v8 v11 v24 v27 = h
  pointwise

theorem pay9_apply (r : Fin 256) :
    k2_pay9 v3 v8 v11 v24 v27 (ix2 r 0) = Ideal.div (∑ l, dn v3 v8 v11 v27 v24 r l * nrm (h3 v3 v8 v11 r) l) len := by
  simp only [← pay8_apply, ← pay5_apply]
  unfold k2_pay9 len
  generalize k2_pay8 v3 v8 v11 v24 v27 = h
  generalize k2_pay5 v3 v8 v11 = h'
  pointwise

theorem pay10_apply (r : Fin 256) (l : Fin 1024) :
    k2_pay10 (k2_pay4 v3 v8 v11) (k2_pay5 v3 v8 v11) (k2_pay8 v3 v8 v11 v24 v27) (k2_pay9 v3 v8 v11 v24 v27) (ix2 r l)
      = back (h3 v3 v8 v11 r) (dn v3 v8 v11 v27 v24 r) l := by
  unfold back
  rw [← pay9_apply, ← pay8_apply, ← pay5_apply, ← pay4_apply]
  unfold k2_pay10
  generalize k2_pay9 v3 v8 v11 v24 v27 = h9
  generalize k2_pay8 v3 v8 v11 v24 v27 = h8
  generalize k2_pay5 v3 v8 v11 = h5
  generalize k2_pay4 v3 v8 v11 = h4
  pointwise

theorem pay11_apply (r : Fin 256) (l : Fin 1024) :
    k2_pay11 (k2_pay4 v3 v8 v11) (k2_pay5 v3 v8 v11) (k2_pay8 v3 v8 v11 v24 v27) (k2_pay9 v3 v8 v11 v24 v27) (ix2 r l)
      = back (h3 v3 v8 v11 r) (dn v3 v8 v11 v27 v24 r) l := by
  rw [← pay10_apply]
  unfold k2_pay11
  generalize k2_pay10 (k2_pay4 v3 v8 v11) (k2_pay5 v3 v8 v11) (k2_pay8 v3 v8 v11 v24 v27) (k2_pay9 v3 v8 v11 v24 v27) = h
  pointwise

theorem pay12_apply (v46 : Vec Ideal S1x1024 .f32) (l : Fin 1024) :
    k2_pay12 (k2_pay5 v3 v8 v11) (k2_pay7 v3 v8 v11 v24 v27) v46 (ix2 0 l)
      = v46 (ix2 0 l) + ∑ r : Fin 256, err v3 v8 v11 v27 v24 r l * rlen * nrm (h3 v3 v8 v11 r) l := by
  simp only [← pay7_apply, ← pay5_apply]
  unfold k2_pay12
  generalize k2_pay7 v3 v8 v11 v24 v27 = h7
  generalize k2_pay5 v3 v8 v11 = h5
  pointwise

theorem pay13_apply (v69 : Vec Ideal S8x128 .f32) :
    k2_pay13 (k2_pay6 v3 v8 v11 v24 v27) v69 (ix2 0 0)
      = v69 (ix2 0 0) + half * ∑ r : Fin 256, Ideal.div (∑ l, err v3 v8 v11 v27 v24 r l * err v3 v8 v11 v27 v24 r l) len := by
  simp only [← pay6_apply]
  unfold k2_pay13 half len
  generalize k2_pay6 v3 v8 v11 v24 v27 = h6
  pointwise
  rw [show IntOp.andi 1#1 1#1 = 1#1 from rfl]
  exact congrArg _ (if_pos rfl)

end Payloads

variable (V : (c : Dev nD) → (b : Ref sig .tc) → Buf (Elt Ideal) ((c : Thread nD τ).loc b)) (c : Dev nD)

theorem row_lt (t : Fin cfg2.N) (r : Fin 256) : t.val * 256 + r.val < 8192 := by
  have : t.val < 32 := lt_of_lt_of_eq t.isLt N_2
  omega

/-- The rectified first product. -/
def U (i : Fin 8192) (k : Fin 4096) : EReal := V c main_v4 (ix2 i k)
/-- The weights of the second product. -/
def W (k : Fin 4096) (j : Fin 1024) : EReal := V c main_v5 (ix3 0 k j)
/-- The residual stream before the block. -/
def A (i : Fin 8192) (j : Fin 1024) : EReal := V c main_v3_0 (ix2 i j)
/-- The target. -/
def T (i : Fin 8192) (j : Fin 1024) : EReal := V c main_arg7 (ix2 i j)
/-- The gain of the last normalisation. -/
def G (j : Fin 1024) : EReal := V c main_arg6 (ix2 0 j)
/-- The residual stream after the block. -/
def H (i : Fin 8192) (j : Fin 1024) : EReal := (∑ k : Fin 4096, U V c i k * U V c i k * W V c k j) + A V c i j
/-- The difference of the normalised stream to the target. -/
def E (i : Fin 8192) (j : Fin 1024) : EReal := nrm (H V c i) j * G V c j - T V c i j
/-- The gradient at the normalised rows. -/
def DN (i : Fin 8192) (j : Fin 1024) : EReal := E V c i j * rlen * G V c j

theorem blk_0 (t : Fin cfg2.N) (r : Fin 256) (l : Fin 4096) : iblk2 V c 0 t (ix2 r l) = U V c ⟨t.val * 256 + r.val, row_lt t r⟩ l := by
  unfold U
  have idx : ∀ t : Fin cfg2.N, win2_0.index t = ![t.val, 0] := by decide +kernel
  blk_ext [iblk2, idx t]

theorem blk_1 (t : Fin cfg2.N) (k : Fin 4096) (l : Fin 1024) : iblk2 V c 1 t (ix3 0 k l) = W V c k l := by
  unfold W
  have idx : ∀ t : Fin cfg2.N, win2_1.index t = ![0, 0, 0] := by decide +kernel
  blk_ext [iblk2, idx t]

theorem blk_2 (t : Fin cfg2.N) (r : Fin 256) (l : Fin 1024) : iblk2 V c 2 t (ix2 r l) = A V c ⟨t.val * 256 + r.val, row_lt t r⟩ l := by
  unfold A
  have idx : ∀ t : Fin cfg2.N, win2_2.index t = ![t.val, 0] := by decide +kernel
  blk_ext [iblk2, idx t]

theorem blk_3 (t : Fin cfg2.N) (r : Fin 256) (l : Fin 1024) : iblk2 V c 3 t (ix2 r l) = T V c ⟨t.val * 256 + r.val, row_lt t r⟩ l := by
  unfold T
  have idx : ∀ t : Fin cfg2.N, win2_3.index t = ![t.val, 0] := by decide +kernel
  blk_ext [iblk2, idx t]

theorem blk_4 (t : Fin cfg2.N) (l : Fin 1024) : iblk2 V c 4 t (ix2 0 l) = G V c l := by
  unfold G
  have idx : ∀ t : Fin cfg2.N, win2_4.index t = ![0, 0] := by decide +kernel
  blk_ext [iblk2, idx t]

theorem h3_eq (t : Fin cfg2.N) (r : Fin 256) :
    h3 (iblk2 V c 0 t) (iblk2 V c 1 t) (iblk2 V c 2 t) r = H V c ⟨t.val * 256 + r.val, row_lt t r⟩ := by
  funext l
  rw [h3, pay3_apply, H, blk_2]
  simp only [blk_0, blk_1]

theorem err_eq (t : Fin cfg2.N) (r : Fin 256) :
    err (iblk2 V c 0 t) (iblk2 V c 1 t) (iblk2 V c 2 t) (iblk2 V c 3 t) (iblk2 V c 4 t) r = E V c ⟨t.val * 256 + r.val, row_lt t r⟩ := by
  funext l
  rw [err, h3_eq, blk_3, blk_4, E]

theorem dn_eq (t : Fin cfg2.N) (r : Fin 256) :
    dn (iblk2 V c 0 t) (iblk2 V c 1 t) (iblk2 V c 2 t) (iblk2 V c 3 t) (iblk2 V c 4 t) r = DN V c ⟨t.val * 256 + r.val, row_lt t r⟩ := by
  funext l
  rw [dn, err_eq, blk_4, DN]

theorem out_5 (t : Fin cfg2.N) (r : Fin 256) (l : Fin 1024) :
    (outsAt2 V c t.val t.isLt).1 (ix2 r l) = back (H V c ⟨t.val * 256 + r.val, row_lt t r⟩) (DN V c ⟨t.val * 256 + r.val, row_lt t r⟩) l := by
  rw [← h3_eq, ← dn_eq]
  by_cases h0 : t.val % 32 = 0
  · rw [outsAt2_A V c t h0]
    frame_out
    exact pay10_apply ..
  · rw [outsAt2_B V c t h0]
    frame_out
    exact pay10_apply ..

theorem out_6 (t : Fin cfg2.N) (r : Fin 256) (l : Fin 1024) :
    (outsAt2 V c t.val t.isLt).2.1 (ix2 r l) = back (H V c ⟨t.val * 256 + r.val, row_lt t r⟩) (DN V c ⟨t.val * 256 + r.val, row_lt t r⟩) l := by
  rw [← h3_eq, ← dn_eq]
  by_cases h0 : t.val % 32 = 0
  · rw [outsAt2_A V c t h0]
    frame_out
    exact pay11_apply ..
  · rw [outsAt2_B V c t h0]
    frame_out
    exact pay11_apply ..

/-- Row 0 of the eight rows that the gain's gradient is summed in. -/
theorem row0 (l : Fin 1024) : (ix2 0 l : S8x1024.Idx) = (Rect.unit (s := S8x1024) ![0, 0] ![1, 1024] inb_S8x1024_S1x1024_0_0).emb (ix2 0 l) := by
  blk_ext []

theorem ld_row0 (x : Vec Ideal S8x1024 .f32) (l : Fin 1024) :
    View.ld x (Rect.unit (s := S8x1024) ![0, 0] ![1, 1024] inb_S8x1024_S1x1024_0_0) (ix2 0 l) = x (ix2 0 l) :=
  congrArg x (row0 l).symm

/-- The share of a grid point's rows in the gradient of the gain. -/
def gTerm (t : Fin cfg2.N) (l : Fin 1024) : EReal :=
  ∑ r : Fin 256, E V c ⟨t.val * 256 + r.val, row_lt t r⟩ l * rlen * nrm (H V c ⟨t.val * 256 + r.val, row_lt t r⟩) l

/-- The share of a grid point's rows in the loss. -/
def lTerm (t : Fin cfg2.N) : EReal :=
  half * ∑ r : Fin 256, Ideal.div (∑ l, E V c ⟨t.val * 256 + r.val, row_lt t r⟩ l * E V c ⟨t.val * 256 + r.val, row_lt t r⟩ l) len

theorem g_first (t : Fin cfg2.N) (h0 : t.val % 32 = 0) (l : Fin 1024) :
    (outsAt2 V c t.val t.isLt).2.2.1 (ix2 0 l) = 0 + gTerm V c t l := by
  rw [outsAt2_A V c t h0]
  frame_open
  simp (disch := decide) only [↓ View.readCov_skip, ↓ View.readCov_cons_toLoadRect, ↓ View.readCov_fill]
  frame_out
  rw [row0]
  refine (View.canon_cons_emb _ _ _ _).trans ?_
  refine (pay12_apply (iblk2 V c 0 t) (iblk2 V c 1 t) (iblk2 V c 2 t) (iblk2 V c 3 t) (iblk2 V c 4 t) _ l).trans ?_
  simp only [err_eq, h3_eq]
  refine congrArg (· + _) ((ld_row0 _ l).trans ?_)
  pointwise [k2_pay1]

theorem g_step (t : Fin cfg2.N) (h0 : ¬t.val % 32 = 0) (l : Fin 1024) :
    (outsAt2 V c t.val t.isLt).2.2.1 (ix2 0 l)
      = (outsAt2 V c (t.val - 1) (Nat.lt_of_le_of_lt (Nat.sub_le _ _) t.isLt)).2.2.1 (ix2 0 l) + gTerm V c t l := by
  rw [outsAt2_B V c t h0]
  frame_out
  conv_lhs => rw [row0]
  refine (View.read_writes_cons_emb _ _ _ _ _ _).trans ?_
  refine (pay12_apply (iblk2 V c 0 t) (iblk2 V c 1 t) (iblk2 V c 2 t) (iblk2 V c 3 t) (iblk2 V c 4 t) _ l).trans ?_
  simp only [err_eq, h3_eq]
  exact congrArg (· + _) (ld_row0 _ l)

theorem l_first (t : Fin cfg2.N) (h0 : t.val % 32 = 0) (u : Unit) :
    (outsAt2 V c t.val t.isLt).2.2.2 (ix2 0 0) = 0 + lTerm V c t := by
  rw [outsAt2_A V c t h0]
  frame_out
  refine (pay13_apply (iblk2 V c 0 t) (iblk2 V c 1 t) (iblk2 V c 2 t) (iblk2 V c 3 t) (iblk2 V c 4 t) _).trans ?_
  simp only [err_eq]
  refine congrArg (· + _) ?_
  pointwise [k2_pay2]

theorem l_step (t : Fin cfg2.N) (h0 : ¬t.val % 32 = 0) (u : Unit) :
    (outsAt2 V c t.val t.isLt).2.2.2 (ix2 0 0)
      = (outsAt2 V c (t.val - 1) (Nat.lt_of_le_of_lt (Nat.sub_le _ _) t.isLt)).2.2.2 (ix2 0 0) + lTerm V c t := by
  rw [outsAt2_B V c t h0]
  frame_out
  refine (pay13_apply (iblk2 V c 0 t) (iblk2 V c 1 t) (iblk2 V c 2 t) (iblk2 V c 3 t) (iblk2 V c 4 t) _).trans ?_
  simp only [err_eq]
  rfl

/-- The gradient of the residual stream after the run. -/
theorem arr_5 : (dat2 V c).arrAt 5 cfg2.N = fun i => back (H V c (i 0)) (DN V c (i 0)) (i 1) := by
  refine (dat2 V c).arrAt_eq_of_covers 5 _ (by decide +kernel) fun t hf y => ?_
  have idx : ∀ t : Fin cfg2.N, win2_5.index t = ![t.val, 0] := by decide +kernel
  blk_simp
  rw [after2_5]
  have he : ∃ r : Fin 256, ∃ l : Fin 1024, y = ix2 r l ∧ (win2_5.blk t).view.emb y = ix2 ⟨t.val * 256 + r.val, row_lt t r⟩ l := by
    idx_vars y
    refine ⟨y0, y1, rfl, ?_⟩
    blk_ext [idx t]
  obtain ⟨r, l, rfl, he⟩ := he
  refine (out_5 V c t r l).trans ?_
  exact (congrArg (fun i : S8192x1024.Idx => back (H V c (i 0)) (DN V c (i 0)) (i 1)) he).symm

theorem arr_6 : (dat2 V c).arrAt 6 cfg2.N = fun i => back (H V c (i 0)) (DN V c (i 0)) (i 1) := by
  refine (dat2 V c).arrAt_eq_of_covers 6 _ (by decide +kernel) fun t hf y => ?_
  have idx : ∀ t : Fin cfg2.N, win2_6.index t = ![t.val, 0] := by decide +kernel
  blk_simp
  rw [after2_6]
  have he : ∃ r : Fin 256, ∃ l : Fin 1024, y = ix2 r l ∧ (win2_6.blk t).view.emb y = ix2 ⟨t.val * 256 + r.val, row_lt t r⟩ l := by
    idx_vars y
    refine ⟨y0, y1, rfl, ?_⟩
    blk_ext [idx t]
  obtain ⟨r, l, rfl, he⟩ := he
  refine (out_6 V c t r l).trans ?_
  exact (congrArg (fun i : S8192x1024.Idx => back (H V c (i 0)) (DN V c (i 0)) (i 1)) he).symm

/-- The last grid point. -/
def tLast : Fin cfg2.N := ⟨31, by rw [show cfg2.N = 32 from N_2]; decide⟩

theorem g_last (l : Fin 1024) : (outsAt2 V c tLast.val tLast.isLt).2.2.1 (ix2 0 l)
    = ∑ i : Fin 8192, E V c i l * rlen * nrm (H V c i) l := by
  have := Pipeline.eq_sum_fin_of_reset_step_apply_last (fun n h (l : Fin 1024) => (outsAt2 V c n h).2.2.1 (ix2 0 l)) 32 (fun _ => (0 : EReal)) (gTerm V c)
    (g_first V c) (g_step V c) (by show grid2.N ≤ 32; rw [N_2]) tLast (by show 31 + 1 = grid2.N; rw [N_2]) l
  refine (this.trans (zero_add _)).trans ?_
  exact Fin.sum_mul_add_congr (n := 256) (fun t r hl => rfl) (by rw [show cfg2.N = 32 from N_2])

theorem l_last : (outsAt2 V c tLast.val tLast.isLt).2.2.2 (ix2 0 0)
    = half * ∑ i : Fin 8192, Ideal.div (∑ l, E V c i l * E V c i l) len := by
  have := Pipeline.eq_sum_fin_of_reset_step_apply_last (fun n h (_ : Unit) => (outsAt2 V c n h).2.2.2 (ix2 0 0)) 32 (fun _ => (0 : EReal)) (fun t _ => lTerm V c t)
    (l_first V c) (l_step V c) (by show grid2.N ≤ 32; rw [N_2]) tLast (by show 31 + 1 = grid2.N; rw [N_2]) ()
  refine (this.trans (zero_add _)).trans ?_
  unfold lTerm
  rw [half_eq, ← coe_mul_sum (by norm_num)]
  refine congrArg _ ?_
  exact Fin.sum_mul_add_congr (n := 256) (fun t r hl => rfl) (by rw [show cfg2.N = 32 from N_2])

/-- The gradient of the gain after the run, in row 0. -/
theorem arr_7 (l : Fin 1024) : (dat2 V c).arrAt 7 cfg2.N (ix2 0 l) = ∑ i : Fin 8192, E V c i l * rlen * nrm (H V c i) l := by
  refine (congrFun ((dat2 V c).arrAt_eq_of_after_last 7 tLast (by decide +kernel) (outsAt2 V c tLast.val tLast.isLt).2.2.1 fun j => ?_) _).trans (g_last V c l)
  blk_simp
  rw [after2_7]

/-- The loss after the run, at the first place. -/
theorem arr_8 : (dat2 V c).arrAt 8 cfg2.N (ix2 0 0) = half * ∑ i : Fin 8192, Ideal.div (∑ l, E V c i l * E V c i l) len := by
  refine (congrFun ((dat2 V c).arrAt_eq_of_after_last 8 tLast (by decide +kernel) (outsAt2 V c tLast.val tLast.isLt).2.2.2 fun j => ?_) _).trans (l_last V c)
  blk_simp
  rw [after2_8]

end Cert.Step.Region2
-- ==== Proof.Mlp.Region3.lean ====
/-
  The gradient of the first product of the feed-forward block: what its call leaves in its array.
-/
module

public import proofs.«01_k».proof.Proof.Gen.MlpIdeal.Frame.Region3
public import proofs.«01_k».proof.Proof.Math.Norm
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Step.Region3
open Cert.MlpIdeal Cert.MlpIdeal.Gen Cert.Math Idealize.ShloMosaic Idealize.ShloMosaic.TcCoe

theorem pay1_apply (v0 : Vec Ideal S2048x1024 .bf16) (v2 : Vec Ideal S1x1024x1024 .bf16) (v5 : Vec Ideal S2048x1024 .bf16) (r : Fin 2048) (l : Fin 1024) :
    k3_pay1 v0 v2 v5 (ix2 r l) = (∑ k : Fin 1024, v0 (ix2 r k) * v2 (ix3 0 l k)) * (two * v5 (ix2 r l)) := by
  unfold two
  pointwise [k3_pay1]

variable (V : (c : Dev nD) → (b : Ref sig .tc) → Buf (Elt Ideal) ((c : Thread nD τ).loc b)) (c : Dev nD)

theorem row_lt (t : Fin cfg3.N) (r : Fin 2048) : t.val / 4 * 2048 + r.val < 8192 := by
  have : t.val < 16 := lt_of_lt_of_eq t.isLt N_3
  omega
theorem col_lt (t : Fin cfg3.N) (l : Fin 1024) : t.val % 4 * 1024 + l.val < 4096 := by omega

/-- The gradient of the residual stream. -/
def X (i : Fin 8192) (k : Fin 1024) : EReal := V c main_v6_1 (ix2 i k)
/-- The weights of the second product. -/
def W (j : Fin 4096) (k : Fin 1024) : EReal := V c main_v7 (ix3 0 j k)
/-- The rectified product. -/
def U (i : Fin 8192) (j : Fin 4096) : EReal := V c main_v4 (ix2 i j)
/-- The gradient of the first product. -/
def D (i : Fin 8192) (j : Fin 4096) : EReal := (∑ k : Fin 1024, X V c i k * W V c j k) * (two * U V c i j)

theorem blk_0 (t : Fin cfg3.N) (r : Fin 2048) (l : Fin 1024) :
    iblk3 V c 0 t (ix2 r l) = X V c ⟨t.val / 4 * 2048 + r.val, row_lt t r⟩ l := by
  unfold X
  have idx : ∀ t : Fin cfg3.N, win3_0.index t = ![t.val / 4, 0] := by decide +kernel
  blk_ext [iblk3, idx t]

theorem blk_1 (t : Fin cfg3.N) (k l : Fin 1024) :
    iblk3 V c 1 t (ix3 0 k l) = W V c ⟨t.val % 4 * 1024 + k.val, col_lt t k⟩ l := by
  unfold W
  have idx : ∀ t : Fin cfg3.N, win3_1.index t = ![0, t.val % 4, 0] := by decide +kernel
  blk_ext [iblk3, idx t]

theorem blk_2 (t : Fin cfg3.N) (r : Fin 2048) (l : Fin 1024) :
    iblk3 V c 2 t (ix2 r l) = U V c ⟨t.val / 4 * 2048 + r.val, row_lt t r⟩ ⟨t.val % 4 * 1024 + l.val, col_lt t l⟩ := by
  unfold U
  have idx : ∀ t : Fin cfg3.N, win3_2.index t = ![t.val / 4, t.val % 4] := by decide +kernel
  blk_ext [iblk3, idx t]

theorem out_3 (t : Fin cfg3.N) (r : Fin 2048) (l : Fin 1024) :
    out3_3 (iblk3 V c 0 t) (iblk3 V c 1 t) (iblk3 V c 2 t) (ix2 r l)
      = D V c ⟨t.val / 4 * 2048 + r.val, row_lt t r⟩ ⟨t.val % 4 * 1024 + l.val, col_lt t l⟩ := by
  frame_out
  refine (pay1_apply (iblk3 V c 0 t) (iblk3 V c 1 t) (iblk3 V c 2 t) r l).trans ?_
  simp only [blk_0, blk_1, blk_2]
  rfl

/-- The gradient of the first product after the run. -/
theorem arr_3 : (dat3 V c).arrAt 3 cfg3.N = fun i => D V c (i 0) (i 1) := by
  refine (dat3 V c).arrAt_eq_of_covers 3 _ (by decide +kernel) fun t hf y => ?_
  have idx : ∀ t : Fin cfg3.N, win3_3.index t = ![t.val / 4, t.val % 4] := by decide +kernel
  blk_simp
  rw [after3_3]
  have he : ∃ r : Fin 2048, ∃ l : Fin 1024, y = ix2 r l ∧
      (win3_3.blk t).view.emb y = ix2 ⟨t.val / 4 * 2048 + r.val, row_lt t r⟩ ⟨t.val % 4 * 1024 + l.val, col_lt t l⟩ := by
    idx_vars y
    refine ⟨y0, y1, rfl, ?_⟩
    blk_ext [idx t]
  obtain ⟨r, l, rfl, he⟩ := he
  refine (out_3 V c t r l).trans ?_
  exact (congrArg (fun i : S8192x4096.Idx => D V c (i 0) (i 1)) he).symm

end Cert.Step.Region3
-- ==== Proof.Mlp.Region4.lean ====
/-
  The gradient through the first product of the feed-forward block and its normalisation.
-/
module

public import proofs.«01_k».proof.Proof.Gen.MlpIdeal.Frame.Region4
public import proofs.«01_k».proof.Proof.Math.Norm
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Step.Region4
open Cert.MlpIdeal Cert.MlpIdeal.Gen Cert.Math Idealize.ShloMosaic Idealize.ShloMosaic.TcCoe

section Payloads

variable (v23 v25 v49 : Vec Ideal S256x1024 .f32) (v36 : Vec Ideal S1x1024 .f32)

/-- A row of a block. -/
def row (x : Vec Ideal S256x1024 .f32) (r : Fin 256) (l : Fin 1024) : EReal := x (ix2 r l)
/-- A row of the gradient at the normalised rows. -/
def dn (r : Fin 256) (l : Fin 1024) : EReal := v23 (ix2 r l) * v36 (ix2 0 l)

theorem pay7_apply (v3 : Vec Ideal S256x4096 .bf16) (v6 v10 v15 v20 : Vec Ideal S1x1024x1024 .bf16) (r : Fin 256) (l : Fin 1024) :
    k4_pay7 v3 v6 v10 v15 v20 (ix2 r l)
      = (((∑ k : Fin 1024, v3 (ix2 r ⟨k.val, by omega⟩) * v6 (ix3 0 l k)) + ∑ k : Fin 1024, v3 (ix2 r ⟨1024 + k.val, by omega⟩) * v10 (ix3 0 l k))
          + ∑ k : Fin 1024, v3 (ix2 r ⟨2048 + k.val, by omega⟩) * v15 (ix3 0 l k)) + ∑ k : Fin 1024, v3 (ix2 r ⟨3072 + k.val, by omega⟩) * v20 (ix3 0 l k) := by
  pointwise [k4_pay7]

theorem pay8_apply (r : Fin 256) (l : Fin 1024) : k4_pay8 v25 (ix2 r l) = v25 (ix2 r l) := by
  pointwise [k4_pay8]

theorem pay9_apply (r : Fin 256) : k4_pay1 (k4_pay9 v25) (ix2 r 0) = rs (row v25 r) := by
  unfold rs var row
  simp only [← pay8_apply v25]
  unfold k4_pay1 k4_pay9 len eps
  generalize k4_pay8 v25 = h
  pointwise

theorem pay2_apply (r : Fin 256) (l : Fin 1024) : k4_pay2 (k4_pay8 v25) (k4_pay9 v25) (ix2 r l) = nrm (row v25 r) l := by
  unfold nrm
  rw [← pay9_apply, row, ← pay8_apply v25]
  unfold k4_pay2
  generalize k4_pay1 (k4_pay9 v25) = h'
  generalize k4_pay8 v25 = h
  pointwise

theorem pay3_apply (r : Fin 256) (l : Fin 1024) :
    k4_pay3 v23 (k4_pay8 v25) (k4_pay9 v25) v36 v49 (ix2 r l) = back (row v25 r) (dn v23 v36 r) l + v49 (ix2 r l) := by
  unfold back dn
  simp only [← pay2_apply, ← pay9_apply]
  unfold k4_pay3 len
  generalize k4_pay2 (k4_pay8 v25) (k4_pay9 v25) = h2
  generalize k4_pay1 (k4_pay9 v25) = h1
  pointwise

theorem pay4_apply (r : Fin 256) (l : Fin 1024) :
    k4_pay4 v23 (k4_pay8 v25) (k4_pay9 v25) v36 v49 (ix2 r l) = back (row v25 r) (dn v23 v36 r) l + v49 (ix2 r l) := by
  rw [← pay3_apply]
  unfold k4_pay4
  generalize k4_pay3 v23 (k4_pay8 v25) (k4_pay9 v25) v36 v49 = h
  pointwise

theorem pay5_apply (v55 : Vec Ideal S1x1024 .f32) (l : Fin 1024) :
    k4_pay5 v23 (k4_pay8 v25) (k4_pay9 v25) v55 (ix2 0 l) = v55 (ix2 0 l) + ∑ r : Fin 256, v23 (ix2 r l) * nrm (row v25 r) l := by
  simp only [← pay2_apply]
  unfold k4_pay5
  generalize k4_pay2 (k4_pay8 v25) (k4_pay9 v25) = h2
  pointwise

end Payloads

variable (V : (c : Dev nD) → (b : Ref sig .tc) → Buf (Elt Ideal) ((c : Thread nD τ).loc b)) (c : Dev nD)

theorem row_lt (t : Fin cfg4.N) (r : Fin 256) : t.val * 256 + r.val < 8192 := by
  have : t.val < 32 := lt_of_lt_of_eq t.isLt N_4
  omega

/-- The gradient at the first product. -/
def X (i : Fin 8192) (k : Fin 4096) : EReal := V c main_v8 (ix2 i k)
/-- The weights of the first product, of the part its column lies in. -/
def W (j : Fin 1024) (k : Fin 4096) : EReal := V c main_v1 (ix3 ⟨k.val / 1024, by omega⟩ j ⟨k.val % 1024, by omega⟩)
/-- The residual stream before the block. -/
def A (i : Fin 8192) (j : Fin 1024) : EReal := V c main_v3_0 (ix2 i j)
/-- The gradient of the residual stream after the block. -/
def B (i : Fin 8192) (j : Fin 1024) : EReal := V c main_v6_0 (ix2 i j)
/-- The gain of the normalisation. -/
def G (j : Fin 1024) : EReal := V c main_arg3 (ix2 0 j)
/-- The gradient at the rows that enter the first product. -/
def D (i : Fin 8192) (j : Fin 1024) : EReal := ∑ k : Fin 4096, X V c i k * W V c j k
/-- The gradient at the normalised rows. -/
def DN (i : Fin 8192) (j : Fin 1024) : EReal := D V c i j * G V c j

theorem blk_0 (t : Fin cfg4.N) (r : Fin 256) (l : Fin 4096) : iblk4 V c 0 t (ix2 r l) = X V c ⟨t.val * 256 + r.val, row_lt t r⟩ l := by
  unfold X
  have idx : ∀ t : Fin cfg4.N, win4_0.index t = ![t.val, 0] := by decide +kernel
  blk_ext [iblk4, idx t]

theorem blk_1 (t : Fin cfg4.N) (p : Fin 4) (j l : Fin 1024) : iblk4 V c 1 t (ix3 p j l) = V c main_v1 (ix3 p j l) := by
  have idx : ∀ t : Fin cfg4.N, win4_1.index t = ![0, 0, 0] := by decide +kernel
  blk_ext [iblk4, idx t]

theorem blk_2 (t : Fin cfg4.N) (r : Fin 256) (l : Fin 1024) : iblk4 V c 2 t (ix2 r l) = A V c ⟨t.val * 256 + r.val, row_lt t r⟩ l := by
  unfold A
  have idx : ∀ t : Fin cfg4.N, win4_2.index t = ![t.val, 0] := by decide +kernel
  blk_ext [iblk4, idx t]

theorem blk_3 (t : Fin cfg4.N) (r : Fin 256) (l : Fin 1024) : iblk4 V c 3 t (ix2 r l) = B V c ⟨t.val * 256 + r.val, row_lt t r⟩ l := by
  unfold B
  have idx : ∀ t : Fin cfg4.N, win4_3.index t = ![t.val, 0] := by decide +kernel
  blk_ext [iblk4, idx t]

theorem blk_4 (t : Fin cfg4.N) (l : Fin 1024) : iblk4 V c 4 t (ix2 0 l) = G V c l := by
  unfold G
  have idx : ∀ t : Fin cfg4.N, win4_4.index t = ![0, 0] := by decide +kernel
  blk_ext [iblk4, idx t]

/-- The sum of the four partial products of a block. -/
def prod (t : Fin cfg4.N) : Vec Ideal S256x1024 .f32 :=
  k4_pay7 (F := Ideal) (iblk4 V c 0 t)
    (View.ld (iblk4 V c 1 t) (Rect.unit (s := S4x1024x1024) ![0, 0, 0] ![1, 1024, 1024] inb_S4x1024x1024_S1x1024x1024_0_0_0))
    (View.ld (iblk4 V c 1 t) (Rect.unit (s := S4x1024x1024) ![1, 0, 0] ![1, 1024, 1024] inb_S4x1024x1024_S1x1024x1024_1_0_0))
    (View.ld (iblk4 V c 1 t) (Rect.unit (s := S4x1024x1024) ![2, 0, 0] ![1, 1024, 1024] inb_S4x1024x1024_S1x1024x1024_2_0_0))
    (View.ld (iblk4 V c 1 t) (Rect.unit (s := S4x1024x1024) ![3, 0, 0] ![1, 1024, 1024] inb_S4x1024x1024_S1x1024x1024_3_0_0))

theorem ld_0 (x : Vec Ideal S4x1024x1024 .bf16) (j k : Fin 1024) :
    View.ld x (Rect.unit (s := S4x1024x1024) ![0, 0, 0] ![1, 1024, 1024] inb_S4x1024x1024_S1x1024x1024_0_0_0) (ix3 0 j k) = x (ix3 0 j k) :=
  congrArg x (show (Rect.unit (s := S4x1024x1024) ![0, 0, 0] ![1, 1024, 1024] inb_S4x1024x1024_S1x1024x1024_0_0_0).emb (ix3 0 j k) = ix3 0 j k by blk_ext [])
theorem ld_1 (x : Vec Ideal S4x1024x1024 .bf16) (j k : Fin 1024) :
    View.ld x (Rect.unit (s := S4x1024x1024) ![1, 0, 0] ![1, 1024, 1024] inb_S4x1024x1024_S1x1024x1024_1_0_0) (ix3 0 j k) = x (ix3 1 j k) :=
  congrArg x (show (Rect.unit (s := S4x1024x1024) ![1, 0, 0] ![1, 1024, 1024] inb_S4x1024x1024_S1x1024x1024_1_0_0).emb (ix3 0 j k) = ix3 1 j k by blk_ext [])
theorem ld_2 (x : Vec Ideal S4x1024x1024 .bf16) (j k : Fin 1024) :
    View.ld x (Rect.unit (s := S4x1024x1024) ![2, 0, 0] ![1, 1024, 1024] inb_S4x1024x1024_S1x1024x1024_2_0_0) (ix3 0 j k) = x (ix3 2 j k) :=
  congrArg x (show (Rect.unit (s := S4x1024x1024) ![2, 0, 0] ![1, 1024, 1024] inb_S4x1024x1024_S1x1024x1024_2_0_0).emb (ix3 0 j k) = ix3 2 j k by blk_ext [])
theorem ld_3 (x : Vec Ideal S4x1024x1024 .bf16) (j k : Fin 1024) :
    View.ld x (Rect.unit (s := S4x1024x1024) ![3, 0, 0] ![1, 1024, 1024] inb_S4x1024x1024_S1x1024x1024_3_0_0) (ix3 0 j k) = x (ix3 3 j k) :=
  congrArg x (show (Rect.unit (s := S4x1024x1024) ![3, 0, 0] ![1, 1024, 1024] inb_S4x1024x1024_S1x1024x1024_3_0_0).emb (ix3 0 j k) = ix3 3 j k by blk_ext [])

theorem sum_parts (f : Fin 4096 → EReal) :
    (((∑ k : Fin 1024, f ⟨k.val, by omega⟩) + ∑ k : Fin 1024, f ⟨1024 + k.val, by omega⟩)
      + ∑ k : Fin 1024, f ⟨2048 + k.val, by omega⟩) + ∑ k : Fin 1024, f ⟨3072 + k.val, by omega⟩ = ∑ k, f k := by
  have h : ∑ p : Fin 4, ∑ k : Fin 1024, f ⟨p.val * 1024 + k.val, by omega⟩ = ∑ k, f k :=
    Fin.sum_mul_add_congr (n := 1024) (fun t r hl => rfl) (by rfl)
  rw [← h, Fin.sum_univ_four]
  simp only [Fin.val_zero, Fin.val_one, Fin.val_two, show (3 : Fin 4).val = 3 from rfl, Nat.zero_mul, Nat.zero_add, Nat.one_mul, Nat.reduceMul]

theorem ix3_eq (p p' : Fin 4) (j k k' : Fin 1024) (hp : p.val = p'.val) (hk : k.val = k'.val) :
    (ix3 p j k : S4x1024x1024.Idx) = ix3 p' j k' := by
  rw [Fin.ext hp, Fin.ext hk]

theorem prod_apply (t : Fin cfg4.N) (r : Fin 256) (l : Fin 1024) : prod V c t (ix2 r l) = D V c ⟨t.val * 256 + r.val, row_lt t r⟩ l := by
  unfold prod D
  rw [pay7_apply, ← sum_parts]
  simp only [blk_0]
  unfold W
  congr 1
  · congr 1
    · congr 1
      · refine Finset.sum_congr rfl fun k _ => congrArg (_ * ·) ?_
        refine (ld_0 (iblk4 V c 1 t) l k).trans ((blk_1 V c t 0 l k).trans (congrArg (V c main_v1) (ix3_eq _ _ l _ _ ?_ ?_)))
        · show 0 = k.val / 1024; omega
        · show k.val = k.val % 1024; omega
      · refine Finset.sum_congr rfl fun k _ => congrArg (_ * ·) ?_
        refine (ld_1 (iblk4 V c 1 t) l k).trans ((blk_1 V c t 1 l k).trans (congrArg (V c main_v1) (ix3_eq _ _ l _ _ ?_ ?_)))
        · show 1 = (1024 + k.val) / 1024; omega
        · show k.val = (1024 + k.val) % 1024; omega
    · refine Finset.sum_congr rfl fun k _ => congrArg (_ * ·) ?_
      refine (ld_2 (iblk4 V c 1 t) l k).trans ((blk_1 V c t 2 l k).trans (congrArg (V c main_v1) (ix3_eq _ _ l _ _ ?_ ?_)))
      · show 2 = (2048 + k.val) / 1024; omega
      · show k.val = (2048 + k.val) % 1024; omega
  · refine Finset.sum_congr rfl fun k _ => congrArg (_ * ·) ?_
    refine (ld_3 (iblk4 V c 1 t) l k).trans ((blk_1 V c t 3 l k).trans (congrArg (V c main_v1) (ix3_eq _ _ l _ _ ?_ ?_)))
    · show 3 = (3072 + k.val) / 1024; omega
    · show k.val = (3072 + k.val) % 1024; omega

theorem row_eq (t : Fin cfg4.N) (r : Fin 256) : row (iblk4 V c 2 t) r = A V c ⟨t.val * 256 + r.val, row_lt t r⟩ := by
  funext l
  rw [row, blk_2]

theorem dn_eq (t : Fin cfg4.N) (r : Fin 256) : dn (prod V c t) (iblk4 V c 4 t) r = DN V c ⟨t.val * 256 + r.val, row_lt t r⟩ := by
  funext l
  rw [dn, prod_apply, blk_4, DN]

theorem out_5 (t : Fin cfg4.N) (r : Fin 256) (l : Fin 1024) :
    (outsAt4 V c t.val t.isLt).1 (ix2 r l)
      = back (A V c ⟨t.val * 256 + r.val, row_lt t r⟩) (DN V c ⟨t.val * 256 + r.val, row_lt t r⟩) l + B V c ⟨t.val * 256 + r.val, row_lt t r⟩ l := by
  rw [← row_eq, ← dn_eq, ← blk_3]
  by_cases h0 : t.val % 32 = 0
  · rw [outsAt4_A V c t h0]
    frame_out
    exact pay3_apply (prod V c t) ..
  · rw [outsAt4_B V c t h0]
    frame_out
    exact pay3_apply (prod V c t) ..

theorem out_6 (t : Fin cfg4.N) (r : Fin 256) (l : Fin 1024) :
    (outsAt4 V c t.val t.isLt).2.1 (ix2 r l)
      = back (A V c ⟨t.val * 256 + r.val, row_lt t r⟩) (DN V c ⟨t.val * 256 + r.val, row_lt t r⟩) l + B V c ⟨t.val * 256 + r.val, row_lt t r⟩ l := by
  rw [← row_eq, ← dn_eq, ← blk_3]
  by_cases h0 : t.val % 32 = 0
  · rw [outsAt4_A V c t h0]
    frame_out
    exact pay4_apply (prod V c t) ..
  · rw [outsAt4_B V c t h0]
    frame_out
    exact pay4_apply (prod V c t) ..

/-- Row 0 of the eight rows that the gain's gradient is summed in. -/
theorem row0 (l : Fin 1024) : (ix2 0 l : S8x1024.Idx) = (Rect.unit (s := S8x1024) ![0, 0] ![1, 1024] inb_S8x1024_S1x1024_0_0).emb (ix2 0 l) := by
  blk_ext []

theorem ld_row0 (x : Vec Ideal S8x1024 .f32) (l : Fin 1024) :
    View.ld x (Rect.unit (s := S8x1024) ![0, 0] ![1, 1024] inb_S8x1024_S1x1024_0_0) (ix2 0 l) = x (ix2 0 l) :=
  congrArg x (row0 l).symm

/-- The share of a grid point's rows in the gradient of the gain. -/
def gTerm (t : Fin cfg4.N) (l : Fin 1024) : EReal :=
  ∑ r : Fin 256, D V c ⟨t.val * 256 + r.val, row_lt t r⟩ l * nrm (A V c ⟨t.val * 256 + r.val, row_lt t r⟩) l

theorem g_first (t : Fin cfg4.N) (h0 : t.val % 32 = 0) (l : Fin 1024) :
    (outsAt4 V c t.val t.isLt).2.2 (ix2 0 l) = 0 + gTerm V c t l := by
  rw [outsAt4_A V c t h0]
  frame_open
  simp (disch := decide) only [↓ View.readCov_skip, ↓ View.readCov_cons_toLoadRect, ↓ View.readCov_fill]
  frame_out
  rw [row0]
  refine (View.canon_cons_emb _ _ _ _).trans ?_
  refine (pay5_apply (prod V c t) (iblk4 V c 2 t) _ l).trans ?_
  simp only [prod_apply, row_eq]
  refine congrArg (· + _) ((ld_row0 _ l).trans ?_)
  pointwise [k4_pay6]

theorem g_step (t : Fin cfg4.N) (h0 : ¬t.val % 32 = 0) (l : Fin 1024) :
    (outsAt4 V c t.val t.isLt).2.2 (ix2 0 l)
      = (outsAt4 V c (t.val - 1) (Nat.lt_of_le_of_lt (Nat.sub_le _ _) t.isLt)).2.2 (ix2 0 l) + gTerm V c t l := by
  rw [outsAt4_B V c t h0]
  frame_out
  conv_lhs => rw [row0]
  refine (View.read_writes_cons_emb _ _ _ _ _ _).trans ?_
  refine (pay5_apply (prod V c t) (iblk4 V c 2 t) _ l).trans ?_
  simp only [prod_apply, row_eq]
  exact congrArg (· + _) (ld_row0 _ l)

/-- The gradient of the residual stream before the block, after the run. -/
theorem arr_5 : (dat4 V c).arrAt 5 cfg4.N = fun i => back (A V c (i 0)) (DN V c (i 0)) (i 1) + B V c (i 0) (i 1) := by
  refine (dat4 V c).arrAt_eq_of_covers 5 _ (by decide +kernel) fun t hf y => ?_
  have idx : ∀ t : Fin cfg4.N, win4_5.index t = ![t.val, 0] := by decide +kernel
  blk_simp
  rw [after4_5]
  have he : ∃ r : Fin 256, ∃ l : Fin 1024, y = ix2 r l ∧ (win4_5.blk t).view.emb y = ix2 ⟨t.val * 256 + r.val, row_lt t r⟩ l := by
    idx_vars y
    refine ⟨y0, y1, rfl, ?_⟩
    blk_ext [idx t]
  obtain ⟨r, l, rfl, he⟩ := he
  refine (out_5 V c t r l).trans ?_
  exact (congrArg (fun i : S8192x1024.Idx => back (A V c (i 0)) (DN V c (i 0)) (i 1) + B V c (i 0) (i 1)) he).symm

theorem arr_6 : (dat4 V c).arrAt 6 cfg4.N = fun i => back (A V c (i 0)) (DN V c (i 0)) (i 1) + B V c (i 0) (i 1) := by
  refine (dat4 V c).arrAt_eq_of_covers 6 _ (by decide +kernel) fun t hf y => ?_
  have idx : ∀ t : Fin cfg4.N, win4_6.index t = ![t.val, 0] := by decide +kernel
  blk_simp
  rw [after4_6]
  have he : ∃ r : Fin 256, ∃ l : Fin 1024, y = ix2 r l ∧ (win4_6.blk t).view.emb y = ix2 ⟨t.val * 256 + r.val, row_lt t r⟩ l := by
    idx_vars y
    refine ⟨y0, y1, rfl, ?_⟩
    blk_ext [idx t]
  obtain ⟨r, l, rfl, he⟩ := he
  refine (out_6 V c t r l).trans ?_
  exact (congrArg (fun i : S8192x1024.Idx => back (A V c (i 0)) (DN V c (i 0)) (i 1) + B V c (i 0) (i 1)) he).symm

/-- The last grid point. -/
def tLast : Fin cfg4.N := ⟨31, by rw [show cfg4.N = 32 from N_4]; decide⟩

theorem g_last (l : Fin 1024) : (outsAt4 V c tLast.val tLast.isLt).2.2 (ix2 0 l)
    = ∑ i : Fin 8192, D V c i l * nrm (A V c i) l := by
  have := Pipeline.eq_sum_fin_of_reset_step_apply_last (fun n h (l : Fin 1024) => (outsAt4 V c n h).2.2 (ix2 0 l)) 32 (fun _ => (0 : EReal)) (gTerm V c)
    (g_first V c) (g_step V c) (by show grid4.N ≤ 32; rw [N_4]) tLast (by show 31 + 1 = grid4.N; rw [N_4]) l
  refine (this.trans (zero_add _)).trans ?_
  exact Fin.sum_mul_add_congr (n := 256) (fun t r hl => rfl) (by rw [show cfg4.N = 32 from N_4])

/-- The gradient of the gain after the run, in row 0. -/
theorem arr_7 (l : Fin 1024) : (dat4 V c).arrAt 7 cfg4.N (ix2 0 l) = ∑ i : Fin 8192, D V c i l * nrm (A V c i) l := by
  refine (congrFun ((dat4 V c).arrAt_eq_of_after_last 7 tLast (by decide +kernel) (outsAt4 V c tLast.val tLast.isLt).2.2 fun j => ?_) _).trans (g_last V c l)
  blk_simp
  rw [after4_7]

end Cert.Step.Region4
-- ==== Proof.Mlp.Region5.lean ====
/-
  The gradient of the attention's output: what its call leaves in its array.
-/
module

public import proofs.«01_k».proof.Proof.Gen.MlpIdeal.Frame.Region5
public import proofs.«01_k».proof.Proof.Math.Norm
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Step.Region5
open Cert.MlpIdeal Cert.MlpIdeal.Gen Cert.Math Idealize.ShloMosaic Idealize.ShloMosaic.TcCoe

theorem pay1_apply (v0 : Vec Ideal S1024x1024 .bf16) (v2 : Vec Ideal S1x1024x1024 .bf16) (r l : Fin 1024) :
    k5_pay1 v0 v2 (ix2 r l) = ∑ k : Fin 1024, v0 (ix2 r k) * v2 (ix3 0 l k) := by
  pointwise [k5_pay1]

variable (V : (c : Dev nD) → (b : Ref sig .tc) → Buf (Elt Ideal) ((c : Thread nD τ).loc b)) (c : Dev nD)

theorem row_lt (t : Fin cfg5.N) (r : Fin 1024) : t.val * 1024 + r.val < 8192 := by
  have : t.val < 8 := lt_of_lt_of_eq t.isLt N_5
  omega

/-- The gradient of the residual stream. -/
def X (i : Fin 8192) (k : Fin 1024) : EReal := V c main_v9_1 (ix2 i k)
/-- The weights of the attention's output product. -/
def W (j k : Fin 1024) : EReal := V c main_v10 (ix3 0 j k)
/-- The gradient of the attention's output. -/
def D (i : Fin 8192) (j : Fin 1024) : EReal := ∑ k : Fin 1024, X V c i k * W V c j k

theorem blk_0 (t : Fin cfg5.N) (r l : Fin 1024) : iblk5 V c 0 t (ix2 r l) = X V c ⟨t.val * 1024 + r.val, row_lt t r⟩ l := by
  unfold X
  have idx : ∀ t : Fin cfg5.N, win5_0.index t = ![t.val, 0] := by decide +kernel
  blk_ext [iblk5, idx t]

theorem blk_1 (t : Fin cfg5.N) (k l : Fin 1024) : iblk5 V c 1 t (ix3 0 k l) = W V c k l := by
  unfold W
  have idx : ∀ t : Fin cfg5.N, win5_1.index t = ![0, 0, 0] := by decide +kernel
  blk_ext [iblk5, idx t]

theorem out_2 (t : Fin cfg5.N) (r l : Fin 1024) :
    out5_2 (iblk5 V c 0 t) (iblk5 V c 1 t) (ix2 r l) = D V c ⟨t.val * 1024 + r.val, row_lt t r⟩ l := by
  frame_out
  refine (pay1_apply (iblk5 V c 0 t) (iblk5 V c 1 t) r l).trans ?_
  simp only [blk_0, blk_1]
  rfl

/-- The gradient of the attention's output after the run. -/
theorem arr_2 : (dat5 V c).arrAt 2 cfg5.N = fun i => D V c (i 0) (i 1) := by
  refine (dat5 V c).arrAt_eq_of_covers 2 _ (by decide +kernel) fun t hf y => ?_
  have idx : ∀ t : Fin cfg5.N, win5_2.index t = ![t.val, 0] := by decide +kernel
  blk_simp
  rw [after5_2]
  have he : ∃ r l : Fin 1024, y = ix2 r l ∧ (win5_2.blk t).view.emb y = ix2 ⟨t.val * 1024 + r.val, row_lt t r⟩ l := by
    idx_vars y
    refine ⟨y0, y1, rfl, ?_⟩
    blk_ext [idx t]
  obtain ⟨r, l, rfl, he⟩ := he
  refine (out_2 V c t r l).trans ?_
  exact (congrArg (fun i : S8192x1024.Idx => D V c (i 0) (i 1)) he).symm

end Cert.Step.Region5
-- ==== Proof.Mlp.Run.lean ====
/-
  The whole run of the feed-forward program: every array ends at the contents the last step leaves.
-/
module

public import proofs.«01_k».proof.Proof.Gen.MlpIdeal.Frame
public import Idealize.ShloMosaic.Lib.Pointwise

@[expose] public section

set_option maxRecDepth 16384

noncomputable section

namespace Cert.Step.Run
open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- The run ends with every array outside the scoped ones at its contents after the last step. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

end Cert.Step.Run
-- ==== Proof.Mlp.Kernel.lean ====
/-
  The feed-forward program's arrays, step after step, in terms of the argument arrays.
-/
module

public import proofs.«01_k».proof.Proof.Mlp.Spec
public import proofs.«01_k».proof.Proof.Mlp.Region0
public import proofs.«01_k».proof.Proof.Mlp.Region1
public import proofs.«01_k».proof.Proof.Mlp.Region2
public import proofs.«01_k».proof.Proof.Mlp.Region3
public import proofs.«01_k».proof.Proof.Mlp.Region4
public import proofs.«01_k».proof.Proof.Mlp.Region5
public import proofs.«01_k».proof.Proof.Mlp.Run

@[expose] public section

set_option maxRecDepth 16384

noncomputable section

namespace Cert.Step.Kernel
open Cert.MlpIdeal Cert.MlpIdeal.Gen Cert.Math Idealize.ShloMosaic Idealize.ShloMosaic.TcCoe Idealize.SL.Sem

variable (m : (ℓ : Loc nD τ sig) → Buf (Elt Ideal) ℓ) (ρ : Dev nD → PrngReg) (c : Dev nD)

/-- The argument arrays at launch. -/
def args : Args where
  a i j := m ((c : Thread nD τ).loc main_arg0) (ix2 i j)
  xo i j := m ((c : Thread nD τ).loc main_arg1) (ix2 i j)
  w i j := m ((c : Thread nD τ).loc main_arg2) (ix2 i j)
  g j := m ((c : Thread nD τ).loc main_arg3) (ix2 0 j)
  wu i j := m ((c : Thread nD τ).loc main_arg4) (ix2 i j)
  wd i j := m ((c : Thread nD τ).loc main_arg5) (ix2 i j)
  gf j := m ((c : Thread nD τ).loc main_arg6) (ix2 0 j)
  tg i j := m ((c : Thread nD τ).loc main_arg7) (ix2 i j)

/-! ## The weights as the regions read them -/

theorem v2_apply (k j : Fin 1024) : (V1 m ρ c main_v2 : Vec Ideal S1x1024x1024 .bf16) (ix3 0 k j) = (args m c).w k j := by
  have h : W1 m ρ c (Proc.devRef .tc main_v2) = broadcastInDim S1x1024x1024 ![1, 2] bcast_S1024x1024_S1x1024x1024_1_2 (m ((c : Thread nD τ).loc main_arg2) : Vec Ideal S1024x1024 .bf16) := by
    show StableHlo.after hostOps0 (W0 m ρ c) (Proc.devRef .tc main_v2) = _
    after_results_simp
  refine (congrFun h _).trans ?_
  pointwise
  rfl

theorem v1_apply (p : Fin 4) (k l : Fin 1024) (q : Fin 4096) (hq : p.val * 1024 + l.val = q.val) :
    (V1 m ρ c main_v1 : Vec Ideal S4x1024x1024 .bf16) (ix3 p k l) = (args m c).wu k q := by
  have h : W1 m ρ c (Proc.devRef .tc main_v1) = transpose S4x1024x1024 [1, 0, 2] (shapeCast S1024x4x1024 (m ((c : Thread nD τ).loc main_arg4) : Vec Ideal S1024x4096 .bf16) shapeCasts_S1024x4096_S1024x4x1024) transposes_S1024x4x1024_S4x1024x1024_1_0_2 := by
    show StableHlo.after hostOps0 (W0 m ρ c) (Proc.devRef .tc main_v1) = _
    after_results_simp
    rfl
  rw [show q = (⟨p.val * 1024 + l.val, by omega⟩ : Fin 4096) from Fin.ext hq.symm]
  refine (congrFun h _).trans ?_
  pointwise
  rfl

theorem v5_apply (k : Fin 4096) (j : Fin 1024) : (V4 m ρ c main_v5 : Vec Ideal S1x4096x1024 .bf16) (ix3 0 k j) = (args m c).wd k j := by
  have h : W4 m ρ c (Proc.devRef .tc main_v5) = broadcastInDim S1x4096x1024 ![1, 2] bcast_S4096x1024_S1x4096x1024_1_2 (W3 m ρ c (Proc.devRef .tc main_arg5) : Vec Ideal S4096x1024 .bf16) := by
    show StableHlo.after hostOps2 (W3 m ρ c) (Proc.devRef .tc main_v5) = _
    after_results_simp
  rw [W3_args m ρ c main_arg5 (by decide)] at h
  refine (congrFun h _).trans ?_
  pointwise
  rfl

theorem v7_apply (k : Fin 4096) (j : Fin 1024) : (V6 m ρ c main_v7 : Vec Ideal S1x4096x1024 .bf16) (ix3 0 k j) = (args m c).wd k j := by
  have h : W6 m ρ c (Proc.devRef .tc main_v7) = broadcastInDim S1x4096x1024 ![1, 2] bcast_S4096x1024_S1x4096x1024_1_2 (W5 m ρ c (Proc.devRef .tc main_arg5) : Vec Ideal S4096x1024 .bf16) := by
    show StableHlo.after hostOps3 (W5 m ρ c) (Proc.devRef .tc main_v7) = _
    after_results_simp
  rw [W5_args m ρ c main_arg5 (by decide)] at h
  refine (congrFun h _).trans ?_
  pointwise
  rfl

theorem v10_apply (k j : Fin 1024) : (V9 m ρ c main_v10 : Vec Ideal S1x1024x1024 .bf16) (ix3 0 k j) = (args m c).w k j := by
  have h : W9 m ρ c (Proc.devRef .tc main_v10) = broadcastInDim S1x1024x1024 ![1, 2] bcast_S1024x1024_S1x1024x1024_1_2 (W8 m ρ c (Proc.devRef .tc main_arg2) : Vec Ideal S1024x1024 .bf16) := by
    show StableHlo.after hostOps5 (W8 m ρ c) (Proc.devRef .tc main_v10) = _
    after_results_simp
  rw [W8_args m ρ c main_arg2 (by decide)] at h
  refine (congrFun h _).trans ?_
  pointwise
  rfl

/-- The weights of the first product are still there for the gradient's product. -/
theorem v1_at_7 : W7 m ρ c (Proc.devRef .tc main_v1) = W1 m ρ c (Proc.devRef .tc main_v1) :=
  (W7_of m ρ c main_v1 (by decide)).trans <| (W6_of m ρ c main_v1 (by decide)).trans <| (W5_of m ρ c main_v1 (by decide)).trans <|
    (W4_of m ρ c main_v1 (by decide)).trans <| (W3_of m ρ c main_v1 (by decide)).trans (W2_of m ρ c main_v1 (by decide))

/-! ## The output projection and the first product -/

theorem reg0_H : Region0.H (V1 m ρ) c = (args m c).h2 := by
  funext i j
  unfold Region0.H Args.h2
  exact congrArg₂ (· + ·) (Finset.sum_congr rfl fun k _ => congrArg₂ (· * ·) (congrFun (W1_args m ρ c main_arg1 (by decide)) _) (v2_apply m ρ c k j))
    (congrFun (W1_args m ρ c main_arg0 (by decide)) _)

theorem v3_0_at_2 : W2 m ρ c (Proc.devRef .tc main_v3_0) = fun i => (args m c).h2 (i 0) (i 1) :=
  (W2_arr m ρ c 4).trans ((Region0.arr_4 (V1 m ρ) c).trans (by rw [reg0_H]))

theorem v3_1_at_2 : W2 m ρ c (Proc.devRef .tc main_v3_1) = fun i => nrm ((args m c).h2 (i 0)) (i 1) * (args m c).g (i 1) :=
  (W2_arr m ρ c 5).trans ((Region0.arr_5 (V1 m ρ) c).trans (by
    rw [reg0_H]
    exact funext fun i => congrArg (_ * ·) (congrFun (W1_args m ρ c main_arg3 (by decide)) _)))

theorem reg1_U : Region1.U (V2 m ρ) c = (args m c).u := by
  funext i q
  unfold Region1.U Args.u
  refine congrArg (max · 0) (Finset.sum_congr rfl fun k _ => congrArg₂ (· * ·) (congrFun (v3_1_at_2 m ρ c) _) ?_)
  refine (congrFun (W2_of m ρ c main_v1 (by decide)) _).trans (v1_apply m ρ c _ _ _ q ?_)
  show q.val / 1024 * 1024 + q.val % 1024 = q.val
  omega

theorem v4_at_3 : W3 m ρ c (Proc.devRef .tc main_v4) = fun i => (args m c).u (i 0) (i 1) :=
  (W3_arr m ρ c 2).trans ((Region1.arr_2 (V2 m ρ) c).trans (by rw [reg1_U]))

/-! ## The second product, the loss and the gradient at the stream -/

theorem v3_0_at_4 : W4 m ρ c (Proc.devRef .tc main_v3_0) = fun i => (args m c).h2 (i 0) (i 1) :=
  (W4_of m ρ c main_v3_0 (by decide)).trans ((W3_of m ρ c main_v3_0 (by decide)).trans (v3_0_at_2 m ρ c))

theorem v4_at_4 : W4 m ρ c (Proc.devRef .tc main_v4) = fun i => (args m c).u (i 0) (i 1) :=
  (W4_of m ρ c main_v4 (by decide)).trans (v4_at_3 m ρ c)

theorem reg2_H : Region2.H (V4 m ρ) c = (args m c).h3 := by
  funext i j
  unfold Region2.H Args.h3
  refine congrArg₂ (· + ·) (Finset.sum_congr rfl fun k _ => congrArg₂ (· * ·) ?_ (v5_apply m ρ c k j)) (congrFun (v3_0_at_4 m ρ c) _)
  exact congrArg₂ (· * ·) (congrFun (v4_at_4 m ρ c) _) (congrFun (v4_at_4 m ρ c) _)

theorem reg2_G : Region2.G (V4 m ρ) c = (args m c).gf := funext fun j => congrFun (W4_args m ρ c main_arg6 (by decide)) _

theorem reg2_E : Region2.E (V4 m ρ) c = (args m c).err := by
  funext i j
  unfold Region2.E Args.err
  rw [reg2_H, reg2_G]
  exact congrArg (_ - ·) (congrFun (W4_args m ρ c main_arg7 (by decide)) _)

theorem reg2_DN : Region2.DN (V4 m ρ) c = (args m c).dn3 := by
  funext i j
  unfold Region2.DN Args.dn3
  rw [reg2_E, reg2_G]

theorem v6_0_at_5 : W5 m ρ c (Proc.devRef .tc main_v6_0) = fun i => (args m c).d3 (i 0) (i 1) :=
  (W5_arr m ρ c 5).trans ((Region2.arr_5 (V4 m ρ) c).trans (by rw [reg2_H, reg2_DN]; rfl))

theorem v6_1_at_5 : W5 m ρ c (Proc.devRef .tc main_v6_1) = fun i => (args m c).d3 (i 0) (i 1) :=
  (W5_arr m ρ c 6).trans ((Region2.arr_6 (V4 m ρ) c).trans (by rw [reg2_H, reg2_DN]; rfl))

theorem v6_2_at_5 (l : Fin 1024) : (W5 m ρ c (Proc.devRef .tc main_v6_2) : Vec Ideal S8x1024 .f32) (ix2 0 l) = (args m c).dgf l :=
  (congrFun (W5_arr m ρ c 7) _).trans ((Region2.arr_7 (V4 m ρ) c l).trans (by rw [reg2_E, reg2_H]; rfl))

theorem v6_3_at_5 : (W5 m ρ c (Proc.devRef .tc main_v6_3) : Vec Ideal S8x128 .f32) (ix2 0 0) = (args m c).loss :=
  (congrFun (W5_arr m ρ c 8) _).trans ((Region2.arr_8 (V4 m ρ) c).trans (by rw [reg2_E]; rfl))

/-! ## The gradients through the block -/

theorem reg3_D : Region3.D (V6 m ρ) c = (args m c).da := by
  funext i q
  unfold Region3.D Args.da
  refine congrArg₂ (· * ·) (Finset.sum_congr rfl fun k _ => congrArg₂ (· * ·) ?_ (v7_apply m ρ c q k)) (congrArg (two * ·) ?_)
  · exact congrFun ((W6_of m ρ c main_v6_1 (by decide)).trans (v6_1_at_5 m ρ c)) _
  · exact congrFun ((W6_of m ρ c main_v4 (by decide)).trans ((W5_of m ρ c main_v4 (by decide)).trans (v4_at_4 m ρ c))) _

theorem v8_at_7 : W7 m ρ c (Proc.devRef .tc main_v8) = fun i => (args m c).da (i 0) (i 1) :=
  (W7_arr m ρ c 3).trans ((Region3.arr_3 (V6 m ρ) c).trans (by rw [reg3_D]))

theorem reg4_D : Region4.D (V7 m ρ) c = (args m c).dh := by
  funext i j
  unfold Region4.D Args.dh
  refine Finset.sum_congr rfl fun q _ => congrArg₂ (· * ·) (congrFun (v8_at_7 m ρ c) _) ?_
  refine (congrFun (v1_at_7 m ρ c) _).trans (v1_apply m ρ c _ _ _ q ?_)
  show q.val / 1024 * 1024 + q.val % 1024 = q.val
  omega

theorem reg4_DN : Region4.DN (V7 m ρ) c = (args m c).dn2 := by
  funext i j
  unfold Region4.DN Args.dn2
  rw [reg4_D]
  exact congrArg (_ * ·) (congrFun (W7_args m ρ c main_arg3 (by decide)) _)

theorem reg4_A : Region4.A (V7 m ρ) c = (args m c).h2 :=
  funext fun i => funext fun j => congrFun ((W7_of m ρ c main_v3_0 (by decide)).trans <| (W6_of m ρ c main_v3_0 (by decide)).trans <|
    (W5_of m ρ c main_v3_0 (by decide)).trans (v3_0_at_4 m ρ c)) _

theorem reg4_B : Region4.B (V7 m ρ) c = (args m c).d3 :=
  funext fun i => funext fun j => congrFun ((W7_of m ρ c main_v6_0 (by decide)).trans <| (W6_of m ρ c main_v6_0 (by decide)).trans
    (v6_0_at_5 m ρ c)) _

theorem v9_0_at_8 : W8 m ρ c (Proc.devRef .tc main_v9_0) = fun i => (args m c).d2 (i 0) (i 1) :=
  (W8_arr m ρ c 5).trans ((Region4.arr_5 (V7 m ρ) c).trans (by rw [reg4_A, reg4_DN, reg4_B]; rfl))

theorem v9_1_at_8 : W8 m ρ c (Proc.devRef .tc main_v9_1) = fun i => (args m c).d2 (i 0) (i 1) :=
  (W8_arr m ρ c 6).trans ((Region4.arr_6 (V7 m ρ) c).trans (by rw [reg4_A, reg4_DN, reg4_B]; rfl))

theorem v9_2_at_8 (l : Fin 1024) : (W8 m ρ c (Proc.devRef .tc main_v9_2) : Vec Ideal S8x1024 .f32) (ix2 0 l) = (args m c).dg l :=
  (congrFun (W8_arr m ρ c 7) _).trans ((Region4.arr_7 (V7 m ρ) c l).trans (by rw [reg4_D, reg4_A]; rfl))

theorem reg5_D : Region5.D (V9 m ρ) c = (args m c).dx := by
  funext i k
  unfold Region5.D Args.dx
  refine Finset.sum_congr rfl fun j _ => congrArg₂ (· * ·) ?_ (v10_apply m ρ c k j)
  exact congrFun ((W9_of m ρ c main_v9_1 (by decide)).trans (v9_1_at_8 m ρ c)) _

/-! ## The results -/

theorem dx_out : W11 m ρ c (Proc.devRef .tc main_v11) = fun i => (args m c).dx (i 0) (i 1) :=
  (W11_of m ρ c main_v11 (by decide)).trans ((W10_arr m ρ c 2).trans ((Region5.arr_2 (V9 m ρ) c).trans (by rw [reg5_D])))

theorem d2_out : W11 m ρ c (Proc.devRef .tc main_v9_0) = fun i => (args m c).d2 (i 0) (i 1) :=
  (W11_of m ρ c main_v9_0 (by decide)).trans <| (W10_of m ρ c main_v9_0 (by decide)).trans <| (W9_of m ρ c main_v9_0 (by decide)).trans (v9_0_at_8 m ρ c)

theorem dg_out : W11 m ρ c (Proc.devRef .tc main_v14) = fun i => (args m c).dg (i 1) := by
  have h : W11 m ρ c (Proc.devRef .tc main_v14) = extractStridedSlice S1x1024 ![0, 0] (W10 m ρ c (Proc.devRef .tc main_v9_2) : Vec Ideal S8x1024 .f32) slices_S8x1024_S1x1024_0_0 := by
    show StableHlo.after hostOps6 (W10 m ρ c) (Proc.devRef .tc main_v14) = _
    after_results_simp
  rw [W10_of m ρ c main_v9_2 (by decide), W9_of m ρ c main_v9_2 (by decide)] at h
  rw [h]
  funext i
  idx_vars i
  refine Eq.trans ?_ (v9_2_at_8 m ρ c i1)
  pointwise

theorem dgf_out : W11 m ρ c (Proc.devRef .tc main_v15) = fun i => (args m c).dgf (i 1) := by
  have h : W11 m ρ c (Proc.devRef .tc main_v15) = extractStridedSlice S1x1024 ![0, 0] (W10 m ρ c (Proc.devRef .tc main_v6_2) : Vec Ideal S8x1024 .f32) slices_S8x1024_S1x1024_0_0 := by
    show StableHlo.after hostOps6 (W10 m ρ c) (Proc.devRef .tc main_v15) = _
    after_results_simp
  rw [W10_of m ρ c main_v6_2 (by decide), W9_of m ρ c main_v6_2 (by decide), W8_of m ρ c main_v6_2 (by decide), W7_of m ρ c main_v6_2 (by decide), W6_of m ρ c main_v6_2 (by decide)] at h
  rw [h]
  funext i
  idx_vars i
  refine Eq.trans ?_ (v6_2_at_5 m ρ c i1)
  pointwise

theorem loss_out : W11 m ρ c (Proc.devRef .tc main_v13) = fun _ => (args m c).loss := by
  have h : W11 m ρ c (Proc.devRef .tc main_v13) = shapeCast S_ (extractStridedSlice S1x1 ![0, 0] (W10 m ρ c (Proc.devRef .tc main_v6_3) : Vec Ideal S8x128 .f32) slices_S8x128_S1x1_0_0) shapeCasts_S1x1_S_ := by
    show StableHlo.after hostOps6 (W10 m ρ c) (Proc.devRef .tc main_v13) = _
    after_results_simp
    rfl
  rw [W10_of m ρ c main_v6_3 (by decide), W9_of m ρ c main_v6_3 (by decide), W8_of m ρ c main_v6_3 (by decide), W7_of m ρ c main_v6_3 (by decide), W6_of m ρ c main_v6_3 (by decide)] at h
  rw [h]
  funext i
  refine Eq.trans ?_ (v6_3_at_5 m ρ c)
  pointwise

/-- The whole run: the five results, and the arguments as they were. -/
theorem run : θ_run defs (onTc (τ := τ) (main (F := Ideal))) ⟨m, fun _ => 0, ρ⟩ (fun r => ∀ c : Dev nD,
      (r.2.mem ((c : Thread nD τ).loc main_v13) = fun _ => (args m c).loss)
      ∧ (r.2.mem ((c : Thread nD τ).loc main_v9_0) = fun i => (args m c).d2 (i 0) (i 1))
      ∧ (r.2.mem ((c : Thread nD τ).loc main_v11) = fun i => (args m c).dx (i 0) (i 1))
      ∧ (r.2.mem ((c : Thread nD τ).loc main_v14) = fun i => (args m c).dg (i 1))
      ∧ (r.2.mem ((c : Thread nD τ).loc main_v15) = fun i => (args m c).dgf (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun r h c =>
    ⟨(h c _ (mem_uc main_v13 (by decide))).trans (loss_out m ρ c),
      (h c _ (mem_uc main_v9_0 (by decide))).trans (d2_out m ρ c),
      (h c _ (mem_uc main_v11 (by decide))).trans (dx_out m ρ c),
      (h c _ (mem_uc main_v14 (by decide))).trans (dg_out m ρ c),
      (h c _ (mem_uc main_v15 (by decide))).trans (dgf_out m ρ c),
      (h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c)⟩) (Run.run m ρ)

end Cert.Step.Kernel
-- ==== Proof.Mlp.Ref.lean ====
/-
  The reference of the feed-forward block, stage after stage, in terms of the argument arrays.
-/
module

public import proofs.«01_k».proof.Proof.Gen.MlpReferenceIdeal.Run
public import proofs.«01_k».proof.Proof.Mlp.Spec
public import Idealize.ShloMosaic.Lib.Pointwise
public import Idealize.ShloMosaic.Lib.KernelVsHost

@[expose] public section

set_option maxRecDepth 16384

noncomputable section

namespace Cert.Step.Ref
open Cert.MlpReferenceIdeal Cert.MlpReferenceIdeal.Gen Cert.MlpReferenceIdeal.Value Cert.Math
open Idealize.ShloMosaic Idealize.ShloMosaic.TcCoe Idealize.SL.Sem Idealize.ShloMosaic.StableHlo

variable (V0 : Valuation τ sig (Elt Ideal))

/-- The argument arrays at launch. -/
def args : Args where
  a i j := V0 (Proc.devRef .tc main_arg0) (ix2 i j)
  xo i j := V0 (Proc.devRef .tc main_arg1) (ix2 i j)
  w i j := V0 (Proc.devRef .tc main_arg2) (ix2 i j)
  g j := V0 (Proc.devRef .tc main_arg3) (ix2 0 j)
  wu i j := V0 (Proc.devRef .tc main_arg4) (ix2 i j)
  wd i j := V0 (Proc.devRef .tc main_arg5) (ix2 i j)
  gf j := V0 (Proc.devRef .tc main_arg6) (ix2 0 j)
  tg i j := V0 (Proc.devRef .tc main_arg7) (ix2 i j)

/-! ## The stages over given arrays -/

section Stages

/-- A row of an array. -/
def row (x : FVec Ideal S8192x1024 .f32) (i : Fin 8192) (j : Fin 1024) : EReal := x (ix2 i j)

theorem proj (a0 : FVec Ideal S8192x1024 .f32) (a1 : FVec Ideal S8192x1024 .bf16) (a2 : FVec Ideal S1024x1024 .bf16) (i : Fin 8192) (j : Fin 1024) :
    addf a0 (Host.dotGeneral dot_S8192x1024_S1024x1024_S8192x1024_1_0_0_1_n_n none (extf .f32 a1 bitsLt_bf16_f32) (extf .f32 a2 bitsLt_bf16_f32)) (ix2 i j)
      = a0 (ix2 i j) + ∑ k : Fin 1024, a1 (ix2 i k) * a2 (ix2 k j) := by
  pointwise

theorem var_stage (x : FVec Ideal S8192x1024 .f32) (i : Fin 8192) :
    addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)) (ix2 i 0)
      = var (row x i) := by
  unfold var row len eps
  pointwise

theorem rs_stage (x : FVec Ideal S8192x1024 .f32) (v : FVec Ideal S8192x1 .f32) (i : Fin 8192) (hv : v (ix2 i 0) = var (row x i)) :
    Host.rsqrt v (ix2 i 0) = rs (row x i) := by
  unfold rs
  rw [← hv]
  pointwise

theorem scale_stage (x : FVec Ideal S8192x1024 .f32) (r : FVec Ideal S8192x1 .f32) (i : Fin 8192) (j : Fin 1024) :
    mulf x (broadcastInDim S8192x1024 ![0, 1] bcast_S8192x1_S8192x1024_0_1 r) (ix2 i j) = x (ix2 i j) * r (ix2 i 0) := by
  pointwise

theorem gain_stage (x : FVec Ideal S8192x1024 .f32) (g : FVec Ideal S1x1024 .f32) (i : Fin 8192) (j : Fin 1024) :
    mulf x (broadcastInDim S8192x1024 ![0, 1] bcast_S1x1024_S8192x1024_0_1 g) (ix2 i j) = x (ix2 i j) * g (ix2 0 j) := by
  pointwise

theorem up_stage (x : FVec Ideal S8192x1024 .f32) (w : FVec Ideal S1024x4096 .bf16) (i : Fin 8192) (q : Fin 4096) :
    (Host.dotGeneral dot_S8192x1024_S1024x4096_S8192x4096_1_0_0_1_n_n none x (extf .f32 w bitsLt_bf16_f32 : FVec Ideal S1024x4096 .f32) : FVec Ideal S8192x4096 .f32) (ix2 i q)
      = ∑ k : Fin 1024, x (ix2 i k) * w (ix2 k q) := by
  pointwise

theorem relu_stage (x : FVec Ideal S8192x4096 .f32) (i : Fin 8192) (q : Fin 4096) :
    maximumf x (broadcastInDim S8192x4096 ![] bcast_S_S8192x4096 (constant S_ .f32 0x00000000#32)) (ix2 i q) = max (x (ix2 i q)) 0 := by
  pointwise

theorem down_stage (h : FVec Ideal S8192x1024 .f32) (u : FVec Ideal S8192x4096 .f32) (w : FVec Ideal S4096x1024 .bf16) (i : Fin 8192) (j : Fin 1024) :
    addf h (Host.dotGeneral dot_S8192x4096_S4096x1024_S8192x1024_1_0_0_1_n_n none (mulf u u) (extf .f32 w bitsLt_bf16_f32)) (ix2 i j)
      = h (ix2 i j) + ∑ q : Fin 4096, u (ix2 i q) * u (ix2 i q) * w (ix2 q j) := by
  pointwise

theorem err_stage (x t : FVec Ideal S8192x1024 .f32) (g : FVec Ideal S1x1024 .f32) (i : Fin 8192) (j : Fin 1024) :
    subf (mulf x (broadcastInDim S8192x1024 ![0, 1] bcast_S1x1024_S8192x1024_0_1 g)) t (ix2 i j) = x (ix2 i j) * g (ix2 0 j) - t (ix2 i j) := by
  pointwise

theorem dy_stage (e : FVec Ideal S8192x1024 .f32) (i : Fin 8192) (j : Fin 1024) :
    mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) e) (ix2 i j)
      = e (ix2 i j) * rlen := by
  rw [← half_two]
  unfold half len two
  pointwise

theorem cfac_stage (x d : FVec Ideal S8192x1024 .f32) (v r : FVec Ideal S8192x1 .f32) (i : Fin 8192) (j : Fin 1024)
    (hv : v (ix2 i 0) = var (row x i)) (hr : r (ix2 i 0) = rs (row x i)) :
    broadcastInDim S8192x1024 ![0] bcast_S8192_S8192x1024_0 (Host.reduceAdd (Host.divf (mulf (shapeCast _ (Host.reduceAdd (mulf x d) (constant S_ .f32 0x00000000#32) reducesTo_S8192x1024_S8192_d1 h_S_) shapeCasts_S8192_S8192x1) (mulf (broadcastInDim S8192x1 ![] bcast_S_S8192x1 (constant S_ .f32 0xBF000000#32)) (Host.divf r v))) (broadcastInDim S8192x1 ![] bcast_S_S8192x1 (constant S_ .f32 0x44800000#32))) (constant S_ .f32 0x00000000#32) reducesTo_S8192x1_S8192_d1 h_S_) (ix2 i j)
      = cfac (row x i) (row d i) := by
  unfold cfac
  rw [← hv, ← hr]
  unfold row len mhalf
  pointwise
  rw [Fin.sum_univ_one]

theorem da_stage (x : FVec Ideal S8192x4096 .f32) (d : FVec Ideal S8192x1024 .f32) (w : FVec Ideal S4096x1024 .bf16) (i : Fin 8192) (q : Fin 4096) :
    select (cmpf .ogt x (broadcastInDim S8192x4096 ![] bcast_S_S8192x4096 (constant S_ .f32 0x00000000#32))) (mulf (Host.dotGeneral dot_S8192x1024_S4096x1024_S8192x4096_1_1_0_0_n_n none d (extf .f32 w bitsLt_bf16_f32)) (mulf (broadcastInDim S8192x4096 ![] bcast_S_S8192x4096 (constant S_ .f32 0x40000000#32)) (maximumf x (broadcastInDim S8192x4096 ![] bcast_S_S8192x4096 (constant S_ .f32 0x00000000#32))))) (broadcastInDim S8192x4096 ![] bcast_S_S8192x4096 (constant S_ .f32 0x00000000#32)) (ix2 i q)
      = (∑ j : Fin 1024, d (ix2 i j) * w (ix2 q j)) * (two * max (x (ix2 i q)) 0) := by
  unfold two
  pointwise
  by_cases h : 0 < x (ix2 i q)
  · rw [if_pos h]
  · rw [if_neg h, max_eq_right (not_lt.mp h), mul_zero, mul_zero]

theorem dh_stage (x : FVec Ideal S8192x4096 .f32) (w : FVec Ideal S1024x4096 .bf16) (i : Fin 8192) (j : Fin 1024) :
    (Host.dotGeneral dot_S8192x4096_S1024x4096_S8192x1024_1_1_0_0_n_n none x (extf .f32 w bitsLt_bf16_f32 : FVec Ideal S1024x4096 .f32) : FVec Ideal S8192x1024 .f32) (ix2 i j)
      = ∑ q : Fin 4096, x (ix2 i q) * w (ix2 j q) := by
  pointwise

theorem col_stage (x d : FVec Ideal S8192x1024 .f32) (j : Fin 1024) :
    shapeCast S1x1024 (Host.reduceAdd (mulf x d) (constant S_ .f32 0x00000000#32) reducesTo_S8192x1024_S1024_d0 h_S_) shapeCasts_S1024_S1x1024 (ix2 0 j)
      = ∑ i : Fin 8192, x (ix2 i j) * d (ix2 i j) := by
  pointwise

theorem back_stage (x d f : FVec Ideal S8192x1024 .f32) (r : FVec Ideal S8192x1 .f32) (i : Fin 8192) (j : Fin 1024) :
    addf (addf (mulf d (broadcastInDim S8192x1024 ![0, 1] bcast_S8192x1_S8192x1024_0_1 r)) (mulf x f)) (mulf f x) (ix2 i j)
      = d (ix2 i j) * r (ix2 i 0) + x (ix2 i j) * f (ix2 i j) + f (ix2 i j) * x (ix2 i j) := by
  pointwise

theorem add_back_stage (y x d f : FVec Ideal S8192x1024 .f32) (r : FVec Ideal S8192x1 .f32) (i : Fin 8192) (j : Fin 1024) :
    addf (addf (addf y (mulf d (broadcastInDim S8192x1024 ![0, 1] bcast_S8192x1_S8192x1024_0_1 r))) (mulf x f)) (mulf f x) (ix2 i j)
      = y (ix2 i j) + d (ix2 i j) * r (ix2 i 0) + x (ix2 i j) * f (ix2 i j) + f (ix2 i j) * x (ix2 i j) := by
  pointwise

theorem dx_stage (x : FVec Ideal S8192x1024 .f32) (w : FVec Ideal S1024x1024 .bf16) (i : Fin 8192) (k : Fin 1024) :
    truncf .bf16 (Host.dotGeneral dot_S8192x1024_S1024x1024_S8192x1024_1_1_0_0_n_n none x (extf .f32 w bitsLt_bf16_f32 : FVec Ideal S1024x1024 .f32) : FVec Ideal S8192x1024 .f32) bitsLt_bf16_f32 (ix2 i k)
      = ∑ j : Fin 1024, x (ix2 i j) * w (ix2 k j) := by
  pointwise

theorem loss_stage (e : FVec Ideal S8192x1024 .f32) (z : S_.Idx) :
    mulf (constant S_ .f32 0x3F000000#32) (Host.reduceAdd (Host.divf (Host.reduceAdd (mulf e e) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_) z
      = half * ∑ i : Fin 8192, Ideal.div (∑ l : Fin 1024, e (ix2 i l) * e (ix2 i l)) len := by
  unfold half len
  pointwise

end Stages

/-! ## The stages of the reference -/

theorem v5_apply (i : Fin 8192) (j : Fin 1024) : (res_main_v5 V0 : FVec Ideal S8192x1024 .f32) (ix2 i j) = (args V0).h2 i j := by
  unfold res_main_v5 res_main_v1
  refine (proj _ _ _ i j).trans ?_
  exact add_comm _ _

theorem v5_row (i : Fin 8192) : row (res_main_v5 V0) i = (args V0).h2 i := funext (v5_apply V0 i)

theorem v12_apply (i : Fin 8192) : (res_main_v12 V0 : FVec Ideal S8192x1 .f32) (ix2 i 0) = var (row (res_main_v5 V0) i) := by
  unfold res_main_v12
  exact var_stage _ i

theorem v13_apply (i : Fin 8192) : (res_main_v13 V0 : FVec Ideal S8192x1 .f32) (ix2 i 0) = rs (row (res_main_v5 V0) i) := by
  unfold res_main_v13
  exact rs_stage _ _ i (v12_apply V0 i)

theorem v18_apply (i : Fin 8192) (j : Fin 1024) : (res_main_v18 V0 : FVec Ideal S8192x1024 .f32) (ix2 i j) = nrm ((args V0).h2 i) j := by
  unfold res_main_v18
  refine (scale_stage _ _ i j).trans ?_
  rw [v13_apply, v5_row, v5_apply, nrm]

/-- The first product before it is rectified. -/
def pre : FVec Ideal S8192x4096 .f32 := res_main_v21 V0

theorem v22_apply (i : Fin 8192) (q : Fin 4096) : max (pre V0 (ix2 i q)) 0 = (args V0).u i q := by
  unfold pre res_main_v21 res_main_v2 Args.u
  refine congrArg (max · 0) ((up_stage _ _ i q).trans (Finset.sum_congr rfl fun k _ => congrArg (· * _) ?_))
  refine (gain_stage _ _ i k).trans (congrArg (· * _) (v18_apply V0 i k))

theorem v30_apply (i : Fin 8192) (j : Fin 1024) : (res_main_v30 V0 : FVec Ideal S8192x1024 .f32) (ix2 i j) = (args V0).h3 i j := by
  unfold res_main_v30 res_main_v3 Args.h3
  refine (down_stage _ _ _ i j).trans ((add_comm _ _).trans ?_)
  have hu (q : Fin 4096) : (res_main_v22 V0 : FVec Ideal S8192x4096 .f32) (ix2 i q) = (args V0).u i q := by
    unfold res_main_v22
    exact (relu_stage _ i q).trans (v22_apply V0 i q)
  exact congrArg₂ (· + ·) (Finset.sum_congr rfl fun q _ => congrArg₂ (· * ·) (congrArg₂ (· * ·) (hu q) (hu q)) rfl) (v5_apply V0 i j)

theorem v30_row (i : Fin 8192) : row (res_main_v30 V0) i = (args V0).h3 i := funext (v30_apply V0 i)

theorem v37_apply (i : Fin 8192) : (res_main_v37 V0 : FVec Ideal S8192x1 .f32) (ix2 i 0) = var (row (res_main_v30 V0) i) := by
  unfold res_main_v37
  exact var_stage _ i

theorem v38_apply (i : Fin 8192) : (res_main_v38 V0 : FVec Ideal S8192x1 .f32) (ix2 i 0) = rs (row (res_main_v30 V0) i) := by
  unfold res_main_v38
  exact rs_stage _ _ i (v37_apply V0 i)

theorem v43_apply (i : Fin 8192) (j : Fin 1024) : (res_main_v43 V0 : FVec Ideal S8192x1024 .f32) (ix2 i j) = nrm ((args V0).h3 i) j := by
  unfold res_main_v43
  refine (scale_stage _ _ i j).trans ?_
  rw [v38_apply, v30_row, v30_apply, nrm]

theorem v46_apply (i : Fin 8192) (j : Fin 1024) : (res_main_v46 V0 : FVec Ideal S8192x1024 .f32) (ix2 i j) = (args V0).err i j := by
  unfold res_main_v46
  refine (err_stage _ _ _ i j).trans ?_
  rw [v43_apply]
  rfl

theorem v60_apply (i : Fin 8192) (j : Fin 1024) : (res_main_v60 V0 : FVec Ideal S8192x1024 .f32) (ix2 i j) = (args V0).err i j * rlen := by
  unfold res_main_v60
  refine (dy_stage _ i j).trans ?_
  rw [v46_apply]

theorem v65_apply (i : Fin 8192) (j : Fin 1024) : (res_main_v65 V0 : FVec Ideal S8192x1024 .f32) (ix2 i j) = (args V0).dn3 i j := by
  unfold res_main_v65
  refine (gain_stage _ _ i j).trans ?_
  rw [v60_apply]
  rfl

theorem v65_row (i : Fin 8192) : row (res_main_v65 V0) i = (args V0).dn3 i := funext (v65_apply V0 i)

theorem v75_apply (i : Fin 8192) (j : Fin 1024) : (res_main_v75 V0 : FVec Ideal S8192x1024 .f32) (ix2 i j) = cfac ((args V0).h3 i) ((args V0).dn3 i) := by
  unfold res_main_v75
  refine (cfac_stage _ _ _ _ i j (v37_apply V0 i) (v38_apply V0 i)).trans ?_
  rw [v30_row, v65_row]

theorem v79_apply (i : Fin 8192) (j : Fin 1024) : (res_main_v79 V0 : FVec Ideal S8192x1024 .f32) (ix2 i j) = (args V0).d3 i j := by
  unfold res_main_v79
  refine (back_stage _ _ _ _ i j).trans ?_
  rw [v65_apply, v75_apply, v30_apply, v38_apply, v30_row]
  exact back_eq' ..

theorem v84_apply (i : Fin 8192) (j : Fin 1024) : (res_main_v84 V0 : FVec Ideal S8192x1024 .f32) (ix2 i j) = (args V0).dh i j := by
  unfold res_main_v84 res_main_v22 res_main_v3 res_main_v2 Args.dh
  refine (dh_stage _ _ i j).trans (Finset.sum_congr rfl fun q _ => congrArg (· * _) ?_)
  refine (da_stage _ _ _ i q).trans ?_
  exact congrArg₂ (· * ·) (Finset.sum_congr rfl fun k _ => congrArg (· * _) (v79_apply V0 i k)) (congrArg (two * ·) (v22_apply V0 i q))

theorem v89_apply (i : Fin 8192) (j : Fin 1024) : (res_main_v89 V0 : FVec Ideal S8192x1024 .f32) (ix2 i j) = (args V0).dn2 i j := by
  unfold res_main_v89
  refine (gain_stage _ _ i j).trans ?_
  rw [v84_apply]
  rfl

theorem v89_row (i : Fin 8192) : row (res_main_v89 V0) i = (args V0).dn2 i := funext (v89_apply V0 i)

theorem v100_apply (i : Fin 8192) (j : Fin 1024) : (res_main_v100 V0 : FVec Ideal S8192x1024 .f32) (ix2 i j) = cfac ((args V0).h2 i) ((args V0).dn2 i) := by
  unfold res_main_v100
  refine (cfac_stage _ _ _ _ i j (v12_apply V0 i) (v13_apply V0 i)).trans ?_
  rw [v5_row, v89_row]

/-- The gradient of the residual stream before the block. -/
def v104 : FVec Ideal S8192x1024 .f32 :=
  addf (addf (addf (res_main_v79 V0) (mulf (res_main_v89 V0) (broadcastInDim S8192x1024 ![0, 1] bcast_S8192x1_S8192x1024_0_1 (res_main_v13 V0)))) (mulf (res_main_v5 V0) (res_main_v100 V0))) (mulf (res_main_v100 V0) (res_main_v5 V0))

theorem v104_apply (i : Fin 8192) (j : Fin 1024) : v104 V0 (ix2 i j) = (args V0).d2 i j := by
  unfold v104
  refine (add_back_stage _ _ _ _ _ i j).trans ?_
  rw [v79_apply, v89_apply, v100_apply, v5_apply, v13_apply, v5_row]
  exact add_back_eq ..

/-! ## The results -/

theorem loss_out : mulf (constant S_ .f32 0x3F000000#32) (Host.reduceAdd (Host.divf (Host.reduceAdd (mulf (res_main_v46 V0) (res_main_v46 V0)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)
    = fun _ => (args V0).loss := by
  funext z
  refine (loss_stage _ z).trans ?_
  simp only [v46_apply]
  rfl

theorem d2_out : v104 V0 = fun i => (args V0).d2 (i 0) (i 1) := by
  funext i
  idx_vars i
  exact v104_apply V0 i0 i1

theorem dx_out : (truncf .bf16 (Host.dotGeneral (φ₁ := .f32) (φ₂ := .f32) dot_S8192x1024_S1024x1024_S8192x1024_1_1_0_0_n_n none (v104 V0) (res_main_v1 V0 : FVec Ideal S1024x1024 .f32) : FVec Ideal S8192x1024 .f32) bitsLt_bf16_f32 : FVec Ideal S8192x1024 .bf16)
    = fun i => (args V0).dx (i 0) (i 1) := by
  unfold res_main_v1
  funext i
  idx_vars i
  refine (dx_stage _ _ i0 i1).trans ?_
  exact Finset.sum_congr rfl fun j _ => congrArg (· * _) (v104_apply V0 i0 j)

theorem dg_out (x d : FVec Ideal S8192x1024 .f32) (hx : ∀ i j, x (ix2 i j) = nrm ((args V0).h2 i) j) (hd : ∀ i j, d (ix2 i j) = (args V0).dh i j) :
    shapeCast S1x1024 (Host.reduceAdd (mulf x d) (constant S_ .f32 0x00000000#32) reducesTo_S8192x1024_S1024_d0 h_S_) shapeCasts_S1024_S1x1024
      = fun i => (args V0).dg (i 1) := by
  funext i
  obtain ⟨l, rfl⟩ : ∃ l : Fin 1024, i = ix2 0 l := by
    idx_vars i
    refine ⟨i1, ?_⟩
    first | rfl | (rw [Subsingleton.elim i0 0])
  refine (col_stage x d l).trans (Finset.sum_congr rfl fun k _ => ?_)
  exact (congrArg₂ (· * ·) (hx k l) (hd k l)).trans (mul_comm _ _)

theorem dgf_out (x d : FVec Ideal S8192x1024 .f32) (hx : ∀ i j, x (ix2 i j) = nrm ((args V0).h3 i) j) (hd : ∀ i j, d (ix2 i j) = (args V0).err i j * rlen) :
    shapeCast S1x1024 (Host.reduceAdd (mulf x d) (constant S_ .f32 0x00000000#32) reducesTo_S8192x1024_S1024_d0 h_S_) shapeCasts_S1024_S1x1024
      = fun i => (args V0).dgf (i 1) := by
  funext i
  obtain ⟨l, rfl⟩ : ∃ l : Fin 1024, i = ix2 0 l := by
    idx_vars i
    refine ⟨i1, ?_⟩
    first | rfl | (rw [Subsingleton.elim i0 0])
  refine (col_stage x d l).trans (Finset.sum_congr rfl fun k _ => ?_)
  exact (congrArg₂ (· * ·) (hx k l) (hd k l)).trans (mul_comm _ _)

end Cert.Step.Ref
-- ==== Proof.Mlp.Claims.lean ====
/-
  The claims about the feed-forward block: the program and its reference end with the same loss and gradients.
-/
module

public import proofs.«01_k».proof.Defs
public import proofs.«01_k».proof.Proof.Mlp.Kernel
public import proofs.«01_k».proof.Proof.Mlp.Ref
public import proofs.«01_k».proof.Proof.Gen.Mlp.Frame

@[expose] public section

set_option maxRecDepth 16384

noncomputable section

namespace Cert.Step.Claims
open Idealize.ShloMosaic Idealize.ShloMosaic.TcCoe Idealize.SL.Sem

theorem frame_p : Cert.quiescent_Mlp := fun m ρ _ => Cert.Mlp.Gen.frame m ρ

theorem frame_pi : Cert.quiescent_MlpIdeal := fun m ρ _ => Cert.MlpIdeal.Gen.frame m ρ

/-- The reference writes none of its arguments and has no semaphores. -/
theorem frame_ri : Cert.quiescent_MlpReferenceIdeal := fun m ρ _ =>
  (θ_run Cert.MlpReferenceIdeal.defs _ _).mono (fun r h => ⟨fun c => (h c).2.2.2.2.2, sem_eq_zero_of_no_sems (by decide) r.2⟩)
    (Cert.MlpReferenceIdeal.Value.run (F := Ideal) m ρ)

/-- Kernel and reference end with the same loss and the same gradients. -/
theorem algebraic : Cert.algebraic_MlpIdeal_MlpReferenceIdeal := by
  intro m g m' g' _ hag
  refine ⟨_, _, _, _, _, Kernel.run m g,
    (θ_run Cert.MlpReferenceIdeal.defs _ _).mono (fun r h c => ?_) (Cert.MlpReferenceIdeal.Value.run (F := Ideal) m' g')⟩
  obtain ⟨e0, e1, e2, e3, e4, ha⟩ := h c
  obtain ⟨g0, g1, g2, g3, g4, g5, g6, g7⟩ := hag c
  have hargs : Ref.args (StableHlo.launchContents m' c) = Kernel.args m c := by
    unfold Ref.args Kernel.args
    congr 1
    · exact funext fun i => funext fun j => congrFun g0 _
    · exact funext fun i => funext fun j => congrFun g1 _
    · exact funext fun i => funext fun j => congrFun g2 _
    · exact funext fun j => congrFun g3 _
    · exact funext fun i => funext fun j => congrFun g4 _
    · exact funext fun i => funext fun j => congrFun g5 _
    · exact funext fun j => congrFun g6 _
    · exact funext fun i => funext fun j => congrFun g7 _
  refine ⟨e0.trans ?_, e1.trans ?_, e2.trans ?_, e3.trans ?_, e4.trans ?_, ha⟩
  · rw [← hargs]
    exact Ref.loss_out _
  · rw [← hargs]
    exact Ref.d2_out _
  · rw [← hargs]
    exact Ref.dx_out _
  · rw [← hargs]
    exact Ref.dg_out _ _ _ (Ref.v18_apply _) (Ref.v84_apply _)
  · rw [← hargs]
    exact Ref.dgf_out _ _ _ (Ref.v43_apply _) (Ref.v60_apply _)

end Cert.Step.Claims
-- ==== Proof.Dw.Up.lean ====
/-
  The gradient of the first feed-forward weight: the kernel's array and the reference's are the same sums over the rows.
-/
module

public import proofs.«01_k».proof.Defs
public import proofs.«01_k».proof.Proof.Gen.DwUp.Frame
public import proofs.«01_k».proof.Proof.Gen.DwUpIdeal.Value
public import proofs.«01_k».proof.Proof.Gen.DwUpReferenceIdeal.Run
public import Idealize.ShloMosaic.Lib.Pipeline.ValueKit
public import Idealize.ShloMosaic.Lib.Pipeline.ReadBack
public import Idealize.ShloMosaic.Lib.Pointwise
public import Idealize.ShloMosaic.Lib.KernelVsHost

@[expose] public section

set_option maxRecDepth 16384

noncomputable section

namespace Cert.Weight.Up.Sum
open Cert.DwUpIdeal Cert.DwUpIdeal.Gen Idealize.ShloMosaic Idealize.ShloMosaic.TcCoe Idealize.SL.Sem

theorem pay1_apply (v0 v1 : Vec Ideal S4096x1024 .bf16) (k l : Fin 1024) :
    k0_pay1 v0 v1 (ix2 k l) = ∑ r : Fin 4096, v0 (ix2 r k) * v1 (ix2 r l) := by
  pointwise [k0_pay1]

theorem pay2_apply (v0 v1 : Vec Ideal S4096x1024 .bf16) (k l : Fin 1024) :
    k0_pay2 v0 v1 (ix2 k l) = ∑ r : Fin 4096, v0 (ix2 r k) * v1 (ix2 r l) := by
  refine Eq.trans ?_ (pay1_apply v0 v1 k l)
  pointwise [k0_pay2]

theorem pay3_apply (v0 v1 : Vec Ideal S4096x1024 .bf16) (a : Vec Ideal S1024x1024 .f32) (k l : Fin 1024) :
    k0_pay3 v0 v1 a (ix2 k l) = a (ix2 k l) + ∑ r : Fin 4096, v0 (ix2 r k) * v1 (ix2 r l) := by
  refine Eq.trans ?_ (congrArg (a (ix2 k l) + ·) (pay1_apply v0 v1 k l))
  pointwise [k0_pay3]

theorem pay4_apply (a : Vec Ideal S1024x1024 .f32) (k l : Fin 1024) :
    k0_pay4 a (ix3 0 k l) = a (ix2 k l) := by
  pointwise [k0_pay4]

variable (m : (ℓ : Loc nD τ sig) → Buf (Elt Ideal) ℓ) (c : Dev nD)

/-- The rows. -/
def X (i : Fin 8192) (k : Fin 1024) : EReal := m ((c.tc : Thread nD τ).loc main_arg0) (ix2 i k)
/-- The gradient of the product. -/
def Y (i : Fin 8192) (j : Fin 4096) : EReal := m ((c.tc : Thread nD τ).loc main_arg1) (ix2 i j)
/-- The gradient of the weight: a sum over all rows. -/
def W (p : Fin 4) (k l : Fin 1024) : EReal := ∑ s : Fin 8192, X m c s k * Y m c s ⟨p.val * 1024 + l.val, by omega⟩

theorem row_lt (b : Fin 2) (r : Fin 4096) : b.val * 4096 + r.val < 8192 := by omega
theorem part_lt (t : Fin cfg0.N) : t.val / 2 < 4 := by
  have : t.val < 8 := lt_of_lt_of_eq t.isLt N_0
  omega

/-- One block of rows' share. -/
def share (b : Fin 2) (p : Fin 4) (k l : Fin 1024) : EReal :=
  ∑ r : Fin 4096, X m c ⟨b.val * 4096 + r.val, row_lt b r⟩ k * Y m c ⟨b.val * 4096 + r.val, row_lt b r⟩ ⟨p.val * 1024 + l.val, by omega⟩

theorem share_sum (p : Fin 4) (k l : Fin 1024) : share m c 0 p k l + share m c 1 p k l = W m c p k l := by
  refine (Fin.sum_univ_two (fun b => share m c b p k l)).symm.trans ?_
  exact Fin.sum_mul_add_congr (n := 4096) (fun b r hl => rfl) (by rfl)

theorem blk_0 (t : Fin cfg0.N) (r : Fin 4096) (k : Fin 1024) (b : Fin 2) (hb : t.val % 2 = b.val) :
    iblk m c 0 t (ix2 r k) = X m c ⟨b.val * 4096 + r.val, row_lt b r⟩ k := by
  unfold X
  have idx : ∀ t, win0_0.index t = ![t.val % 2, 0] := by decide +kernel
  blk_ext [iblk, V, idx t, hb]

theorem blk_1 (t : Fin cfg0.N) (r : Fin 4096) (l : Fin 1024) (b : Fin 2) (hb : t.val % 2 = b.val) :
    iblk m c 1 t (ix2 r l) = Y m c ⟨b.val * 4096 + r.val, row_lt b r⟩ ⟨t.val / 2 * 1024 + l.val, by have := part_lt t; omega⟩ := by
  unfold Y
  have idx : ∀ t, win0_1.index t = ![t.val % 2, t.val / 2] := by decide +kernel
  blk_ext [iblk, V, idx t, hb]

/-- What an even point leaves in the accumulator. -/
theorem scratch_even (t : Fin cfg0.N) (h0 : t.val % 2 = 0) (k l : Fin 1024) :
    (outsAt0 m c t.val t.isLt).2 (ix2 k l) = share m c 0 ⟨t.val / 2, part_lt t⟩ k l := by
  rw [outsAt0_A m c t h0 (by omega) (by omega)]
  frame_out
  refine (pay2_apply (iblk m c 0 t) (iblk m c 1 t) k l).trans ?_
  refine Finset.sum_congr rfl fun r _ => ?_
  rw [blk_0 m c t r k 0 h0, blk_1 m c t r l 0 h0]

/-- What an odd point leaves in the output's block. -/
theorem out_odd (t : Fin cfg0.N) (h1 : t.val % 2 = 1) (k l : Fin 1024) :
    (outsAt0 m c t.val t.isLt).1 (ix3 0 k l) = W m c ⟨t.val / 2, part_lt t⟩ k l := by
  have he := scratch_even m c ⟨t.val - 1, by omega⟩ (by show (t.val - 1) % 2 = 0; omega) k l
  rw [outsAt0_B m c t (by omega) h1 h1]
  frame_out
  refine (pay4_apply _ k l).trans ((pay3_apply (iblk m c 0 t) (iblk m c 1 t) _ k l).trans ?_)
  refine Eq.trans (congrArg₂ (· + ·) (x' := share m c 0 ⟨t.val / 2, part_lt t⟩ k l) (y' := share m c 1 ⟨t.val / 2, part_lt t⟩ k l) ?_ ?_) (share_sum m c _ k l)
  · rw [read_unread_whole]
    refine he.trans ?_
    congr 1
    exact Fin.ext (by show (t.val - 1) / 2 = t.val / 2; omega)
  · refine Finset.sum_congr rfl fun r _ => ?_
    rw [blk_0 m c t r k 1 h1, blk_1 m c t r l 1 h1]

/-- The array after the run. -/
theorem arr_2 : (dats m 0 c).arrAt 2 cfg0.N = fun i => W m c (i 0) (i 1) (i 2) := by
  refine (dats m 0 c).arrAt_eq_of_covers 2 _ (by decide +kernel) fun t hf y => ?_
  have idx : ∀ t, win0_2.index t = ![t.val / 2, 0, 0] := by decide +kernel
  have h1 : t.val % 2 = 1 := (flush0_2 t).mp hf
  blk_simp
  rw [after0_2]
  have he : ∃ k l : Fin 1024, y = ix3 0 k l ∧ (win0_2.blk t).view.emb y = ix3 ⟨t.val / 2, part_lt t⟩ k l := by
    idx_vars y
    refine ⟨y1, y2, ?_, ?_⟩
    · blk_ext []
    · blk_ext [idx t]
  obtain ⟨k, l, rfl, he⟩ := he
  refine (out_odd m c t h1 k l).trans ?_
  exact (congrArg (fun i : S4x1024x1024.Idx => W m c (i 0) (i 1) (i 2)) he).symm

end Cert.Weight.Up.Sum

namespace Cert.Weight.Up.Ref
open Cert.DwUpReferenceIdeal Cert.DwUpReferenceIdeal.Gen Idealize.ShloMosaic Idealize.ShloMosaic.TcCoe Idealize.SL.Sem

theorem prod_apply (x : FVec Ideal S8192x1024 .bf16) (y : FVec Ideal S8192x4096 .bf16) (j : Fin 4096) (k : Fin 1024) :
    (Host.dotGeneral dot_S8192x4096_S8192x1024_S4096x1024_0_0_1_1_n_n none (extf .f32 y bitsLt_bf16_f32 : FVec Ideal S8192x4096 .f32)
        (extf .f32 x bitsLt_bf16_f32 : FVec Ideal S8192x1024 .f32) : FVec Ideal S4096x1024 .f32) (ix2 j k)
      = ∑ s : Fin 8192, x (ix2 s k) * y (ix2 s j) := by
  refine Eq.trans (b := ∑ s : Fin 8192, y (ix2 s j) * x (ix2 s k)) ?_ (Finset.sum_congr rfl fun s _ => mul_comm _ _)
  pointwise

theorem cut_apply (z : FVec Ideal S4096x1024 .f32) (p : Fin 4) (k l : Fin 1024) :
    truncf .bf16 (transpose S4x1024x1024 [1, 0, 2] (shapeCast S1024x4x1024 (transpose S1024x4096 [1, 0] z transposes_S4096x1024_S1024x4096_1_0)
        shapeCasts_S1024x4096_S1024x4x1024) transposes_S1024x4x1024_S4x1024x1024_1_0_2) bitsLt_bf16_f32 (ix3 p k l)
      = z (ix2 ⟨p.val * 1024 + l.val, by omega⟩ k) := by
  pointwise

end Cert.Weight.Up.Ref

namespace Cert.Weight.Up.Claims
open Idealize.ShloMosaic Idealize.ShloMosaic.TcCoe Idealize.SL.Sem

theorem frame_p : Cert.quiescent_DwUp := fun m ρ _ => Cert.DwUp.Gen.frame m ρ

theorem frame_pi : Cert.quiescent_DwUpIdeal := fun m ρ _ => Cert.DwUpIdeal.Gen.frame m ρ

/-- The reference writes none of its arguments and has no semaphores. -/
theorem frame_ri : Cert.quiescent_DwUpReferenceIdeal := fun m ρ _ =>
  (θ_run Cert.DwUpReferenceIdeal.defs _ _).mono (fun r h => ⟨fun c => (h c).2, sem_eq_zero_of_no_sems (by decide) r.2⟩)
    (Cert.DwUpReferenceIdeal.Value.run (F := Ideal) m ρ)

/-- Kernel and reference end with the same weight gradient. -/
theorem algebraic : Cert.algebraic_DwUpIdeal_DwUpReferenceIdeal := by
  intro m g m' g' _ hag
  refine ⟨_, Cert.DwUpIdeal.Value.run_blocks m g,
    (θ_run Cert.DwUpReferenceIdeal.defs _ _).mono (fun r h c => ?_) (Cert.DwUpReferenceIdeal.Value.run (F := Ideal) m' g')⟩
  obtain ⟨e, ha⟩ := h c
  obtain ⟨g0, g1⟩ := hag c
  refine ⟨e.trans ?_, ha⟩
  rw [Sum.arr_2, g0, g1]
  funext i
  idx_vars i
  exact (Ref.cut_apply _ i0 i1 i2).trans (Ref.prod_apply _ _ _ i1)

end Cert.Weight.Up.Claims

end
-- ==== Proof.Dw.Down.lean ====
/-
  The gradient of the second feed-forward weight: the kernel's array and the reference's are the same sums over the rows.
-/
module

public import proofs.«01_k».proof.Defs
public import proofs.«01_k».proof.Proof.Gen.DwDown.Frame
public import proofs.«01_k».proof.Proof.Gen.DwDownIdeal.Value
public import proofs.«01_k».proof.Proof.Gen.DwDownReferenceIdeal.Run
public import Idealize.ShloMosaic.Lib.Pipeline.ValueKit
public import Idealize.ShloMosaic.Lib.Pipeline.ReadBack
public import Idealize.ShloMosaic.Lib.Pointwise
public import Idealize.ShloMosaic.Lib.KernelVsHost

@[expose] public section

set_option maxRecDepth 16384

noncomputable section

namespace Cert.Weight.Down.Sum
open Cert.DwDownIdeal Cert.DwDownIdeal.Gen Idealize.ShloMosaic Idealize.ShloMosaic.TcCoe Idealize.SL.Sem

theorem pay1_apply (v0 : Vec Ideal S4096x1024 .bf16) (v1 : Vec Ideal S4096x1024 .bf16) (k : Fin 1024) (l : Fin 1024) :
    k0_pay1 v0 v1 (ix2 k l) = ∑ r : Fin 4096, v0 (ix2 r k) * v0 (ix2 r k) * v1 (ix2 r l) := by
  pointwise [k0_pay1]

theorem pay2_apply (v0 : Vec Ideal S4096x1024 .bf16) (v1 : Vec Ideal S4096x1024 .bf16) (k : Fin 1024) (l : Fin 1024) :
    k0_pay2 v0 v1 (ix2 k l) = ∑ r : Fin 4096, v0 (ix2 r k) * v0 (ix2 r k) * v1 (ix2 r l) := by
  refine Eq.trans ?_ (pay1_apply v0 v1 k l)
  pointwise [k0_pay2]

theorem pay3_apply (v0 : Vec Ideal S4096x1024 .bf16) (v1 : Vec Ideal S4096x1024 .bf16) (a : Vec Ideal S1024x1024 .f32) (k : Fin 1024) (l : Fin 1024) :
    k0_pay3 v0 v1 a (ix2 k l) = a (ix2 k l) + ∑ r : Fin 4096, v0 (ix2 r k) * v0 (ix2 r k) * v1 (ix2 r l) := by
  refine Eq.trans ?_ (congrArg (a (ix2 k l) + ·) (pay1_apply v0 v1 k l))
  pointwise [k0_pay3]

theorem pay4_apply (a : Vec Ideal S1024x1024 .f32) (k : Fin 1024) (l : Fin 1024) :
    k0_pay4 a (ix3 0 k l) = a (ix2 k l) := by
  pointwise [k0_pay4]

variable (m : (ℓ : Loc nD τ sig) → Buf (Elt Ideal) ℓ) (c : Dev nD)

/-- The rows. -/
def X (i : Fin 8192) (k : Fin 4096) : EReal := m ((c.tc : Thread nD τ).loc main_arg0) (ix2 i k)
/-- The gradient of the product. -/
def Y (i : Fin 8192) (j : Fin 1024) : EReal := m ((c.tc : Thread nD τ).loc main_arg1) (ix2 i j)
/-- The gradient of the weight: a sum over all rows. -/
def W (k : Fin 4096) (j : Fin 1024) : EReal := ∑ s : Fin 8192, X m c s k * X m c s k * Y m c s j

theorem row_lt (b : Fin 2) (r : Fin 4096) : b.val * 4096 + r.val < 8192 := by omega
theorem part_lt (t : Fin cfg0.N) : t.val / 2 < 4 := by
  have : t.val < 8 := lt_of_lt_of_eq t.isLt N_0
  omega

/-- The weight's row of a block's row. -/
def kof (t : Fin cfg0.N) (k : Fin 1024) : Fin 4096 := ⟨t.val / 2 * 1024 + k.val, by have := part_lt t; omega⟩

/-- One block of rows' share. -/
def share (b : Fin 2) (k : Fin 4096) (j : Fin 1024) : EReal :=
  ∑ r : Fin 4096, X m c ⟨b.val * 4096 + r.val, row_lt b r⟩ k * X m c ⟨b.val * 4096 + r.val, row_lt b r⟩ k * Y m c ⟨b.val * 4096 + r.val, row_lt b r⟩ j

theorem share_sum (k : Fin 4096) (j : Fin 1024) : share m c 0 k j + share m c 1 k j = W m c k j := by
  refine (Fin.sum_univ_two (fun b => share m c b k j)).symm.trans ?_
  exact Fin.sum_mul_add_congr (n := 4096) (fun b r hl => rfl) (by rfl)

theorem blk_0 (t : Fin cfg0.N) (r : Fin 4096) (k : Fin 1024) (b : Fin 2) (hb : t.val % 2 = b.val) :
    iblk m c 0 t (ix2 r k) = X m c ⟨b.val * 4096 + r.val, row_lt b r⟩ (kof t k) := by
  unfold X kof
  have idx : ∀ t, win0_0.index t = ![t.val % 2, t.val / 2] := by decide +kernel
  blk_ext [iblk, V, idx t, hb]

theorem blk_1 (t : Fin cfg0.N) (r : Fin 4096) (l : Fin 1024) (b : Fin 2) (hb : t.val % 2 = b.val) :
    iblk m c 1 t (ix2 r l) = Y m c ⟨b.val * 4096 + r.val, row_lt b r⟩ l := by
  unfold Y
  have idx : ∀ t, win0_1.index t = ![t.val % 2, 0] := by decide +kernel
  blk_ext [iblk, V, idx t, hb]

/-- What an even point leaves in the accumulator. -/
theorem scratch_even (t : Fin cfg0.N) (h0 : t.val % 2 = 0) (k : Fin 1024) (l : Fin 1024) :
    (outsAt0 m c t.val t.isLt).2 (ix2 k l) = share m c 0 (kof t k) l := by
  rw [outsAt0_A m c t h0 (by omega) (by omega)]
  frame_out
  refine (pay2_apply (iblk m c 0 t) (iblk m c 1 t) k l).trans ?_
  refine Finset.sum_congr rfl fun r _ => ?_
  rw [blk_0 m c t r k 0 h0, blk_1 m c t r l 0 h0]

/-- What an odd point leaves in the output's block. -/
theorem out_odd (t : Fin cfg0.N) (h1 : t.val % 2 = 1) (k : Fin 1024) (l : Fin 1024) :
    (outsAt0 m c t.val t.isLt).1 (ix3 0 k l) = W m c (kof t k) l := by
  have he := scratch_even m c ⟨t.val - 1, by omega⟩ (by show (t.val - 1) % 2 = 0; omega) k l
  rw [outsAt0_B m c t (by omega) h1 h1]
  frame_out
  refine (pay4_apply _ k l).trans ((pay3_apply (iblk m c 0 t) (iblk m c 1 t) _ k l).trans ?_)
  refine Eq.trans (congrArg₂ (· + ·) (x' := share m c 0 (kof t k) l) (y' := share m c 1 (kof t k) l) ?_ ?_) (share_sum m c _ l)
  · rw [read_unread_whole]
    refine he.trans (congrArg (share m c 0 · l) ?_)
    exact Fin.ext (by show (t.val - 1) / 2 * 1024 + k.val = t.val / 2 * 1024 + k.val; omega)
  · refine Finset.sum_congr rfl fun r _ => ?_
    rw [blk_0 m c t r k 1 h1, blk_1 m c t r l 1 h1]

/-- The array after the run. -/
theorem arr_2 : (dats m 0 c).arrAt 2 cfg0.N = fun i => W m c (i 1) (i 2) := by
  refine (dats m 0 c).arrAt_eq_of_covers 2 _ (by decide +kernel) fun t hf y => ?_
  have idx : ∀ t, win0_2.index t = ![0, t.val / 2, 0] := by decide +kernel
  have h1 : t.val % 2 = 1 := (flush0_2 t).mp hf
  blk_simp
  rw [after0_2]
  have he : ∃ (k : Fin 1024) (l : Fin 1024), y = ix3 0 k l ∧ (win0_2.blk t).view.emb y = ix3 0 (kof t k) l := by
    idx_vars y
    refine ⟨y1, y2, ?_, ?_⟩
    · blk_ext []
    · unfold kof
      blk_ext [idx t]
  obtain ⟨k, l, rfl, he⟩ := he
  refine (out_odd m c t h1 k l).trans ?_
  exact (congrArg (fun i : S1x4096x1024.Idx => W m c (i 1) (i 2)) he).symm

end Cert.Weight.Down.Sum

namespace Cert.Weight.Down.Ref
open Cert.DwDownReferenceIdeal Cert.DwDownReferenceIdeal.Gen Idealize.ShloMosaic Idealize.ShloMosaic.TcCoe Idealize.SL.Sem

theorem prod_apply (x : FVec Ideal S8192x4096 .bf16) (y : FVec Ideal S8192x1024 .bf16) (j : Fin 1024) (k : Fin 4096) :
    (Host.dotGeneral dot_S8192x1024_S8192x4096_S1024x4096_0_0_1_1_n_n none (extf .f32 y bitsLt_bf16_f32 : FVec Ideal S8192x1024 .f32)
        (mulf (extf .f32 x bitsLt_bf16_f32) (extf .f32 x bitsLt_bf16_f32) : FVec Ideal S8192x4096 .f32) : FVec Ideal S1024x4096 .f32) (ix2 j k)
      = ∑ s : Fin 8192, x (ix2 s k) * x (ix2 s k) * y (ix2 s j) := by
  refine Eq.trans (b := ∑ s : Fin 8192, y (ix2 s j) * (x (ix2 s k) * x (ix2 s k))) ?_ (Finset.sum_congr rfl fun s _ => mul_comm _ _)
  pointwise

theorem cut_apply (z : FVec Ideal S1024x4096 .f32) (p : Fin 1) (k : Fin 4096) (l : Fin 1024) :
    truncf .bf16 (transpose S1x4096x1024 [1, 0, 2] (shapeCast S4096x1x1024 (transpose S4096x1024 [1, 0] z transposes_S1024x4096_S4096x1024_1_0)
        shapeCasts_S4096x1024_S4096x1x1024) transposes_S4096x1x1024_S1x4096x1024_1_0_2) bitsLt_bf16_f32 (ix3 p k l)
      = z (ix2 l k) := by
  pointwise

end Cert.Weight.Down.Ref

namespace Cert.Weight.Down.Claims
open Idealize.ShloMosaic Idealize.ShloMosaic.TcCoe Idealize.SL.Sem

theorem frame_p : Cert.quiescent_DwDown := fun m ρ _ => Cert.DwDown.Gen.frame m ρ

theorem frame_pi : Cert.quiescent_DwDownIdeal := fun m ρ _ => Cert.DwDownIdeal.Gen.frame m ρ

/-- The reference writes none of its arguments and has no semaphores. -/
theorem frame_ri : Cert.quiescent_DwDownReferenceIdeal := fun m ρ _ =>
  (θ_run Cert.DwDownReferenceIdeal.defs _ _).mono (fun r h => ⟨fun c => (h c).2, sem_eq_zero_of_no_sems (by decide) r.2⟩)
    (Cert.DwDownReferenceIdeal.Value.run (F := Ideal) m ρ)

/-- Kernel and reference end with the same weight gradient. -/
theorem algebraic : Cert.algebraic_DwDownIdeal_DwDownReferenceIdeal := by
  intro m g m' g' _ hag
  refine ⟨_, Cert.DwDownIdeal.Value.run_blocks m g,
    (θ_run Cert.DwDownReferenceIdeal.defs _ _).mono (fun r h c => ?_) (Cert.DwDownReferenceIdeal.Value.run (F := Ideal) m' g')⟩
  obtain ⟨e, ha⟩ := h c
  obtain ⟨g0, g1⟩ := hag c
  refine ⟨e.trans ?_, ha⟩
  rw [Sum.arr_2, g0, g1]
  funext i
  idx_vars i
  exact (Ref.cut_apply _ i0 i1 i2).trans (Ref.prod_apply _ _ _ i1)

end Cert.Weight.Down.Claims

end
-- ==== Proof.Dw.Xo.lean ====
/-
  The gradient of the output weight of the cross-attention: the kernel's array and the reference's are the same sums over the rows.
-/
module

public import proofs.«01_k».proof.Defs
public import proofs.«01_k».proof.Proof.Gen.DwXo.Frame
public import proofs.«01_k».proof.Proof.Gen.DwXoIdeal.Value
public import proofs.«01_k».proof.Proof.Gen.DwXoReferenceIdeal.Run
public import Idealize.ShloMosaic.Lib.Pipeline.ValueKit
public import Idealize.ShloMosaic.Lib.Pipeline.ReadBack
public import Idealize.ShloMosaic.Lib.Pointwise
public import Idealize.ShloMosaic.Lib.KernelVsHost

@[expose] public section

set_option maxRecDepth 16384

noncomputable section

namespace Cert.Weight.Xo.Sum
open Cert.DwXoIdeal Cert.DwXoIdeal.Gen Idealize.ShloMosaic Idealize.ShloMosaic.TcCoe Idealize.SL.Sem

theorem pay1_apply (v0 : Vec Ideal S4096x1024 .bf16) (v1 : Vec Ideal S4096x1024 .bf16) (k : Fin 1024) (l : Fin 1024) :
    k0_pay1 v0 v1 (ix2 k l) = ∑ r : Fin 4096, v0 (ix2 r k) * v1 (ix2 r l) := by
  pointwise [k0_pay1]

theorem pay2_apply (v0 : Vec Ideal S4096x1024 .bf16) (v1 : Vec Ideal S4096x1024 .bf16) (k : Fin 1024) (l : Fin 1024) :
    k0_pay2 v0 v1 (ix2 k l) = ∑ r : Fin 4096, v0 (ix2 r k) * v1 (ix2 r l) := by
  refine Eq.trans ?_ (pay1_apply v0 v1 k l)
  pointwise [k0_pay2]

theorem pay3_apply (v0 : Vec Ideal S4096x1024 .bf16) (v1 : Vec Ideal S4096x1024 .bf16) (a : Vec Ideal S1024x1024 .f32) (k : Fin 1024) (l : Fin 1024) :
    k0_pay3 v0 v1 a (ix2 k l) = a (ix2 k l) + ∑ r : Fin 4096, v0 (ix2 r k) * v1 (ix2 r l) := by
  refine Eq.trans ?_ (congrArg (a (ix2 k l) + ·) (pay1_apply v0 v1 k l))
  pointwise [k0_pay3]

theorem pay4_apply (a : Vec Ideal S1024x1024 .f32) (k : Fin 1024) (l : Fin 1024) :
    k0_pay4 a (ix3 0 k l) = a (ix2 k l) := by
  pointwise [k0_pay4]

variable (m : (ℓ : Loc nD τ sig) → Buf (Elt Ideal) ℓ) (c : Dev nD)

/-- The rows. -/
def X (i : Fin 8192) (k : Fin 1024) : EReal := m ((c.tc : Thread nD τ).loc main_arg0) (ix2 i k)
/-- The gradient of the product. -/
def Y (i : Fin 8192) (j : Fin 1024) : EReal := m ((c.tc : Thread nD τ).loc main_arg1) (ix2 i j)
/-- The gradient of the weight: a sum over all rows. -/
def W (k : Fin 1024) (j : Fin 1024) : EReal := ∑ s : Fin 8192, X m c s k * Y m c s j

theorem row_lt (b : Fin 2) (r : Fin 4096) : b.val * 4096 + r.val < 8192 := by omega
theorem part_lt (t : Fin cfg0.N) : t.val / 2 < 1 := by
  have : t.val < 2 := lt_of_lt_of_eq t.isLt N_0
  omega

/-- The weight's row of a block's row. -/
def kof (t : Fin cfg0.N) (k : Fin 1024) : Fin 1024 := k

/-- One block of rows' share. -/
def share (b : Fin 2) (k : Fin 1024) (j : Fin 1024) : EReal :=
  ∑ r : Fin 4096, X m c ⟨b.val * 4096 + r.val, row_lt b r⟩ k * Y m c ⟨b.val * 4096 + r.val, row_lt b r⟩ j

theorem share_sum (k : Fin 1024) (j : Fin 1024) : share m c 0 k j + share m c 1 k j = W m c k j := by
  refine (Fin.sum_univ_two (fun b => share m c b k j)).symm.trans ?_
  exact Fin.sum_mul_add_congr (n := 4096) (fun b r hl => rfl) (by rfl)

theorem blk_0 (t : Fin cfg0.N) (r : Fin 4096) (k : Fin 1024) (b : Fin 2) (hb : t.val % 2 = b.val) :
    iblk m c 0 t (ix2 r k) = X m c ⟨b.val * 4096 + r.val, row_lt b r⟩ (kof t k) := by
  unfold X kof
  have idx : ∀ t, win0_0.index t = ![t.val % 2, 0] := by decide +kernel
  blk_ext [iblk, V, idx t, hb]

theorem blk_1 (t : Fin cfg0.N) (r : Fin 4096) (l : Fin 1024) (b : Fin 2) (hb : t.val % 2 = b.val) :
    iblk m c 1 t (ix2 r l) = Y m c ⟨b.val * 4096 + r.val, row_lt b r⟩ l := by
  unfold Y
  have idx : ∀ t, win0_1.index t = ![t.val % 2, 0] := by decide +kernel
  blk_ext [iblk, V, idx t, hb]

/-- What an even point leaves in the accumulator. -/
theorem scratch_even (t : Fin cfg0.N) (h0 : t.val % 2 = 0) (k : Fin 1024) (l : Fin 1024) :
    (outsAt0 m c t.val t.isLt).2 (ix2 k l) = share m c 0 (kof t k) l := by
  rw [outsAt0_A m c t h0 (by omega) (by omega)]
  frame_out
  refine (pay2_apply (iblk m c 0 t) (iblk m c 1 t) k l).trans ?_
  refine Finset.sum_congr rfl fun r _ => ?_
  rw [blk_0 m c t r k 0 h0, blk_1 m c t r l 0 h0]

/-- What an odd point leaves in the output's block. -/
theorem out_odd (t : Fin cfg0.N) (h1 : t.val % 2 = 1) (k : Fin 1024) (l : Fin 1024) :
    (outsAt0 m c t.val t.isLt).1 (ix3 0 k l) = W m c (kof t k) l := by
  have he := scratch_even m c ⟨t.val - 1, by omega⟩ (by show (t.val - 1) % 2 = 0; omega) k l
  rw [outsAt0_B m c t (by omega) h1 h1]
  frame_out
  refine (pay4_apply _ k l).trans ((pay3_apply (iblk m c 0 t) (iblk m c 1 t) _ k l).trans ?_)
  refine Eq.trans (congrArg₂ (· + ·) (x' := share m c 0 (kof t k) l) (y' := share m c 1 (kof t k) l) ?_ ?_) (share_sum m c _ l)
  · rw [read_unread_whole]
    refine he.trans (congrArg (share m c 0 · l) ?_)
    rfl
  · refine Finset.sum_congr rfl fun r _ => ?_
    rw [blk_0 m c t r k 1 h1, blk_1 m c t r l 1 h1]

/-- The array after the run. -/
theorem arr_2 : (dats m 0 c).arrAt 2 cfg0.N = fun i => W m c (i 1) (i 2) := by
  refine (dats m 0 c).arrAt_eq_of_covers 2 _ (by decide +kernel) fun t hf y => ?_
  have idx : ∀ t, win0_2.index t = ![0, 0, 0] := by decide +kernel
  have h1 : t.val % 2 = 1 := (flush0_2 t).mp hf
  blk_simp
  rw [after0_2]
  have he : ∃ (k : Fin 1024) (l : Fin 1024), y = ix3 0 k l ∧ (win0_2.blk t).view.emb y = ix3 0 (kof t k) l := by
    idx_vars y
    refine ⟨y1, y2, ?_, ?_⟩
    · blk_ext []
    · unfold kof
      blk_ext [idx t]
  obtain ⟨k, l, rfl, he⟩ := he
  refine (out_odd m c t h1 k l).trans ?_
  exact (congrArg (fun i : S1x1024x1024.Idx => W m c (i 1) (i 2)) he).symm

end Cert.Weight.Xo.Sum

namespace Cert.Weight.Xo.Ref
open Cert.DwXoReferenceIdeal Cert.DwXoReferenceIdeal.Gen Idealize.ShloMosaic Idealize.ShloMosaic.TcCoe Idealize.SL.Sem

theorem prod_apply (x : FVec Ideal S8192x1024 .bf16) (y : FVec Ideal S8192x1024 .bf16) (j : Fin 1024) (k : Fin 1024) :
    (Host.dotGeneral dot_S8192x1024_S8192x1024_S1024x1024_0_0_1_1_n_n none (extf .f32 y bitsLt_bf16_f32 : FVec Ideal S8192x1024 .f32)
        (extf .f32 x bitsLt_bf16_f32 : FVec Ideal S8192x1024 .f32) : FVec Ideal S1024x1024 .f32) (ix2 j k)
      = ∑ s : Fin 8192, x (ix2 s k) * y (ix2 s j) := by
  refine Eq.trans (b := ∑ s : Fin 8192, y (ix2 s j) * x (ix2 s k)) ?_ (Finset.sum_congr rfl fun s _ => mul_comm _ _)
  pointwise

theorem cut_apply (z : FVec Ideal S1024x1024 .f32) (p : Fin 1) (k : Fin 1024) (l : Fin 1024) :
    truncf .bf16 (transpose S1x1024x1024 [1, 0, 2] (shapeCast S1024x1x1024 (transpose S1024x1024 [1, 0] z transposes_S1024x1024_S1024x1024_1_0)
        shapeCasts_S1024x1024_S1024x1x1024) transposes_S1024x1x1024_S1x1024x1024_1_0_2) bitsLt_bf16_f32 (ix3 p k l)
      = z (ix2 l k) := by
  pointwise

end Cert.Weight.Xo.Ref

namespace Cert.Weight.Xo.Claims
open Idealize.ShloMosaic Idealize.ShloMosaic.TcCoe Idealize.SL.Sem

theorem frame_p : Cert.quiescent_DwXo := fun m ρ _ => Cert.DwXo.Gen.frame m ρ

theorem frame_pi : Cert.quiescent_DwXoIdeal := fun m ρ _ => Cert.DwXoIdeal.Gen.frame m ρ

/-- The reference writes none of its arguments and has no semaphores. -/
theorem frame_ri : Cert.quiescent_DwXoReferenceIdeal := fun m ρ _ =>
  (θ_run Cert.DwXoReferenceIdeal.defs _ _).mono (fun r h => ⟨fun c => (h c).2, sem_eq_zero_of_no_sems (by decide) r.2⟩)
    (Cert.DwXoReferenceIdeal.Value.run (F := Ideal) m ρ)

/-- Kernel and reference end with the same weight gradient. -/
theorem algebraic : Cert.algebraic_DwXoIdeal_DwXoReferenceIdeal := by
  intro m g m' g' _ hag
  refine ⟨_, Cert.DwXoIdeal.Value.run_blocks m g,
    (θ_run Cert.DwXoReferenceIdeal.defs _ _).mono (fun r h c => ?_) (Cert.DwXoReferenceIdeal.Value.run (F := Ideal) m' g')⟩
  obtain ⟨e, ha⟩ := h c
  obtain ⟨g0, g1⟩ := hag c
  refine ⟨e.trans ?_, ha⟩
  rw [Sum.arr_2, g0, g1]
  funext i
  idx_vars i
  exact (Ref.cut_apply _ i0 i1 i2).trans (Ref.prod_apply _ _ _ i1)

end Cert.Weight.Xo.Claims

end
-- ==== Proof.Dw.In.lean ====
/-
  The gradient of the first weight of the step: the kernel's array and the reference's are the same sums over the rows.
-/
module

public import proofs.«01_k».proof.Defs
public import proofs.«01_k».proof.Proof.Gen.DwIn.Frame
public import proofs.«01_k».proof.Proof.Gen.DwInIdeal.Value
public import proofs.«01_k».proof.Proof.Gen.DwInReferenceIdeal.Run
public import Idealize.ShloMosaic.Lib.Pipeline.ValueKit
public import Idealize.ShloMosaic.Lib.Pipeline.ReadBack
public import Idealize.ShloMosaic.Lib.Pointwise
public import Idealize.ShloMosaic.Lib.KernelVsHost

@[expose] public section

set_option maxRecDepth 16384

noncomputable section

namespace Cert.Weight.In.Sum
open Cert.DwInIdeal Cert.DwInIdeal.Gen Idealize.ShloMosaic Idealize.ShloMosaic.TcCoe Idealize.SL.Sem

theorem pay1_apply (v0 : Vec Ideal S2048x1024 .bf16) (v1 : Vec Ideal S2048x1280 .bf16) (k : Fin 1024) (l : Fin 1280) :
    k0_pay1 v0 v1 (ix2 k l) = ∑ r : Fin 2048, v0 (ix2 r k) * v1 (ix2 r l) := by
  pointwise [k0_pay1]

theorem pay2_apply (v0 : Vec Ideal S2048x1024 .bf16) (v1 : Vec Ideal S2048x1280 .bf16) (k : Fin 1024) (l : Fin 1280) :
    k0_pay2 v0 v1 (ix2 k l) = ∑ r : Fin 2048, v0 (ix2 r k) * v1 (ix2 r l) := by
  refine Eq.trans ?_ (pay1_apply v0 v1 k l)
  pointwise [k0_pay2]

theorem pay3_apply (v0 : Vec Ideal S2048x1024 .bf16) (v1 : Vec Ideal S2048x1280 .bf16) (a : Vec Ideal S1024x1280 .f32) (k : Fin 1024) (l : Fin 1280) :
    k0_pay3 v0 v1 a (ix2 k l) = a (ix2 k l) + ∑ r : Fin 2048, v0 (ix2 r k) * v1 (ix2 r l) := by
  refine Eq.trans ?_ (congrArg (a (ix2 k l) + ·) (pay1_apply v0 v1 k l))
  pointwise [k0_pay3]

theorem pay4_apply (a : Vec Ideal S1024x640 .f32) (k : Fin 1024) (l : Fin 640) :
    k0_pay4 a (ix3 0 k l) = a (ix2 k l) := by
  pointwise [k0_pay4]

theorem pay5_apply (a : Vec Ideal S1024x640 .f32) (k : Fin 1024) (l : Fin 640) :
    k0_pay5 a (ix3 0 k l) = a (ix2 k l) := by
  pointwise [k0_pay5]

variable (m : (ℓ : Loc nD τ sig) → Buf (Elt Ideal) ℓ) (c : Dev nD)

/-- The rows. -/
def X (i : Fin 8192) (k : Fin 1024) : EReal := m ((c.tc : Thread nD τ).loc main_arg0) (ix2 i k)
/-- The gradient of the product. -/
def Y (i : Fin 8192) (j : Fin 2560) : EReal := m ((c.tc : Thread nD τ).loc main_arg1) (ix2 i j)
/-- The gradient of the weight: a sum over all rows. -/
def W (p : Fin 4) (k : Fin 1024) (l : Fin 640) : EReal := ∑ s : Fin 8192, X m c s k * Y m c s ⟨p.val * 640 + l.val, by omega⟩

theorem row_lt (b : Fin 4) (r : Fin 2048) : b.val * 2048 + r.val < 8192 := by omega
theorem part_lt (t : Fin cfg0.N) : t.val / 4 < 2 := by
  have : t.val < 8 := lt_of_lt_of_eq t.isLt N_0
  omega

/-- The column of the product of a column of a pair of blocks. -/
def jof (t : Fin cfg0.N) (l : Fin 1280) : Fin 2560 := ⟨t.val / 4 * 1280 + l.val, by have := part_lt t; omega⟩

/-- One block of rows' share. -/
def share (b : Fin 4) (k : Fin 1024) (j : Fin 2560) : EReal :=
  ∑ r : Fin 2048, X m c ⟨b.val * 2048 + r.val, row_lt b r⟩ k * Y m c ⟨b.val * 2048 + r.val, row_lt b r⟩ j

theorem share_sum (k : Fin 1024) (j : Fin 2560) :
    share m c 0 k j + share m c 1 k j + share m c 2 k j + share m c 3 k j = ∑ s : Fin 8192, X m c s k * Y m c s j := by
  refine (Fin.sum_univ_four (fun b => share m c b k j)).symm.trans ?_
  exact Fin.sum_mul_add_congr (n := 2048) (fun b r hl => rfl) (by rfl)

theorem blk_0 (t : Fin cfg0.N) (r : Fin 2048) (k : Fin 1024) (b : Fin 4) (hb : t.val % 4 = b.val) :
    iblk m c 0 t (ix2 r k) = X m c ⟨b.val * 2048 + r.val, row_lt b r⟩ k := by
  unfold X
  have idx : ∀ t, win0_0.index t = ![t.val % 4, 0] := by decide +kernel
  blk_ext [iblk, V, idx t, hb]

theorem blk_1 (t : Fin cfg0.N) (r : Fin 2048) (l : Fin 1280) (b : Fin 4) (hb : t.val % 4 = b.val) :
    iblk m c 1 t (ix2 r l) = Y m c ⟨b.val * 2048 + r.val, row_lt b r⟩ (jof t l) := by
  unfold Y jof
  have idx : ∀ t, win0_1.index t = ![t.val % 4, t.val / 4] := by decide +kernel
  blk_ext [iblk, V, idx t, hb]

theorem share_blk (t : Fin cfg0.N) (b : Fin 4) (hb : t.val % 4 = b.val) (k : Fin 1024) (l : Fin 1280) :
    (∑ r : Fin 2048, (show EReal from iblk m c 0 t (ix2 r k)) * (show EReal from iblk m c 1 t (ix2 r l))) = share m c b k (jof t l) := by
  refine Finset.sum_congr rfl fun r _ => ?_
  rw [blk_0 m c t r k b hb, blk_1 m c t r l b hb]

/-- What the first point of four leaves in the accumulator. -/
theorem scratch_first (t : Fin cfg0.N) (h0 : t.val % 4 = 0) (k : Fin 1024) (l : Fin 1280) :
    (outsAt0 m c t.val t.isLt).2 (ix2 k l) = share m c 0 k (jof t l) := by
  rw [outsAt0_A m c t h0 (by omega) (by omega)]
  frame_out
  exact (pay2_apply (iblk m c 0 t) (iblk m c 1 t) k l).trans (share_blk m c t 0 h0 k l)

/-- What a middle point leaves in the accumulator. -/
theorem scratch_step (t : Fin cfg0.N) (b : Fin 4) (hb : t.val % 4 = b.val) (h0 : ¬t.val % 4 = 0) (h3 : ¬t.val % 4 = 3) (k : Fin 1024) (l : Fin 1280) :
    (outsAt0 m c t.val t.isLt).2 (ix2 k l)
      = (show EReal from (outsAt0 m c (t.val - 1) (Nat.lt_of_le_of_lt (Nat.sub_le _ _) t.isLt)).2 (ix2 k l)) + share m c b k (jof t l) := by
  rw [outsAt0_B m c t h0 (by omega) h3]
  frame_out
  refine (pay3_apply (iblk m c 0 t) (iblk m c 1 t) _ k l).trans ?_
  rw [read_unread_whole]
  exact congrArg (_ + ·) (share_blk m c t b hb k l)

/-- What the third point of four leaves in the accumulator. -/
theorem scratch_third (t : Fin cfg0.N) (h : t.val % 4 = 2) (k : Fin 1024) (l : Fin 1280) :
    (outsAt0 m c t.val t.isLt).2 (ix2 k l) = share m c 0 k (jof t l) + share m c 1 k (jof t l) + share m c 2 k (jof t l) := by
  have h2 := scratch_step m c t 2 h (by omega) (by omega) k l
  have h1 := scratch_step m c ⟨t.val - 1, by omega⟩ 1 (by show (t.val - 1) % 4 = 1; omega) (by show ¬(t.val - 1) % 4 = 0; omega)
    (by show ¬(t.val - 1) % 4 = 3; omega) k l
  have h0 := scratch_first m c ⟨t.val - 1 - 1, by omega⟩ (by show (t.val - 1 - 1) % 4 = 0; omega) k l
  have e1 : jof ⟨t.val - 1, by omega⟩ l = jof t l := Fin.ext (by show (t.val - 1) / 4 * 1280 + l.val = t.val / 4 * 1280 + l.val; omega)
  have e0 : jof ⟨t.val - 1 - 1, by omega⟩ l = jof t l := Fin.ext (by show (t.val - 1 - 1) / 4 * 1280 + l.val = t.val / 4 * 1280 + l.val; omega)
  rw [e1] at h1
  rw [e0] at h0
  exact h2.trans (congrArg (· + _) (h1.trans (congrArg (· + _) h0)))

/-- A load of some columns of an array which one store wrote whole. -/
theorem read_cols {κ : Kind} {sp : Space} (v : View sig κ sp S1024x1280 .f32) (w : S1024x1280.Idx → Elt Ideal .f32) (o : Nat)
    (i0 : ∀ a, (![0, 0] : Fin 2 → Nat) a + S1024x1280.size a ≤ S1024x1280.size a)
    (i1 : ∀ a, (![0, o] : Fin 2 → Nat) a + (![1024, 640] : Fin 2 → Nat) a ≤ S1024x1280.size a) (ho : o + 640 ≤ 1280) :
    @Eq (Vec Ideal S1024x640 .f32)
      (v.readCov [(⟨Rect.unit ![0, 0] S1024x1280.size i0, w⟩ : View.Piece (Elt Ideal) S1024x1280 .f32)]
        (Rect.unit (s := S1024x1280) ![0, o] ![1024, 640] i1).toLoadRect)
      (fun i => w (ix2 (i 0) ⟨o + (i 1).val, by have h : (i 1).val < 640 := (i 1).isLt; omega⟩)) := by
  rw [View.readCov_eq_canon', View.canon_unit_zero (by decide)]
  refine funext (α := S1024x640.Idx) fun i => ?_
  show w _ = w _
  congr 1
  funext a
  match a with
  | 0 => exact Fin.ext (by show 0 + 1 * ((i 0 : Fin 1024)).val = ((i 0 : Fin 1024)).val; omega)
  | 1 => exact Fin.ext (by show o + 1 * ((i 1 : Fin 640)).val = o + ((i 1 : Fin 640)).val; omega)

/-- What the last point of four leaves in the output's block. -/
theorem out_last (t : Fin cfg0.N) (h : t.val % 4 = 3) (p : Fin 2) (k : Fin 1024) (l : Fin 640) :
    (outsAt0 m c t.val t.isLt).1 (ix3 p k l) = W m c ⟨t.val / 4 * 2 + p.val, by have := part_lt t; omega⟩ k l := by
  have h2 := scratch_third m c ⟨t.val - 1, by omega⟩ (by show (t.val - 1) % 4 = 2; omega) k
  have fin : ∀ j : Fin 1280, k0_pay3 (iblk m c 0 t) (iblk m c 1 t)
      (outsAt0 m c (t.val - 1) (Nat.lt_of_le_of_lt (Nat.sub_le _ _) t.isLt)).2 (ix2 k j) = ∑ s : Fin 8192, X m c s k * Y m c s (jof t j) := by
    intro j
    refine (pay3_apply (iblk m c 0 t) (iblk m c 1 t) _ k j).trans ?_
    have e1 : jof ⟨t.val - 1, by omega⟩ j = jof t j := Fin.ext (by show (t.val - 1) / 4 * 1280 + j.val = t.val / 4 * 1280 + j.val; omega)
    have h2j := h2 j
    rw [e1] at h2j
    exact (congr (congrArg HAdd.hAdd h2j) (share_blk m c t 3 h k j)).trans (share_sum m c k (jof t j))
  rw [outsAt0_C m c t (by omega) (by omega) h]
  frame_open
  frame_out
  rw [read_unread_whole]
  canon_tiles x h
  · idx_vars x
    obtain rfl : k = x1 := Fin.ext h1
    obtain rfl : l = x2 := Fin.ext h2
    obtain rfl : x0 = 0 := Subsingleton.elim _ _
    refine (pay5_apply _ k l).trans ((congrFun (read_cols _ _ 640 _ _ (by omega)) (ix2 k l)).trans ((fin _).trans ?_))
    refine Finset.sum_congr rfl fun s _ => congrArg (X m c s k * Y m c s ·) (Fin.ext ?_)
    show t.val / 4 * 1280 + (640 + l.val) = (t.val / 4 * 2 + p.val) * 640 + l.val
    have : p.val = 1 := h0
    omega
  · idx_vars x
    obtain rfl : k = x1 := Fin.ext h1
    obtain rfl : l = x2 := Fin.ext h2
    obtain rfl : x0 = 0 := Subsingleton.elim _ _
    refine (pay4_apply _ k l).trans ((congrFun (read_cols _ _ 0 _ _ (by omega)) (ix2 k l)).trans ((fin _).trans ?_))
    refine Finset.sum_congr rfl fun s _ => congrArg (X m c s k * Y m c s ·) (Fin.ext ?_)
    show t.val / 4 * 1280 + (0 + l.val) = (t.val / 4 * 2 + p.val) * 640 + l.val
    have : p.val = 0 := h0
    omega

/-- The array after the run. -/
theorem arr_2 : (dats m 0 c).arrAt 2 cfg0.N = fun i => W m c (i 0) (i 1) (i 2) := by
  refine (dats m 0 c).arrAt_eq_of_covers 2 _ (by decide +kernel) fun t hf y => ?_
  have idx : ∀ t, win0_2.index t = ![t.val / 4, 0, 0] := by decide +kernel
  have h1 : t.val % 4 = 3 := (flush0_2 t).mp hf
  blk_simp
  rw [after0_2]
  have he : ∃ (p : Fin 2) (k : Fin 1024) (l : Fin 640), y = ix3 p k l
      ∧ (win0_2.blk t).view.emb y = ix3 ⟨t.val / 4 * 2 + p.val, by have := part_lt t; omega⟩ k l := by
    idx_vars y
    refine ⟨y0, y1, y2, ?_, ?_⟩
    · blk_ext []
    · blk_ext [idx t]
  obtain ⟨p, k, l, rfl, he⟩ := he
  refine (out_last m c t h1 p k l).trans ?_
  exact (congrArg (fun i : S4x1024x640.Idx => W m c (i 0) (i 1) (i 2)) he).symm

end Cert.Weight.In.Sum

namespace Cert.Weight.In.Ref
open Cert.DwInReferenceIdeal Cert.DwInReferenceIdeal.Gen Idealize.ShloMosaic Idealize.ShloMosaic.TcCoe Idealize.SL.Sem

theorem prod_apply (x : FVec Ideal S8192x1024 .bf16) (y : FVec Ideal S8192x2560 .bf16) (j : Fin 2560) (k : Fin 1024) :
    (Host.dotGeneral dot_S8192x2560_S8192x1024_S2560x1024_0_0_1_1_n_n none (extf .f32 y bitsLt_bf16_f32 : FVec Ideal S8192x2560 .f32)
        (extf .f32 x bitsLt_bf16_f32 : FVec Ideal S8192x1024 .f32) : FVec Ideal S2560x1024 .f32) (ix2 j k)
      = ∑ s : Fin 8192, x (ix2 s k) * y (ix2 s j) := by
  refine Eq.trans (b := ∑ s : Fin 8192, y (ix2 s j) * x (ix2 s k)) ?_ (Finset.sum_congr rfl fun s _ => mul_comm _ _)
  pointwise

theorem cut_apply (z : FVec Ideal S2560x1024 .f32) (p : Fin 4) (k : Fin 1024) (l : Fin 640) :
    truncf .bf16 (transpose S4x1024x640 [1, 0, 2] (shapeCast S1024x4x640 (transpose S1024x2560 [1, 0] z transposes_S2560x1024_S1024x2560_1_0)
        shapeCasts_S1024x2560_S1024x4x640) transposes_S1024x4x640_S4x1024x640_1_0_2) bitsLt_bf16_f32 (ix3 p k l)
      = z (ix2 ⟨p.val * 640 + l.val, by omega⟩ k) := by
  pointwise

end Cert.Weight.In.Ref

namespace Cert.Weight.In.Claims
open Idealize.ShloMosaic Idealize.ShloMosaic.TcCoe Idealize.SL.Sem

theorem frame_p : Cert.quiescent_DwIn := fun m ρ _ => Cert.DwIn.Gen.frame m ρ

theorem frame_pi : Cert.quiescent_DwInIdeal := fun m ρ _ => Cert.DwInIdeal.Gen.frame m ρ

/-- The reference writes none of its arguments and has no semaphores. -/
theorem frame_ri : Cert.quiescent_DwInReferenceIdeal := fun m ρ _ =>
  (θ_run Cert.DwInReferenceIdeal.defs _ _).mono (fun r h => ⟨fun c => (h c).2, sem_eq_zero_of_no_sems (by decide) r.2⟩)
    (Cert.DwInReferenceIdeal.Value.run (F := Ideal) m ρ)

/-- Kernel and reference end with the same weight gradient. -/
theorem algebraic : Cert.algebraic_DwInIdeal_DwInReferenceIdeal := by
  intro m g m' g' _ hag
  refine ⟨_, Cert.DwInIdeal.Value.run_blocks m g,
    (θ_run Cert.DwInReferenceIdeal.defs _ _).mono (fun r h c => ?_) (Cert.DwInReferenceIdeal.Value.run (F := Ideal) m' g')⟩
  obtain ⟨e, ha⟩ := h c
  obtain ⟨g0, g1⟩ := hag c
  refine ⟨e.trans ?_, ha⟩
  rw [Sum.arr_2, g0, g1]
  funext i
  idx_vars i
  exact (Ref.cut_apply _ i0 i1 i2).trans (Ref.prod_apply _ _ _ i1)

end Cert.Weight.In.Claims

end
-- ==== Proof.Dw.Out.lean ====
/-
  The gradient of one half of the output weight of the mixing layer: the kernel's array and the reference's are the same sums over the rows.
-/
module

public import proofs.«01_k».proof.Defs
public import proofs.«01_k».proof.Proof.Gen.DwOut.Frame
public import proofs.«01_k».proof.Proof.Gen.DwOutIdeal.Value
public import proofs.«01_k».proof.Proof.Gen.DwOutReferenceIdeal.Run
public import Idealize.ShloMosaic.Lib.Pipeline.ValueKit
public import Idealize.ShloMosaic.Lib.Pipeline.ReadBack
public import Idealize.ShloMosaic.Lib.Pointwise
public import Idealize.ShloMosaic.Lib.KernelVsHost

@[expose] public section

set_option maxRecDepth 16384

noncomputable section

namespace Cert.Weight.Out.Sum
open Cert.DwOutIdeal Cert.DwOutIdeal.Gen Idealize.ShloMosaic Idealize.ShloMosaic.TcCoe Idealize.SL.Sem

theorem pay1_apply (v0 : Vec Ideal S4096x512 .bf16) (v1 : Vec Ideal S4096x1024 .bf16) (k : Fin 512) (l : Fin 1024) :
    k0_pay1 v0 v1 (ix2 k l) = ∑ r : Fin 4096, v0 (ix2 r k) * v1 (ix2 r l) := by
  pointwise [k0_pay1]

theorem pay2_apply (v0 : Vec Ideal S4096x512 .bf16) (v1 : Vec Ideal S4096x1024 .bf16) (k : Fin 512) (l : Fin 1024) :
    k0_pay2 v0 v1 (ix2 k l) = ∑ r : Fin 4096, v0 (ix2 r k) * v1 (ix2 r l) := by
  refine Eq.trans ?_ (pay1_apply v0 v1 k l)
  pointwise [k0_pay2]

theorem pay3_apply (v0 : Vec Ideal S4096x512 .bf16) (v1 : Vec Ideal S4096x1024 .bf16) (a : Vec Ideal S512x1024 .f32) (k : Fin 512) (l : Fin 1024) :
    k0_pay3 v0 v1 a (ix2 k l) = a (ix2 k l) + ∑ r : Fin 4096, v0 (ix2 r k) * v1 (ix2 r l) := by
  refine Eq.trans ?_ (congrArg (a (ix2 k l) + ·) (pay1_apply v0 v1 k l))
  pointwise [k0_pay3]

theorem pay4_apply (a : Vec Ideal S512x1024 .f32) (k : Fin 512) (l : Fin 1024) :
    k0_pay4 a (ix3 0 k l) = a (ix2 k l) := by
  pointwise [k0_pay4]

variable (m : (ℓ : Loc nD τ sig) → Buf (Elt Ideal) ℓ) (c : Dev nD)

/-- The rows. -/
def X (i : Fin 8192) (k : Fin 512) : EReal := m ((c.tc : Thread nD τ).loc main_arg0) (ix2 i k)
/-- The gradient of the product. -/
def Y (i : Fin 8192) (j : Fin 1024) : EReal := m ((c.tc : Thread nD τ).loc main_arg1) (ix2 i j)
/-- The gradient of the weight: a sum over all rows. -/
def W (k : Fin 512) (j : Fin 1024) : EReal := ∑ s : Fin 8192, X m c s k * Y m c s j

theorem row_lt (b : Fin 2) (r : Fin 4096) : b.val * 4096 + r.val < 8192 := by omega
theorem part_lt (t : Fin cfg0.N) : t.val / 2 < 1 := by
  have : t.val < 2 := lt_of_lt_of_eq t.isLt N_0
  omega

/-- The weight's row of a block's row. -/
def kof (t : Fin cfg0.N) (k : Fin 512) : Fin 512 := k

/-- One block of rows' share. -/
def share (b : Fin 2) (k : Fin 512) (j : Fin 1024) : EReal :=
  ∑ r : Fin 4096, X m c ⟨b.val * 4096 + r.val, row_lt b r⟩ k * Y m c ⟨b.val * 4096 + r.val, row_lt b r⟩ j

theorem share_sum (k : Fin 512) (j : Fin 1024) : share m c 0 k j + share m c 1 k j = W m c k j := by
  refine (Fin.sum_univ_two (fun b => share m c b k j)).symm.trans ?_
  exact Fin.sum_mul_add_congr (n := 4096) (fun b r hl => rfl) (by rfl)

theorem blk_0 (t : Fin cfg0.N) (r : Fin 4096) (k : Fin 512) (b : Fin 2) (hb : t.val % 2 = b.val) :
    iblk m c 0 t (ix2 r k) = X m c ⟨b.val * 4096 + r.val, row_lt b r⟩ (kof t k) := by
  unfold X kof
  have idx : ∀ t, win0_0.index t = ![t.val % 2, 0] := by decide +kernel
  blk_ext [iblk, V, idx t, hb]

theorem blk_1 (t : Fin cfg0.N) (r : Fin 4096) (l : Fin 1024) (b : Fin 2) (hb : t.val % 2 = b.val) :
    iblk m c 1 t (ix2 r l) = Y m c ⟨b.val * 4096 + r.val, row_lt b r⟩ l := by
  unfold Y
  have idx : ∀ t, win0_1.index t = ![t.val % 2, 0] := by decide +kernel
  blk_ext [iblk, V, idx t, hb]

/-- What an even point leaves in the accumulator. -/
theorem scratch_even (t : Fin cfg0.N) (h0 : t.val % 2 = 0) (k : Fin 512) (l : Fin 1024) :
    (outsAt0 m c t.val t.isLt).2 (ix2 k l) = share m c 0 (kof t k) l := by
  rw [outsAt0_A m c t h0 (by omega) (by omega)]
  frame_out
  refine (pay2_apply (iblk m c 0 t) (iblk m c 1 t) k l).trans ?_
  refine Finset.sum_congr rfl fun r _ => ?_
  rw [blk_0 m c t r k 0 h0, blk_1 m c t r l 0 h0]

/-- What an odd point leaves in the output's block. -/
theorem out_odd (t : Fin cfg0.N) (h1 : t.val % 2 = 1) (k : Fin 512) (l : Fin 1024) :
    (outsAt0 m c t.val t.isLt).1 (ix3 0 k l) = W m c (kof t k) l := by
  have he := scratch_even m c ⟨t.val - 1, by omega⟩ (by show (t.val - 1) % 2 = 0; omega) k l
  rw [outsAt0_B m c t (by omega) h1 h1]
  frame_out
  refine (pay4_apply _ k l).trans ((pay3_apply (iblk m c 0 t) (iblk m c 1 t) _ k l).trans ?_)
  refine Eq.trans (congrArg₂ (· + ·) (x' := share m c 0 (kof t k) l) (y' := share m c 1 (kof t k) l) ?_ ?_) (share_sum m c _ l)
  · rw [read_unread_whole]
    refine he.trans (congrArg (share m c 0 · l) ?_)
    rfl
  · refine Finset.sum_congr rfl fun r _ => ?_
    rw [blk_0 m c t r k 1 h1, blk_1 m c t r l 1 h1]

/-- The array after the run. -/
theorem arr_2 : (dats m 0 c).arrAt 2 cfg0.N = fun i => W m c (i 1) (i 2) := by
  refine (dats m 0 c).arrAt_eq_of_covers 2 _ (by decide +kernel) fun t hf y => ?_
  have idx : ∀ t, win0_2.index t = ![0, 0, 0] := by decide +kernel
  have h1 : t.val % 2 = 1 := (flush0_2 t).mp hf
  blk_simp
  rw [after0_2]
  have he : ∃ (k : Fin 512) (l : Fin 1024), y = ix3 0 k l ∧ (win0_2.blk t).view.emb y = ix3 0 (kof t k) l := by
    idx_vars y
    refine ⟨y1, y2, ?_, ?_⟩
    · blk_ext []
    · unfold kof
      blk_ext [idx t]
  obtain ⟨k, l, rfl, he⟩ := he
  refine (out_odd m c t h1 k l).trans ?_
  exact (congrArg (fun i : S1x512x1024.Idx => W m c (i 1) (i 2)) he).symm

end Cert.Weight.Out.Sum

namespace Cert.Weight.Out.Ref
open Cert.DwOutReferenceIdeal Cert.DwOutReferenceIdeal.Gen Idealize.ShloMosaic Idealize.ShloMosaic.TcCoe Idealize.SL.Sem

theorem prod_apply (x : FVec Ideal S8192x512 .bf16) (y : FVec Ideal S8192x1024 .bf16) (j : Fin 1024) (k : Fin 512) :
    (Host.dotGeneral dot_S8192x1024_S8192x512_S1024x512_0_0_1_1_n_n none (extf .f32 y bitsLt_bf16_f32 : FVec Ideal S8192x1024 .f32)
        (extf .f32 x bitsLt_bf16_f32 : FVec Ideal S8192x512 .f32) : FVec Ideal S1024x512 .f32) (ix2 j k)
      = ∑ s : Fin 8192, x (ix2 s k) * y (ix2 s j) := by
  refine Eq.trans (b := ∑ s : Fin 8192, y (ix2 s j) * x (ix2 s k)) ?_ (Finset.sum_congr rfl fun s _ => mul_comm _ _)
  pointwise

theorem cut_apply (z : FVec Ideal S1024x512 .f32) (p : Fin 1) (k : Fin 512) (l : Fin 1024) :
    truncf .bf16 (transpose S1x512x1024 [1, 0, 2] (shapeCast S512x1x1024 (transpose S512x1024 [1, 0] z transposes_S1024x512_S512x1024_1_0)
        shapeCasts_S512x1024_S512x1x1024) transposes_S512x1x1024_S1x512x1024_1_0_2) bitsLt_bf16_f32 (ix3 p k l)
      = z (ix2 l k) := by
  pointwise

end Cert.Weight.Out.Ref

namespace Cert.Weight.Out.Claims
open Idealize.ShloMosaic Idealize.ShloMosaic.TcCoe Idealize.SL.Sem

theorem frame_p : Cert.quiescent_DwOut := fun m ρ _ => Cert.DwOut.Gen.frame m ρ

theorem frame_pi : Cert.quiescent_DwOutIdeal := fun m ρ _ => Cert.DwOutIdeal.Gen.frame m ρ

/-- The reference writes none of its arguments and has no semaphores. -/
theorem frame_ri : Cert.quiescent_DwOutReferenceIdeal := fun m ρ _ =>
  (θ_run Cert.DwOutReferenceIdeal.defs _ _).mono (fun r h => ⟨fun c => (h c).2, sem_eq_zero_of_no_sems (by decide) r.2⟩)
    (Cert.DwOutReferenceIdeal.Value.run (F := Ideal) m ρ)

/-- Kernel and reference end with the same weight gradient. -/
theorem algebraic : Cert.algebraic_DwOutIdeal_DwOutReferenceIdeal := by
  intro m g m' g' _ hag
  refine ⟨_, Cert.DwOutIdeal.Value.run_blocks m g,
    (θ_run Cert.DwOutReferenceIdeal.defs _ _).mono (fun r h c => ?_) (Cert.DwOutReferenceIdeal.Value.run (F := Ideal) m' g')⟩
  obtain ⟨e, ha⟩ := h c
  obtain ⟨g0, g1⟩ := hag c
  refine ⟨e.trans ?_, ha⟩
  rw [Sum.arr_2, g0, g1]
  funext i
  idx_vars i
  exact (Ref.cut_apply _ i0 i1 i2).trans (Ref.prod_apply _ _ _ i1)

end Cert.Weight.Out.Claims

end
-- ==== Proof.First.Region0.lean ====
/-
  The normalised rows: what the first call leaves in its array.
-/
module

public import proofs.«01_k».proof.Proof.Gen.FirstIdeal.Frame
public import proofs.«01_k».proof.Proof.Math.Norm
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Front.Region0
open Cert.FirstIdeal Cert.FirstIdeal.Gen Cert.Math Idealize.ShloMosaic Idealize.ShloMosaic.TcCoe

theorem pay1_apply (v0 : Vec Ideal S512x1024 .f32) (v11 : Vec Ideal S1x1024 .f32) (r : Fin 512) (l : Fin 1024) :
    k0_pay1 v0 v11 (ix2 r l) = nrm (fun k => v0 (ix2 r k)) l * v11 (ix2 0 l) := by
  unfold k0_pay1 nrm rs var len eps
  pointwise

variable (V : (c : Dev nD) → (b : Ref sig .tc) → Buf (Elt Ideal) ((c : Thread nD τ).loc b)) (c : Dev nD)

theorem row_lt (t : Fin cfg0.N) (r : Fin 512) : t.val * 512 + r.val < 8192 := by
  have : t.val < 16 := lt_of_lt_of_eq t.isLt N_0
  omega

/-- The rows. -/
def A (i : Fin 8192) (k : Fin 1024) : EReal := V c main_arg0 (ix2 i k)
/-- The gain. -/
def G (j : Fin 1024) : EReal := V c main_arg1 (ix2 0 j)

theorem blk_0 (t : Fin cfg0.N) (r : Fin 512) (l : Fin 1024) :
    iblk0 V c 0 t (ix2 r l) = A V c ⟨t.val * 512 + r.val, row_lt t r⟩ l := by
  unfold A
  have idx : ∀ t, win0_0.index t = ![t.val, 0] := by decide +kernel
  blk_ext [iblk0, idx t]

theorem blk_1 (t : Fin cfg0.N) (l : Fin 1024) :
    iblk0 V c 1 t (ix2 0 l) = G V c l := by
  unfold G
  have idx : ∀ t, win0_1.index t = ![0, 0] := by decide +kernel
  blk_ext [iblk0, idx t]

theorem out_2 (t : Fin cfg0.N) (r : Fin 512) (l : Fin 1024) :
    out0_2 (iblk0 V c 0 t) (iblk0 V c 1 t) (ix2 r l) = nrm (A V c ⟨t.val * 512 + r.val, row_lt t r⟩) l * G V c l := by
  frame_out
  refine (pay1_apply (iblk0 V c 0 t) (iblk0 V c 1 t) r l).trans ?_
  rw [blk_1, funext (blk_0 V c t r)]

/-- The normalised rows after the run. -/
theorem arr_2 : (dat0 V c).arrAt 2 cfg0.N = fun i => nrm (A V c (i 0)) (i 1) * G V c (i 1) := by
  refine (dat0 V c).arrAt_eq_of_covers 2 _ (by decide +kernel) fun t hf y => ?_
  have idx : ∀ t, win0_2.index t = ![t.val, 0] := by decide +kernel
  blk_simp
  rw [after0_2]
  have he : ∃ r : Fin 512, ∃ l : Fin 1024, y = ix2 r l ∧
      (win0_2.blk t).view.emb y = ix2 ⟨t.val * 512 + r.val, row_lt t r⟩ l := by
    idx_vars y
    refine ⟨y0, y1, rfl, ?_⟩
    blk_ext [idx t]
  obtain ⟨r, l, rfl, he⟩ := he
  refine (out_2 V c t r l).trans ?_
  exact (congrArg (fun i : S8192x1024.Idx => nrm (A V c (i 0)) (i 1) * G V c (i 1)) he).symm

end Cert.Front.Region0
-- ==== Proof.First.Region1.lean ====
/-
  The first product: what the second call leaves in its array.
-/
module

public import proofs.«01_k».proof.Proof.Gen.FirstIdeal.Frame
public import proofs.«01_k».proof.Proof.Math.Norm
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Front.Region1
open Cert.FirstIdeal Cert.FirstIdeal.Gen Cert.Math Idealize.ShloMosaic Idealize.ShloMosaic.TcCoe

theorem pay1_apply (v0 : Vec Ideal S2048x1024 .bf16) (v2 v4 : Vec Ideal S1x1024x640 .bf16) (r : Fin 2048) (l : Fin 1280) :
    k1_pay1 v0 v2 v4 (ix2 r l)
      = ∑ k : Fin 1024, v0 (ix2 r k) * (if h : l.val < 640 then v2 (ix3 0 k ⟨l.val, h⟩) else v4 (ix3 0 k ⟨l.val - 640, by omega⟩)) := by
  pointwise [k1_pay1]

variable (V : (c : Dev nD) → (b : Ref sig .tc) → Buf (Elt Ideal) ((c : Thread nD τ).loc b)) (c : Dev nD)

theorem row_lt (t : Fin cfg1.N) (r : Fin 2048) : t.val / 2 * 2048 + r.val < 8192 := by
  have : t.val < 8 := lt_of_lt_of_eq t.isLt N_1
  omega
theorem col_lt (t : Fin cfg1.N) (l : Fin 1280) : t.val % 2 * 1280 + l.val < 2560 := by omega
theorem part_lt (t : Fin cfg1.N) (p : Fin 2) : t.val % 2 * 2 + p.val < 4 := by omega

/-- The normalised rows. -/
def X (i : Fin 8192) (k : Fin 1024) : EReal := V c main_v2 (ix2 i k)
/-- The weights, of the part the column lies in. -/
def W (k : Fin 1024) (q : Fin 2560) : EReal := V c main_v1 (ix3 ⟨q.val / 640, by omega⟩ k ⟨q.val % 640, by omega⟩)
/-- The product. -/
def Y (i : Fin 8192) (q : Fin 2560) : EReal := ∑ k : Fin 1024, X V c i k * W V c k q

theorem blk_0 (t : Fin cfg1.N) (r : Fin 2048) (l : Fin 1024) :
    iblk1 V c 0 t (ix2 r l) = X V c ⟨t.val / 2 * 2048 + r.val, row_lt t r⟩ l := by
  unfold X
  have idx : ∀ t : Fin cfg1.N, win1_0.index t = ![t.val / 2, 0] := by decide +kernel
  blk_ext [iblk1, idx t]

theorem blk_1 (t : Fin cfg1.N) (p : Fin 2) (k : Fin 1024) (l : Fin 640) :
    iblk1 V c 1 t (ix3 p k l) = V c main_v1 (ix3 ⟨t.val % 2 * 2 + p.val, part_lt t p⟩ k l) := by
  have idx : ∀ t : Fin cfg1.N, win1_1.index t = ![t.val % 2, 0, 0] := by decide +kernel
  blk_ext [iblk1, idx t]

theorem ld_0 (x : Vec Ideal S2x1024x640 .bf16) (k : Fin 1024) (l : Fin 640) :
    View.ld x (Rect.unit (s := S2x1024x640) ![0, 0, 0] ![1, 1024, 640] inb_S2x1024x640_S1x1024x640_0_0_0) (ix3 0 k l) = x (ix3 0 k l) :=
  congrArg x (show (Rect.unit (s := S2x1024x640) ![0, 0, 0] ![1, 1024, 640] inb_S2x1024x640_S1x1024x640_0_0_0).emb (ix3 0 k l) = ix3 0 k l by blk_ext [])
theorem ld_1 (x : Vec Ideal S2x1024x640 .bf16) (k : Fin 1024) (l : Fin 640) :
    View.ld x (Rect.unit (s := S2x1024x640) ![1, 0, 0] ![1, 1024, 640] inb_S2x1024x640_S1x1024x640_1_0_0) (ix3 0 k l) = x (ix3 1 k l) :=
  congrArg x (show (Rect.unit (s := S2x1024x640) ![1, 0, 0] ![1, 1024, 640] inb_S2x1024x640_S1x1024x640_1_0_0).emb (ix3 0 k l) = ix3 1 k l by blk_ext [])

theorem ix3_eq (p p' : Fin 4) (k : Fin 1024) (l l' : Fin 640) (hp : p.val = p'.val) (hl : l.val = l'.val) :
    (ix3 p k l : S4x1024x640.Idx) = ix3 p' k l' := by
  rw [Fin.ext hp, Fin.ext hl]

theorem out_2 (t : Fin cfg1.N) (r : Fin 2048) (l : Fin 1280) :
    out1_2 (iblk1 V c 0 t) (iblk1 V c 1 t) (ix2 r l) = Y V c ⟨t.val / 2 * 2048 + r.val, row_lt t r⟩ ⟨t.val % 2 * 1280 + l.val, col_lt t l⟩ := by
  frame_out
  refine (pay1_apply (iblk1 V c 0 t) _ _ r l).trans ?_
  unfold Y
  refine Finset.sum_congr rfl fun k _ => ?_
  rw [blk_0]
  refine congrArg (_ * ·) ?_
  unfold W
  by_cases h : l.val < 640
  · rw [dif_pos h]
    refine (ld_0 (iblk1 V c 1 t) k ⟨l.val, h⟩).trans ((blk_1 V c t 0 k ⟨l.val, h⟩).trans (congrArg (V c main_v1) (ix3_eq _ _ k _ _ ?_ ?_)))
    · show t.val % 2 * 2 + 0 = (t.val % 2 * 1280 + l.val) / 640; omega
    · show l.val = (t.val % 2 * 1280 + l.val) % 640; omega
  · rw [dif_neg h]
    refine (ld_1 (iblk1 V c 1 t) k ⟨l.val - 640, by omega⟩).trans ((blk_1 V c t 1 k ⟨l.val - 640, by omega⟩).trans (congrArg (V c main_v1) (ix3_eq _ _ k _ _ ?_ ?_)))
    · show t.val % 2 * 2 + 1 = (t.val % 2 * 1280 + l.val) / 640; omega
    · show l.val - 640 = (t.val % 2 * 1280 + l.val) % 640; omega

/-- The product after the run. -/
theorem arr_2 : (dat1 V c).arrAt 2 cfg1.N = fun i => Y V c (i 0) (i 1) := by
  refine (dat1 V c).arrAt_eq_of_covers 2 _ (by decide +kernel) fun t hf y => ?_
  have idx : ∀ t : Fin cfg1.N, win1_2.index t = ![t.val / 2, t.val % 2] := by decide +kernel
  blk_simp
  rw [after1_2]
  have he : ∃ r : Fin 2048, ∃ l : Fin 1280, y = ix2 r l ∧
      (win1_2.blk t).view.emb y = ix2 ⟨t.val / 2 * 2048 + r.val, row_lt t r⟩ ⟨t.val % 2 * 1280 + l.val, col_lt t l⟩ := by
    idx_vars y
    refine ⟨y0, y1, rfl, ?_⟩
    blk_ext [idx t]
  obtain ⟨r, l, rfl, he⟩ := he
  refine (out_2 V c t r l).trans ?_
  exact (congrArg (fun i : S8192x2560.Idx => Y V c (i 0) (i 1)) he).symm

end Cert.Front.Region1
-- ==== Proof.First.Region2.lean ====
/-
  The gradient of the rows through the first product and the normalisation, and the gradient of the gain.
-/
module

public import proofs.«01_k».proof.Proof.Gen.FirstIdeal.Frame
public import proofs.«01_k».proof.Proof.Math.Norm
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Front.Region2
open Cert.FirstIdeal Cert.FirstIdeal.Gen Cert.Math Idealize.ShloMosaic Idealize.ShloMosaic.TcCoe

section Payloads

variable (v22 v23 v47 : Vec Ideal S512x1024 .f32) (v34 : Vec Ideal S1x1024 .f32)

/-- A row of a block. -/
def row (x : Vec Ideal S512x1024 .f32) (r : Fin 512) (l : Fin 1024) : EReal := x (ix2 r l)
/-- A row of the gradient at the normalised rows. -/
def dn (r : Fin 512) (l : Fin 1024) : EReal := v22 (ix2 r l) * v34 (ix2 0 l)

theorem pay5_apply (v3 : Vec Ideal S512x2560 .bf16) (v5 v9 v14 v19 : Vec Ideal S1x1024x640 .bf16) (r : Fin 512) (l : Fin 1024) :
    k2_pay5 v3 v5 v9 v14 v19 (ix2 r l)
      = (((∑ k : Fin 640, v3 (ix2 r ⟨k.val, by omega⟩) * v5 (ix3 0 l k)) + ∑ k : Fin 640, v3 (ix2 r ⟨640 + k.val, by omega⟩) * v9 (ix3 0 l k))
          + ∑ k : Fin 640, v3 (ix2 r ⟨1280 + k.val, by omega⟩) * v14 (ix3 0 l k)) + ∑ k : Fin 640, v3 (ix2 r ⟨1920 + k.val, by omega⟩) * v19 (ix3 0 l k) := by
  pointwise [k2_pay5]

theorem pay6_apply (r : Fin 512) : k2_pay6 v23 (ix2 r 0) = rs (row v23 r) := by
  unfold k2_pay6 rs var row len eps
  pointwise

theorem pay1_apply (r : Fin 512) (l : Fin 1024) : k2_pay1 v23 (k2_pay7 v23) (ix2 r l) = nrm (row v23 r) l := by
  unfold nrm
  rw [← pay6_apply, row]
  unfold k2_pay1 k2_pay7
  generalize k2_pay6 v23 = h
  pointwise

theorem pay2_apply (r : Fin 512) (l : Fin 1024) :
    k2_pay2 v22 v23 (k2_pay6 v23) (k2_pay7 v23) v34 v47 (ix2 r l) = back (row v23 r) (dn v22 v34 r) l + v47 (ix2 r l) := by
  unfold back dn
  simp only [← pay1_apply, ← pay6_apply]
  unfold k2_pay2 len
  generalize k2_pay1 v23 (k2_pay7 v23) = h2
  generalize k2_pay6 v23 = h1
  pointwise

theorem pay3_apply (v50 : Vec Ideal S1x1024 .f32) (l : Fin 1024) :
    k2_pay3 v22 v23 (k2_pay7 v23) v50 (ix2 0 l) = v50 (ix2 0 l) + ∑ r : Fin 512, v22 (ix2 r l) * nrm (row v23 r) l := by
  simp only [← pay1_apply]
  unfold k2_pay3
  generalize k2_pay1 v23 (k2_pay7 v23) = h2
  pointwise

end Payloads

variable (V : (c : Dev nD) → (b : Ref sig .tc) → Buf (Elt Ideal) ((c : Thread nD τ).loc b)) (c : Dev nD)

theorem row_lt (t : Fin cfg2.N) (r : Fin 512) : t.val * 512 + r.val < 8192 := by
  have : t.val < 16 := lt_of_lt_of_eq t.isLt N_2
  omega

/-- The gradient of the first product. -/
def X (i : Fin 8192) (k : Fin 2560) : EReal := V c main_arg3 (ix2 i k)
/-- The weights of the first product, of the part its column lies in. -/
def W (j : Fin 1024) (k : Fin 2560) : EReal := V c main_v1 (ix3 ⟨k.val / 640, by omega⟩ j ⟨k.val % 640, by omega⟩)
/-- The rows. -/
def A (i : Fin 8192) (j : Fin 1024) : EReal := V c main_arg0 (ix2 i j)
/-- The gradient of the rows from the residual. -/
def B (i : Fin 8192) (j : Fin 1024) : EReal := V c main_arg4 (ix2 i j)
/-- The gain of the normalisation. -/
def G (j : Fin 1024) : EReal := V c main_arg1 (ix2 0 j)
/-- The gradient at the normalised rows. -/
def D (i : Fin 8192) (j : Fin 1024) : EReal := ∑ k : Fin 2560, X V c i k * W V c j k
/-- The gradient at the normalised rows. -/
def DN (i : Fin 8192) (j : Fin 1024) : EReal := D V c i j * G V c j

theorem blk_0 (t : Fin cfg2.N) (r : Fin 512) (l : Fin 2560) : iblk2 V c 0 t (ix2 r l) = X V c ⟨t.val * 512 + r.val, row_lt t r⟩ l := by
  unfold X
  have idx : ∀ t : Fin cfg2.N, win2_0.index t = ![t.val, 0] := by decide +kernel
  blk_ext [iblk2, idx t]

theorem blk_1 (t : Fin cfg2.N) (p : Fin 4) (j : Fin 1024) (l : Fin 640) : iblk2 V c 1 t (ix3 p j l) = V c main_v1 (ix3 p j l) := by
  have idx : ∀ t : Fin cfg2.N, win2_1.index t = ![0, 0, 0] := by decide +kernel
  blk_ext [iblk2, idx t]

theorem blk_2 (t : Fin cfg2.N) (r : Fin 512) (l : Fin 1024) : iblk2 V c 2 t (ix2 r l) = A V c ⟨t.val * 512 + r.val, row_lt t r⟩ l := by
  unfold A
  have idx : ∀ t : Fin cfg2.N, win2_2.index t = ![t.val, 0] := by decide +kernel
  blk_ext [iblk2, idx t]

theorem blk_3 (t : Fin cfg2.N) (r : Fin 512) (l : Fin 1024) : iblk2 V c 3 t (ix2 r l) = B V c ⟨t.val * 512 + r.val, row_lt t r⟩ l := by
  unfold B
  have idx : ∀ t : Fin cfg2.N, win2_3.index t = ![t.val, 0] := by decide +kernel
  blk_ext [iblk2, idx t]

theorem blk_4 (t : Fin cfg2.N) (l : Fin 1024) : iblk2 V c 4 t (ix2 0 l) = G V c l := by
  unfold G
  have idx : ∀ t : Fin cfg2.N, win2_4.index t = ![0, 0] := by decide +kernel
  blk_ext [iblk2, idx t]

/-- The sum of the four partial products of a block. -/
def prod (t : Fin cfg2.N) : Vec Ideal S512x1024 .f32 :=
  k2_pay5 (F := Ideal) (iblk2 V c 0 t)
    (View.ld (iblk2 V c 1 t) (Rect.unit (s := S4x1024x640) ![0, 0, 0] ![1, 1024, 640] inb_S4x1024x640_S1x1024x640_0_0_0))
    (View.ld (iblk2 V c 1 t) (Rect.unit (s := S4x1024x640) ![1, 0, 0] ![1, 1024, 640] inb_S4x1024x640_S1x1024x640_1_0_0))
    (View.ld (iblk2 V c 1 t) (Rect.unit (s := S4x1024x640) ![2, 0, 0] ![1, 1024, 640] inb_S4x1024x640_S1x1024x640_2_0_0))
    (View.ld (iblk2 V c 1 t) (Rect.unit (s := S4x1024x640) ![3, 0, 0] ![1, 1024, 640] inb_S4x1024x640_S1x1024x640_3_0_0))

theorem ld_0 (x : Vec Ideal S4x1024x640 .bf16) (j : Fin 1024) (k : Fin 640) :
    View.ld x (Rect.unit (s := S4x1024x640) ![0, 0, 0] ![1, 1024, 640] inb_S4x1024x640_S1x1024x640_0_0_0) (ix3 0 j k) = x (ix3 0 j k) :=
  congrArg x (show (Rect.unit (s := S4x1024x640) ![0, 0, 0] ![1, 1024, 640] inb_S4x1024x640_S1x1024x640_0_0_0).emb (ix3 0 j k) = ix3 0 j k by blk_ext [])
theorem ld_1 (x : Vec Ideal S4x1024x640 .bf16) (j : Fin 1024) (k : Fin 640) :
    View.ld x (Rect.unit (s := S4x1024x640) ![1, 0, 0] ![1, 1024, 640] inb_S4x1024x640_S1x1024x640_1_0_0) (ix3 0 j k) = x (ix3 1 j k) :=
  congrArg x (show (Rect.unit (s := S4x1024x640) ![1, 0, 0] ![1, 1024, 640] inb_S4x1024x640_S1x1024x640_1_0_0).emb (ix3 0 j k) = ix3 1 j k by blk_ext [])
theorem ld_2 (x : Vec Ideal S4x1024x640 .bf16) (j : Fin 1024) (k : Fin 640) :
    View.ld x (Rect.unit (s := S4x1024x640) ![2, 0, 0] ![1, 1024, 640] inb_S4x1024x640_S1x1024x640_2_0_0) (ix3 0 j k) = x (ix3 2 j k) :=
  congrArg x (show (Rect.unit (s := S4x1024x640) ![2, 0, 0] ![1, 1024, 640] inb_S4x1024x640_S1x1024x640_2_0_0).emb (ix3 0 j k) = ix3 2 j k by blk_ext [])
theorem ld_3 (x : Vec Ideal S4x1024x640 .bf16) (j : Fin 1024) (k : Fin 640) :
    View.ld x (Rect.unit (s := S4x1024x640) ![3, 0, 0] ![1, 1024, 640] inb_S4x1024x640_S1x1024x640_3_0_0) (ix3 0 j k) = x (ix3 3 j k) :=
  congrArg x (show (Rect.unit (s := S4x1024x640) ![3, 0, 0] ![1, 1024, 640] inb_S4x1024x640_S1x1024x640_3_0_0).emb (ix3 0 j k) = ix3 3 j k by blk_ext [])

theorem sum_parts (f : Fin 2560 → EReal) :
    (((∑ k : Fin 640, f ⟨k.val, by omega⟩) + ∑ k : Fin 640, f ⟨640 + k.val, by omega⟩)
      + ∑ k : Fin 640, f ⟨1280 + k.val, by omega⟩) + ∑ k : Fin 640, f ⟨1920 + k.val, by omega⟩ = ∑ k, f k := by
  have h : ∑ p : Fin 4, ∑ k : Fin 640, f ⟨p.val * 640 + k.val, by omega⟩ = ∑ k, f k :=
    Fin.sum_mul_add_congr (n := 640) (fun t r hl => rfl) (by rfl)
  rw [← h, Fin.sum_univ_four]
  simp only [Fin.val_zero, Fin.val_one, Fin.val_two, show (3 : Fin 4).val = 3 from rfl, Nat.zero_mul, Nat.zero_add, Nat.one_mul, Nat.reduceMul]

theorem ix3_eq (p p' : Fin 4) (j : Fin 1024) (k k' : Fin 640) (hp : p.val = p'.val) (hk : k.val = k'.val) :
    (ix3 p j k : S4x1024x640.Idx) = ix3 p' j k' := by
  rw [Fin.ext hp, Fin.ext hk]

theorem prod_apply (t : Fin cfg2.N) (r : Fin 512) (l : Fin 1024) : prod V c t (ix2 r l) = D V c ⟨t.val * 512 + r.val, row_lt t r⟩ l := by
  unfold prod D
  rw [pay5_apply, ← sum_parts]
  simp only [blk_0]
  unfold W
  congr 1
  · congr 1
    · congr 1
      · refine Finset.sum_congr rfl fun k _ => congrArg (_ * ·) ?_
        refine (ld_0 (iblk2 V c 1 t) l k).trans ((blk_1 V c t 0 l k).trans (congrArg (V c main_v1) (ix3_eq _ _ l _ _ ?_ ?_)))
        · show 0 = k.val / 640; omega
        · show k.val = k.val % 640; omega
      · refine Finset.sum_congr rfl fun k _ => congrArg (_ * ·) ?_
        refine (ld_1 (iblk2 V c 1 t) l k).trans ((blk_1 V c t 1 l k).trans (congrArg (V c main_v1) (ix3_eq _ _ l _ _ ?_ ?_)))
        · show 1 = (640 + k.val) / 640; omega
        · show k.val = (640 + k.val) % 640; omega
    · refine Finset.sum_congr rfl fun k _ => congrArg (_ * ·) ?_
      refine (ld_2 (iblk2 V c 1 t) l k).trans ((blk_1 V c t 2 l k).trans (congrArg (V c main_v1) (ix3_eq _ _ l _ _ ?_ ?_)))
      · show 2 = (1280 + k.val) / 640; omega
      · show k.val = (1280 + k.val) % 640; omega
  · refine Finset.sum_congr rfl fun k _ => congrArg (_ * ·) ?_
    refine (ld_3 (iblk2 V c 1 t) l k).trans ((blk_1 V c t 3 l k).trans (congrArg (V c main_v1) (ix3_eq _ _ l _ _ ?_ ?_)))
    · show 3 = (1920 + k.val) / 640; omega
    · show k.val = (1920 + k.val) % 640; omega

theorem row_eq (t : Fin cfg2.N) (r : Fin 512) : row (iblk2 V c 2 t) r = A V c ⟨t.val * 512 + r.val, row_lt t r⟩ := by
  funext l
  rw [row, blk_2]

theorem dn_eq (t : Fin cfg2.N) (r : Fin 512) : dn (prod V c t) (iblk2 V c 4 t) r = DN V c ⟨t.val * 512 + r.val, row_lt t r⟩ := by
  funext l
  rw [dn, prod_apply, blk_4, DN]

theorem out_5 (t : Fin cfg2.N) (r : Fin 512) (l : Fin 1024) :
    (outsAt2 V c t.val t.isLt).1 (ix2 r l)
      = back (A V c ⟨t.val * 512 + r.val, row_lt t r⟩) (DN V c ⟨t.val * 512 + r.val, row_lt t r⟩) l + B V c ⟨t.val * 512 + r.val, row_lt t r⟩ l := by
  rw [← row_eq, ← dn_eq, ← blk_3]
  by_cases h0 : t.val % 16 = 0
  · rw [outsAt2_A V c t h0]
    frame_out
    exact pay2_apply (prod V c t) ..
  · rw [outsAt2_B V c t h0]
    frame_out
    exact pay2_apply (prod V c t) ..

/-- Row 0 of the eight rows that the gain's gradient is summed in. -/
theorem row0 (l : Fin 1024) : (ix2 0 l : S8x1024.Idx) = (Rect.unit (s := S8x1024) ![0, 0] ![1, 1024] inb_S8x1024_S1x1024_0_0).emb (ix2 0 l) := by
  blk_ext []

theorem ld_row0 (x : Vec Ideal S8x1024 .f32) (l : Fin 1024) :
    View.ld x (Rect.unit (s := S8x1024) ![0, 0] ![1, 1024] inb_S8x1024_S1x1024_0_0) (ix2 0 l) = x (ix2 0 l) :=
  congrArg x (row0 l).symm

/-- The share of a grid point's rows in the gradient of the gain. -/
def gTerm (t : Fin cfg2.N) (l : Fin 1024) : EReal :=
  ∑ r : Fin 512, D V c ⟨t.val * 512 + r.val, row_lt t r⟩ l * nrm (A V c ⟨t.val * 512 + r.val, row_lt t r⟩) l

theorem g_first (t : Fin cfg2.N) (h0 : t.val % 16 = 0) (l : Fin 1024) :
    (outsAt2 V c t.val t.isLt).2 (ix2 0 l) = 0 + gTerm V c t l := by
  rw [outsAt2_A V c t h0]
  frame_open
  simp (disch := decide) only [↓ View.readCov_skip, ↓ View.readCov_cons_toLoadRect, ↓ View.readCov_fill]
  frame_out
  rw [row0]
  refine (View.canon_cons_emb _ _ _ _).trans ?_
  refine (pay3_apply (prod V c t) (iblk2 V c 2 t) _ l).trans ?_
  simp only [prod_apply, row_eq]
  refine congrArg (· + _) ((ld_row0 _ l).trans ?_)
  pointwise [k2_pay4]

theorem g_step (t : Fin cfg2.N) (h0 : ¬t.val % 16 = 0) (l : Fin 1024) :
    (outsAt2 V c t.val t.isLt).2 (ix2 0 l)
      = (outsAt2 V c (t.val - 1) (Nat.lt_of_le_of_lt (Nat.sub_le _ _) t.isLt)).2 (ix2 0 l) + gTerm V c t l := by
  rw [outsAt2_B V c t h0]
  frame_out
  conv_lhs => rw [row0]
  refine (View.read_writes_cons_emb _ _ _ _ _ _).trans ?_
  refine (pay3_apply (prod V c t) (iblk2 V c 2 t) _ l).trans ?_
  simp only [prod_apply, row_eq]
  exact congrArg (· + _) (ld_row0 _ l)

/-- The gradient of the rows, after the run. -/
theorem arr_5 : (dat2 V c).arrAt 5 cfg2.N = fun i => back (A V c (i 0)) (DN V c (i 0)) (i 1) + B V c (i 0) (i 1) := by
  refine (dat2 V c).arrAt_eq_of_covers 5 _ (by decide +kernel) fun t hf y => ?_
  have idx : ∀ t : Fin cfg2.N, win2_5.index t = ![t.val, 0] := by decide +kernel
  blk_simp
  rw [after2_5]
  have he : ∃ r : Fin 512, ∃ l : Fin 1024, y = ix2 r l ∧ (win2_5.blk t).view.emb y = ix2 ⟨t.val * 512 + r.val, row_lt t r⟩ l := by
    idx_vars y
    refine ⟨y0, y1, rfl, ?_⟩
    blk_ext [idx t]
  obtain ⟨r, l, rfl, he⟩ := he
  refine (out_5 V c t r l).trans ?_
  exact (congrArg (fun i : S8192x1024.Idx => back (A V c (i 0)) (DN V c (i 0)) (i 1) + B V c (i 0) (i 1)) he).symm

/-- The last grid point. -/
def tLast : Fin cfg2.N := ⟨15, by rw [show cfg2.N = 16 from N_2]; decide⟩

theorem g_last (l : Fin 1024) : (outsAt2 V c tLast.val tLast.isLt).2 (ix2 0 l)
    = ∑ i : Fin 8192, D V c i l * nrm (A V c i) l := by
  have := Pipeline.eq_sum_fin_of_reset_step_apply_last (fun n h (l : Fin 1024) => (outsAt2 V c n h).2 (ix2 0 l)) 16 (fun _ => (0 : EReal)) (gTerm V c)
    (g_first V c) (g_step V c) (by show grid2.N ≤ 16; rw [N_2]) tLast (by show 15 + 1 = grid2.N; rw [N_2]) l
  refine (this.trans (zero_add _)).trans ?_
  exact Fin.sum_mul_add_congr (n := 512) (fun t r hl => rfl) (by rw [show cfg2.N = 16 from N_2])

/-- The gradient of the gain after the run, in row 0. -/
theorem arr_6 (l : Fin 1024) : (dat2 V c).arrAt 6 cfg2.N (ix2 0 l) = ∑ i : Fin 8192, D V c i l * nrm (A V c i) l := by
  refine (congrFun ((dat2 V c).arrAt_eq_of_after_last 6 tLast (by decide +kernel) (outsAt2 V c tLast.val tLast.isLt).2 fun j => ?_) _).trans (g_last V c l)
  blk_simp
  rw [after2_6]

end Cert.Front.Region2
-- ==== Proof.First.Run.lean ====
/-
  The run of the normalisation and the first product, with the contents of every array at its end.
-/
module

public import proofs.«01_k».proof.Proof.Gen.FirstIdeal.Frame
public import Idealize.ShloMosaic.Lib.Pointwise

@[expose] public section

set_option maxRecDepth 16384

noncomputable section

namespace Cert.Front.Run
open Cert.FirstIdeal Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- The run ends with every array outside the scoped ones at its contents after the last step. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

end Cert.Front.Run
-- ==== Proof.First.Spec.lean ====
/-
  The normalisation and the first product with their gradients, as functions of the argument arrays.
-/
module

public import proofs.«01_k».proof.Proof.Math.Norm

@[expose] public section

set_option maxRecDepth 16384

noncomputable section

namespace Cert.Front
open Cert.Math Idealize.ShloMosaic

/-- The argument arrays, read at their indices. -/
structure Args where
  /-- The rows. -/
  x : Fin 8192 → Fin 1024 → EReal
  /-- The gain of the normalisation. -/
  g : Fin 1024 → EReal
  /-- The weights of the product. -/
  w : Fin 1024 → Fin 2560 → EReal
  /-- The gradient of the product. -/
  dy : Fin 8192 → Fin 2560 → EReal
  /-- The gradient of the rows from the residual. -/
  dr : Fin 8192 → Fin 1024 → EReal

namespace Args
variable (p : Args)

/-- The product of the normalised rows. -/
def y (i : Fin 8192) (q : Fin 2560) : EReal := ∑ k, nrm (p.x i) k * p.g k * p.w k q
/-- The gradient at the rows that enter the product. -/
def dh (i : Fin 8192) (j : Fin 1024) : EReal := ∑ q, p.dy i q * p.w j q
/-- The gradient of the normalised rows before their gain. -/
def dn (i : Fin 8192) (j : Fin 1024) : EReal := p.dh i j * p.g j
/-- The gradient of the rows. -/
def dx (i : Fin 8192) (j : Fin 1024) : EReal := back (p.x i) (p.dn i) j + p.dr i j
/-- The gradient of the gain. -/
def dg (l : Fin 1024) : EReal := ∑ i, p.dh i l * nrm (p.x i) l

end Args
end Cert.Front
-- ==== Proof.First.Kernel.lean ====
/-
  The results of the normalisation and the first product as the run leaves them, in terms of the argument arrays.
-/
module

public import proofs.«01_k».proof.Proof.First.Region0
public import proofs.«01_k».proof.Proof.First.Region1
public import proofs.«01_k».proof.Proof.First.Region2
public import proofs.«01_k».proof.Proof.First.Run
public import proofs.«01_k».proof.Proof.First.Spec

@[expose] public section

set_option maxRecDepth 16384

noncomputable section

namespace Cert.Front.Kernel
open Cert.FirstIdeal Cert.FirstIdeal.Gen Cert.Math Idealize.ShloMosaic Idealize.ShloMosaic.TcCoe Idealize.SL.Sem

variable (m : (ℓ : Loc nD τ sig) → Buf (Elt Ideal) ℓ) (ρ : Dev nD → PrngReg) (c : Dev nD)

/-- The argument arrays at launch. -/
def args : Args where
  x i j := m ((c : Thread nD τ).loc main_arg0) (ix2 i j)
  g j := m ((c : Thread nD τ).loc main_arg1) (ix2 0 j)
  w i j := m ((c : Thread nD τ).loc main_arg2) (ix2 i j)
  dy i j := m ((c : Thread nD τ).loc main_arg3) (ix2 i j)
  dr i j := m ((c : Thread nD τ).loc main_arg4) (ix2 i j)

theorem v1_apply (p : Fin 4) (k : Fin 1024) (l : Fin 640) (q : Fin 2560) (hq : p.val * 640 + l.val = q.val) :
    (V1 m ρ c main_v1 : Vec Ideal S4x1024x640 .bf16) (ix3 p k l) = (args m c).w k q := by
  have h : W1 m ρ c (Proc.devRef .tc main_v1) = transpose S4x1024x640 [1, 0, 2] (shapeCast S1024x4x640 (m ((c : Thread nD τ).loc main_arg2) : Vec Ideal S1024x2560 .bf16) shapeCasts_S1024x2560_S1024x4x640) transposes_S1024x4x640_S4x1024x640_1_0_2 := by
    show StableHlo.after hostOps0 (W0 m ρ c) (Proc.devRef .tc main_v1) = _
    after_results_simp
    rfl
  rw [show q = (⟨p.val * 640 + l.val, by omega⟩ : Fin 2560) from Fin.ext hq.symm]
  refine (congrFun h _).trans ?_
  pointwise
  rfl

theorem v2_at_2 : W2 m ρ c (Proc.devRef .tc main_v2) = fun i => nrm ((args m c).x (i 0)) (i 1) * (args m c).g (i 1) := by
  have hA : Region0.A (V1 m ρ) c = (args m c).x := funext fun i => funext fun j => congrFun (W1_args m ρ c main_arg0 (by decide)) _
  have hG : Region0.G (V1 m ρ) c = (args m c).g := funext fun j => congrFun (W1_args m ρ c main_arg1 (by decide)) _
  exact (W2_arr m ρ c 2).trans ((Region0.arr_2 (V1 m ρ) c).trans (by rw [hA, hG]))

theorem reg1_Y : Region1.Y (V2 m ρ) c = (args m c).y := by
  funext i q
  unfold Region1.Y Args.y
  refine Finset.sum_congr rfl fun k _ => congrArg₂ (· * ·) (congrFun (v2_at_2 m ρ c) _) ?_
  refine (congrFun (W2_of m ρ c main_v1 (by decide)) _).trans (v1_apply m ρ c _ _ _ q ?_)
  show q.val / 640 * 640 + q.val % 640 = q.val
  omega

theorem v3_at_3 : W3 m ρ c (Proc.devRef .tc main_v3) = fun i => (args m c).y (i 0) (i 1) :=
  (W3_arr m ρ c 2).trans ((Region1.arr_2 (V2 m ρ) c).trans (by rw [reg1_Y]))

theorem reg2_D : Region2.D (V3 m ρ) c = (args m c).dh := by
  funext i j
  unfold Region2.D Args.dh
  refine Finset.sum_congr rfl fun q _ => congrArg₂ (· * ·) (congrFun (W3_args m ρ c main_arg3 (by decide)) _) ?_
  refine (congrFun ((W3_of m ρ c main_v1 (by decide)).trans (W2_of m ρ c main_v1 (by decide))) _).trans (v1_apply m ρ c _ _ _ q ?_)
  show q.val / 640 * 640 + q.val % 640 = q.val
  omega

theorem reg2_DN : Region2.DN (V3 m ρ) c = (args m c).dn := by
  funext i j
  unfold Region2.DN Args.dn
  rw [reg2_D]
  exact congrArg (_ * ·) (congrFun (W3_args m ρ c main_arg1 (by decide)) _)

theorem reg2_A : Region2.A (V3 m ρ) c = (args m c).x :=
  funext fun i => funext fun j => congrFun (W3_args m ρ c main_arg0 (by decide)) _

theorem reg2_B : Region2.B (V3 m ρ) c = (args m c).dr :=
  funext fun i => funext fun j => congrFun (W3_args m ρ c main_arg4 (by decide)) _

/-! ## The results -/

theorem y_out : W5 m ρ c (Proc.devRef .tc main_v3) = fun i => (args m c).y (i 0) (i 1) :=
  (W5_of m ρ c main_v3 (by decide)).trans ((W4_of m ρ c main_v3 (by decide)).trans (v3_at_3 m ρ c))

theorem dx_out : W5 m ρ c (Proc.devRef .tc main_v4_0) = fun i => (args m c).dx (i 0) (i 1) :=
  (W5_of m ρ c main_v4_0 (by decide)).trans ((W4_arr m ρ c 5).trans ((Region2.arr_5 (V3 m ρ) c).trans (by rw [reg2_A, reg2_DN, reg2_B]; rfl)))

theorem dg_row (l : Fin 1024) : (W4 m ρ c (Proc.devRef .tc main_v4_1) : Vec Ideal S8x1024 .f32) (ix2 0 l) = (args m c).dg l :=
  (congrFun (W4_arr m ρ c 6) _).trans ((Region2.arr_6 (V3 m ρ) c l).trans (by rw [reg2_D, reg2_A]; rfl))

theorem dg_out : W5 m ρ c (Proc.devRef .tc main_v5) = fun i => (args m c).dg (i 1) := by
  have h : W5 m ρ c (Proc.devRef .tc main_v5) = extractStridedSlice S1x1024 ![0, 0] (W4 m ρ c (Proc.devRef .tc main_v4_1) : Vec Ideal S8x1024 .f32) slices_S8x1024_S1x1024_0_0 := by
    show StableHlo.after hostOps3 (W4 m ρ c) (Proc.devRef .tc main_v5) = _
    after_results_simp
  rw [h]
  funext i
  idx_vars i
  refine Eq.trans ?_ (dg_row m ρ c i1)
  pointwise

/-- The whole run: the results, and the arguments as they were. -/
theorem run : θ_run defs (onTc (τ := τ) (main (F := Ideal))) ⟨m, fun _ => 0, ρ⟩ (fun r => ∀ c : Dev nD,
       (r.2.mem ((c : Thread nD τ).loc main_v3) = fun i => (args m c).y (i 0) (i 1))
      ∧ (r.2.mem ((c : Thread nD τ).loc main_v4_0) = fun i => (args m c).dx (i 0) (i 1))
      ∧ (r.2.mem ((c : Thread nD τ).loc main_v5) = fun i => (args m c).dg (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c =>
    ⟨(h c _ (mem_uc main_v3 (by decide))).trans (y_out m ρ c),
      (h c _ (mem_uc main_v4_0 (by decide))).trans (dx_out m ρ c),
      (h c _ (mem_uc main_v5 (by decide))).trans (dg_out m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c)⟩) (Run.run m ρ)

end Cert.Front.Kernel
-- ==== Proof.First.Ref.lean ====
/-
  The reference of the normalisation and the first product, stage after stage, in terms of the argument arrays.
-/
module

public import proofs.«01_k».proof.Proof.Gen.FirstReferenceIdeal.Run
public import proofs.«01_k».proof.Proof.First.Spec
public import Idealize.ShloMosaic.Lib.Pointwise
public import Idealize.ShloMosaic.Lib.KernelVsHost

@[expose] public section

set_option maxRecDepth 16384

noncomputable section

namespace Cert.Front.Ref
open Cert.FirstReferenceIdeal Cert.FirstReferenceIdeal.Gen Cert.FirstReferenceIdeal.Value Cert.Math
open Idealize.ShloMosaic Idealize.ShloMosaic.TcCoe Idealize.SL.Sem Idealize.ShloMosaic.StableHlo

/-! ## The stages over given arrays -/

section Stages

/-- A row of an array. -/
def row (x : FVec Ideal S8192x1024 .f32) (i : Fin 8192) (j : Fin 1024) : EReal := x (ix2 i j)

/-- The mean of the squares of each row, with the small constant. -/
def vr (x : FVec Ideal S8192x1024 .f32) : FVec Ideal S8192x1 .f32 := addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
/-- The reciprocal square root of it. -/
def rsq (x : FVec Ideal S8192x1024 .f32) : FVec Ideal S8192x1 .f32 := Host.rsqrt (vr x)
/-- The normalised rows before the gain. -/
def nm (x : FVec Ideal S8192x1024 .f32) : FVec Ideal S8192x1024 .f32 := mulf x (broadcastInDim S8192x1024 ![0, 1] bcast_S8192x1_S8192x1024_0_1 (rsq x))
/-- Rows times the gain. -/
def gn (x : FVec Ideal S8192x1024 .f32) (g : FVec Ideal S1x1024 .f32) : FVec Ideal S8192x1024 .f32 := mulf x (broadcastInDim S8192x1024 ![0, 1] bcast_S1x1024_S8192x1024_0_1 g)
/-- The factor of the rows in the gradient through their mean square. -/
def cf (x d : FVec Ideal S8192x1024 .f32) : FVec Ideal S8192x1024 .f32 :=
  broadcastInDim S8192x1024 ![0] bcast_S8192_S8192x1024_0 (Host.reduceAdd (Host.divf (mulf (shapeCast _ (Host.reduceAdd (mulf x d) (constant S_ .f32 0x00000000#32) reducesTo_S8192x1024_S8192_d1 h_S_) shapeCasts_S8192_S8192x1) (mulf (broadcastInDim S8192x1 ![] bcast_S_S8192x1 (constant S_ .f32 0xBF000000#32)) (Host.divf (rsq x) (vr x)))) (broadcastInDim S8192x1 ![] bcast_S_S8192x1 (constant S_ .f32 0x44800000#32))) (constant S_ .f32 0x00000000#32) reducesTo_S8192x1_S8192_d1 h_S_)
/-- The gradient of the rows, added to what comes from the residual. -/
def bk (y x d : FVec Ideal S8192x1024 .f32) : FVec Ideal S8192x1024 .f32 :=
  addf (addf (addf y (mulf d (broadcastInDim S8192x1024 ![0, 1] bcast_S8192x1_S8192x1024_0_1 (rsq x)))) (mulf x (cf x d))) (mulf (cf x d) x)
/-- The sum of the products of two arrays' columns. -/
def cs (x d : FVec Ideal S8192x1024 .f32) : FVec Ideal S1x1024 .f32 :=
  shapeCast S1x1024 (Host.reduceAdd (mulf x d) (constant S_ .f32 0x00000000#32) reducesTo_S8192x1024_S1024_d0 h_S_) shapeCasts_S1024_S1x1024

theorem vr_apply (x : FVec Ideal S8192x1024 .f32) (i : Fin 8192) : vr x (ix2 i 0) = var (row x i) := by
  unfold vr var row len eps
  pointwise

theorem rsq_apply (x : FVec Ideal S8192x1024 .f32) (i : Fin 8192) : rsq x (ix2 i 0) = rs (row x i) := by
  unfold rs rsq
  rw [← vr_apply]
  generalize vr x = v
  pointwise

theorem nm_apply (x : FVec Ideal S8192x1024 .f32) (i : Fin 8192) (j : Fin 1024) : nm x (ix2 i j) = nrm (row x i) j := by
  unfold nm nrm
  rw [← rsq_apply, row]
  generalize rsq x = r
  pointwise

theorem gn_apply (x : FVec Ideal S8192x1024 .f32) (g : FVec Ideal S1x1024 .f32) (i : Fin 8192) (j : Fin 1024) : gn x g (ix2 i j) = x (ix2 i j) * g (ix2 0 j) := by
  pointwise [gn]

theorem cf_apply (x d : FVec Ideal S8192x1024 .f32) (i : Fin 8192) (j : Fin 1024) : cf x d (ix2 i j) = cfac (row x i) (row d i) := by
  unfold cf cfac
  rw [← vr_apply, ← rsq_apply]
  unfold row len mhalf
  generalize vr x = v
  generalize rsq x = r
  pointwise
  rw [Fin.sum_univ_one]

theorem bk_apply (y x d : FVec Ideal S8192x1024 .f32) (i : Fin 8192) (j : Fin 1024) :
    bk y x d (ix2 i j) = back (row x i) (row d i) j + y (ix2 i j) := by
  rw [← add_back_eq, ← cf_apply x d i j, ← rsq_apply]
  unfold bk row
  generalize cf x d = f
  generalize rsq x = r
  pointwise

theorem cs_apply (x d : FVec Ideal S8192x1024 .f32) (l : Fin 1024) : cs x d (ix2 0 l) = ∑ i : Fin 8192, x (ix2 i l) * d (ix2 i l) := by
  pointwise [cs]

/-- The product. -/
def up (x : FVec Ideal S8192x1024 .f32) (w : FVec Ideal S1024x2560 .bf16) : FVec Ideal S8192x2560 .bf16 :=
  truncf .bf16 (Host.dotGeneral dot_S8192x1024_S1024x2560_S8192x2560_1_0_0_1_n_n none x (extf .f32 w bitsLt_bf16_f32 : FVec Ideal S1024x2560 .f32) : FVec Ideal S8192x2560 .f32) bitsLt_bf16_f32
/-- The gradient at the rows that enter the product. -/
def dp (y : FVec Ideal S8192x2560 .bf16) (w : FVec Ideal S1024x2560 .bf16) : FVec Ideal S8192x1024 .f32 :=
  Host.dotGeneral dot_S8192x2560_S1024x2560_S8192x1024_1_1_0_0_n_n none (extf .f32 y bitsLt_bf16_f32 : FVec Ideal S8192x2560 .f32) (extf .f32 w bitsLt_bf16_f32 : FVec Ideal S1024x2560 .f32)

theorem up_apply (x : FVec Ideal S8192x1024 .f32) (w : FVec Ideal S1024x2560 .bf16) (i : Fin 8192) (q : Fin 2560) :
    up x w (ix2 i q) = ∑ k : Fin 1024, x (ix2 i k) * w (ix2 k q) := by
  pointwise [up]

theorem dp_apply (y : FVec Ideal S8192x2560 .bf16) (w : FVec Ideal S1024x2560 .bf16) (i : Fin 8192) (j : Fin 1024) :
    dp y w (ix2 i j) = ∑ q : Fin 2560, y (ix2 i q) * w (ix2 j q) := by
  pointwise [dp]

end Stages

/-! ## The results -/

variable (a0 : FVec Ideal S8192x1024 .f32) (a1 : FVec Ideal S1x1024 .f32) (a2 : FVec Ideal S1024x2560 .bf16) (a3 : FVec Ideal S8192x2560 .bf16)
  (a4 : FVec Ideal S8192x1024 .f32)

/-- The argument arrays. -/
def args : Args where
  x i j := a0 (ix2 i j)
  g j := a1 (ix2 0 j)
  w i j := a2 (ix2 i j)
  dy i j := a3 (ix2 i j)
  dr i j := a4 (ix2 i j)

theorem y_out : up (gn (nm a0) a1) a2 = fun i => (args a0 a1 a2 a3 a4).y (i 0) (i 1) := by
  funext i
  idx_vars i
  refine (up_apply _ _ i0 i1).trans (Finset.sum_congr rfl fun k _ => congrArg (· * _) ?_)
  exact (gn_apply _ _ i0 k).trans (congrArg (· * _) (nm_apply a0 i0 k))

theorem dn_row (i : Fin 8192) : row (gn (dp a3 a2) a1) i = (args a0 a1 a2 a3 a4).dn i :=
  funext fun j => (gn_apply _ _ i j).trans (congrArg (· * _) (dp_apply a3 a2 i j))

theorem dx_out : bk a4 a0 (gn (dp a3 a2) a1) = fun i => (args a0 a1 a2 a3 a4).dx (i 0) (i 1) := by
  funext i
  idx_vars i
  refine (bk_apply _ _ _ i0 i1).trans ?_
  rw [dn_row a0 a1 a2 a3 a4]
  rfl

theorem dg_out : cs (nm a0) (dp a3 a2) = fun i => (args a0 a1 a2 a3 a4).dg (i 1) := by
  funext i
  obtain ⟨l, rfl⟩ : ∃ l : Fin 1024, i = ix2 0 l := by
    idx_vars i
    refine ⟨i1, ?_⟩
    first | rfl | (rw [Subsingleton.elim i0 0])
  refine (cs_apply _ _ l).trans (Finset.sum_congr rfl fun k _ => ?_)
  exact (congrArg₂ (· * ·) (nm_apply a0 k l) (dp_apply a3 a2 k l)).trans (mul_comm _ _)

end Cert.Front.Ref
-- ==== Proof.First.Claims.lean ====
/-
  The claims about the normalisation and the first product: the program and its reference end with the same results.
-/
module

public import proofs.«01_k».proof.Defs
public import proofs.«01_k».proof.Proof.First.Kernel
public import proofs.«01_k».proof.Proof.First.Ref
public import proofs.«01_k».proof.Proof.Gen.First.Frame

@[expose] public section

set_option maxRecDepth 16384

noncomputable section

namespace Cert.Front.Claims
open Idealize.ShloMosaic Idealize.ShloMosaic.TcCoe Idealize.SL.Sem

theorem frame_p : Cert.quiescent_First := fun m ρ _ => Cert.First.Gen.frame m ρ

theorem frame_pi : Cert.quiescent_FirstIdeal := fun m ρ _ => Cert.FirstIdeal.Gen.frame m ρ

/-- The reference writes none of its arguments and has no semaphores. -/
theorem frame_ri : Cert.quiescent_FirstReferenceIdeal := fun m ρ _ =>
  (θ_run Cert.FirstReferenceIdeal.defs _ _).mono (fun r h => ⟨fun c => (h c).2.2.2, sem_eq_zero_of_no_sems (by decide) r.2⟩)
    (Cert.FirstReferenceIdeal.Value.run (F := Ideal) m ρ)

/-- Kernel and reference end with the same results. -/
theorem algebraic : Cert.algebraic_FirstIdeal_FirstReferenceIdeal := by
  intro m g m' g' _ hag
  refine ⟨_, _, _, Kernel.run m g,
    (θ_run Cert.FirstReferenceIdeal.defs _ _).mono (fun r h c => ?_) (Cert.FirstReferenceIdeal.Value.run (F := Ideal) m' g')⟩
  obtain ⟨e0, e1, e2, ha⟩ := h c
  obtain ⟨g0, g1, g2, g3, g4⟩ := hag c
  have hargs : Ref.args (m' ((c.tc : Thread Cert.FirstReferenceIdeal.nD Cert.FirstReferenceIdeal.τ).loc Cert.FirstReferenceIdeal.main_arg0)) (m' ((c.tc : Thread Cert.FirstReferenceIdeal.nD Cert.FirstReferenceIdeal.τ).loc Cert.FirstReferenceIdeal.main_arg1)) (m' ((c.tc : Thread Cert.FirstReferenceIdeal.nD Cert.FirstReferenceIdeal.τ).loc Cert.FirstReferenceIdeal.main_arg2)) (m' ((c.tc : Thread Cert.FirstReferenceIdeal.nD Cert.FirstReferenceIdeal.τ).loc Cert.FirstReferenceIdeal.main_arg3)) (m' ((c.tc : Thread Cert.FirstReferenceIdeal.nD Cert.FirstReferenceIdeal.τ).loc Cert.FirstReferenceIdeal.main_arg4))
      = Kernel.args m c := by
    unfold Ref.args Kernel.args
    congr 1
    · exact funext fun i => funext fun j => congrFun g0 _
    · exact funext fun j => congrFun g1 _
    · exact funext fun i => funext fun j => congrFun g2 _
    · exact funext fun i => funext fun j => congrFun g3 _
    · exact funext fun i => funext fun j => congrFun g4 _
  refine ⟨e0.trans ?_, e1.trans ?_, e2.trans ?_, ha⟩
  · rw [← hargs]
    exact Ref.y_out ..
  · rw [← hargs]
    exact Ref.dx_out ..
  · rw [← hargs]
    exact Ref.dg_out ..

end Cert.Front.Claims
-- ==== Proof.Query.Region0.lean ====
/-
  The residual stream after the block and its normalised rows: what the first call leaves in its arrays.
-/
module

public import proofs.«01_k».proof.Proof.Gen.QueryIdeal.Frame
public import proofs.«01_k».proof.Proof.Math.Norm
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ask.Region0
open Cert.QueryIdeal Cert.QueryIdeal.Gen Cert.Math Idealize.ShloMosaic Idealize.ShloMosaic.TcCoe

section Payloads

variable (v0 v1 : Vec Ideal S512x512 .bf16) (v3 : Vec Ideal S1x1024x1024 .bf16) (v6 : Vec Ideal S512x1024 .f32)

theorem pay1_apply (r : Fin 512) (l : Fin 1024) :
    k0_pay1 v0 v1 v3 v6 (ix2 r l)
      = ((∑ k : Fin 512, v0 (ix2 r k) * v3 (ix3 0 ⟨k.val, by omega⟩ l)) + ∑ k : Fin 512, v1 (ix2 r k) * v3 (ix3 0 ⟨512 + k.val, by omega⟩ l)) + v6 (ix2 r l) := by
  pointwise [k0_pay1]

theorem pay2_apply (v19 : Vec Ideal S1x1024 .f32) (r : Fin 512) (l : Fin 1024) :
    k0_pay2 v0 v1 v3 v6 v19 (ix2 r l) = nrm (fun k => k0_pay1 v0 v1 v3 v6 (ix2 r k)) l * v19 (ix2 0 l) := by
  unfold k0_pay2 nrm rs var len eps
  generalize k0_pay1 v0 v1 v3 v6 = h
  pointwise

end Payloads

variable (V : (c : Dev nD) → (b : Ref sig .tc) → Buf (Elt Ideal) ((c : Thread nD τ).loc b)) (c : Dev nD)

theorem row_lt (t : Fin cfg0.N) (r : Fin 512) : t.val * 512 + r.val < 8192 := by
  have : t.val < 16 := lt_of_lt_of_eq t.isLt N_0
  omega

/-- The attention's part of the rows that enter the product. -/
def P (i : Fin 8192) (k : Fin 512) : EReal := V c main_arg1 (ix2 i k)
/-- The convolution's part of the rows that enter the product. -/
def Q (i : Fin 8192) (k : Fin 512) : EReal := V c main_arg2 (ix2 i k)
/-- The weights. -/
def W (k j : Fin 1024) : EReal := V c main_v0 (ix3 0 k j)
/-- The residual stream before the block. -/
def A (i : Fin 8192) (j : Fin 1024) : EReal := V c main_arg0 (ix2 i j)
/-- The gain. -/
def G (j : Fin 1024) : EReal := V c main_arg4 (ix2 0 j)
/-- The residual stream after the block. -/
def H (i : Fin 8192) (j : Fin 1024) : EReal :=
  ((∑ k : Fin 512, P V c i k * W V c ⟨k.val, by omega⟩ j) + ∑ k : Fin 512, Q V c i k * W V c ⟨512 + k.val, by omega⟩ j) + A V c i j

theorem blk_0 (t : Fin cfg0.N) (r l : Fin 512) : iblk0 V c 0 t (ix2 r l) = P V c ⟨t.val * 512 + r.val, row_lt t r⟩ l := by
  unfold P
  have idx : ∀ t : Fin cfg0.N, win0_0.index t = ![t.val, 0] := by decide +kernel
  blk_ext [iblk0, idx t]

theorem blk_1 (t : Fin cfg0.N) (r l : Fin 512) : iblk0 V c 1 t (ix2 r l) = Q V c ⟨t.val * 512 + r.val, row_lt t r⟩ l := by
  unfold Q
  have idx : ∀ t : Fin cfg0.N, win0_1.index t = ![t.val, 0] := by decide +kernel
  blk_ext [iblk0, idx t]

theorem blk_2 (t : Fin cfg0.N) (k l : Fin 1024) : iblk0 V c 2 t (ix3 0 k l) = W V c k l := by
  unfold W
  have idx : ∀ t : Fin cfg0.N, win0_2.index t = ![0, 0, 0] := by decide +kernel
  blk_ext [iblk0, idx t]

theorem blk_3 (t : Fin cfg0.N) (r : Fin 512) (l : Fin 1024) : iblk0 V c 3 t (ix2 r l) = A V c ⟨t.val * 512 + r.val, row_lt t r⟩ l := by
  unfold A
  have idx : ∀ t : Fin cfg0.N, win0_3.index t = ![t.val, 0] := by decide +kernel
  blk_ext [iblk0, idx t]

theorem blk_4 (t : Fin cfg0.N) (l : Fin 1024) : iblk0 V c 4 t (ix2 0 l) = G V c l := by
  unfold G
  have idx : ∀ t : Fin cfg0.N, win0_4.index t = ![0, 0] := by decide +kernel
  blk_ext [iblk0, idx t]

theorem pay1_eq (t : Fin cfg0.N) (r : Fin 512) (l : Fin 1024) :
    k0_pay1 (F := Ideal) (iblk0 V c 0 t) (iblk0 V c 1 t) (iblk0 V c 2 t) (iblk0 V c 3 t) (ix2 r l) = H V c ⟨t.val * 512 + r.val, row_lt t r⟩ l := by
  refine (pay1_apply (iblk0 V c 0 t) (iblk0 V c 1 t) (iblk0 V c 2 t) (iblk0 V c 3 t) r l).trans ?_
  simp only [blk_0, blk_1, blk_2, blk_3]
  rfl

theorem out_5 (t : Fin cfg0.N) (r : Fin 512) (l : Fin 1024) :
    out0_5 (iblk0 V c 0 t) (iblk0 V c 1 t) (iblk0 V c 2 t) (iblk0 V c 3 t) (iblk0 V c 4 t) (ix2 r l) = H V c ⟨t.val * 512 + r.val, row_lt t r⟩ l := by
  frame_out
  exact pay1_eq V c t r l

theorem out_6 (t : Fin cfg0.N) (r : Fin 512) (l : Fin 1024) :
    out0_6 (iblk0 V c 0 t) (iblk0 V c 1 t) (iblk0 V c 2 t) (iblk0 V c 3 t) (iblk0 V c 4 t) (ix2 r l)
      = nrm (H V c ⟨t.val * 512 + r.val, row_lt t r⟩) l * G V c l := by
  frame_out
  refine (pay2_apply (iblk0 V c 0 t) (iblk0 V c 1 t) (iblk0 V c 2 t) (iblk0 V c 3 t) (iblk0 V c 4 t) r l).trans ?_
  rw [blk_4, funext (pay1_eq V c t r)]

/-- The residual stream after the block, after the run. -/
theorem arr_5 : (dat0 V c).arrAt 5 cfg0.N = fun i => H V c (i 0) (i 1) := by
  refine (dat0 V c).arrAt_eq_of_covers 5 _ (by decide +kernel) fun t hf y => ?_
  have idx : ∀ t : Fin cfg0.N, win0_5.index t = ![t.val, 0] := by decide +kernel
  blk_simp
  rw [after0_5]
  have he : ∃ r : Fin 512, ∃ l : Fin 1024, y = ix2 r l ∧ (win0_5.blk t).view.emb y = ix2 ⟨t.val * 512 + r.val, row_lt t r⟩ l := by
    idx_vars y
    refine ⟨y0, y1, rfl, ?_⟩
    blk_ext [idx t]
  obtain ⟨r, l, rfl, he⟩ := he
  refine (out_5 V c t r l).trans ?_
  exact (congrArg (fun i : S8192x1024.Idx => H V c (i 0) (i 1)) he).symm

/-- The normalised rows after the run. -/
theorem arr_6 : (dat0 V c).arrAt 6 cfg0.N = fun i => nrm (H V c (i 0)) (i 1) * G V c (i 1) := by
  refine (dat0 V c).arrAt_eq_of_covers 6 _ (by decide +kernel) fun t hf y => ?_
  have idx : ∀ t : Fin cfg0.N, win0_6.index t = ![t.val, 0] := by decide +kernel
  blk_simp
  rw [after0_6]
  have he : ∃ r : Fin 512, ∃ l : Fin 1024, y = ix2 r l ∧ (win0_6.blk t).view.emb y = ix2 ⟨t.val * 512 + r.val, row_lt t r⟩ l := by
    idx_vars y
    refine ⟨y0, y1, rfl, ?_⟩
    blk_ext [idx t]
  obtain ⟨r, l, rfl, he⟩ := he
  refine (out_6 V c t r l).trans ?_
  exact (congrArg (fun i : S8192x1024.Idx => nrm (H V c (i 0)) (i 1) * G V c (i 1)) he).symm

end Cert.Ask.Region0
-- ==== Proof.Query.Region1.lean ====
/-
  The query product: what the second call leaves in its array.
-/
module

public import proofs.«01_k».proof.Proof.Gen.QueryIdeal.Frame
public import proofs.«01_k».proof.Proof.Math.Norm
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ask.Region1
open Cert.QueryIdeal Cert.QueryIdeal.Gen Cert.Math Idealize.ShloMosaic Idealize.ShloMosaic.TcCoe

theorem pay1_apply (v0 : Vec Ideal S1024x1024 .bf16) (v2 : Vec Ideal S1x1024x1024 .bf16) (r l : Fin 1024) :
    k1_pay1 v0 v2 (ix2 r l) = ∑ k : Fin 1024, v0 (ix2 r k) * v2 (ix3 0 k l) := by
  pointwise [k1_pay1]

variable (V : (c : Dev nD) → (b : Ref sig .tc) → Buf (Elt Ideal) ((c : Thread nD τ).loc b)) (c : Dev nD)

theorem row_lt (t : Fin cfg1.N) (r : Fin 1024) : t.val * 1024 + r.val < 8192 := by
  have : t.val < 8 := lt_of_lt_of_eq t.isLt N_1
  omega

/-- The normalised rows. -/
def X (i : Fin 8192) (k : Fin 1024) : EReal := V c main_v1_1 (ix2 i k)
/-- The weights of the query product. -/
def W (k j : Fin 1024) : EReal := V c main_v2 (ix3 0 k j)
/-- The queries. -/
def D (i : Fin 8192) (j : Fin 1024) : EReal := ∑ k : Fin 1024, X V c i k * W V c k j

theorem blk_0 (t : Fin cfg1.N) (r l : Fin 1024) : iblk1 V c 0 t (ix2 r l) = X V c ⟨t.val * 1024 + r.val, row_lt t r⟩ l := by
  unfold X
  have idx : ∀ t : Fin cfg1.N, win1_0.index t = ![t.val, 0] := by decide +kernel
  blk_ext [iblk1, idx t]

theorem blk_1 (t : Fin cfg1.N) (k l : Fin 1024) : iblk1 V c 1 t (ix3 0 k l) = W V c k l := by
  unfold W
  have idx : ∀ t : Fin cfg1.N, win1_1.index t = ![0, 0, 0] := by decide +kernel
  blk_ext [iblk1, idx t]

theorem out_2 (t : Fin cfg1.N) (r l : Fin 1024) :
    out1_2 (iblk1 V c 0 t) (iblk1 V c 1 t) (ix2 r l) = D V c ⟨t.val * 1024 + r.val, row_lt t r⟩ l := by
  frame_out
  refine (pay1_apply (iblk1 V c 0 t) (iblk1 V c 1 t) r l).trans ?_
  simp only [blk_0, blk_1]
  rfl

/-- The queries after the run. -/
theorem arr_2 : (dat1 V c).arrAt 2 cfg1.N = fun i => D V c (i 0) (i 1) := by
  refine (dat1 V c).arrAt_eq_of_covers 2 _ (by decide +kernel) fun t hf y => ?_
  have idx : ∀ t : Fin cfg1.N, win1_2.index t = ![t.val, 0] := by decide +kernel
  blk_simp
  rw [after1_2]
  have he : ∃ r l : Fin 1024, y = ix2 r l ∧ (win1_2.blk t).view.emb y = ix2 ⟨t.val * 1024 + r.val, row_lt t r⟩ l := by
    idx_vars y
    refine ⟨y0, y1, rfl, ?_⟩
    blk_ext [idx t]
  obtain ⟨r, l, rfl, he⟩ := he
  refine (out_2 V c t r l).trans ?_
  exact (congrArg (fun i : S8192x1024.Idx => D V c (i 0) (i 1)) he).symm

end Cert.Ask.Region1
-- ==== Proof.Query.Region2.lean ====
/-
  The gradient of the residual stream through the query product and the normalisation, and the gradient of the gain.
-/
module

public import proofs.«01_k».proof.Proof.Gen.QueryIdeal.Frame
public import proofs.«01_k».proof.Proof.Math.Norm
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ask.Region2
open Cert.QueryIdeal Cert.QueryIdeal.Gen Cert.Math Idealize.ShloMosaic Idealize.ShloMosaic.TcCoe

section Payloads

variable (v3 : Vec Ideal S512x1024 .bf16) (v4 : Vec Ideal S1x1024x1024 .bf16) (v7 v32 : Vec Ideal S512x1024 .f32) (v19 : Vec Ideal S1x1024 .f32)

/-- A row of a block. -/
def row (x : Vec Ideal S512x1024 .f32) (r : Fin 512) (l : Fin 1024) : EReal := x (ix2 r l)
/-- A row of the gradient at the normalised rows. -/
def dn (r : Fin 512) (l : Fin 1024) : EReal := k2_pay3 v3 v4 (ix2 r l) * v19 (ix2 0 l)

theorem pay3_apply (r : Fin 512) (l : Fin 1024) : k2_pay3 v3 v4 (ix2 r l) = ∑ k : Fin 1024, v3 (ix2 r k) * v4 (ix3 0 l k) := by
  pointwise [k2_pay3]

theorem pay4_apply (r : Fin 512) (l : Fin 1024) : k2_pay4 v7 (ix2 r l) = v7 (ix2 r l) := by
  pointwise [k2_pay4]

theorem pay5_apply (r : Fin 512) : k2_pay5 v7 (ix2 r 0) = rs (row v7 r) := by
  unfold rs var row
  simp only [← pay4_apply v7]
  unfold k2_pay5 len eps
  generalize k2_pay4 v7 = h
  pointwise

theorem pay6_apply (r : Fin 512) (l : Fin 1024) : k2_pay6 v7 (ix2 r l) = nrm (row v7 r) l := by
  unfold nrm
  rw [← pay5_apply, row, ← pay4_apply v7]
  unfold k2_pay6
  generalize k2_pay5 v7 = h'
  generalize k2_pay4 v7 = h
  pointwise

theorem pay7_apply (r : Fin 512) (l : Fin 1024) :
    k2_pay7 v3 v4 v7 v19 v32 (ix2 r l) = back (row v7 r) (dn v3 v4 v19 r) l + v32 (ix2 r l) := by
  unfold back dn
  simp only [← pay6_apply, ← pay5_apply]
  unfold k2_pay7 len
  generalize k2_pay6 v7 = h2
  generalize k2_pay5 v7 = h1
  generalize k2_pay3 v3 v4 = h3
  pointwise

theorem pay8_apply (r : Fin 512) (l : Fin 1024) :
    k2_pay8 v3 v4 v7 v19 v32 (ix2 r l) = back (row v7 r) (dn v3 v4 v19 r) l + v32 (ix2 r l) := by
  rw [← pay7_apply]
  unfold k2_pay8
  generalize k2_pay7 v3 v4 v7 v19 v32 = h
  pointwise

theorem pay1_apply (v37 : Vec Ideal S1x1024 .f32) (l : Fin 1024) :
    k2_pay1 (k2_pay3 v3 v4) (k2_pay6 v7) v37 (ix2 0 l) = v37 (ix2 0 l) + ∑ r : Fin 512, k2_pay3 v3 v4 (ix2 r l) * nrm (row v7 r) l := by
  simp only [← pay6_apply]
  unfold k2_pay1
  generalize k2_pay6 v7 = h2
  generalize k2_pay3 v3 v4 = h3
  pointwise

end Payloads

variable (V : (c : Dev nD) → (b : Ref sig .tc) → Buf (Elt Ideal) ((c : Thread nD τ).loc b)) (c : Dev nD)

theorem row_lt (t : Fin cfg2.N) (r : Fin 512) : t.val * 512 + r.val < 8192 := by
  have : t.val < 16 := lt_of_lt_of_eq t.isLt N_2
  omega

/-- The gradient of the queries. -/
def X (i : Fin 8192) (k : Fin 1024) : EReal := V c main_arg6 (ix2 i k)
/-- The weights of the query product. -/
def W (j : Fin 1024) (k : Fin 1024) : EReal := V c main_v4 (ix3 0 j k)
/-- The residual stream. -/
def A (i : Fin 8192) (j : Fin 1024) : EReal := V c main_v1_0 (ix2 i j)
/-- The gradient of the residual stream from the blocks after it. -/
def B (i : Fin 8192) (j : Fin 1024) : EReal := V c main_arg7 (ix2 i j)
/-- The gain of the normalisation. -/
def G (j : Fin 1024) : EReal := V c main_arg4 (ix2 0 j)
/-- The gradient at the rows that enter the query product. -/
def D (i : Fin 8192) (j : Fin 1024) : EReal := ∑ k : Fin 1024, X V c i k * W V c j k
/-- The gradient at the normalised rows. -/
def DN (i : Fin 8192) (j : Fin 1024) : EReal := D V c i j * G V c j

theorem blk_0 (t : Fin cfg2.N) (r : Fin 512) (l : Fin 1024) : iblk2 V c 0 t (ix2 r l) = X V c ⟨t.val * 512 + r.val, row_lt t r⟩ l := by
  unfold X
  have idx : ∀ t : Fin cfg2.N, win2_0.index t = ![t.val, 0] := by decide +kernel
  blk_ext [iblk2, idx t]

theorem blk_1 (t : Fin cfg2.N) (j l : Fin 1024) : iblk2 V c 1 t (ix3 0 j l) = W V c j l := by
  unfold W
  have idx : ∀ t : Fin cfg2.N, win2_1.index t = ![0, 0, 0] := by decide +kernel
  blk_ext [iblk2, idx t]

theorem blk_2 (t : Fin cfg2.N) (r : Fin 512) (l : Fin 1024) : iblk2 V c 2 t (ix2 r l) = A V c ⟨t.val * 512 + r.val, row_lt t r⟩ l := by
  unfold A
  have idx : ∀ t : Fin cfg2.N, win2_2.index t = ![t.val, 0] := by decide +kernel
  blk_ext [iblk2, idx t]

theorem blk_3 (t : Fin cfg2.N) (r : Fin 512) (l : Fin 1024) : iblk2 V c 3 t (ix2 r l) = B V c ⟨t.val * 512 + r.val, row_lt t r⟩ l := by
  unfold B
  have idx : ∀ t : Fin cfg2.N, win2_3.index t = ![t.val, 0] := by decide +kernel
  blk_ext [iblk2, idx t]

theorem blk_4 (t : Fin cfg2.N) (l : Fin 1024) : iblk2 V c 4 t (ix2 0 l) = G V c l := by
  unfold G
  have idx : ∀ t : Fin cfg2.N, win2_4.index t = ![0, 0] := by decide +kernel
  blk_ext [iblk2, idx t]

theorem prod_apply (t : Fin cfg2.N) (r : Fin 512) (l : Fin 1024) :
    k2_pay3 (F := Ideal) (iblk2 V c 0 t) (iblk2 V c 1 t) (ix2 r l) = D V c ⟨t.val * 512 + r.val, row_lt t r⟩ l := by
  refine (pay3_apply (iblk2 V c 0 t) (iblk2 V c 1 t) r l).trans ?_
  simp only [blk_0, blk_1]
  rfl

theorem row_eq (t : Fin cfg2.N) (r : Fin 512) : row (iblk2 V c 2 t) r = A V c ⟨t.val * 512 + r.val, row_lt t r⟩ := by
  funext l
  rw [row, blk_2]

theorem dn_eq (t : Fin cfg2.N) (r : Fin 512) : dn (iblk2 V c 0 t) (iblk2 V c 1 t) (iblk2 V c 4 t) r = DN V c ⟨t.val * 512 + r.val, row_lt t r⟩ := by
  funext l
  rw [dn, prod_apply, blk_4, DN]

theorem out_5 (t : Fin cfg2.N) (r : Fin 512) (l : Fin 1024) :
    (outsAt2 V c t.val t.isLt).1 (ix2 r l)
      = back (A V c ⟨t.val * 512 + r.val, row_lt t r⟩) (DN V c ⟨t.val * 512 + r.val, row_lt t r⟩) l + B V c ⟨t.val * 512 + r.val, row_lt t r⟩ l := by
  rw [← row_eq, ← dn_eq, ← blk_3]
  by_cases h0 : t.val % 16 = 0
  · rw [outsAt2_A V c t h0]
    frame_out
    exact pay7_apply ..
  · rw [outsAt2_B V c t h0]
    frame_out
    exact pay7_apply ..

theorem out_6 (t : Fin cfg2.N) (r : Fin 512) (l : Fin 1024) :
    (outsAt2 V c t.val t.isLt).2.1 (ix2 r l)
      = back (A V c ⟨t.val * 512 + r.val, row_lt t r⟩) (DN V c ⟨t.val * 512 + r.val, row_lt t r⟩) l + B V c ⟨t.val * 512 + r.val, row_lt t r⟩ l := by
  rw [← row_eq, ← dn_eq, ← blk_3]
  by_cases h0 : t.val % 16 = 0
  · rw [outsAt2_A V c t h0]
    frame_out
    exact pay8_apply ..
  · rw [outsAt2_B V c t h0]
    frame_out
    exact pay8_apply ..

/-- Row 0 of the eight rows that the gain's gradient is summed in. -/
theorem row0 (l : Fin 1024) : (ix2 0 l : S8x1024.Idx) = (Rect.unit (s := S8x1024) ![0, 0] ![1, 1024] inb_S8x1024_S1x1024_0_0).emb (ix2 0 l) := by
  blk_ext []

theorem ld_row0 (x : Vec Ideal S8x1024 .f32) (l : Fin 1024) :
    View.ld x (Rect.unit (s := S8x1024) ![0, 0] ![1, 1024] inb_S8x1024_S1x1024_0_0) (ix2 0 l) = x (ix2 0 l) :=
  congrArg x (row0 l).symm

/-- The share of a grid point's rows in the gradient of the gain. -/
def gTerm (t : Fin cfg2.N) (l : Fin 1024) : EReal :=
  ∑ r : Fin 512, D V c ⟨t.val * 512 + r.val, row_lt t r⟩ l * nrm (A V c ⟨t.val * 512 + r.val, row_lt t r⟩) l

theorem g_first (t : Fin cfg2.N) (h0 : t.val % 16 = 0) (l : Fin 1024) :
    (outsAt2 V c t.val t.isLt).2.2 (ix2 0 l) = 0 + gTerm V c t l := by
  rw [outsAt2_A V c t h0]
  frame_open
  simp (disch := decide) only [↓ View.readCov_skip, ↓ View.readCov_cons_toLoadRect, ↓ View.readCov_fill]
  frame_out
  rw [row0]
  refine (View.canon_cons_emb _ _ _ _).trans ?_
  refine (pay1_apply (iblk2 V c 0 t) (iblk2 V c 1 t) (iblk2 V c 2 t) _ l).trans ?_
  simp only [prod_apply, row_eq]
  refine congrArg (· + _) ((ld_row0 _ l).trans ?_)
  pointwise [k2_pay2]

theorem g_step (t : Fin cfg2.N) (h0 : ¬t.val % 16 = 0) (l : Fin 1024) :
    (outsAt2 V c t.val t.isLt).2.2 (ix2 0 l)
      = (outsAt2 V c (t.val - 1) (Nat.lt_of_le_of_lt (Nat.sub_le _ _) t.isLt)).2.2 (ix2 0 l) + gTerm V c t l := by
  rw [outsAt2_B V c t h0]
  frame_out
  conv_lhs => rw [row0]
  refine (View.read_writes_cons_emb _ _ _ _ _ _).trans ?_
  refine (pay1_apply (iblk2 V c 0 t) (iblk2 V c 1 t) (iblk2 V c 2 t) _ l).trans ?_
  simp only [prod_apply, row_eq]
  exact congrArg (· + _) (ld_row0 _ l)

/-- The gradient of the residual stream, after the run. -/
theorem arr_5 : (dat2 V c).arrAt 5 cfg2.N = fun i => back (A V c (i 0)) (DN V c (i 0)) (i 1) + B V c (i 0) (i 1) := by
  refine (dat2 V c).arrAt_eq_of_covers 5 _ (by decide +kernel) fun t hf y => ?_
  have idx : ∀ t : Fin cfg2.N, win2_5.index t = ![t.val, 0] := by decide +kernel
  blk_simp
  rw [after2_5]
  have he : ∃ r : Fin 512, ∃ l : Fin 1024, y = ix2 r l ∧ (win2_5.blk t).view.emb y = ix2 ⟨t.val * 512 + r.val, row_lt t r⟩ l := by
    idx_vars y
    refine ⟨y0, y1, rfl, ?_⟩
    blk_ext [idx t]
  obtain ⟨r, l, rfl, he⟩ := he
  refine (out_5 V c t r l).trans ?_
  exact (congrArg (fun i : S8192x1024.Idx => back (A V c (i 0)) (DN V c (i 0)) (i 1) + B V c (i 0) (i 1)) he).symm

theorem arr_6 : (dat2 V c).arrAt 6 cfg2.N = fun i => back (A V c (i 0)) (DN V c (i 0)) (i 1) + B V c (i 0) (i 1) := by
  refine (dat2 V c).arrAt_eq_of_covers 6 _ (by decide +kernel) fun t hf y => ?_
  have idx : ∀ t : Fin cfg2.N, win2_6.index t = ![t.val, 0] := by decide +kernel
  blk_simp
  rw [after2_6]
  have he : ∃ r : Fin 512, ∃ l : Fin 1024, y = ix2 r l ∧ (win2_6.blk t).view.emb y = ix2 ⟨t.val * 512 + r.val, row_lt t r⟩ l := by
    idx_vars y
    refine ⟨y0, y1, rfl, ?_⟩
    blk_ext [idx t]
  obtain ⟨r, l, rfl, he⟩ := he
  refine (out_6 V c t r l).trans ?_
  exact (congrArg (fun i : S8192x1024.Idx => back (A V c (i 0)) (DN V c (i 0)) (i 1) + B V c (i 0) (i 1)) he).symm

/-- The last grid point. -/
def tLast : Fin cfg2.N := ⟨15, by rw [show cfg2.N = 16 from N_2]; decide⟩

theorem g_last (l : Fin 1024) : (outsAt2 V c tLast.val tLast.isLt).2.2 (ix2 0 l)
    = ∑ i : Fin 8192, D V c i l * nrm (A V c i) l := by
  have := Pipeline.eq_sum_fin_of_reset_step_apply_last (fun n h (l : Fin 1024) => (outsAt2 V c n h).2.2 (ix2 0 l)) 16 (fun _ => (0 : EReal)) (gTerm V c)
    (g_first V c) (g_step V c) (by show grid2.N ≤ 16; rw [N_2]) tLast (by show 15 + 1 = grid2.N; rw [N_2]) l
  refine (this.trans (zero_add _)).trans ?_
  exact Fin.sum_mul_add_congr (n := 512) (fun t r hl => rfl) (by rw [show cfg2.N = 16 from N_2])

/-- The gradient of the gain after the run, in row 0. -/
theorem arr_7 (l : Fin 1024) : (dat2 V c).arrAt 7 cfg2.N (ix2 0 l) = ∑ i : Fin 8192, D V c i l * nrm (A V c i) l := by
  refine (congrFun ((dat2 V c).arrAt_eq_of_after_last 7 tLast (by decide +kernel) (outsAt2 V c tLast.val tLast.isLt).2.2 fun j => ?_) _).trans (g_last V c l)
  blk_simp
  rw [after2_7]

end Cert.Ask.Region2
-- ==== Proof.Query.Region3.lean ====
/-
  The gradient of the rows that enter the output product: what the fourth call leaves in its array.
-/
module

public import proofs.«01_k».proof.Proof.Gen.QueryIdeal.Frame
public import proofs.«01_k».proof.Proof.Math.Norm
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ask.Region3
open Cert.QueryIdeal Cert.QueryIdeal.Gen Cert.Math Idealize.ShloMosaic Idealize.ShloMosaic.TcCoe

theorem pay1_apply (v0 : Vec Ideal S1024x1024 .bf16) (v2 : Vec Ideal S1x1024x1024 .bf16) (r l : Fin 1024) :
    k3_pay1 v0 v2 (ix2 r l) = ∑ k : Fin 1024, v0 (ix2 r k) * v2 (ix3 0 l k) := by
  pointwise [k3_pay1]

variable (V : (c : Dev nD) → (b : Ref sig .tc) → Buf (Elt Ideal) ((c : Thread nD τ).loc b)) (c : Dev nD)

theorem row_lt (t : Fin cfg3.N) (r : Fin 1024) : t.val * 1024 + r.val < 8192 := by
  have : t.val < 8 := lt_of_lt_of_eq t.isLt N_3
  omega

/-- The gradient of the residual stream. -/
def X (i : Fin 8192) (k : Fin 1024) : EReal := V c main_v5_1 (ix2 i k)
/-- The weights of the output product. -/
def W (j k : Fin 1024) : EReal := V c main_v6 (ix3 0 j k)
/-- The gradient of the rows that enter the output product. -/
def D (i : Fin 8192) (j : Fin 1024) : EReal := ∑ k : Fin 1024, X V c i k * W V c j k

theorem blk_0 (t : Fin cfg3.N) (r l : Fin 1024) : iblk3 V c 0 t (ix2 r l) = X V c ⟨t.val * 1024 + r.val, row_lt t r⟩ l := by
  unfold X
  have idx : ∀ t : Fin cfg3.N, win3_0.index t = ![t.val, 0] := by decide +kernel
  blk_ext [iblk3, idx t]

theorem blk_1 (t : Fin cfg3.N) (k l : Fin 1024) : iblk3 V c 1 t (ix3 0 k l) = W V c k l := by
  unfold W
  have idx : ∀ t : Fin cfg3.N, win3_1.index t = ![0, 0, 0] := by decide +kernel
  blk_ext [iblk3, idx t]

theorem out_2 (t : Fin cfg3.N) (r l : Fin 1024) :
    out3_2 (iblk3 V c 0 t) (iblk3 V c 1 t) (ix2 r l) = D V c ⟨t.val * 1024 + r.val, row_lt t r⟩ l := by
  frame_out
  refine (pay1_apply (iblk3 V c 0 t) (iblk3 V c 1 t) r l).trans ?_
  simp only [blk_0, blk_1]
  rfl

/-- The gradient of the rows that enter the output product after the run. -/
theorem arr_2 : (dat3 V c).arrAt 2 cfg3.N = fun i => D V c (i 0) (i 1) := by
  refine (dat3 V c).arrAt_eq_of_covers 2 _ (by decide +kernel) fun t hf y => ?_
  have idx : ∀ t : Fin cfg3.N, win3_2.index t = ![t.val, 0] := by decide +kernel
  blk_simp
  rw [after3_2]
  have he : ∃ r l : Fin 1024, y = ix2 r l ∧ (win3_2.blk t).view.emb y = ix2 ⟨t.val * 1024 + r.val, row_lt t r⟩ l := by
    idx_vars y
    refine ⟨y0, y1, rfl, ?_⟩
    blk_ext [idx t]
  obtain ⟨r, l, rfl, he⟩ := he
  refine (out_2 V c t r l).trans ?_
  exact (congrArg (fun i : S8192x1024.Idx => D V c (i 0) (i 1)) he).symm

end Cert.Ask.Region3
-- ==== Proof.Query.Run.lean ====
/-
  The run of the output and query products, with the contents of every array at its end.
-/
module

public import proofs.«01_k».proof.Proof.Gen.QueryIdeal.Frame
public import Idealize.ShloMosaic.Lib.Pointwise

@[expose] public section

set_option maxRecDepth 16384

noncomputable section

namespace Cert.Ask.Run
open Cert.QueryIdeal Cert.QueryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- The run ends with every array outside the scoped ones at its contents after the last step. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => h)

end Cert.Ask.Run
-- ==== Proof.Query.Spec.lean ====
/-
  The output product, the normalisation and the query product with their gradients, as functions of the argument arrays.
-/
module

public import proofs.«01_k».proof.Proof.Math.Norm

@[expose] public section

set_option maxRecDepth 16384

noncomputable section

namespace Cert.Ask
open Cert.Math Idealize.ShloMosaic

/-- The argument arrays, read at their indices. -/
structure Args where
  /-- The residual stream before the output product. -/
  a : Fin 8192 → Fin 1024 → EReal
  /-- The attention's part of the rows that enter the output product. -/
  xa : Fin 8192 → Fin 512 → EReal
  /-- The convolution's part of the rows that enter the output product. -/
  xc : Fin 8192 → Fin 512 → EReal
  /-- The weights of the output product. -/
  w : Fin 1024 → Fin 1024 → EReal
  /-- The gain of the normalisation. -/
  g : Fin 1024 → EReal
  /-- The weights of the query product. -/
  wq : Fin 1024 → Fin 1024 → EReal
  /-- The gradient of the queries. -/
  dq : Fin 8192 → Fin 1024 → EReal
  /-- The gradient of the residual stream from the blocks after it. -/
  dr : Fin 8192 → Fin 1024 → EReal

namespace Args
variable (p : Args)

/-- The residual stream after the output product. -/
def h (i : Fin 8192) (j : Fin 1024) : EReal :=
  ((∑ k : Fin 512, p.xa i k * p.w ⟨k.val, by omega⟩ j) + ∑ k : Fin 512, p.xc i k * p.w ⟨512 + k.val, by omega⟩ j) + p.a i j
/-- The queries. -/
def y (i : Fin 8192) (j : Fin 1024) : EReal := ∑ k, nrm (p.h i) k * p.g k * p.wq k j
/-- The gradient at the rows that enter the query product. -/
def dh (i : Fin 8192) (j : Fin 1024) : EReal := ∑ k, p.dq i k * p.wq j k
/-- The gradient of the normalised rows before their gain. -/
def dn (i : Fin 8192) (j : Fin 1024) : EReal := p.dh i j * p.g j
/-- The gradient of the residual stream. -/
def d (i : Fin 8192) (j : Fin 1024) : EReal := back (p.h i) (p.dn i) j + p.dr i j
/-- The gradient of the rows that enter the output product. -/
def dx (i : Fin 8192) (k : Fin 1024) : EReal := ∑ j, p.d i j * p.w k j
/-- The gradient of the gain. -/
def dg (l : Fin 1024) : EReal := ∑ i, p.dh i l * nrm (p.h i) l

end Args
end Cert.Ask
-- ==== Proof.Query.Kernel.lean ====
/-
  The results of the output and query products as the run leaves them, in terms of the argument arrays.
-/
module

public import proofs.«01_k».proof.Proof.Query.Region0
public import proofs.«01_k».proof.Proof.Query.Region1
public import proofs.«01_k».proof.Proof.Query.Region2
public import proofs.«01_k».proof.Proof.Query.Region3
public import proofs.«01_k».proof.Proof.Query.Run
public import proofs.«01_k».proof.Proof.Query.Spec

@[expose] public section

set_option maxRecDepth 16384

noncomputable section

namespace Cert.Ask.Kernel
open Cert.QueryIdeal Cert.QueryIdeal.Gen Cert.Math Idealize.ShloMosaic Idealize.ShloMosaic.TcCoe Idealize.SL.Sem

variable (m : (ℓ : Loc nD τ sig) → Buf (Elt Ideal) ℓ) (ρ : Dev nD → PrngReg) (c : Dev nD)

/-- The argument arrays at launch. -/
def args : Args where
  a i j := m ((c : Thread nD τ).loc main_arg0) (ix2 i j)
  xa i j := m ((c : Thread nD τ).loc main_arg1) (ix2 i j)
  xc i j := m ((c : Thread nD τ).loc main_arg2) (ix2 i j)
  w i j := m ((c : Thread nD τ).loc main_arg3) (ix2 i j)
  g j := m ((c : Thread nD τ).loc main_arg4) (ix2 0 j)
  wq i j := m ((c : Thread nD τ).loc main_arg5) (ix2 i j)
  dq i j := m ((c : Thread nD τ).loc main_arg6) (ix2 i j)
  dr i j := m ((c : Thread nD τ).loc main_arg7) (ix2 i j)

/-! ## The weights as the regions read them -/

theorem v0_apply (k j : Fin 1024) : (V1 m ρ c main_v0 : Vec Ideal S1x1024x1024 .bf16) (ix3 0 k j) = (args m c).w k j := by
  have h : W1 m ρ c (Proc.devRef .tc main_v0) = broadcastInDim S1x1024x1024 ![1, 2] bcast_S1024x1024_S1x1024x1024_1_2 (m ((c : Thread nD τ).loc main_arg3) : Vec Ideal S1024x1024 .bf16) := by
    show StableHlo.after hostOps0 (W0 m ρ c) (Proc.devRef .tc main_v0) = _
    after_results_simp
  refine (congrFun h _).trans ?_
  pointwise
  rfl

theorem v2_apply (k j : Fin 1024) : (V3 m ρ c main_v2 : Vec Ideal S1x1024x1024 .bf16) (ix3 0 k j) = (args m c).wq k j := by
  have h : W3 m ρ c (Proc.devRef .tc main_v2) = broadcastInDim S1x1024x1024 ![1, 2] bcast_S1024x1024_S1x1024x1024_1_2 (W2 m ρ c (Proc.devRef .tc main_arg5) : Vec Ideal S1024x1024 .bf16) := by
    show StableHlo.after hostOps1 (W2 m ρ c) (Proc.devRef .tc main_v2) = _
    after_results_simp
  rw [W2_args m ρ c main_arg5 (by decide)] at h
  refine (congrFun h _).trans ?_
  pointwise
  rfl

theorem v4_apply (k j : Fin 1024) : (V5 m ρ c main_v4 : Vec Ideal S1x1024x1024 .bf16) (ix3 0 k j) = (args m c).wq k j := by
  have h : W5 m ρ c (Proc.devRef .tc main_v4) = broadcastInDim S1x1024x1024 ![1, 2] bcast_S1024x1024_S1x1024x1024_1_2 (W4 m ρ c (Proc.devRef .tc main_arg5) : Vec Ideal S1024x1024 .bf16) := by
    show StableHlo.after hostOps2 (W4 m ρ c) (Proc.devRef .tc main_v4) = _
    after_results_simp
  rw [W4_args m ρ c main_arg5 (by decide)] at h
  refine (congrFun h _).trans ?_
  pointwise
  rfl

theorem v6_apply (k j : Fin 1024) : (V7 m ρ c main_v6 : Vec Ideal S1x1024x1024 .bf16) (ix3 0 k j) = (args m c).w k j := by
  have h : W7 m ρ c (Proc.devRef .tc main_v6) = broadcastInDim S1x1024x1024 ![1, 2] bcast_S1024x1024_S1x1024x1024_1_2 (W6 m ρ c (Proc.devRef .tc main_arg3) : Vec Ideal S1024x1024 .bf16) := by
    show StableHlo.after hostOps3 (W6 m ρ c) (Proc.devRef .tc main_v6) = _
    after_results_simp
  rw [W6_args m ρ c main_arg3 (by decide)] at h
  refine (congrFun h _).trans ?_
  pointwise
  rfl

/-! ## The products and the gradients -/

theorem reg0_H : Region0.H (V1 m ρ) c = (args m c).h := by
  funext i j
  unfold Region0.H Args.h
  refine congrArg₂ (· + ·) (congrArg₂ (· + ·) ?_ ?_) (congrFun (W1_args m ρ c main_arg0 (by decide)) _)
  · exact Finset.sum_congr rfl fun k _ => congrArg₂ (· * ·) (congrFun (W1_args m ρ c main_arg1 (by decide)) _) (v0_apply m ρ c _ j)
  · exact Finset.sum_congr rfl fun k _ => congrArg₂ (· * ·) (congrFun (W1_args m ρ c main_arg2 (by decide)) _) (v0_apply m ρ c _ j)

theorem reg0_G : Region0.G (V1 m ρ) c = (args m c).g := funext fun j => congrFun (W1_args m ρ c main_arg4 (by decide)) _

theorem v1_0_at_2 : W2 m ρ c (Proc.devRef .tc main_v1_0) = fun i => (args m c).h (i 0) (i 1) :=
  (W2_arr m ρ c 5).trans ((Region0.arr_5 (V1 m ρ) c).trans (by rw [reg0_H]))

theorem v1_1_at_2 : W2 m ρ c (Proc.devRef .tc main_v1_1) = fun i => nrm ((args m c).h (i 0)) (i 1) * (args m c).g (i 1) :=
  (W2_arr m ρ c 6).trans ((Region0.arr_6 (V1 m ρ) c).trans (by rw [reg0_H, reg0_G]))

theorem reg1_D : Region1.D (V3 m ρ) c = (args m c).y := by
  funext i j
  unfold Region1.D Args.y
  refine Finset.sum_congr rfl fun k _ => congrArg₂ (· * ·) ?_ (v2_apply m ρ c k j)
  exact congrFun ((W3_of m ρ c main_v1_1 (by decide)).trans (v1_1_at_2 m ρ c)) _

theorem v3_at_4 : W4 m ρ c (Proc.devRef .tc main_v3) = fun i => (args m c).y (i 0) (i 1) :=
  (W4_arr m ρ c 2).trans ((Region1.arr_2 (V3 m ρ) c).trans (by rw [reg1_D]))

theorem v1_0_at_5 : W5 m ρ c (Proc.devRef .tc main_v1_0) = fun i => (args m c).h (i 0) (i 1) :=
  (W5_of m ρ c main_v1_0 (by decide)).trans <| (W4_of m ρ c main_v1_0 (by decide)).trans <| (W3_of m ρ c main_v1_0 (by decide)).trans (v1_0_at_2 m ρ c)

theorem reg2_D : Region2.D (V5 m ρ) c = (args m c).dh := by
  funext i j
  unfold Region2.D Args.dh
  exact Finset.sum_congr rfl fun k _ => congrArg₂ (· * ·) (congrFun (W5_args m ρ c main_arg6 (by decide)) _) (v4_apply m ρ c j k)

theorem reg2_DN : Region2.DN (V5 m ρ) c = (args m c).dn := by
  funext i j
  unfold Region2.DN Args.dn
  rw [reg2_D]
  exact congrArg (_ * ·) (congrFun (W5_args m ρ c main_arg4 (by decide)) _)

theorem reg2_A : Region2.A (V5 m ρ) c = (args m c).h :=
  funext fun i => funext fun j => congrFun (v1_0_at_5 m ρ c) _

theorem reg2_B : Region2.B (V5 m ρ) c = (args m c).dr :=
  funext fun i => funext fun j => congrFun (W5_args m ρ c main_arg7 (by decide)) _

theorem v5_0_at_6 : W6 m ρ c (Proc.devRef .tc main_v5_0) = fun i => (args m c).d (i 0) (i 1) :=
  (W6_arr m ρ c 5).trans ((Region2.arr_5 (V5 m ρ) c).trans (by rw [reg2_A, reg2_DN, reg2_B]; rfl))

theorem v5_1_at_6 : W6 m ρ c (Proc.devRef .tc main_v5_1) = fun i => (args m c).d (i 0) (i 1) :=
  (W6_arr m ρ c 6).trans ((Region2.arr_6 (V5 m ρ) c).trans (by rw [reg2_A, reg2_DN, reg2_B]; rfl))

theorem v5_2_at_6 (l : Fin 1024) : (W6 m ρ c (Proc.devRef .tc main_v5_2) : Vec Ideal S8x1024 .f32) (ix2 0 l) = (args m c).dg l :=
  (congrFun (W6_arr m ρ c 7) _).trans ((Region2.arr_7 (V5 m ρ) c l).trans (by rw [reg2_D, reg2_A]; rfl))

theorem reg3_D : Region3.D (V7 m ρ) c = (args m c).dx := by
  funext i k
  unfold Region3.D Args.dx
  refine Finset.sum_congr rfl fun j _ => congrArg₂ (· * ·) ?_ (v6_apply m ρ c k j)
  exact congrFun ((W7_of m ρ c main_v5_1 (by decide)).trans (v5_1_at_6 m ρ c)) _

/-! ## The results -/

theorem h_out : W9 m ρ c (Proc.devRef .tc main_v1_0) = fun i => (args m c).h (i 0) (i 1) :=
  (W9_of m ρ c main_v1_0 (by decide)).trans <| (W8_of m ρ c main_v1_0 (by decide)).trans <| (W7_of m ρ c main_v1_0 (by decide)).trans <|
    (W6_of m ρ c main_v1_0 (by decide)).trans (v1_0_at_5 m ρ c)

theorem y_out : W9 m ρ c (Proc.devRef .tc main_v3) = fun i => (args m c).y (i 0) (i 1) :=
  (W9_of m ρ c main_v3 (by decide)).trans <| (W8_of m ρ c main_v3 (by decide)).trans <| (W7_of m ρ c main_v3 (by decide)).trans <|
    (W6_of m ρ c main_v3 (by decide)).trans <| (W5_of m ρ c main_v3 (by decide)).trans (v3_at_4 m ρ c)

theorem d_out : W9 m ρ c (Proc.devRef .tc main_v5_0) = fun i => (args m c).d (i 0) (i 1) :=
  (W9_of m ρ c main_v5_0 (by decide)).trans <| (W8_of m ρ c main_v5_0 (by decide)).trans <| (W7_of m ρ c main_v5_0 (by decide)).trans (v5_0_at_6 m ρ c)

theorem dx_out : W9 m ρ c (Proc.devRef .tc main_v7) = fun i => (args m c).dx (i 0) (i 1) :=
  (W9_of m ρ c main_v7 (by decide)).trans ((W8_arr m ρ c 2).trans ((Region3.arr_2 (V7 m ρ) c).trans (by rw [reg3_D])))

theorem dg_out : W9 m ρ c (Proc.devRef .tc main_v8) = fun i => (args m c).dg (i 1) := by
  have h : W9 m ρ c (Proc.devRef .tc main_v8) = extractStridedSlice S1x1024 ![0, 0] (W8 m ρ c (Proc.devRef .tc main_v5_2) : Vec Ideal S8x1024 .f32) slices_S8x1024_S1x1024_0_0 := by
    show StableHlo.after hostOps4 (W8 m ρ c) (Proc.devRef .tc main_v8) = _
    after_results_simp
  rw [W8_of m ρ c main_v5_2 (by decide), W7_of m ρ c main_v5_2 (by decide)] at h
  rw [h]
  funext i
  idx_vars i
  refine Eq.trans ?_ (v5_2_at_6 m ρ c i1)
  pointwise

/-- The whole run: the results, and the arguments as they were. -/
theorem run : θ_run defs (onTc (τ := τ) (main (F := Ideal))) ⟨m, fun _ => 0, ρ⟩ (fun r => ∀ c : Dev nD,
       (r.2.mem ((c : Thread nD τ).loc main_v1_0) = fun i => (args m c).h (i 0) (i 1))
      ∧ (r.2.mem ((c : Thread nD τ).loc main_v3) = fun i => (args m c).y (i 0) (i 1))
      ∧ (r.2.mem ((c : Thread nD τ).loc main_v5_0) = fun i => (args m c).d (i 0) (i 1))
      ∧ (r.2.mem ((c : Thread nD τ).loc main_v7) = fun i => (args m c).dx (i 0) (i 1))
      ∧ (r.2.mem ((c : Thread nD τ).loc main_v8) = fun i => (args m c).dg (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun r h c =>
    ⟨(h c _ (mem_uc main_v1_0 (by decide))).trans (h_out m ρ c),
      (h c _ (mem_uc main_v3 (by decide))).trans (y_out m ρ c),
      (h c _ (mem_uc main_v5_0 (by decide))).trans (d_out m ρ c),
      (h c _ (mem_uc main_v7 (by decide))).trans (dx_out m ρ c),
      (h c _ (mem_uc main_v8 (by decide))).trans (dg_out m ρ c),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c)⟩) (Run.run m ρ)

end Cert.Ask.Kernel
-- ==== Proof.Query.Ref.lean ====
/-
  The reference of the output and query products, stage after stage, in terms of the argument arrays.
-/
module

public import proofs.«01_k».proof.Proof.Gen.QueryReferenceIdeal.Run
public import proofs.«01_k».proof.Proof.Query.Spec
public import Idealize.ShloMosaic.Lib.Pointwise
public import Idealize.ShloMosaic.Lib.KernelVsHost

@[expose] public section

set_option maxRecDepth 16384

noncomputable section

namespace Cert.Ask.Ref
open Cert.QueryReferenceIdeal Cert.QueryReferenceIdeal.Gen Cert.QueryReferenceIdeal.Value Cert.Math
open Idealize.ShloMosaic Idealize.ShloMosaic.TcCoe Idealize.SL.Sem Idealize.ShloMosaic.StableHlo

/-! ## The stages over given arrays -/

section Stages

/-- A row of an array. -/
def row (x : FVec Ideal S8192x1024 .f32) (i : Fin 8192) (j : Fin 1024) : EReal := x (ix2 i j)

/-- The mean of the squares of each row, with the small constant. -/
def vr (x : FVec Ideal S8192x1024 .f32) : FVec Ideal S8192x1 .f32 := addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
/-- The reciprocal square root of it. -/
def rsq (x : FVec Ideal S8192x1024 .f32) : FVec Ideal S8192x1 .f32 := Host.rsqrt (vr x)
/-- The normalised rows before the gain. -/
def nm (x : FVec Ideal S8192x1024 .f32) : FVec Ideal S8192x1024 .f32 := mulf x (broadcastInDim S8192x1024 ![0, 1] bcast_S8192x1_S8192x1024_0_1 (rsq x))
/-- Rows times the gain. -/
def gn (x : FVec Ideal S8192x1024 .f32) (g : FVec Ideal S1x1024 .f32) : FVec Ideal S8192x1024 .f32 := mulf x (broadcastInDim S8192x1024 ![0, 1] bcast_S1x1024_S8192x1024_0_1 g)
/-- The factor of the rows in the gradient through their mean square. -/
def cf (x d : FVec Ideal S8192x1024 .f32) : FVec Ideal S8192x1024 .f32 :=
  broadcastInDim S8192x1024 ![0] bcast_S8192_S8192x1024_0 (Host.reduceAdd (Host.divf (mulf (shapeCast _ (Host.reduceAdd (mulf x d) (constant S_ .f32 0x00000000#32) reducesTo_S8192x1024_S8192_d1 h_S_) shapeCasts_S8192_S8192x1) (mulf (broadcastInDim S8192x1 ![] bcast_S_S8192x1 (constant S_ .f32 0xBF000000#32)) (Host.divf (rsq x) (vr x)))) (broadcastInDim S8192x1 ![] bcast_S_S8192x1 (constant S_ .f32 0x44800000#32))) (constant S_ .f32 0x00000000#32) reducesTo_S8192x1_S8192_d1 h_S_)
/-- The gradient of the rows, added to what comes from the residual. -/
def bk (y x d : FVec Ideal S8192x1024 .f32) : FVec Ideal S8192x1024 .f32 :=
  addf (addf (addf y (mulf d (broadcastInDim S8192x1024 ![0, 1] bcast_S8192x1_S8192x1024_0_1 (rsq x)))) (mulf x (cf x d))) (mulf (cf x d) x)
/-- The sum of the products of two arrays' columns. -/
def cs (x d : FVec Ideal S8192x1024 .f32) : FVec Ideal S1x1024 .f32 :=
  shapeCast S1x1024 (Host.reduceAdd (mulf x d) (constant S_ .f32 0x00000000#32) reducesTo_S8192x1024_S1024_d0 h_S_) shapeCasts_S1024_S1x1024

theorem vr_apply (x : FVec Ideal S8192x1024 .f32) (i : Fin 8192) : vr x (ix2 i 0) = var (row x i) := by
  unfold vr var row len eps
  pointwise

theorem rsq_apply (x : FVec Ideal S8192x1024 .f32) (i : Fin 8192) : rsq x (ix2 i 0) = rs (row x i) := by
  unfold rs rsq
  rw [← vr_apply]
  generalize vr x = v
  pointwise

theorem nm_apply (x : FVec Ideal S8192x1024 .f32) (i : Fin 8192) (j : Fin 1024) : nm x (ix2 i j) = nrm (row x i) j := by
  unfold nm nrm
  rw [← rsq_apply, row]
  generalize rsq x = r
  pointwise

theorem gn_apply (x : FVec Ideal S8192x1024 .f32) (g : FVec Ideal S1x1024 .f32) (i : Fin 8192) (j : Fin 1024) : gn x g (ix2 i j) = x (ix2 i j) * g (ix2 0 j) := by
  pointwise [gn]

theorem cf_apply (x d : FVec Ideal S8192x1024 .f32) (i : Fin 8192) (j : Fin 1024) : cf x d (ix2 i j) = cfac (row x i) (row d i) := by
  unfold cf cfac
  rw [← vr_apply, ← rsq_apply]
  unfold row len mhalf
  generalize vr x = v
  generalize rsq x = r
  pointwise
  rw [Fin.sum_univ_one]

theorem bk_apply (y x d : FVec Ideal S8192x1024 .f32) (i : Fin 8192) (j : Fin 1024) :
    bk y x d (ix2 i j) = back (row x i) (row d i) j + y (ix2 i j) := by
  rw [← add_back_eq, ← cf_apply x d i j, ← rsq_apply]
  unfold bk row
  generalize cf x d = f
  generalize rsq x = r
  pointwise

theorem cs_apply (x d : FVec Ideal S8192x1024 .f32) (l : Fin 1024) : cs x d (ix2 0 l) = ∑ i : Fin 8192, x (ix2 i l) * d (ix2 i l) := by
  pointwise [cs]

/-- The output product of the two parts side by side, added to the residual stream. -/
def hh (a : FVec Ideal S8192x1024 .f32) (p q : FVec Ideal S8192x512 .bf16) (w : FVec Ideal S1024x1024 .bf16) : FVec Ideal S8192x1024 .f32 :=
  addf a (Host.dotGeneral dot_S8192x1024_S1024x1024_S8192x1024_1_0_0_1_n_n none (concatenate S8192x1024 1 [⟨S8192x512, (extf .f32 p bitsLt_bf16_f32 : FVec Ideal S8192x512 .f32)⟩, ⟨S8192x512, (extf .f32 q bitsLt_bf16_f32 : FVec Ideal S8192x512 .f32)⟩] concatenates_S8192x512_S8192x512_S8192x1024_d1 : FVec Ideal S8192x1024 .f32) (extf .f32 w bitsLt_bf16_f32 : FVec Ideal S1024x1024 .f32) : FVec Ideal S8192x1024 .f32)
/-- The query product. -/
def up (x : FVec Ideal S8192x1024 .f32) (w : FVec Ideal S1024x1024 .bf16) : FVec Ideal S8192x1024 .bf16 :=
  truncf .bf16 (Host.dotGeneral dot_S8192x1024_S1024x1024_S8192x1024_1_0_0_1_n_n none x (extf .f32 w bitsLt_bf16_f32 : FVec Ideal S1024x1024 .f32) : FVec Ideal S8192x1024 .f32) bitsLt_bf16_f32
/-- The gradient at the rows that enter the query product. -/
def dp (y : FVec Ideal S8192x1024 .bf16) (w : FVec Ideal S1024x1024 .bf16) : FVec Ideal S8192x1024 .f32 :=
  Host.dotGeneral dot_S8192x1024_S1024x1024_S8192x1024_1_1_0_0_n_n none (extf .f32 y bitsLt_bf16_f32 : FVec Ideal S8192x1024 .f32) (extf .f32 w bitsLt_bf16_f32 : FVec Ideal S1024x1024 .f32)
/-- The gradient at the rows that enter the output product. -/
def dq (x : FVec Ideal S8192x1024 .f32) (w : FVec Ideal S1024x1024 .bf16) : FVec Ideal S8192x1024 .bf16 :=
  truncf .bf16 (Host.dotGeneral dot_S8192x1024_S1024x1024_S8192x1024_1_1_0_0_n_n none (shapeCast S8192x1024 x shapeCasts_S8192x1024_S8192x1024) (extf .f32 w bitsLt_bf16_f32 : FVec Ideal S1024x1024 .f32) : FVec Ideal S8192x1024 .f32) bitsLt_bf16_f32

theorem hh_apply (a : FVec Ideal S8192x1024 .f32) (p q : FVec Ideal S8192x512 .bf16) (w : FVec Ideal S1024x1024 .bf16) (i : Fin 8192) (j : Fin 1024) :
    hh a p q w (ix2 i j) = a (ix2 i j) + ((∑ k : Fin 512, p (ix2 i k) * w (ix2 ⟨k.val, by omega⟩ j)) + ∑ k : Fin 512, q (ix2 i k) * w (ix2 ⟨512 + k.val, by omega⟩ j)) := by
  pointwise [hh]

theorem up_apply (x : FVec Ideal S8192x1024 .f32) (w : FVec Ideal S1024x1024 .bf16) (i : Fin 8192) (q : Fin 1024) :
    up x w (ix2 i q) = ∑ k : Fin 1024, x (ix2 i k) * w (ix2 k q) := by
  pointwise [up]

theorem dp_apply (y : FVec Ideal S8192x1024 .bf16) (w : FVec Ideal S1024x1024 .bf16) (i : Fin 8192) (j : Fin 1024) :
    dp y w (ix2 i j) = ∑ q : Fin 1024, y (ix2 i q) * w (ix2 j q) := by
  pointwise [dp]

theorem dq_apply (x : FVec Ideal S8192x1024 .f32) (w : FVec Ideal S1024x1024 .bf16) (i : Fin 8192) (k : Fin 1024) :
    dq x w (ix2 i k) = ∑ j : Fin 1024, x (ix2 i j) * w (ix2 k j) := by
  pointwise [dq]

end Stages

/-! ## The results -/

variable (a0 : FVec Ideal S8192x1024 .f32) (a1 a2 : FVec Ideal S8192x512 .bf16) (a3 : FVec Ideal S1024x1024 .bf16) (a4 : FVec Ideal S1x1024 .f32)
  (a5 : FVec Ideal S1024x1024 .bf16) (a6 : FVec Ideal S8192x1024 .bf16) (a7 : FVec Ideal S8192x1024 .f32)

/-- The argument arrays. -/
def args : Args where
  a i j := a0 (ix2 i j)
  xa i j := a1 (ix2 i j)
  xc i j := a2 (ix2 i j)
  w i j := a3 (ix2 i j)
  g j := a4 (ix2 0 j)
  wq i j := a5 (ix2 i j)
  dq i j := a6 (ix2 i j)
  dr i j := a7 (ix2 i j)

theorem h_row (i : Fin 8192) : row (hh a0 a1 a2 a3) i = (args a0 a1 a2 a3 a4 a5 a6 a7).h i :=
  funext fun j => (hh_apply a0 a1 a2 a3 i j).trans (add_comm _ _)

theorem h_out : hh a0 a1 a2 a3 = fun i => (args a0 a1 a2 a3 a4 a5 a6 a7).h (i 0) (i 1) := by
  funext i
  idx_vars i
  exact congrFun (h_row a0 a1 a2 a3 a4 a5 a6 a7 i0) i1

theorem nm_eq (i : Fin 8192) (j : Fin 1024) : nm (hh a0 a1 a2 a3) (ix2 i j) = nrm ((args a0 a1 a2 a3 a4 a5 a6 a7).h i) j :=
  (nm_apply _ i j).trans (by rw [h_row a0 a1 a2 a3 a4 a5 a6 a7])

theorem y_out : up (gn (nm (hh a0 a1 a2 a3)) a4) a5 = fun i => (args a0 a1 a2 a3 a4 a5 a6 a7).y (i 0) (i 1) := by
  funext i
  idx_vars i
  refine (up_apply _ _ i0 i1).trans (Finset.sum_congr rfl fun k _ => congrArg (· * _) ?_)
  exact (gn_apply _ _ i0 k).trans (congrArg (· * _) (nm_eq a0 a1 a2 a3 a4 a5 a6 a7 i0 k))

theorem dn_row (i : Fin 8192) : row (gn (dp a6 a5) a4) i = (args a0 a1 a2 a3 a4 a5 a6 a7).dn i :=
  funext fun j => (gn_apply _ _ i j).trans (congrArg (· * _) (dp_apply a6 a5 i j))

theorem d_apply (i : Fin 8192) (j : Fin 1024) : bk a7 (hh a0 a1 a2 a3) (gn (dp a6 a5) a4) (ix2 i j) = (args a0 a1 a2 a3 a4 a5 a6 a7).d i j := by
  refine (bk_apply _ _ _ i j).trans ?_
  rw [dn_row a0 a1 a2 a3 a4 a5 a6 a7, h_row a0 a1 a2 a3 a4 a5 a6 a7]
  rfl

theorem d_out : bk a7 (hh a0 a1 a2 a3) (gn (dp a6 a5) a4) = fun i => (args a0 a1 a2 a3 a4 a5 a6 a7).d (i 0) (i 1) := by
  funext i
  idx_vars i
  exact d_apply a0 a1 a2 a3 a4 a5 a6 a7 i0 i1

theorem dx_out : dq (bk a7 (hh a0 a1 a2 a3) (gn (dp a6 a5) a4)) a3 = fun i => (args a0 a1 a2 a3 a4 a5 a6 a7).dx (i 0) (i 1) := by
  funext i
  idx_vars i
  exact (dq_apply _ _ i0 i1).trans (Finset.sum_congr rfl fun j _ => congrArg (· * _) (d_apply a0 a1 a2 a3 a4 a5 a6 a7 i0 j))

theorem dg_out : cs (nm (hh a0 a1 a2 a3)) (dp a6 a5) = fun i => (args a0 a1 a2 a3 a4 a5 a6 a7).dg (i 1) := by
  funext i
  obtain ⟨l, rfl⟩ : ∃ l : Fin 1024, i = ix2 0 l := by
    idx_vars i
    refine ⟨i1, ?_⟩
    first | rfl | (rw [Subsingleton.elim i0 0])
  refine (cs_apply _ _ l).trans (Finset.sum_congr rfl fun k _ => ?_)
  exact (congrArg₂ (· * ·) (nm_eq a0 a1 a2 a3 a4 a5 a6 a7 k l) (dp_apply a6 a5 k l)).trans (mul_comm _ _)

end Cert.Ask.Ref
-- ==== Proof.Query.Claims.lean ====
/-
  The claims about the output and query products: the program and its reference end with the same results.
-/
module

public import proofs.«01_k».proof.Defs
public import proofs.«01_k».proof.Proof.Query.Kernel
public import proofs.«01_k».proof.Proof.Query.Ref
public import proofs.«01_k».proof.Proof.Gen.Query.Frame

@[expose] public section

set_option maxRecDepth 16384

noncomputable section

namespace Cert.Ask.Claims
open Idealize.ShloMosaic Idealize.ShloMosaic.TcCoe Idealize.SL.Sem

theorem frame_p : Cert.quiescent_Query := fun m ρ _ => Cert.Query.Gen.frame m ρ

theorem frame_pi : Cert.quiescent_QueryIdeal := fun m ρ _ => Cert.QueryIdeal.Gen.frame m ρ

/-- The reference writes none of its arguments and has no semaphores. -/
theorem frame_ri : Cert.quiescent_QueryReferenceIdeal := fun m ρ _ =>
  (θ_run Cert.QueryReferenceIdeal.defs _ _).mono (fun r h => ⟨fun c => (h c).2.2.2.2.2, sem_eq_zero_of_no_sems (by decide) r.2⟩)
    (Cert.QueryReferenceIdeal.Value.run (F := Ideal) m ρ)

/-- Kernel and reference end with the same results. -/
theorem algebraic : Cert.algebraic_QueryIdeal_QueryReferenceIdeal := by
  intro m g m' g' _ hag
  refine ⟨_, _, _, _, _, Kernel.run m g,
    (θ_run Cert.QueryReferenceIdeal.defs _ _).mono (fun r h c => ?_) (Cert.QueryReferenceIdeal.Value.run (F := Ideal) m' g')⟩
  obtain ⟨e0, e1, e2, e3, e4, ha⟩ := h c
  obtain ⟨g0, g1, g2, g3, g4, g5, g6, g7⟩ := hag c
  have hargs : Ref.args (m' ((c.tc : Thread Cert.QueryReferenceIdeal.nD Cert.QueryReferenceIdeal.τ).loc Cert.QueryReferenceIdeal.main_arg0)) (m' ((c.tc : Thread Cert.QueryReferenceIdeal.nD Cert.QueryReferenceIdeal.τ).loc Cert.QueryReferenceIdeal.main_arg1)) (m' ((c.tc : Thread Cert.QueryReferenceIdeal.nD Cert.QueryReferenceIdeal.τ).loc Cert.QueryReferenceIdeal.main_arg2)) (m' ((c.tc : Thread Cert.QueryReferenceIdeal.nD Cert.QueryReferenceIdeal.τ).loc Cert.QueryReferenceIdeal.main_arg3)) (m' ((c.tc : Thread Cert.QueryReferenceIdeal.nD Cert.QueryReferenceIdeal.τ).loc Cert.QueryReferenceIdeal.main_arg4)) (m' ((c.tc : Thread Cert.QueryReferenceIdeal.nD Cert.QueryReferenceIdeal.τ).loc Cert.QueryReferenceIdeal.main_arg5)) (m' ((c.tc : Thread Cert.QueryReferenceIdeal.nD Cert.QueryReferenceIdeal.τ).loc Cert.QueryReferenceIdeal.main_arg6)) (m' ((c.tc : Thread Cert.QueryReferenceIdeal.nD Cert.QueryReferenceIdeal.τ).loc Cert.QueryReferenceIdeal.main_arg7))
      = Kernel.args m c := by
    unfold Ref.args Kernel.args
    congr 1
    · exact funext fun i => funext fun j => congrFun g0 _
    · exact funext fun i => funext fun j => congrFun g1 _
    · exact funext fun i => funext fun j => congrFun g2 _
    · exact funext fun i => funext fun j => congrFun g3 _
    · exact funext fun j => congrFun g4 _
    · exact funext fun i => funext fun j => congrFun g5 _
    · exact funext fun i => funext fun j => congrFun g6 _
    · exact funext fun i => funext fun j => congrFun g7 _
  refine ⟨e0.trans ?_, e1.trans ?_, e2.trans ?_, e3.trans ?_, e4.trans ?_, ha⟩
  · rw [← hargs]
    exact Ref.h_out ..
  · rw [← hargs]
    exact Ref.y_out ..
  · rw [← hargs]
    exact Ref.d_out ..
  · rw [← hargs]
    exact Ref.dx_out ..
  · rw [← hargs]
    exact Ref.dg_out ..

end Cert.Ask.Claims
-- ==== Proof.Heads.Kernel.lean ====
/-
  The cross-attention's kernel: each head's arithmetic at a grid point read at an index, and the array after the run.
-/
module

public import proofs.«01_k».proof.Proof.Gen.HeadsIdeal.Value
public import proofs.«01_k».proof.Proof.Xatt.Rows
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Soft
open Cert.HeadsIdeal Cert.HeadsIdeal.Gen Cert.Xatt Idealize.ShloMosaic Idealize.ShloMosaic.TcCoe Idealize.SL.Sem

/-- The attention's output of a query row: in each head the values' rows, weighted by the softmax of the scores. -/
def att (x : Fin 1024 → EReal) (K V : Fin 256 → Fin 1024 → EReal) (l : Fin 1024) : EReal :=
  ∑ j : Fin 256, wt (score x K (hd l)) j * V j l

/-- A block of 512 rows. -/
abbrev Blk := Vec Ideal S512x1024 .bf16
/-- The memory's keys or values. -/
abbrev Mem := Vec Ideal S256x1024 .bf16
/-- One head's columns of a block. -/
abbrev QPart := Vec Ideal S512x256 .bf16
/-- One head's columns of the memory. -/
abbrev MPart := Vec Ideal S256x256 .bf16

/-- The scores of one head's columns. -/
abbrev sc (q : QPart) (k : MPart) (r : Fin 512) (j : Fin 256) : EReal := (∑ d : Fin 256, q (ix2 r d) * k (ix2 j d)) * scale
/-- The output of one head's columns. -/
abbrev hout (q : QPart) (k v : MPart) (r : Fin 512) (d : Fin 256) : EReal := ∑ j : Fin 256, wt (sc q k r) j * v (ix2 j d)

/-- The output of head 0. -/
theorem head0 (q : QPart) (k v : MPart) (r : Fin 512) (d : Fin 256) :
    k0_pay10 (F := Ideal) (k0_pay5 q k) v (ix2 r d) = hout q k v r d := by
  have he : ∀ j, k0_pay5 (F := Ideal) q k (ix2 r j) = ex (sc q k r) j := fun j => by
    pointwise [k0_pay5]
    rfl
  generalize k0_pay5 (F := Ideal) q k = e at he ⊢
  pointwise [k0_pay10]
  simp only [he]
  rfl

/-- The output of head 1. -/
theorem head1 (q : QPart) (k v : MPart) (r : Fin 512) (d : Fin 256) :
    k0_pay11 (F := Ideal) (k0_pay6 q k) v (ix2 r d) = hout q k v r d := by
  have he : ∀ j, k0_pay6 (F := Ideal) q k (ix2 r j) = ex (sc q k r) j := fun j => by
    pointwise [k0_pay6]
    rfl
  generalize k0_pay6 (F := Ideal) q k = e at he ⊢
  pointwise [k0_pay11]
  simp only [he]
  rfl

/-- The output of head 2. -/
theorem head2 (q : QPart) (k v : MPart) (r : Fin 512) (d : Fin 256) :
    k0_pay1 (F := Ideal) (k0_pay8 (k0_pay3 q k) (k0_pay7 q k)) v (ix2 r d) = hout q k v r d := by
  have hw : ∀ j, k0_pay8 (F := Ideal) (k0_pay3 q k) (k0_pay7 q k) (ix2 r j) = wt (sc q k r) j := fun j => by
    have hs : ∀ i, k0_pay3 (F := Ideal) q k (ix2 r i) = sc q k r i := fun i => by
      pointwise [k0_pay3]
    unfold k0_pay7
    generalize k0_pay3 (F := Ideal) q k = s at hs ⊢
    pointwise [k0_pay8]
    simp only [hs]
    rfl
  generalize k0_pay8 (F := Ideal) (k0_pay3 q k) (k0_pay7 q k) = w at hw ⊢
  pointwise [k0_pay1]
  simp only [hw]

/-- The output of head 3. -/
theorem head3 (q : QPart) (k v : MPart) (r : Fin 512) (d : Fin 256) :
    k0_pay2 (F := Ideal) (k0_pay9 (k0_pay4 q k)) v (ix2 r d) = hout q k v r d := by
  have hw : ∀ j, k0_pay9 (F := Ideal) (k0_pay4 q k) (ix2 r j) = wt (sc q k r) j := fun j => by
    have hs : ∀ i, k0_pay4 (F := Ideal) q k (ix2 r i) = sc q k r i := fun i => by
      pointwise [k0_pay4]
    generalize k0_pay4 (F := Ideal) q k = s at hs ⊢
    pointwise [k0_pay9]
    simp only [hs]
    rfl
  generalize k0_pay9 (F := Ideal) (k0_pay4 q k) = w at hw ⊢
  pointwise [k0_pay2]
  simp only [hw]

/-- The part of a block in the 256 columns from `o`. -/
def qpart (b : Blk) (o : Nat) (h : ∀ a, (![0, o] : Fin 2 → Nat) a + (![512, 256] : Fin 2 → Nat) a ≤ S512x1024.size a) : QPart :=
  View.ld (Val := Elt Ideal) (e' := .bf16) (S := S512x1024) b (Rect.unit (s := S512x1024) ![0, o] ![512, 256] h)
/-- The part of the memory in the 256 columns from `o`. -/
def mpart (b : Mem) (o : Nat) (h : ∀ a, (![0, o] : Fin 2 → Nat) a + (![256, 256] : Fin 2 → Nat) a ≤ S256x1024.size a) : MPart :=
  View.ld (Val := Elt Ideal) (e' := .bf16) (S := S256x1024) b (Rect.unit (s := S256x1024) ![0, o] ![256, 256] h)

/-- Reading a part of a block. -/
theorem qpart_apply (b : Blk) (o : Nat) (h) (r : Fin 512) (d : Fin 256) :
    qpart b o h (ix2 r d) = b (ix2 r ⟨o + d.val, Nat.lt_of_lt_of_le (Nat.add_lt_add_left d.isLt o) (h 1)⟩) := by
  pointwise [qpart]

/-- Reading a part of the memory. -/
theorem mpart_apply (b : Mem) (o : Nat) (h) (j : Fin 256) (d : Fin 256) :
    mpart b o h (ix2 j d) = b (ix2 j ⟨o + d.val, Nat.lt_of_lt_of_le (Nat.add_lt_add_left d.isLt o) (h 1)⟩) := by
  pointwise [mpart]

/-- A head's output from the parts of the blocks in the head's columns is the row's. -/
theorem hout_eq (q : Blk) (k v : Mem) (h : Fin 4) (o : Nat) (ho : o = h.val * 256) (hq hk hv) (r : Fin 512) (d : Fin 256)
    (l : Fin 1024) (hl : l.val = h.val * 256 + d.val) :
    hout (qpart q o hq) (mpart k o hk) (mpart v o hv) r d
      = att (fun l => q (ix2 r l)) (fun j l => k (ix2 j l)) (fun j l => v (ix2 j l)) l := by
  subst ho
  obtain rfl : l = col h d := Fin.ext hl
  have hh : hd (col h d) = h := Fin.ext (by simp only []; omega)
  have hs : sc (qpart q _ hq) (mpart k _ hk) r = score (fun l => q (ix2 r l)) (fun j l => k (ix2 j l)) h := by
    funext j
    simp only [sc, qpart_apply, mpart_apply]
    rfl
  rw [att, hh, hout, hs]
  simp only [mpart_apply]

variable (m : (ℓ : Loc nD τ sig) → Buf (Elt Ideal) ℓ) (c : Dev nD)

/-- What a grid point leaves in the output's block. -/
theorem out_3 (q : Blk) (k v : Mem) (r : Fin 512) (l : Fin 1024) :
    out0_3 (F := Ideal) q k v (ix2 r l)
      = att (fun l => q (ix2 r l)) (fun j l => k (ix2 j l)) (fun j l => v (ix2 j l)) l := by
  unfold out0_3
  canon_tiles x h <;> idx_vars x <;> obtain rfl : r = x0 := Fin.ext h0
  · exact (head3 ..).trans (hout_eq q k v 3 768 rfl _ _ _ r x1 l h1)
  · exact (head2 ..).trans (hout_eq q k v 2 512 rfl _ _ _ r x1 l h1)
  · exact (head1 ..).trans (hout_eq q k v 1 256 rfl _ _ _ r x1 l h1)
  · exact (head0 ..).trans (hout_eq q k v 0 0 rfl _ _ _ r x1 l (by simpa using h1))

/-- The queries of the device. -/
def Q (s : Fin 8192) (l : Fin 1024) : EReal := m ((c.tc : Thread nD τ).loc main_arg0) (ix2 s l)
/-- The keys of the memory. -/
def K (j : Fin 256) (l : Fin 1024) : EReal := m ((c.tc : Thread nD τ).loc main_arg1) (ix2 j l)
/-- The values of the memory. -/
def W (j : Fin 256) (l : Fin 1024) : EReal := m ((c.tc : Thread nD τ).loc main_arg2) (ix2 j l)

theorem row_lt (t : Fin cfg0.N) (r : Fin 512) : t.val * 512 + r.val < 8192 := by
  have : t.val < 16 := lt_of_lt_of_eq t.isLt N_0
  omega

theorem blk_0 (t : Fin cfg0.N) (r : Fin 512) (l : Fin 1024) :
    iblk m c 0 t (ix2 r l) = Q m c ⟨t.val * 512 + r.val, row_lt t r⟩ l := by
  unfold Q
  have idx : ∀ t, win0_0.index t = ![t.val, 0] := by decide +kernel
  blk_ext [iblk, V, idx t]

theorem blk_1 (t : Fin cfg0.N) (j : Fin 256) (l : Fin 1024) : iblk m c 1 t (ix2 j l) = K m c j l := by
  unfold K
  have idx : ∀ t, win0_1.index t = ![0, 0] := by decide +kernel
  blk_ext [iblk, V, idx t]

theorem blk_2 (t : Fin cfg0.N) (j : Fin 256) (l : Fin 1024) : iblk m c 2 t (ix2 j l) = W m c j l := by
  unfold W
  have idx : ∀ t, win0_2.index t = ![0, 0] := by decide +kernel
  blk_ext [iblk, V, idx t]

/-- The attention's output after the run, row by row. -/
theorem arr_3 : (dats m 0 c).arrAt 3 cfg0.N = fun i => att (Q m c (i 0)) (K m c) (W m c) (i 1) := by
  refine (dats m 0 c).arrAt_eq_of_covers 3 _ (by decide +kernel) fun t hf y => ?_
  have idx : ∀ t, win0_3.index t = ![t.val, 0] := by decide +kernel
  blk_simp
  rw [after0_3]
  have he : ∃ (r : Fin 512) (l : Fin 1024), y = ix2 r l ∧
      (win0_3.blk t).view.emb y = ix2 ⟨t.val * 512 + r.val, row_lt t r⟩ l := by
    idx_vars y
    refine ⟨y0, y1, rfl, ?_⟩
    blk_ext [idx t]
  obtain ⟨r, l, rfl, he⟩ := he
  refine (out_3 (iblk m c 0 t) (iblk m c 1 t) (iblk m c 2 t) r l).trans ?_
  simp only [blk_0, blk_1, blk_2]
  exact (congrArg (fun i : S8192x1024.Idx => att (Q m c (i 0)) (K m c) (W m c) (i 1)) he).symm

end Cert.Soft

end
-- ==== Proof.Heads.Claims.lean ====
/-
  The cross-attention's reference, and the claims: the frames of kernel and reference, and the equality of their results
  over the extended reals for finite queries and keys.
-/
module

public import proofs.«01_k».proof.Defs
public import proofs.«01_k».proof.Proof.Gen.Heads.Frame
public import proofs.«01_k».proof.Proof.Gen.HeadsReferenceIdeal.Run
public import proofs.«01_k».proof.Proof.Heads.Kernel
public import proofs.«01_k».proof.Proof.Xatt.Ref
public import proofs.«01_k».proof.Proof.Xatt.Claims

@[expose] public section

set_option maxRecDepth 16384

noncomputable section

namespace Cert.Soft.Ref
open Cert.HeadsReferenceIdeal Cert.HeadsReferenceIdeal.Gen Cert.Xatt Idealize.ShloMosaic Idealize.ShloMosaic.TcCoe Idealize.SL.Sem

/-- The weighted values, from the exponentials `e` and their row sums `d`. -/
def out (e : FVec Ideal S4x8192x256 .f32) (d : FVec Ideal S4x8192x1 .f32) (a2 : FVec Ideal S256x1024 .bf16) :
    FVec Ideal S8192x1024 .bf16 :=
  truncf .bf16 (shapeCast _ (transpose S8192x4x256 [2, 0, 1] (Host.dotGeneral dot_S256x4x256_S4x8192x256_S4x256x8192_0_2_2_1_1_0 none
    (shapeCast _ (extf .f32 a2 bitsLt_bf16_f32) shapeCasts_S256x1024_S256x4x256)
    (Host.divf e (broadcastInDim S4x8192x256 ![0, 1, 2] bcast_S4x8192x1_S4x8192x256_0_1_2 d)))
    transposes_S4x256x8192_S8192x4x256_2_0_1) shapeCasts_S8192x4x256_S8192x1024) bitsLt_bf16_f32

/-- The reference's output: the softmax-weighted values of every head. -/
theorem out_eq (a0 : FVec Ideal S8192x1024 .bf16) (a1 a2 : FVec Ideal S256x1024 .bf16)
    (h0 : ∀ s, Xatt.Real (Xatt.Ref.row a0 s)) (h1 : ∀ j, Xatt.Real (Xatt.Ref.mem a1 j)) (s : Fin 8192) (l : Fin 1024) :
    out (Xatt.Ref.ex (Xatt.Ref.sc a0 a1)) (Xatt.Ref.den (Xatt.Ref.ex (Xatt.Ref.sc a0 a1))) a2 (ix2 s l)
      = att (fun l => a0 (ix2 s l)) (fun j l => a1 (ix2 j l)) (fun j l => a2 (ix2 j l)) l := by
  generalize he : Xatt.Ref.ex (Xatt.Ref.sc a0 a1) = e
  generalize hn : Xatt.Ref.den e = d
  pointwise [out]
  rw [att]
  refine Finset.sum_congr rfl fun j _ => ?_
  rw [mul_comm, ← hn, ← he]
  simp only [Xatt.Ref.den_apply, Xatt.Ref.ex_apply, Xatt.Ref.sc_apply]
  rw [div_eq_wt (score_real (h0 s) h1 _)]

end Cert.Soft.Ref

namespace Cert.Soft.Claims
open Idealize.ShloMosaic Idealize.ShloMosaic.TcCoe Idealize.SL.Sem

/-- The shape relations that the precondition states. -/
theorem facts : Cert.Pre_finite_heads.Facts where
  bitsLt_bf16_f32 := by decide
  bcast_S_S8192x1024 := by decide
  bcast_S_S256x1024 := by decide

/-- The precondition says that every query and every key is a real. -/
theorem real_of_finite [Cert.Pre_finite_heads.Facts] (a0 : FVec Ideal Cert.Pre_finite_heads.S8192x1024 .bf16)
    (a1 a2 : FVec Ideal Cert.Pre_finite_heads.S256x1024 .bf16)
    (h : (Cert.Pre_finite_heads.fn (F := Ideal) a0 a1 a2).1 = (fun _ => 1#1)
      ∧ (Cert.Pre_finite_heads.fn (F := Ideal) a0 a1 a2).2 = (fun _ => 1#1)) :
    (∀ s, Xatt.Real (Xatt.Ref.row a0 s)) ∧ ∀ j, Xatt.Real (Xatt.Ref.mem a1 j) :=
  ⟨fun s l => Xatt.Claims.real_of_olt (a0 (ix2 s l)) (congrFun h.1 (ix2 s l)),
    fun j l => Xatt.Claims.real_of_olt (a1 (ix2 j l)) (congrFun h.2 (ix2 j l))⟩

theorem frame_p : Cert.quiescent_Heads := fun m ρ _ => Cert.Heads.Gen.frame m ρ

theorem frame_pi : Cert.quiescent_HeadsIdeal := fun m ρ _ => Cert.HeadsIdeal.Gen.frame m ρ

/-- The reference writes none of its arguments and has no semaphores. -/
theorem frame_ri : Cert.quiescent_HeadsReferenceIdeal := fun m ρ _ =>
  (θ_run Cert.HeadsReferenceIdeal.defs _ _).mono (fun r h => ⟨fun c => (h c).2, sem_eq_zero_of_no_sems (by decide) r.2⟩)
    (Cert.HeadsReferenceIdeal.Value.run (F := Ideal) m ρ)

/-- Kernel and reference end with the same attention. -/
theorem algebraic [Cert.Pre_finite_heads.Facts] : Cert.algebraic_HeadsIdeal_HeadsReferenceIdeal_pre_finite_heads := by
  intro m g m' g' hpre hag
  refine ⟨_, Cert.HeadsIdeal.Value.run_blocks m g,
    (θ_run Cert.HeadsReferenceIdeal.defs _ _).mono (fun r h c => ?_) (Cert.HeadsReferenceIdeal.Value.run (F := Ideal) m' g')⟩
  obtain ⟨e, ha⟩ := h c
  obtain ⟨g0, g1, g2⟩ := hag c
  obtain ⟨hq, hk⟩ := real_of_finite _ _ _ (hpre c)
  refine ⟨e.trans ?_, ha⟩
  rw [arr_3, g0, g1, g2]
  funext i
  idx_vars i
  exact Ref.out_eq _ _ _ hq hk i0 i1

end Cert.Soft.Claims

end
-- ==== Proof.Adam.Claims.lean ====
/-
  The optimiser's calls: each call's four arrays are, entry by entry, the reference's.
-/
module

public import proofs.«01_k».proof.Defs
public import proofs.«01_k».proof.Proof.Gen.AdamUp.Frame
public import proofs.«01_k».proof.Proof.Gen.AdamUpIdeal.Value
public import proofs.«01_k».proof.Proof.Gen.AdamUpReferenceIdeal.Run
public import proofs.«01_k».proof.Proof.Gen.AdamIn.Frame
public import proofs.«01_k».proof.Proof.Gen.AdamInIdeal.Value
public import proofs.«01_k».proof.Proof.Gen.AdamInReferenceIdeal.Run
public import proofs.«01_k».proof.Proof.Gen.AdamSq.Frame
public import proofs.«01_k».proof.Proof.Gen.AdamSqIdeal.Value
public import proofs.«01_k».proof.Proof.Gen.AdamSqReferenceIdeal.Run

@[expose] public section

set_option maxRecDepth 16384

noncomputable section

/-! ### The parts of `w_up` and `w_down` -/

namespace Cert.Optimise.Up
open Idealize.ShloMosaic Idealize.ShloMosaic.TcCoe Idealize.SL.Sem

theorem frame_p : Cert.quiescent_AdamUp := fun m ρ _ => Cert.AdamUp.Gen.frame m ρ

theorem frame_pi : Cert.quiescent_AdamUpIdeal := fun m ρ _ => Cert.AdamUpIdeal.Gen.frame m ρ

/-- The reference writes none of its arguments and has no semaphores. -/
theorem frame_ri : Cert.quiescent_AdamUpReferenceIdeal := fun m ρ _ =>
  (θ_run Cert.AdamUpReferenceIdeal.defs _ _).mono
    (fun r h => ⟨fun c => (h c).2.2.2.2, sem_eq_zero_of_no_sems (by decide) r.2⟩)
    (Cert.AdamUpReferenceIdeal.Value.run (F := Ideal) m ρ)

/-- Kernel and reference end with the same gradient, change and moments. -/
theorem algebraic : Cert.algebraic_AdamUpIdeal_AdamUpReferenceIdeal := by
  intro m g m' g' _ hag
  refine ⟨_, _, _, _, Cert.AdamUpIdeal.Value.run m g,
    (θ_run Cert.AdamUpReferenceIdeal.defs _ _).mono (fun r h c => ?_) (Cert.AdamUpReferenceIdeal.Value.run (F := Ideal) m' g')⟩
  obtain ⟨e0, e1, e2, e3, ha⟩ := h c
  obtain ⟨g0, g1, g2, g3, g4⟩ := hag c
  rw [g0, g1] at e0
  rw [g0, g1, g2, g3, g4] at e1
  rw [g0, g1, g3] at e2
  rw [g0, g1, g4] at e3
  exact ⟨e0, e1, e2, e3, ha⟩

end Cert.Optimise.Up

/-! ### The parts of `w_in` -/

namespace Cert.Optimise.In
open Idealize.ShloMosaic Idealize.ShloMosaic.TcCoe Idealize.SL.Sem

theorem frame_p : Cert.quiescent_AdamIn := fun m ρ _ => Cert.AdamIn.Gen.frame m ρ

theorem frame_pi : Cert.quiescent_AdamInIdeal := fun m ρ _ => Cert.AdamInIdeal.Gen.frame m ρ

/-- The reference writes none of its arguments and has no semaphores. -/
theorem frame_ri : Cert.quiescent_AdamInReferenceIdeal := fun m ρ _ =>
  (θ_run Cert.AdamInReferenceIdeal.defs _ _).mono
    (fun r h => ⟨fun c => (h c).2.2.2.2, sem_eq_zero_of_no_sems (by decide) r.2⟩)
    (Cert.AdamInReferenceIdeal.Value.run (F := Ideal) m ρ)

/-- Kernel and reference end with the same gradient, change and moments. -/
theorem algebraic : Cert.algebraic_AdamInIdeal_AdamInReferenceIdeal := by
  intro m g m' g' _ hag
  refine ⟨_, _, _, _, Cert.AdamInIdeal.Value.run m g,
    (θ_run Cert.AdamInReferenceIdeal.defs _ _).mono (fun r h c => ?_) (Cert.AdamInReferenceIdeal.Value.run (F := Ideal) m' g')⟩
  obtain ⟨e0, e1, e2, e3, ha⟩ := h c
  obtain ⟨g0, g1, g2, g3, g4⟩ := hag c
  rw [g0, g1] at e0
  rw [g0, g1, g2, g3, g4] at e1
  rw [g0, g1, g3] at e2
  rw [g0, g1, g4] at e3
  exact ⟨e0, e1, e2, e3, ha⟩

end Cert.Optimise.In

/-! ### The parts of the 1024 x 1024 weights -/

namespace Cert.Optimise.Sq
open Idealize.ShloMosaic Idealize.ShloMosaic.TcCoe Idealize.SL.Sem

theorem frame_p : Cert.quiescent_AdamSq := fun m ρ _ => Cert.AdamSq.Gen.frame m ρ

theorem frame_pi : Cert.quiescent_AdamSqIdeal := fun m ρ _ => Cert.AdamSqIdeal.Gen.frame m ρ

/-- The reference writes none of its arguments and has no semaphores. -/
theorem frame_ri : Cert.quiescent_AdamSqReferenceIdeal := fun m ρ _ =>
  (θ_run Cert.AdamSqReferenceIdeal.defs _ _).mono
    (fun r h => ⟨fun c => (h c).2.2.2.2, sem_eq_zero_of_no_sems (by decide) r.2⟩)
    (Cert.AdamSqReferenceIdeal.Value.run (F := Ideal) m ρ)

/-- Kernel and reference end with the same gradient, change and moments. -/
theorem algebraic : Cert.algebraic_AdamSqIdeal_AdamSqReferenceIdeal := by
  intro m g m' g' _ hag
  refine ⟨_, _, _, _, Cert.AdamSqIdeal.Value.run m g,
    (θ_run Cert.AdamSqReferenceIdeal.defs _ _).mono (fun r h c => ?_) (Cert.AdamSqReferenceIdeal.Value.run (F := Ideal) m' g')⟩
  obtain ⟨e0, e1, e2, e3, ha⟩ := h c
  obtain ⟨g0, g1, g2, g3, g4⟩ := hag c
  rw [g0, g1] at e0
  rw [g0, g1, g2, g3, g4] at e1
  rw [g0, g1, g3] at e2
  rw [g0, g1, g4] at e3
  exact ⟨e0, e1, e2, e3, ha⟩

end Cert.Optimise.Sq

end
-- ==== Proof.Memory.Rows.lean ====
/-
  The normalised memory: what the first call leaves in its array.
-/
module

public import proofs.«01_k».proof.Proof.Gen.MemoryIdeal.Frame
public import proofs.«01_k».proof.Proof.Math.Norm
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Remember.Fwd.Region0
open Cert.MemoryIdeal Cert.MemoryIdeal.Gen Cert.Math Idealize.ShloMosaic Idealize.ShloMosaic.TcCoe

theorem pay1_apply (v0 : Vec Ideal S256x1024 .f32) (v11 : Vec Ideal S1x1024 .f32) (r : Fin 256) (l : Fin 1024) :
    k0_pay1 v0 v11 (ix2 r l) = nrm (fun k => v0 (ix2 r k)) l * v11 (ix2 0 l) := by
  unfold k0_pay1 nrm rs var len eps
  pointwise

variable (V : (c : Dev nD) → (b : Ref sig .tc) → Buf (Elt Ideal) ((c : Thread nD τ).loc b)) (c : Dev nD)

/-- The memory. -/
def A (i : Fin 256) (k : Fin 1024) : EReal := V c main_arg0 (ix2 i k)
/-- The gain. -/
def G (j : Fin 1024) : EReal := V c main_arg1 (ix2 0 j)

theorem blk_0 (t : Fin cfg0.N) (r : Fin 256) (l : Fin 1024) :
    iblk0 V c 0 t (ix2 r l) = A V c r l := by
  unfold A
  have idx : ∀ t, win0_0.index t = ![0, 0] := by decide +kernel
  blk_ext [iblk0, idx t]

theorem blk_1 (t : Fin cfg0.N) (l : Fin 1024) :
    iblk0 V c 1 t (ix2 0 l) = G V c l := by
  unfold G
  have idx : ∀ t, win0_1.index t = ![0, 0] := by decide +kernel
  blk_ext [iblk0, idx t]

theorem out_2 (t : Fin cfg0.N) (r : Fin 256) (l : Fin 1024) :
    out0_2 (iblk0 V c 0 t) (iblk0 V c 1 t) (ix2 r l) = nrm (A V c r) l * G V c l := by
  frame_out
  refine (pay1_apply (iblk0 V c 0 t) (iblk0 V c 1 t) r l).trans ?_
  rw [blk_1, funext (blk_0 V c t r)]

/-- The normalised rows after the run. -/
theorem arr_2 : (dat0 V c).arrAt 2 cfg0.N = fun i => nrm (A V c (i 0)) (i 1) * G V c (i 1) := by
  refine (dat0 V c).arrAt_eq_of_covers 2 _ (by decide +kernel) fun t hf y => ?_
  have idx : ∀ t, win0_2.index t = ![0, 0] := by decide +kernel
  blk_simp
  rw [after0_2]
  have he : ∃ r : Fin 256, ∃ l : Fin 1024, y = ix2 r l ∧
      (win0_2.blk t).view.emb y = ix2 r l := by
    idx_vars y
    refine ⟨y0, y1, rfl, ?_⟩
    blk_ext [idx t]
  obtain ⟨r, l, rfl, he⟩ := he
  refine (out_2 V c t r l).trans ?_
  exact (congrArg (fun i : S256x1024.Idx => nrm (A V c (i 0)) (i 1) * G V c (i 1)) he).symm

end Cert.Remember.Fwd.Region0
-- ==== Proof.Memory.Products.lean ====
/-
  The products of the normalised memory: what the second and the third call leave in their arrays.
-/
module

public import proofs.«01_k».proof.Proof.Gen.MemoryIdeal.Frame
public import proofs.«01_k».proof.Proof.Math.Norm
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Remember.Fwd.Region1
open Cert.MemoryIdeal Cert.MemoryIdeal.Gen Cert.Math Idealize.ShloMosaic Idealize.ShloMosaic.TcCoe

theorem pay1_apply (v0 : Vec Ideal S256x1024 .bf16) (v2 : Vec Ideal S1x1024x1024 .bf16) (r : Fin 256) (l : Fin 1024) :
    k1_pay1 v0 v2 (ix2 r l) = ∑ k : Fin 1024, v0 (ix2 r k) * v2 (ix3 0 k l) := by
  pointwise [k1_pay1]

variable (V : (c : Dev nD) → (b : Ref sig .tc) → Buf (Elt Ideal) ((c : Thread nD τ).loc b)) (c : Dev nD)

/-- The normalised memory. -/
def X (i : Fin 256) (k : Fin 1024) : EReal := V c main_v0 (ix2 i k)
/-- The weights of the keys. -/
def W (k j : Fin 1024) : EReal := V c main_v1 (ix3 0 k j)
/-- The keys. -/
def D (i : Fin 256) (j : Fin 1024) : EReal := ∑ k : Fin 1024, X V c i k * W V c k j

theorem blk_0 (t : Fin cfg1.N) (r : Fin 256) (l : Fin 1024) : iblk1 V c 0 t (ix2 r l) = X V c r l := by
  unfold X
  have idx : ∀ t : Fin cfg1.N, win1_0.index t = ![0, 0] := by decide +kernel
  blk_ext [iblk1, idx t]

theorem blk_1 (t : Fin cfg1.N) (k l : Fin 1024) : iblk1 V c 1 t (ix3 0 k l) = W V c k l := by
  unfold W
  have idx : ∀ t : Fin cfg1.N, win1_1.index t = ![0, 0, 0] := by decide +kernel
  blk_ext [iblk1, idx t]

theorem out_2 (t : Fin cfg1.N) (r : Fin 256) (l : Fin 1024) :
    out1_2 (iblk1 V c 0 t) (iblk1 V c 1 t) (ix2 r l) = D V c r l := by
  frame_out
  refine (pay1_apply (iblk1 V c 0 t) (iblk1 V c 1 t) r l).trans ?_
  simp only [blk_0, blk_1]
  rfl

/-- The keys after the run. -/
theorem arr_2 : (dat1 V c).arrAt 2 cfg1.N = fun i => D V c (i 0) (i 1) := by
  refine (dat1 V c).arrAt_eq_of_covers 2 _ (by decide +kernel) fun t hf y => ?_
  have idx : ∀ t : Fin cfg1.N, win1_2.index t = ![0, 0] := by decide +kernel
  blk_simp
  rw [after1_2]
  have he : ∃ (r : Fin 256) (l : Fin 1024), y = ix2 r l ∧ (win1_2.blk t).view.emb y = ix2 r l := by
    idx_vars y
    refine ⟨y0, y1, rfl, ?_⟩
    blk_ext [idx t]
  obtain ⟨r, l, rfl, he⟩ := he
  refine (out_2 V c t r l).trans ?_
  exact (congrArg (fun i : S256x1024.Idx => D V c (i 0) (i 1)) he).symm

end Cert.Remember.Fwd.Region1

namespace Cert.Remember.Fwd.Region2
open Cert.MemoryIdeal Cert.MemoryIdeal.Gen Cert.Math Idealize.ShloMosaic Idealize.ShloMosaic.TcCoe

theorem pay1_apply (v0 : Vec Ideal S256x1024 .bf16) (v2 : Vec Ideal S1x1024x1024 .bf16) (r : Fin 256) (l : Fin 1024) :
    k2_pay1 v0 v2 (ix2 r l) = ∑ k : Fin 1024, v0 (ix2 r k) * v2 (ix3 0 k l) := by
  pointwise [k2_pay1]

variable (V : (c : Dev nD) → (b : Ref sig .tc) → Buf (Elt Ideal) ((c : Thread nD τ).loc b)) (c : Dev nD)

/-- The normalised memory. -/
def X (i : Fin 256) (k : Fin 1024) : EReal := V c main_v0 (ix2 i k)
/-- The weights of the values. -/
def W (k j : Fin 1024) : EReal := V c main_v3 (ix3 0 k j)
/-- The values. -/
def D (i : Fin 256) (j : Fin 1024) : EReal := ∑ k : Fin 1024, X V c i k * W V c k j

theorem blk_0 (t : Fin cfg2.N) (r : Fin 256) (l : Fin 1024) : iblk2 V c 0 t (ix2 r l) = X V c r l := by
  unfold X
  have idx : ∀ t : Fin cfg2.N, win2_0.index t = ![0, 0] := by decide +kernel
  blk_ext [iblk2, idx t]

theorem blk_1 (t : Fin cfg2.N) (k l : Fin 1024) : iblk2 V c 1 t (ix3 0 k l) = W V c k l := by
  unfold W
  have idx : ∀ t : Fin cfg2.N, win2_1.index t = ![0, 0, 0] := by decide +kernel
  blk_ext [iblk2, idx t]

theorem out_2 (t : Fin cfg2.N) (r : Fin 256) (l : Fin 1024) :
    out2_2 (iblk2 V c 0 t) (iblk2 V c 1 t) (ix2 r l) = D V c r l := by
  frame_out
  refine (pay1_apply (iblk2 V c 0 t) (iblk2 V c 1 t) r l).trans ?_
  simp only [blk_0, blk_1]
  rfl

/-- The values after the run. -/
theorem arr_2 : (dat2 V c).arrAt 2 cfg2.N = fun i => D V c (i 0) (i 1) := by
  refine (dat2 V c).arrAt_eq_of_covers 2 _ (by decide +kernel) fun t hf y => ?_
  have idx : ∀ t : Fin cfg2.N, win2_2.index t = ![0, 0] := by decide +kernel
  blk_simp
  rw [after2_2]
  have he : ∃ (r : Fin 256) (l : Fin 1024), y = ix2 r l ∧ (win2_2.blk t).view.emb y = ix2 r l := by
    idx_vars y
    refine ⟨y0, y1, rfl, ?_⟩
    blk_ext [idx t]
  obtain ⟨r, l, rfl, he⟩ := he
  refine (out_2 V c t r l).trans ?_
  exact (congrArg (fun i : S256x1024.Idx => D V c (i 0) (i 1)) he).symm

end Cert.Remember.Fwd.Region2
-- ==== Proof.Memory.Run.lean ====
/-
  The run of the memory's normalisation and its two products, with the contents of every array at its end.
-/
module

public import proofs.«01_k».proof.Proof.Gen.MemoryIdeal.Frame
public import Idealize.ShloMosaic.Lib.Pointwise

@[expose] public section

set_option maxRecDepth 16384

noncomputable section

namespace Cert.Remember.Fwd.Run
open Cert.MemoryIdeal Cert.MemoryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- The run ends with every array outside the scoped ones at its contents after the last step. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

end Cert.Remember.Fwd.Run
-- ==== Proof.Memory.Forward.lean ====
/-
  The memory's keys and values: the program and its reference end with the same products of the normalised memory.
-/
module

public import proofs.«01_k».proof.Defs
public import proofs.«01_k».proof.Proof.Gen.Memory.Frame
public import proofs.«01_k».proof.Proof.Gen.MemoryReferenceIdeal.Run
public import proofs.«01_k».proof.Proof.Memory.Rows
public import proofs.«01_k».proof.Proof.Memory.Products
public import proofs.«01_k».proof.Proof.Memory.Run
public import Idealize.ShloMosaic.Lib.KernelVsHost

@[expose] public section

set_option maxRecDepth 16384

noncomputable section

namespace Cert.Remember.Fwd

/-- The product of the normalised memory with a weight. -/
def prod (x : Fin 256 → Fin 1024 → EReal) (g : Fin 1024 → EReal) (w : Fin 1024 → Fin 1024 → EReal) (i : Fin 256) (j : Fin 1024) : EReal :=
  ∑ k : Fin 1024, Cert.Math.nrm (x i) k * g k * w k j

end Cert.Remember.Fwd

namespace Cert.Remember.Fwd.Kernel
open Cert.MemoryIdeal Cert.MemoryIdeal.Gen Cert.Math Idealize.ShloMosaic Idealize.ShloMosaic.TcCoe Idealize.SL.Sem

variable (m : (ℓ : Loc nD τ sig) → Buf (Elt Ideal) ℓ) (ρ : Dev nD → PrngReg) (c : Dev nD)

/-- The memory. -/
def x (i : Fin 256) (j : Fin 1024) : EReal := m ((c : Thread nD τ).loc main_arg0) (ix2 i j)
/-- The gain. -/
def g (j : Fin 1024) : EReal := m ((c : Thread nD τ).loc main_arg1) (ix2 0 j)
/-- The weights of the keys. -/
def wk (k j : Fin 1024) : EReal := m ((c : Thread nD τ).loc main_arg2) (ix2 k j)
/-- The weights of the values. -/
def wv (k j : Fin 1024) : EReal := m ((c : Thread nD τ).loc main_arg3) (ix2 k j)

theorem v0_at_1 : W1 m ρ c (Proc.devRef .tc main_v0) = fun i => nrm (x m c (i 0)) (i 1) * g m c (i 1) :=
  (W1_arr m ρ c 2).trans (Region0.arr_2 (V0 m ρ) c)

theorem v0_at_2 : W2 m ρ c (Proc.devRef .tc main_v0) = fun i => nrm (x m c (i 0)) (i 1) * g m c (i 1) :=
  (W2_of m ρ c main_v0 (by decide)).trans (v0_at_1 m ρ c)

theorem v0_at_4 : W4 m ρ c (Proc.devRef .tc main_v0) = fun i => nrm (x m c (i 0)) (i 1) * g m c (i 1) :=
  (W4_of m ρ c main_v0 (by decide)).trans ((W3_of m ρ c main_v0 (by decide)).trans (v0_at_2 m ρ c))

theorem v1_apply (k l : Fin 1024) : (W2 m ρ c (Proc.devRef .tc main_v1) : Vec Ideal S1x1024x1024 .bf16) (ix3 0 k l) = wk m c k l := by
  have h : W2 m ρ c (Proc.devRef .tc main_v1) = broadcastInDim S1x1024x1024 ![1, 2] bcast_S1024x1024_S1x1024x1024_1_2 (W1 m ρ c (Proc.devRef .tc main_arg2) : Vec Ideal S1024x1024 .bf16) := by
    show StableHlo.after hostOps1 (W1 m ρ c) (Proc.devRef .tc main_v1) = _
    after_results_simp
  refine (congrFun h _).trans (Eq.trans ?_ (congrFun (W1_args m ρ c main_arg2 (by decide)) (ix2 k l)))
  pointwise

theorem v3_apply (k l : Fin 1024) : (W4 m ρ c (Proc.devRef .tc main_v3) : Vec Ideal S1x1024x1024 .bf16) (ix3 0 k l) = wv m c k l := by
  have h : W4 m ρ c (Proc.devRef .tc main_v3) = broadcastInDim S1x1024x1024 ![1, 2] bcast_S1024x1024_S1x1024x1024_1_2 (W3 m ρ c (Proc.devRef .tc main_arg3) : Vec Ideal S1024x1024 .bf16) := by
    show StableHlo.after hostOps2 (W3 m ρ c) (Proc.devRef .tc main_v3) = _
    after_results_simp
  refine (congrFun h _).trans (Eq.trans ?_ (congrFun (W3_args m ρ c main_arg3 (by decide)) (ix2 k l)))
  pointwise

theorem reg1_D : Region1.D (V2 m ρ) c = prod (x m c) (g m c) (wk m c) := by
  funext i j
  exact Finset.sum_congr rfl fun k _ => congrArg₂ (· * ·) (congrFun (v0_at_2 m ρ c) _) (v1_apply m ρ c k j)

theorem reg2_D : Region2.D (V4 m ρ) c = prod (x m c) (g m c) (wv m c) := by
  funext i j
  exact Finset.sum_congr rfl fun k _ => congrArg₂ (· * ·) (congrFun (v0_at_4 m ρ c) _) (v3_apply m ρ c k j)

theorem k_out : W5 m ρ c (Proc.devRef .tc main_v2) = fun i => prod (x m c) (g m c) (wk m c) (i 0) (i 1) :=
  (W5_of m ρ c main_v2 (by decide)).trans ((W4_of m ρ c main_v2 (by decide)).trans ((W3_arr m ρ c 2).trans
    ((Region1.arr_2 (V2 m ρ) c).trans (by rw [reg1_D]))))

theorem v_out : W5 m ρ c (Proc.devRef .tc main_v4) = fun i => prod (x m c) (g m c) (wv m c) (i 0) (i 1) :=
  (W5_arr m ρ c 2).trans ((Region2.arr_2 (V4 m ρ) c).trans (by rw [reg2_D]))

/-- The whole run: the results, and the arguments as they were. -/
theorem run : θ_run defs (onTc (τ := τ) (main (F := Ideal))) ⟨m, fun _ => 0, ρ⟩ (fun r => ∀ c : Dev nD,
       (r.2.mem ((c : Thread nD τ).loc main_v2) = fun i => prod (x m c) (g m c) (wk m c) (i 0) (i 1))
      ∧ (r.2.mem ((c : Thread nD τ).loc main_v4) = fun i => prod (x m c) (g m c) (wv m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c =>
    ⟨(h c _ (mem_uc main_v2 (by decide))).trans (k_out m ρ c),
      (h c _ (mem_uc main_v4 (by decide))).trans (v_out m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c)⟩) (Run.run m ρ)

end Cert.Remember.Fwd.Kernel

namespace Cert.Remember.Fwd.Ref
open Cert.MemoryReferenceIdeal Cert.MemoryReferenceIdeal.Gen Cert.Math Idealize.ShloMosaic Idealize.ShloMosaic.TcCoe Idealize.SL.Sem

/-- A row of an array. -/
def row (x : FVec Ideal S256x1024 .f32) (i : Fin 256) (j : Fin 1024) : EReal := x (ix2 i j)
/-- The reciprocal root of the mean of the squares of each row, with the small constant. -/
def rsq (x : FVec Ideal S256x1024 .f32) : FVec Ideal S256x1 .f32 := Host.rsqrt (addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))
/-- The normalised rows. -/
def nm (x : FVec Ideal S256x1024 .f32) (g : FVec Ideal S1x1024 .f32) : FVec Ideal S256x1024 .f32 :=
  mulf (mulf x (broadcastInDim S256x1024 ![0, 1] bcast_S256x1_S256x1024_0_1 (rsq x))) (broadcastInDim S256x1024 ![0, 1] bcast_S1x1024_S256x1024_0_1 g)
/-- The product. -/
def up (x : FVec Ideal S256x1024 .f32) (w : FVec Ideal S1024x1024 .bf16) : FVec Ideal S256x1024 .bf16 :=
  truncf .bf16 (Host.dotGeneral dot_S256x1024_S1024x1024_S256x1024_1_0_0_1_n_n none x (extf .f32 w bitsLt_bf16_f32 : FVec Ideal S1024x1024 .f32) : FVec Ideal S256x1024 .f32) bitsLt_bf16_f32

theorem rsq_apply (x : FVec Ideal S256x1024 .f32) (i : Fin 256) : rsq x (ix2 i 0) = rs (row x i) := by
  unfold rs var row len eps rsq
  pointwise

theorem nm_apply (x : FVec Ideal S256x1024 .f32) (g : FVec Ideal S1x1024 .f32) (i : Fin 256) (j : Fin 1024) :
    nm x g (ix2 i j) = nrm (row x i) j * g (ix2 0 j) := by
  unfold nm nrm
  rw [← rsq_apply, row]
  generalize rsq x = r
  pointwise

theorem up_apply (x : FVec Ideal S256x1024 .f32) (w : FVec Ideal S1024x1024 .bf16) (i : Fin 256) (j : Fin 1024) :
    up x w (ix2 i j) = ∑ k : Fin 1024, x (ix2 i k) * w (ix2 k j) := by
  pointwise [up]

theorem out (x : FVec Ideal S256x1024 .f32) (g : FVec Ideal S1x1024 .f32) (w : FVec Ideal S1024x1024 .bf16) :
    up (nm x g) w = fun i => prod (row x) (fun j => g (ix2 0 j)) (fun k j => w (ix2 k j)) (i 0) (i 1) := by
  funext i
  idx_vars i
  exact (up_apply _ _ i0 i1).trans (Finset.sum_congr rfl fun k _ => congrArg (· * _) (nm_apply x g i0 k))

end Cert.Remember.Fwd.Ref

namespace Cert.Remember.Fwd.Claims
open Idealize.ShloMosaic Idealize.ShloMosaic.TcCoe Idealize.SL.Sem

theorem frame_p : Cert.quiescent_Memory := fun m ρ _ => Cert.Memory.Gen.frame m ρ

theorem frame_pi : Cert.quiescent_MemoryIdeal := fun m ρ _ => Cert.MemoryIdeal.Gen.frame m ρ

/-- The reference writes none of its arguments and has no semaphores. -/
theorem frame_ri : Cert.quiescent_MemoryReferenceIdeal := fun m ρ _ =>
  (θ_run Cert.MemoryReferenceIdeal.defs _ _).mono (fun r h => ⟨fun c => (h c).2.2, sem_eq_zero_of_no_sems (by decide) r.2⟩)
    (Cert.MemoryReferenceIdeal.Value.run (F := Ideal) m ρ)

/-- Kernel and reference end with the same keys and values. -/
theorem algebraic : Cert.algebraic_MemoryIdeal_MemoryReferenceIdeal := by
  intro m g m' g' _ hag
  refine ⟨_, _, Kernel.run m g,
    (θ_run Cert.MemoryReferenceIdeal.defs _ _).mono (fun r h c => ?_) (Cert.MemoryReferenceIdeal.Value.run (F := Ideal) m' g')⟩
  obtain ⟨e0, e1, ha⟩ := h c
  obtain ⟨g0, g1, g2, g3⟩ := hag c
  refine ⟨e0.trans ?_, e1.trans ?_, ha⟩
  · rw [g0, g1, g2]
    exact Ref.out ..
  · rw [g0, g1, g3]
    exact Ref.out ..

end Cert.Remember.Fwd.Claims

end
-- ==== Proof.Memory.DwXk.lean ====
/-
  The gradients of the weights of the keys and of the values: the kernel's array and the reference's are the same sums over the
  rows of the memory.
-/
module

public import proofs.«01_k».proof.Defs
public import proofs.«01_k».proof.Proof.Gen.DwXk.Frame
public import proofs.«01_k».proof.Proof.Gen.DwXkIdeal.Value
public import proofs.«01_k».proof.Proof.Gen.DwXkReferenceIdeal.Run
public import Idealize.ShloMosaic.Lib.Pipeline.ValueKit
public import Idealize.ShloMosaic.Lib.Pipeline.ReadBack
public import Idealize.ShloMosaic.Lib.Pointwise
public import Idealize.ShloMosaic.Lib.KernelVsHost

@[expose] public section

set_option maxRecDepth 16384

noncomputable section

namespace Cert.Weight.Xk.Sum
open Cert.DwXkIdeal Cert.DwXkIdeal.Gen Idealize.ShloMosaic Idealize.ShloMosaic.TcCoe Idealize.SL.Sem

theorem pay2_apply (v0 v1 : Vec Ideal S256x1024 .bf16) (k l : Fin 1024) :
    k0_pay2 v0 v1 (ix2 k l) = ∑ r : Fin 256, v0 (ix2 r k) * v1 (ix2 r l) := by
  pointwise [k0_pay2, k0_pay1]

theorem pay4_apply (a : Vec Ideal S1024x1024 .f32) (k l : Fin 1024) :
    k0_pay4 a (ix3 0 k l) = a (ix2 k l) := by
  pointwise [k0_pay4]

variable (m : (ℓ : Loc nD τ sig) → Buf (Elt Ideal) ℓ) (c : Dev nD)

/-- The normalised rows of the memory. -/
def X (i : Fin 256) (k : Fin 1024) : EReal := m ((c.tc : Thread nD τ).loc main_arg0) (ix2 i k)
/-- The gradient of the product. -/
def Y (i : Fin 256) (j : Fin 1024) : EReal := m ((c.tc : Thread nD τ).loc main_arg1) (ix2 i j)
/-- The gradient of the weight: a sum over all rows. -/
def W (k j : Fin 1024) : EReal := ∑ s : Fin 256, X m c s k * Y m c s j

theorem blk_0 (t : Fin cfg0.N) (r : Fin 256) (k : Fin 1024) : iblk m c 0 t (ix2 r k) = X m c r k := by
  unfold X
  have idx : ∀ t, win0_0.index t = ![0, 0] := by decide +kernel
  blk_ext [iblk, V, idx t]

theorem blk_1 (t : Fin cfg0.N) (r : Fin 256) (l : Fin 1024) : iblk m c 1 t (ix2 r l) = Y m c r l := by
  unfold Y
  have idx : ∀ t, win0_1.index t = ![0, 0] := by decide +kernel
  blk_ext [iblk, V, idx t]

/-- What the only point leaves in the output's block. -/
theorem out_2 (t : Fin cfg0.N) (k l : Fin 1024) : outsAt0 m c t (ix3 0 k l) = W m c k l := by
  unfold outsAt0
  frame_out
  refine (pay4_apply _ k l).trans ((pay2_apply (iblk m c 0 t) (iblk m c 1 t) k l).trans ?_)
  refine Finset.sum_congr rfl fun r _ => ?_
  rw [blk_0, blk_1]

/-- The array after the run. -/
theorem arr_2 : (dats m 0 c).arrAt 2 cfg0.N = fun i => W m c (i 1) (i 2) := by
  refine (dats m 0 c).arrAt_eq_of_covers 2 _ (by decide +kernel) fun t hf y => ?_
  have idx : ∀ t, win0_2.index t = ![0, 0, 0] := by decide +kernel
  blk_simp
  rw [after0_2]
  have he : ∃ (k l : Fin 1024), y = ix3 0 k l ∧ (win0_2.blk t).view.emb y = ix3 0 k l := by
    idx_vars y
    refine ⟨y1, y2, ?_, ?_⟩
    · blk_ext []
    · blk_ext [idx t]
  obtain ⟨k, l, rfl, he⟩ := he
  refine (out_2 m c t k l).trans ?_
  exact (congrArg (fun i : S1x1024x1024.Idx => W m c (i 1) (i 2)) he).symm

end Cert.Weight.Xk.Sum

namespace Cert.Weight.Xk.Ref
open Cert.DwXkReferenceIdeal Cert.DwXkReferenceIdeal.Gen Idealize.ShloMosaic Idealize.ShloMosaic.TcCoe Idealize.SL.Sem

theorem prod_apply (x y : FVec Ideal S256x1024 .bf16) (j k : Fin 1024) :
    (Host.dotGeneral dot_S256x1024_S256x1024_S1024x1024_0_0_1_1_n_n none (extf .f32 y bitsLt_bf16_f32 : FVec Ideal S256x1024 .f32)
        (extf .f32 x bitsLt_bf16_f32 : FVec Ideal S256x1024 .f32) : FVec Ideal S1024x1024 .f32) (ix2 j k)
      = ∑ s : Fin 256, x (ix2 s k) * y (ix2 s j) := by
  refine Eq.trans (b := ∑ s : Fin 256, y (ix2 s j) * x (ix2 s k)) ?_ (Finset.sum_congr rfl fun s _ => mul_comm _ _)
  pointwise

theorem cut_apply (z : FVec Ideal S1024x1024 .f32) (p : Fin 1) (k l : Fin 1024) :
    truncf .bf16 (transpose S1x1024x1024 [1, 0, 2] (shapeCast S1024x1x1024 (transpose S1024x1024 [1, 0] z transposes_S1024x1024_S1024x1024_1_0)
        shapeCasts_S1024x1024_S1024x1x1024) transposes_S1024x1x1024_S1x1024x1024_1_0_2) bitsLt_bf16_f32 (ix3 p k l)
      = z (ix2 l k) := by
  pointwise

end Cert.Weight.Xk.Ref

namespace Cert.Weight.Xk.Claims
open Idealize.ShloMosaic Idealize.ShloMosaic.TcCoe Idealize.SL.Sem

theorem frame_p : Cert.quiescent_DwXk := fun m ρ _ => Cert.DwXk.Gen.frame m ρ

theorem frame_pi : Cert.quiescent_DwXkIdeal := fun m ρ _ => Cert.DwXkIdeal.Gen.frame m ρ

/-- The reference writes none of its arguments and has no semaphores. -/
theorem frame_ri : Cert.quiescent_DwXkReferenceIdeal := fun m ρ _ =>
  (θ_run Cert.DwXkReferenceIdeal.defs _ _).mono (fun r h => ⟨fun c => (h c).2, sem_eq_zero_of_no_sems (by decide) r.2⟩)
    (Cert.DwXkReferenceIdeal.Value.run (F := Ideal) m ρ)

/-- Kernel and reference end with the same weight gradient. -/
theorem algebraic : Cert.algebraic_DwXkIdeal_DwXkReferenceIdeal := by
  intro m g m' g' _ hag
  refine ⟨_, Cert.DwXkIdeal.Value.run_blocks m g,
    (θ_run Cert.DwXkReferenceIdeal.defs _ _).mono (fun r h c => ?_) (Cert.DwXkReferenceIdeal.Value.run (F := Ideal) m' g')⟩
  obtain ⟨e, ha⟩ := h c
  obtain ⟨g0, g1⟩ := hag c
  refine ⟨e.trans ?_, ha⟩
  rw [Sum.arr_2, g0, g1]
  funext i
  idx_vars i
  exact (Ref.cut_apply _ i0 i1 i2).trans (Ref.prod_apply _ _ _ i1)

end Cert.Weight.Xk.Claims

end
-- ==== Proof.Memory.Back.lean ====
/-
  The gradient at the normalised memory: the kernel adds up two products block after block, the reference adds two products.
-/
module

public import proofs.«01_k».proof.Defs
public import proofs.«01_k».proof.Proof.Gen.DMem.Frame
public import proofs.«01_k».proof.Proof.Gen.DMemIdeal.Value
public import proofs.«01_k».proof.Proof.Gen.DMemReferenceIdeal.Run
public import Idealize.ShloMosaic.Lib.Pipeline.ValueKit
public import Idealize.ShloMosaic.Lib.Pipeline.ReadBack
public import Idealize.ShloMosaic.Lib.Pointwise
public import Idealize.ShloMosaic.Lib.KernelVsHost

@[expose] public section

set_option maxRecDepth 16384

noncomputable section

namespace Cert.Remember.Back.Sum
open Cert.DMemIdeal Cert.DMemIdeal.Gen Idealize.ShloMosaic Idealize.ShloMosaic.TcCoe Idealize.SL.Sem

theorem pay2_apply (v0 : Vec Ideal S256x1024 .bf16) (v2 : Vec Ideal S1x1024x1024 .bf16) (r : Fin 256) (l : Fin 1024) :
    k0_pay2 v0 v2 (ix2 r l) = ∑ k : Fin 1024, v0 (ix2 r k) * v2 (ix3 0 l k) := by
  pointwise [k0_pay2, k0_pay1]

theorem pay3_apply (v0 : Vec Ideal S256x1024 .bf16) (v2 : Vec Ideal S1x1024x1024 .bf16) (a : Vec Ideal S256x1024 .f32) (r : Fin 256) (l : Fin 1024) :
    k0_pay3 v0 v2 a (ix2 r l) = a (ix2 r l) + ∑ k : Fin 1024, v0 (ix2 r k) * v2 (ix3 0 l k) := by
  pointwise [k0_pay3, k0_pay1]

theorem pay4_apply (a : Vec Ideal S256x1024 .f32) (r : Fin 256) (l : Fin 1024) :
    k0_pay4 a (ix2 r l) = a (ix2 r l) := by
  pointwise [k0_pay4]

variable (m : (ℓ : Loc nD τ sig) → Buf (Elt Ideal) ℓ) (c : Dev nD)

/-- The gradient of the keys, then of the values. -/
def X (b : Fin 2) (i : Fin 256) (k : Fin 1024) : EReal :=
  ![m ((c.tc : Thread nD τ).loc main_arg0) (ix2 i k), m ((c.tc : Thread nD τ).loc main_arg1) (ix2 i k)] b
/-- The weight of the keys, then of the values. -/
def Y (b : Fin 2) (j k : Fin 1024) : EReal :=
  ![m ((c.tc : Thread nD τ).loc main_arg2) (ix2 j k), m ((c.tc : Thread nD τ).loc main_arg3) (ix2 j k)] b
/-- The product of one of the two. -/
def P (b : Fin 2) (i : Fin 256) (j : Fin 1024) : EReal := ∑ k : Fin 1024, X m c b i k * Y m c b j k

theorem cat_rows (x y : Vec Ideal S256x1024 .bf16) (r : Fin 256) (q : Fin 2048) :
    concatenate S256x2048 1 [⟨S256x1024, x⟩, ⟨S256x1024, y⟩] concatenates_S256x1024_S256x1024_S256x2048_d1 (ix2 r q)
      = if h : q.val < 1024 then x (ix2 r ⟨q.val, h⟩) else y (ix2 r ⟨q.val - 1024, by omega⟩) := by
  pointwise

theorem cat_weights (x y : Vec Ideal S1024x1024 .bf16) (j : Fin 1024) (q : Fin 2048) :
    concatenate S1x1024x2048 2 [⟨S1x1024x1024, broadcastInDim S1x1024x1024 ![1, 2] bcast_S1024x1024_S1x1024x1024_1_2 x⟩,
        ⟨S1x1024x1024, broadcastInDim S1x1024x1024 ![1, 2] bcast_S1024x1024_S1x1024x1024_1_2 y⟩] concatenates_S1x1024x1024_S1x1024x1024_S1x1024x2048_d2 (ix3 0 j q)
      = if h : q.val < 1024 then x (ix2 j ⟨q.val, h⟩) else y (ix2 j ⟨q.val - 1024, by omega⟩) := by
  pointwise

theorem half_lt (b : Fin 2) (k : Fin 1024) : b.val * 1024 + k.val < 2048 := by omega

theorem v0_apply (b : Fin 2) (r : Fin 256) (k : Fin 1024) : (V m c main_v0 : Vec Ideal S256x2048 .bf16) (ix2 r ⟨b.val * 1024 + k.val, half_lt b k⟩) = X m c b r k := by
  have h : (V m c main_v0 : Vec Ideal S256x2048 .bf16) = concatenate S256x2048 1 [⟨S256x1024, m ((c.tc : Thread nD τ).loc main_arg0)⟩, ⟨S256x1024, m ((c.tc : Thread nD τ).loc main_arg1)⟩] concatenates_S256x1024_S256x1024_S256x2048_d1 := by
    show StableHlo.after hostOps0 _ (Proc.devRef .tc main_v0) = _
    after_results_simp
  refine (congrFun h _).trans ((cat_rows _ _ r _).trans ?_)
  fin_cases b
  · exact dif_pos (show 0 * 1024 + k.val < 1024 by omega) |>.trans (congrArg (fun q => m ((c.tc : Thread nD τ).loc main_arg0) (ix2 r q)) (Fin.ext (show 0 * 1024 + k.val = k.val by omega)))
  · exact dif_neg (show ¬1 * 1024 + k.val < 1024 by omega) |>.trans (congrArg (fun q => m ((c.tc : Thread nD τ).loc main_arg1) (ix2 r q)) (Fin.ext (show 1 * 1024 + k.val - 1024 = k.val by omega)))

theorem v3_apply (b : Fin 2) (j k : Fin 1024) : (V m c main_v3 : Vec Ideal S1x1024x2048 .bf16) (ix3 0 j ⟨b.val * 1024 + k.val, half_lt b k⟩) = Y m c b j k := by
  have h : (V m c main_v3 : Vec Ideal S1x1024x2048 .bf16) = concatenate S1x1024x2048 2 [⟨S1x1024x1024, broadcastInDim S1x1024x1024 ![1, 2] bcast_S1024x1024_S1x1024x1024_1_2 (m ((c.tc : Thread nD τ).loc main_arg2) : Vec Ideal S1024x1024 .bf16)⟩,
        ⟨S1x1024x1024, broadcastInDim S1x1024x1024 ![1, 2] bcast_S1024x1024_S1x1024x1024_1_2 (m ((c.tc : Thread nD τ).loc main_arg3) : Vec Ideal S1024x1024 .bf16)⟩] concatenates_S1x1024x1024_S1x1024x1024_S1x1024x2048_d2 := by
    show StableHlo.after hostOps0 _ (Proc.devRef .tc main_v3) = _
    after_results_simp
    rfl
  refine (congrFun h _).trans ((cat_weights _ _ j _).trans ?_)
  fin_cases b
  · exact dif_pos (show 0 * 1024 + k.val < 1024 by omega) |>.trans (congrArg (fun q => m ((c.tc : Thread nD τ).loc main_arg2) (ix2 j q)) (Fin.ext (show 0 * 1024 + k.val = k.val by omega)))
  · exact dif_neg (show ¬1 * 1024 + k.val < 1024 by omega) |>.trans (congrArg (fun q => m ((c.tc : Thread nD τ).loc main_arg3) (ix2 j q)) (Fin.ext (show 1 * 1024 + k.val - 1024 = k.val by omega)))

theorem blk_0 (t : Fin cfg0.N) (r : Fin 256) (k : Fin 1024) (b : Fin 2) (hb : t.val % 2 = b.val) : iblk m c 0 t (ix2 r k) = X m c b r k := by
  rw [← v0_apply]
  have idx : ∀ t, win0_0.index t = ![0, t.val % 2] := by decide +kernel
  blk_ext [iblk, idx t, hb]

theorem blk_1 (t : Fin cfg0.N) (l k : Fin 1024) (b : Fin 2) (hb : t.val % 2 = b.val) : iblk m c 1 t (ix3 0 l k) = Y m c b l k := by
  rw [← v3_apply]
  have idx : ∀ t, win0_1.index t = ![0, 0, t.val % 2] := by decide +kernel
  blk_ext [iblk, idx t, hb]

/-- The first point leaves the keys' product in the accumulator. -/
theorem scratch_even (t : Fin cfg0.N) (h0 : t.val % 2 = 0) (r : Fin 256) (l : Fin 1024) :
    (outsAt0 m c t.val t.isLt).2 (ix2 r l) = P m c 0 r l := by
  rw [outsAt0_A m c t h0 (by omega) (by omega)]
  frame_out
  refine (pay2_apply (iblk m c 0 t) (iblk m c 1 t) r l).trans ?_
  refine Finset.sum_congr rfl fun k _ => ?_
  rw [blk_0 m c t r k 0 h0, blk_1 m c t l k 0 h0]

/-- The second point leaves the sum of the two products in the output's block. -/
theorem out_odd (t : Fin cfg0.N) (h1 : t.val % 2 = 1) (r : Fin 256) (l : Fin 1024) :
    (outsAt0 m c t.val t.isLt).1 (ix2 r l) = P m c 0 r l + P m c 1 r l := by
  have he := scratch_even m c ⟨t.val - 1, by omega⟩ (by show (t.val - 1) % 2 = 0; omega) r l
  rw [outsAt0_B m c t (by omega) h1 h1]
  frame_out
  refine (pay4_apply _ r l).trans ((pay3_apply (iblk m c 0 t) (iblk m c 1 t) _ r l).trans (congrArg₂ (· + ·) ?_ ?_))
  · rw [read_unread_whole]
    exact he
  · refine Finset.sum_congr rfl fun k _ => ?_
    rw [blk_0 m c t r k 1 h1, blk_1 m c t l k 1 h1]

/-- The array after the run. -/
theorem arr_2 : (dats m 0 c).arrAt 2 cfg0.N = fun i => P m c 0 (i 0) (i 1) + P m c 1 (i 0) (i 1) := by
  refine (dats m 0 c).arrAt_eq_of_covers 2 _ (by decide +kernel) fun t hf y => ?_
  have idx : ∀ t, win0_2.index t = ![0, 0] := by decide +kernel
  have h1 : t.val % 2 = 1 := (flush0_2 t).mp hf
  blk_simp
  rw [after0_2]
  have he : ∃ (r : Fin 256) (l : Fin 1024), y = ix2 r l ∧ (win0_2.blk t).view.emb y = ix2 r l := by
    idx_vars y
    refine ⟨y0, y1, rfl, ?_⟩
    blk_ext [idx t]
  obtain ⟨r, l, rfl, he⟩ := he
  refine (out_odd m c t h1 r l).trans ?_
  exact (congrArg (fun i : S256x1024.Idx => P m c 0 (i 0) (i 1) + P m c 1 (i 0) (i 1)) he).symm

end Cert.Remember.Back.Sum

namespace Cert.Remember.Back.Ref
open Cert.DMemReferenceIdeal Cert.DMemReferenceIdeal.Gen Idealize.ShloMosaic Idealize.ShloMosaic.TcCoe Idealize.SL.Sem

theorem sum_apply (k v : FVec Ideal S256x1024 .bf16) (wk wv : FVec Ideal S1024x1024 .bf16) (i : Fin 256) (j : Fin 1024) :
    (truncf .bf16 (addf (Host.dotGeneral dot_S256x1024_S1024x1024_S256x1024_1_1_0_0_n_n none (extf .f32 v bitsLt_bf16_f32 : FVec Ideal S256x1024 .f32)
          (extf .f32 wv bitsLt_bf16_f32 : FVec Ideal S1024x1024 .f32) : FVec Ideal S256x1024 .f32)
        (Host.dotGeneral dot_S256x1024_S1024x1024_S256x1024_1_1_0_0_n_n none (extf .f32 k bitsLt_bf16_f32 : FVec Ideal S256x1024 .f32)
          (extf .f32 wk bitsLt_bf16_f32 : FVec Ideal S1024x1024 .f32) : FVec Ideal S256x1024 .f32)) bitsLt_bf16_f32 : FVec Ideal S256x1024 .bf16) (ix2 i j)
      = (∑ q : Fin 1024, k (ix2 i q) * wk (ix2 j q)) + ∑ q : Fin 1024, v (ix2 i q) * wv (ix2 j q) := by
  refine Eq.trans (b := (∑ q : Fin 1024, v (ix2 i q) * wv (ix2 j q)) + ∑ q : Fin 1024, k (ix2 i q) * wk (ix2 j q)) ?_ (add_comm _ _)
  pointwise

end Cert.Remember.Back.Ref

namespace Cert.Remember.Back.Claims
open Idealize.ShloMosaic Idealize.ShloMosaic.TcCoe Idealize.SL.Sem

theorem frame_p : Cert.quiescent_DMem := fun m ρ _ => Cert.DMem.Gen.frame m ρ

theorem frame_pi : Cert.quiescent_DMemIdeal := fun m ρ _ => Cert.DMemIdeal.Gen.frame m ρ

/-- The reference writes none of its arguments and has no semaphores. -/
theorem frame_ri : Cert.quiescent_DMemReferenceIdeal := fun m ρ _ =>
  (θ_run Cert.DMemReferenceIdeal.defs _ _).mono (fun r h => ⟨fun c => (h c).2, sem_eq_zero_of_no_sems (by decide) r.2⟩)
    (Cert.DMemReferenceIdeal.Value.run (F := Ideal) m ρ)

/-- Kernel and reference end with the same gradient. -/
theorem algebraic : Cert.algebraic_DMemIdeal_DMemReferenceIdeal := by
  intro m g m' g' _ hag
  refine ⟨_, Cert.DMemIdeal.Value.run_blocks m g,
    (θ_run Cert.DMemReferenceIdeal.defs _ _).mono (fun r h c => ?_) (Cert.DMemReferenceIdeal.Value.run (F := Ideal) m' g')⟩
  obtain ⟨e, ha⟩ := h c
  obtain ⟨g0, g1, g2, g3⟩ := hag c
  refine ⟨e.trans ?_, ha⟩
  rw [Sum.arr_2, g0, g1, g2, g3]
  funext i
  idx_vars i
  exact Ref.sum_apply _ _ _ _ i0 i1

end Cert.Remember.Back.Claims

end
-- ==== Proof.Memory.Gain.lean ====
/-
  The gradient of the gain of the memory's normalisation: the sum over the rows in the first row of the kernel's tile and zeros
  in the others, as in the reference.
-/
module

public import proofs.«01_k».proof.Defs
public import proofs.«01_k».proof.Proof.Gen.GainMem.Frame
public import proofs.«01_k».proof.Proof.Gen.GainMemIdeal.Value
public import proofs.«01_k».proof.Proof.Gen.GainMemReferenceIdeal.Run
public import proofs.«01_k».proof.Proof.Math.Norm
public import Idealize.ShloMosaic.Lib.Pipeline.ValueKit
public import Idealize.ShloMosaic.Lib.Pipeline.ReadBack
public import Idealize.ShloMosaic.Lib.Pointwise
public import Idealize.ShloMosaic.Lib.KernelVsHost

@[expose] public section

set_option maxRecDepth 16384

noncomputable section

namespace Cert.Remember.Gain.Sum
open Cert.GainMemIdeal Cert.GainMemIdeal.Gen Cert.Math Idealize.ShloMosaic Idealize.ShloMosaic.TcCoe Idealize.SL.Sem

/-- A row of a block. -/
def row (x : Vec Ideal S256x1024 .f32) (r : Fin 256) (l : Fin 1024) : EReal := x (ix2 r l)

theorem pay1_apply (v0 : Vec Ideal S256x1024 .f32) (r : Fin 256) : k0_pay1 v0 (ix2 r 0) = rs (row v0 r) := by
  unfold k0_pay1 rs var row len eps
  pointwise

theorem pay2_apply (v0 : Vec Ideal S256x1024 .f32) (r : Fin 256) (l : Fin 1024) : k0_pay2 v0 (ix2 r l) = nrm (row v0 r) l := by
  unfold nrm
  rw [← pay1_apply, row]
  unfold k0_pay2
  generalize k0_pay1 v0 = h
  pointwise

theorem pay6_apply (v0 : Vec Ideal S256x1024 .f32) (v11 : Vec Ideal S256x1024 .bf16) (v30 : Vec Ideal S1x1024 .f32) (l : Fin 1024) :
    k0_pay6 v0 v11 v30 (ix2 0 l) = v30 (ix2 0 l) + ∑ r : Fin 256, v11 (ix2 r l) * nrm (row v0 r) l := by
  simp only [← pay2_apply]
  unfold k0_pay6 k0_pay3
  generalize k0_pay2 v0 = h2
  pointwise

variable (m : (ℓ : Loc nD τ sig) → Buf (Elt Ideal) ℓ) (c : Dev nD)

/-- The gradient of the normalised memory. -/
def D (i : Fin 256) (j : Fin 1024) : EReal := m ((c.tc : Thread nD τ).loc main_arg0) (ix2 i j)
/-- The memory. -/
def A (i : Fin 256) (j : Fin 1024) : EReal := m ((c.tc : Thread nD τ).loc main_arg1) (ix2 i j)

theorem blk_0 (t : Fin cfg0.N) (r : Fin 256) (l : Fin 1024) : iblk m c 0 t (ix2 r l) = D m c r l := by
  unfold D
  have idx : ∀ t, win0_0.index t = ![0, 0] := by decide +kernel
  blk_ext [iblk, V, idx t]

theorem blk_1 (t : Fin cfg0.N) (r : Fin 256) (l : Fin 1024) : iblk m c 1 t (ix2 r l) = A m c r l := by
  unfold A
  have idx : ∀ t, win0_1.index t = ![0, 0] := by decide +kernel
  blk_ext [iblk, V, idx t]

/-- The gradient of the gain. -/
def G (l : Fin 1024) : EReal := ∑ r : Fin 256, D m c r l * nrm (A m c r) l

theorem row_eq (t : Fin cfg0.N) (r : Fin 256) : row (iblk m c 1 t) r = A m c r := by
  funext l
  rw [row, blk_1]

theorem row0 (l : Fin 1024) : (ix2 0 l : S8x1024.Idx) = (Rect.unit (s := S8x1024) ![0, 0] ![1, 1024] inb_S8x1024_S1x1024_0_0).emb (ix2 0 l) := by
  blk_ext []

theorem ld_row0 (x : Vec Ideal S8x1024 .f32) (l : Fin 1024) :
    View.ld x (Rect.unit (s := S8x1024) ![0, 0] ![1, 1024] inb_S8x1024_S1x1024_0_0) (ix2 0 l) = x (ix2 0 l) :=
  congrArg x (row0 l).symm

theorem not_row0 (r : Fin 8) (h : ¬r.val < 1) (l : Fin 1024) :
    (ix2 r l : S8x1024.Idx) ∉ (Rect.unit (s := S8x1024) ![0, 0] ![1, 1024] inb_S8x1024_S1x1024_0_0).set := by
  intro hm
  have h1 : r.val < 0 + 1 := (Rect.mem_set_unit.mp hm 0).2
  omega

/-- The tile of eight rows. -/
def tile (r : Fin 8) (l : Fin 1024) : EReal := if r.val < 1 then G m c l else 0

/-- The first row of the tile. -/
theorem out_first (t : Fin cfg0.N) (l : Fin 1024) : (outsAt0 m c t).2 (ix2 0 l) = G m c l := by
  unfold outsAt0
  frame_open
  simp (disch := decide) only [↓ View.readCov_skip, ↓ View.readCov_cons_toLoadRect, ↓ View.readCov_fill]
  frame_out
  rw [row0]
  refine (View.canon_cons_emb _ _ _ _).trans ?_
  refine (pay6_apply (iblk m c 1 t) (iblk m c 0 t) _ l).trans ?_
  simp only [blk_0, row_eq]
  refine (congrArg (· + _) ((ld_row0 _ l).trans ?_)).trans (zero_add _)
  pointwise [k0_pay5]

/-- The other rows of the tile. -/
theorem out_rest (t : Fin cfg0.N) (r : Fin 8) (h : ¬r.val < 1) (l : Fin 1024) : (outsAt0 m c t).2 (ix2 r l) = 0 := by
  unfold outsAt0
  frame_open
  simp (disch := decide) only [↓ View.readCov_skip, ↓ View.readCov_cons_toLoadRect, ↓ View.readCov_fill]
  frame_out
  refine (View.canon_cons_of_not_mem _ _ (not_row0 r h l)).trans ?_
  frame_out
  pointwise [k0_pay5]

/-- The array after the run. -/
theorem arr_4 : (dats m 0 c).arrAt 4 cfg0.N = fun i => tile m c (i 0) (i 1) := by
  refine (dats m 0 c).arrAt_eq_of_covers 4 _ (by decide +kernel) fun t hf y => ?_
  have idx : ∀ t, win0_4.index t = ![0, 0] := by decide +kernel
  blk_simp
  rw [after0_4]
  have he : ∃ (r : Fin 8) (l : Fin 1024), y = ix2 r l ∧ (win0_4.blk t).view.emb y = ix2 r l := by
    idx_vars y
    refine ⟨y0, y1, rfl, ?_⟩
    blk_ext [idx t]
  obtain ⟨r, l, rfl, he⟩ := he
  refine Eq.trans (b := tile m c r l) ?_ (congrArg (fun i : S8x1024.Idx => tile m c (i 0) (i 1)) he).symm
  unfold tile
  by_cases h : r.val < 1
  · obtain rfl : r = 0 := Fin.ext (Nat.lt_one_iff.mp h)
    exact (out_first m c t l).trans (if_pos h).symm
  · exact (out_rest m c t r h l).trans (if_neg h).symm

end Cert.Remember.Gain.Sum

namespace Cert.Remember.Gain.Ref
open Cert.GainMemReferenceIdeal Cert.GainMemReferenceIdeal.Gen Cert.Math Idealize.ShloMosaic Idealize.ShloMosaic.TcCoe Idealize.SL.Sem

/-- A row of an array. -/
def row (x : FVec Ideal S256x1024 .f32) (i : Fin 256) (j : Fin 1024) : EReal := x (ix2 i j)

/-- The reciprocal root of the mean of the squares of each row, with the small constant. -/
def rsq (x : FVec Ideal S256x1024 .f32) : FVec Ideal S256x1 .f32 := Host.rsqrt (addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))
/-- The sum over the rows. -/
def cs (d : FVec Ideal S256x1024 .bf16) (x : FVec Ideal S256x1024 .f32) : FVec Ideal S1x1024 .f32 :=
  shapeCast _ (Host.reduceAdd (mulf (mulf x (broadcastInDim S256x1024 ![0, 1] bcast_S256x1_S256x1024_0_1 (rsq x))) (extf .f32 d bitsLt_bf16_f32)) (constant S_ .f32 0x00000000#32) reducesTo_S256x1024_S1024_d0 h_S_) shapeCasts_S1024_S1x1024

theorem rsq_apply (x : FVec Ideal S256x1024 .f32) (i : Fin 256) : rsq x (ix2 i 0) = rs (row x i) := by
  unfold rs var row len eps rsq
  pointwise

theorem cs_apply (d : FVec Ideal S256x1024 .bf16) (x : FVec Ideal S256x1024 .f32) (l : Fin 1024) :
    cs d x (ix2 0 l) = ∑ i : Fin 256, d (ix2 i l) * nrm (row x i) l := by
  refine Eq.trans (b := ∑ i : Fin 256, nrm (row x i) l * d (ix2 i l)) ?_ (Finset.sum_congr rfl fun i _ => mul_comm _ _)
  unfold nrm
  simp only [← rsq_apply]
  unfold cs row
  generalize rsq x = r
  pointwise

theorem tile_apply (x : FVec Ideal S1x1024 .f32) (i : Fin 8) (l : Fin 1024) :
    (concatenate S8x1024 0 [⟨S1x1024, x⟩, ⟨S7x1024, (broadcastInDim S7x1024 ![] bcast_S_S7x1024 (constant S_ .f32 0x00000000#32) : FVec Ideal S7x1024 .f32)⟩] concatenates_S1x1024_S7x1024_S8x1024_d0 : FVec Ideal S8x1024 .f32) (ix2 i l)
      = if i.val < 1 then x (ix2 0 l) else 0 := by
  refine Eq.trans (b := if h : i.val < 1 then x (ix2 ⟨i.val, h⟩ l) else 0) (by pointwise) ?_
  by_cases h : i.val < 1
  · rw [dif_pos h, if_pos h]
    exact congrArg (fun q => x (ix2 q l)) (Subsingleton.elim _ _)
  · rw [dif_neg h, if_neg h]

end Cert.Remember.Gain.Ref

namespace Cert.Remember.Gain.Claims
open Idealize.ShloMosaic Idealize.ShloMosaic.TcCoe Idealize.SL.Sem

theorem frame_p : Cert.quiescent_GainMem := fun m ρ _ => Cert.GainMem.Gen.frame m ρ

theorem frame_pi : Cert.quiescent_GainMemIdeal := fun m ρ _ => Cert.GainMemIdeal.Gen.frame m ρ

/-- The reference writes none of its arguments and has no semaphores. -/
theorem frame_ri : Cert.quiescent_GainMemReferenceIdeal := fun m ρ _ =>
  (θ_run Cert.GainMemReferenceIdeal.defs _ _).mono (fun r h => ⟨fun c => (h c).2, sem_eq_zero_of_no_sems (by decide) r.2⟩)
    (Cert.GainMemReferenceIdeal.Value.run (F := Ideal) m ρ)

/-- Kernel and reference end with the same gradient. -/
theorem algebraic : Cert.algebraic_GainMemIdeal_GainMemReferenceIdeal := by
  intro m g m' g' _ hag
  refine ⟨_, (θ_run Cert.GainMemIdeal.defs _ _).mono (fun r h c => (h c).2) (Cert.GainMemIdeal.Value.run_blocks m g),
    (θ_run Cert.GainMemReferenceIdeal.defs _ _).mono (fun r h c => ?_) (Cert.GainMemReferenceIdeal.Value.run (F := Ideal) m' g')⟩
  obtain ⟨e, ha⟩ := h c
  obtain ⟨g0, g1, g2⟩ := hag c
  refine ⟨e.trans ?_, ha⟩
  rw [Sum.arr_4, g0, g1]
  funext i
  idx_vars i
  exact (Ref.tile_apply (Ref.cs _ _) i0 i1).trans (if_congr Iff.rfl (Ref.cs_apply _ _ i1) rfl)

end Cert.Remember.Gain.Claims

end
-- ==== Proof.lean ====
module

public import proofs.«01_k».proof.Proof.Xatt.Claims
public import proofs.«01_k».proof.Proof.Mlp.Claims
public import proofs.«01_k».proof.Proof.Dw.Up
public import proofs.«01_k».proof.Proof.Dw.Down
public import proofs.«01_k».proof.Proof.Dw.Xo
public import proofs.«01_k».proof.Proof.Dw.In
public import proofs.«01_k».proof.Proof.Dw.Out
public import proofs.«01_k».proof.Proof.First.Claims
public import proofs.«01_k».proof.Proof.Query.Claims
public import proofs.«01_k».proof.Proof.Heads.Claims
public import proofs.«01_k».proof.Proof.Adam.Claims
public import proofs.«01_k».proof.Proof.Memory.Forward
public import proofs.«01_k».proof.Proof.Memory.DwXk
public import proofs.«01_k».proof.Proof.Memory.Back
public import proofs.«01_k».proof.Proof.Memory.Gain

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Mlp.Gen.facts, Cert.MlpIdeal.Gen.facts, Cert.MlpReferenceIdeal.Gen.facts,
    Cert.DwUp.Gen.facts, Cert.DwUpIdeal.Gen.facts, Cert.DwUpReferenceIdeal.Gen.facts,
    Cert.DwDown.Gen.facts, Cert.DwDownIdeal.Gen.facts, Cert.DwDownReferenceIdeal.Gen.facts,
    Cert.DwXo.Gen.facts, Cert.DwXoIdeal.Gen.facts, Cert.DwXoReferenceIdeal.Gen.facts,
    Cert.DwIn.Gen.facts, Cert.DwInIdeal.Gen.facts, Cert.DwInReferenceIdeal.Gen.facts,
    Cert.DwOut.Gen.facts, Cert.DwOutIdeal.Gen.facts, Cert.DwOutReferenceIdeal.Gen.facts,
    Cert.First.Gen.facts, Cert.FirstIdeal.Gen.facts, Cert.FirstReferenceIdeal.Gen.facts,
    Cert.Query.Gen.facts, Cert.QueryIdeal.Gen.facts, Cert.QueryReferenceIdeal.Gen.facts,
    Cert.Heads.Gen.facts, Cert.HeadsIdeal.Gen.facts, Cert.HeadsReferenceIdeal.Gen.facts,
    Cert.AdamUp.Gen.facts, Cert.AdamUpIdeal.Gen.facts, Cert.AdamUpReferenceIdeal.Gen.facts,
    Cert.AdamIn.Gen.facts, Cert.AdamInIdeal.Gen.facts, Cert.AdamInReferenceIdeal.Gen.facts,
    Cert.AdamSq.Gen.facts, Cert.AdamSqIdeal.Gen.facts, Cert.AdamSqReferenceIdeal.Gen.facts,
    Cert.Memory.Gen.facts, Cert.MemoryIdeal.Gen.facts, Cert.MemoryReferenceIdeal.Gen.facts,
    Cert.DwXk.Gen.facts, Cert.DwXkIdeal.Gen.facts, Cert.DwXkReferenceIdeal.Gen.facts,
    Cert.DMem.Gen.facts, Cert.DMemIdeal.Gen.facts, Cert.DMemReferenceIdeal.Gen.facts,
    Cert.GainMem.Gen.facts, Cert.GainMemIdeal.Gen.facts, Cert.GainMemReferenceIdeal.Gen.facts,
    Cert.Xatt.Claims.facts, Cert.Soft.Claims.facts,
    Cert.Xatt.Claims.frame_p, Cert.Xatt.Claims.frame_pi, fun m ρ _ => Cert.KernelIdeal.Gen.frame m ρ,
    Cert.Xatt.Claims.frame_ri, fun m ρ _ => Cert.Xatt.Claims.frame_ri m ρ trivial,
    Cert.Step.Claims.frame_p, Cert.Step.Claims.frame_pi, Cert.Step.Claims.frame_ri,
    Cert.Weight.Up.Claims.frame_p, Cert.Weight.Up.Claims.frame_pi, Cert.Weight.Up.Claims.frame_ri,
    Cert.Weight.Down.Claims.frame_p, Cert.Weight.Down.Claims.frame_pi, Cert.Weight.Down.Claims.frame_ri,
    Cert.Weight.Xo.Claims.frame_p, Cert.Weight.Xo.Claims.frame_pi, Cert.Weight.Xo.Claims.frame_ri,
    Cert.Weight.In.Claims.frame_p, Cert.Weight.In.Claims.frame_pi, Cert.Weight.In.Claims.frame_ri,
    Cert.Weight.Out.Claims.frame_p, Cert.Weight.Out.Claims.frame_pi, Cert.Weight.Out.Claims.frame_ri,
    Cert.Front.Claims.frame_p, Cert.Front.Claims.frame_pi, Cert.Front.Claims.frame_ri,
    Cert.Ask.Claims.frame_p, Cert.Ask.Claims.frame_pi, Cert.Ask.Claims.frame_ri,
    Cert.Soft.Claims.frame_p, Cert.Soft.Claims.frame_pi, fun m ρ _ => Cert.HeadsIdeal.Gen.frame m ρ,
    Cert.Soft.Claims.frame_ri, fun m ρ _ => Cert.Soft.Claims.frame_ri m ρ trivial,
    Cert.Optimise.Up.frame_p, Cert.Optimise.Up.frame_pi, Cert.Optimise.Up.frame_ri,
    Cert.Optimise.In.frame_p, Cert.Optimise.In.frame_pi, Cert.Optimise.In.frame_ri,
    Cert.Optimise.Sq.frame_p, Cert.Optimise.Sq.frame_pi, Cert.Optimise.Sq.frame_ri,
    Cert.Remember.Fwd.Claims.frame_p, Cert.Remember.Fwd.Claims.frame_pi, Cert.Remember.Fwd.Claims.frame_ri,
    Cert.Weight.Xk.Claims.frame_p, Cert.Weight.Xk.Claims.frame_pi, Cert.Weight.Xk.Claims.frame_ri,
    Cert.Remember.Back.Claims.frame_p, Cert.Remember.Back.Claims.frame_pi, Cert.Remember.Back.Claims.frame_ri,
    Cert.Remember.Gain.Claims.frame_p, Cert.Remember.Gain.Claims.frame_pi, Cert.Remember.Gain.Claims.frame_ri,
    trivial, @Cert.Xatt.Claims.algebraic Cert.Xatt.Claims.facts,
    trivial, Cert.Step.Claims.algebraic,
    trivial, Cert.Weight.Up.Claims.algebraic, trivial, Cert.Weight.Down.Claims.algebraic,
    trivial, Cert.Weight.Xo.Claims.algebraic, trivial, Cert.Weight.In.Claims.algebraic,
    trivial, Cert.Weight.Out.Claims.algebraic,
    trivial, Cert.Front.Claims.algebraic, trivial, Cert.Ask.Claims.algebraic,
    trivial, @Cert.Soft.Claims.algebraic Cert.Soft.Claims.facts,
    trivial, Cert.Optimise.Up.algebraic, trivial, Cert.Optimise.In.algebraic,
    trivial, Cert.Optimise.Sq.algebraic,
    trivial, Cert.Remember.Fwd.Claims.algebraic, trivial, Cert.Weight.Xk.Claims.algebraic,
    trivial, Cert.Remember.Back.Claims.algebraic, trivial, Cert.Remember.Gain.Claims.algebraic⟩

end Cert.Proof

end
